-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_proj [hPre_finite_proj : Cert.Pre_finite_proj.Facts] (m : (ℓ : Loc Cert.ProjIdeal.nD Cert.ProjIdeal.τ Cert.ProjIdeal.sig) → Buf (Elt Ideal) ℓ) : Prop :=
  ∀ c : Dev Cert.ProjIdeal.nD,
    (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_finite_proj [hPre_finite_proj : Cert.Pre_finite_proj.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjIdeal_pre_finite_proj [hProjIdeal : Cert.ProjIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_proj m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def quiescent_ProjReferenceIdeal_pre_finite_proj [hProjReferenceIdeal : Cert.ProjReferenceIdeal.Facts] [hPre_finite_proj : Cert.Pre_finite_proj.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_finite_proj m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v27_0)) (v1 : (c : Dev Cert.MergeIdeal.nD) → Buf (Elt Ideal) ((c.tc : Thread Cert.MergeIdeal.nD Cert.MergeIdeal.τ).loc Cert.MergeIdeal.main_v27_1)) (v2 : (c : Dev Cert.MergeIdeal.nD) → Buf (Elt Ideal) ((c.tc : Thread Cert.MergeIdeal.nD Cert.MergeIdeal.τ).loc Cert.MergeIdeal.main_v27_2)) (v3 : (c : Dev Cert.MergeIdeal.nD) → Buf (Elt Ideal) ((c.tc : Thread Cert.MergeIdeal.nD Cert.MergeIdeal.τ).loc Cert.MergeIdeal.main_v27_3)) (v4 : (c : Dev Cert.MergeIdeal.nD) → Buf (Elt Ideal) ((c.tc : Thread Cert.MergeIdeal.nD Cert.MergeIdeal.τ).loc Cert.MergeIdeal.main_v27_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v27_0) = v0 c
          ∧ r.2.mem ((c.tc : Thread Cert.MergeIdeal.nD Cert.MergeIdeal.τ).loc Cert.MergeIdeal.main_v27_1) = v1 c
          ∧ r.2.mem ((c.tc : Thread Cert.MergeIdeal.nD Cert.MergeIdeal.τ).loc Cert.MergeIdeal.main_v27_2) = v2 c
          ∧ r.2.mem ((c.tc : Thread Cert.MergeIdeal.nD Cert.MergeIdeal.τ).loc Cert.MergeIdeal.main_v27_3) = v3 c
          ∧ r.2.mem ((c.tc : Thread Cert.MergeIdeal.nD Cert.MergeIdeal.τ).loc Cert.MergeIdeal.main_v27_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v40) = v0 c
          ∧ r.2.mem ((c.tc : Thread Cert.MergeReferenceIdeal.nD Cert.MergeReferenceIdeal.τ).loc Cert.MergeReferenceIdeal.main_v42) = v1 c
          ∧ r.2.mem ((c.tc : Thread Cert.MergeReferenceIdeal.nD Cert.MergeReferenceIdeal.τ).loc Cert.MergeReferenceIdeal.main_v44) = v2 c
          ∧ r.2.mem ((c.tc : Thread Cert.MergeReferenceIdeal.nD Cert.MergeReferenceIdeal.τ).loc Cert.MergeReferenceIdeal.main_v46) = v3 c
          ∧ r.2.mem ((c.tc : Thread Cert.MergeReferenceIdeal.nD Cert.MergeReferenceIdeal.τ).loc Cert.MergeReferenceIdeal.main_v47) = v4 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_Proj_ProjIdeal : Prop :=
  IdealRules.named_const.Statement Cert.ProjIdeal.κ "qscale" .f32 0x3E16C740#32 (((Real.sqrt 96)⁻¹ * (Real.log 2)⁻¹ : ℝ) : EReal)

def algebraic_ProjIdeal_ProjReferenceIdeal_pre_finite_proj [hProjIdeal : Cert.ProjIdeal.Facts] [hProjReferenceIdeal : Cert.ProjReferenceIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_finite_proj m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v72_0)) (v1 : (c : Dev Cert.ProjIdeal.nD) → Buf (Elt Ideal) ((c.tc : Thread Cert.ProjIdeal.nD Cert.ProjIdeal.τ).loc Cert.ProjIdeal.main_v72_1)) (v2 : (c : Dev Cert.ProjIdeal.nD) → Buf (Elt Ideal) ((c.tc : Thread Cert.ProjIdeal.nD Cert.ProjIdeal.τ).loc Cert.ProjIdeal.main_v72_2)) (v3 : (c : Dev Cert.ProjIdeal.nD) → Buf (Elt Ideal) ((c.tc : Thread Cert.ProjIdeal.nD Cert.ProjIdeal.τ).loc Cert.ProjIdeal.main_v72_3)) (v4 : (c : Dev Cert.ProjIdeal.nD) → Buf (Elt Ideal) ((c.tc : Thread Cert.ProjIdeal.nD Cert.ProjIdeal.τ).loc Cert.ProjIdeal.main_v72_4)) (v5 : (c : Dev Cert.ProjIdeal.nD) → Buf (Elt Ideal) ((c.tc : Thread Cert.ProjIdeal.nD Cert.ProjIdeal.τ).loc Cert.ProjIdeal.main_v72_5)) (v6 : (c : Dev Cert.ProjIdeal.nD) → Buf (Elt Ideal) ((c.tc : Thread Cert.ProjIdeal.nD Cert.ProjIdeal.τ).loc Cert.ProjIdeal.main_v72_6)) (v7 : (c : Dev Cert.ProjIdeal.nD) → Buf (Elt Ideal) ((c.tc : Thread Cert.ProjIdeal.nD Cert.ProjIdeal.τ).loc Cert.ProjIdeal.main_v72_7)) (v8 : (c : Dev Cert.ProjIdeal.nD) → Buf (Elt Ideal) ((c.tc : Thread Cert.ProjIdeal.nD Cert.ProjIdeal.τ).loc Cert.ProjIdeal.main_v72_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v72_0) = v0 c
          ∧ r.2.mem ((c.tc : Thread Cert.ProjIdeal.nD Cert.ProjIdeal.τ).loc Cert.ProjIdeal.main_v72_1) = v1 c
          ∧ r.2.mem ((c.tc : Thread Cert.ProjIdeal.nD Cert.ProjIdeal.τ).loc Cert.ProjIdeal.main_v72_2) = v2 c
          ∧ r.2.mem ((c.tc : Thread Cert.ProjIdeal.nD Cert.ProjIdeal.τ).loc Cert.ProjIdeal.main_v72_3) = v3 c
          ∧ r.2.mem ((c.tc : Thread Cert.ProjIdeal.nD Cert.ProjIdeal.τ).loc Cert.ProjIdeal.main_v72_4) = v4 c
          ∧ r.2.mem ((c.tc : Thread Cert.ProjIdeal.nD Cert.ProjIdeal.τ).loc Cert.ProjIdeal.main_v72_5) = v5 c
          ∧ r.2.mem ((c.tc : Thread Cert.ProjIdeal.nD Cert.ProjIdeal.τ).loc Cert.ProjIdeal.main_v72_6) = v6 c
          ∧ r.2.mem ((c.tc : Thread Cert.ProjIdeal.nD Cert.ProjIdeal.τ).loc Cert.ProjIdeal.main_v72_7) = v7 c
          ∧ r.2.mem ((c.tc : Thread Cert.ProjIdeal.nD Cert.ProjIdeal.τ).loc Cert.ProjIdeal.main_v72_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v119) = v0 c
          ∧ r.2.mem ((c.tc : Thread Cert.ProjReferenceIdeal.nD Cert.ProjReferenceIdeal.τ).loc Cert.ProjReferenceIdeal.main_v123) = v1 c
          ∧ r.2.mem ((c.tc : Thread Cert.ProjReferenceIdeal.nD Cert.ProjReferenceIdeal.τ).loc Cert.ProjReferenceIdeal.main_v128) = v2 c
          ∧ r.2.mem ((c.tc : Thread Cert.ProjReferenceIdeal.nD Cert.ProjReferenceIdeal.τ).loc Cert.ProjReferenceIdeal.main_v132) = v3 c
          ∧ r.2.mem ((c.tc : Thread Cert.ProjReferenceIdeal.nD Cert.ProjReferenceIdeal.τ).loc Cert.ProjReferenceIdeal.main_v134) = v4 c
          ∧ r.2.mem ((c.tc : Thread Cert.ProjReferenceIdeal.nD Cert.ProjReferenceIdeal.τ).loc Cert.ProjReferenceIdeal.main_v136) = v5 c
          ∧ r.2.mem ((c.tc : Thread Cert.ProjReferenceIdeal.nD Cert.ProjReferenceIdeal.τ).loc Cert.ProjReferenceIdeal.main_v139) = v6 c
          ∧ r.2.mem ((c.tc : Thread Cert.ProjReferenceIdeal.nD Cert.ProjReferenceIdeal.τ).loc Cert.ProjReferenceIdeal.main_v140) = v7 c
          ∧ r.2.mem ((c.tc : Thread Cert.ProjReferenceIdeal.nD Cert.ProjReferenceIdeal.τ).loc Cert.ProjReferenceIdeal.main_v141) = v8 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hPre_finite_qk : Cert.Pre_finite_qk.Facts) (hPre_finite_proj : Cert.Pre_finite_proj.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjIdeal_pre_finite_proj (hProjIdeal := hProjIdeal) (hPre_finite_proj := hPre_finite_proj)
    ∧ quiescent_ProjReferenceIdeal (hProjReferenceIdeal := hProjReferenceIdeal)
    ∧ quiescent_ProjReferenceIdeal_pre_finite_proj (hProjReferenceIdeal := hProjReferenceIdeal) (hPre_finite_proj := hPre_finite_proj)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal_pre_finite_proj (hProjIdeal := hProjIdeal) (hProjReferenceIdeal := hProjReferenceIdeal) (hPre_finite_proj := hPre_finite_proj)
-- ==== Pre_finite_proj.lean ====
abbrev S2x8192x1024 : Shape := ⟨3, ![2, 8192, 1024]⟩
abbrev S2x8192 : Shape := ⟨2, ![2, 8192]⟩
abbrev S1024 : Shape := ⟨1, ![1024]⟩
abbrev S1024x4272 : Shape := ⟨2, ![1024, 4272]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4272 : S_.BroadcastsInDim S1024x4272 (![] : Fin 0 → Fin S1024x4272.rank)
  reducesTo_S1024x4272_S_d0_1 : S1024x4272.ReducesTo [0, 1] S_
  bcast_S_S384 : S_.BroadcastsInDim S384 (![] : Fin 0 → Fin S384.rank)
  reducesTo_S384_S_d0 : S384.ReducesTo [0] S_
  bcast_S_S384x768 : S_.BroadcastsInDim S384x768 (![] : Fin 0 → Fin S384x768.rank)
  reducesTo_S384x768_S_d0_1 : S384x768.ReducesTo [0, 1] S_

variable [Facts]

def fn_part1 {F : FTy → Type} [FloatOps F] (main_v13 : IVec S_ 1) (main_v16 : IVec S384x768 1) : IVec S_ 1 :=
  let main_c_5 : IVec S_ 1 := constantI S_ 1 1#1
  let main_v17 : IVec S_ 1 := (fun x v => Host.reduce IntOp.andi x v reducesTo_S384x768_S_d0_1 h_S_) main_v16 main_c_5
  let main_v18 : IVec S_ 1 := andi main_v13 main_v17
  main_v18

def fn {F : FTy → Type} [FloatOps F] (main_arg0 : FVec F S2x8192x1024 .f32) (main_arg1 : IVec S2x8192 32) (main_arg2 : FVec F S1024 .f32) (main_arg3 : FVec F S1024x4272 .f32) (main_arg4 : FVec F S384 .f32) (main_arg5 : FVec F S384x768 .f32) (main_arg6 : FVec F S256 .f32) (main_arg7 : FVec F S256x1024 .f32) : IVec S_ 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4272 .f32 := Host.absf main_arg3
  let main_cst_0 : FVec F S_ .f32 := constant S_ .f32 0x7F800000#32
  let main_v5 : FVec F S1024x4272 .f32 := broadcastInDim S1024x4272 ![] bcast_S_S1024x4272 main_cst_0
  let main_v6 : IVec S1024x4272 1 := cmpf .olt main_v4 main_v5
  let main_c_1 : IVec S_ 1 := constantI S_ 1 1#1
  let main_v7 : IVec S_ 1 := (fun x v => Host.reduce IntOp.andi x v reducesTo_S1024x4272_S_d0_1 h_S_) main_v6 main_c_1
  let main_v8 : IVec S_ 1 := andi main_v3 main_v7
  let main_v9 : FVec F S384 .f32 := Host.absf main_arg4
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x768 .f32 := Host.absf main_arg5
  let main_cst_4 : FVec F S_ .f32 := constant S_ .f32 0x7F800000#32
  let main_v15 : FVec F S384x768 .f32 := broadcastInDim S384x768 ![] bcast_S_S384x768 main_cst_4
  let main_v16 : IVec S384x768 1 := cmpf .olt main_v14 main_v15
  fn_part1 (F := F) main_v13 main_v16
-- ==== Pre_finite_qk.lean ====
abbrev S2x8192x8x96 : Shape := ⟨4, ![2, 8192, 8, 96]⟩
abbrev S2x8192x8x64 : Shape := ⟨4, ![2, 8192, 8, 64]⟩
abbrev S_ : Shape := ⟨0, ![]⟩

class Facts : Prop where
  bcast_S_S2x8192x8x96 : S_.BroadcastsInDim S2x8192x8x96 (![] : Fin 0 → Fin S2x8192x8x96.rank)
  reducesTo_S2x8192x8x96_S_d0_1_2_3 : S2x8192x8x96.ReducesTo [0, 1, 2, 3] S_
  h_S_ : 0 < S_.numel

variable [Facts]

def fn {F : FTy → Type} [FloatOps F] (main_arg0 : FVec F S2x8192x8x96 .f32) (main_arg1 : FVec F S2x8192x8x96 .f32) (main_arg2 : FVec F S2x8192x8x64 .f32) : IVec S_ 1 :=
  let main_v0 : FVec F S2x8192x8x96 .f32 := Host.absf main_arg0
  let main_cst : FVec F S_ .f32 := constant S_ .f32 0x7F800000#32
  let main_v1 : FVec F S2x8192x8x96 .f32 := broadcastInDim S2x8192x8x96 ![] bcast_S_S2x8192x8x96 main_cst
  let main_v2 : IVec S2x8192x8x96 1 := cmpf .olt main_v0 main_v1
  let main_c : IVec S_ 1 := constantI S_ 1 1#1
  let main_v3 : IVec S_ 1 := (fun x v => Host.reduce IntOp.andi x v reducesTo_S2x8192x8x96_S_d0_1_2_3 h_S_) main_v2 main_c
  let main_v4 : FVec F S2x8192x8x96 .f32 := Host.absf main_arg1
  let main_cst_0 : FVec F S_ .f32 := constant S_ .f32 0x7F800000#32
  let main_v5 : FVec F S2x8192x8x96 .f32 := broadcastInDim S2x8192x8x96 ![] bcast_S_S2x8192x8x96 main_cst_0
  let main_v6 : IVec S2x8192x8x96 1 := cmpf .olt main_v4 main_v5
  let main_c_1 : IVec S_ 1 := constantI S_ 1 1#1
  let main_v7 : IVec S_ 1 := (fun x v => Host.reduce IntOp.andi x v reducesTo_S2x8192x8x96_S_d0_1_2_3 h_S_) main_v6 main_c_1
  let main_v8 : IVec S_ 1 := andi main_v3 main_v7
  main_v8
-- ==== Kernel.lean ====
abbrev S2x8192x8x96 : Shape := ⟨4, ![2, 8192, 8, 96]⟩
abbrev S2x8192x8x64 : Shape := ⟨4, ![2, 8192, 8, 64]⟩
abbrev S_ : Shape := ⟨0, ![]⟩
abbrev S2x8192x8x32 : Shape := ⟨4, ![2, 8192, 8, 32]⟩
abbrev S2x8192x8x128 : Shape := ⟨4, ![2, 8192, 8, 128]⟩
abbrev S16384x1024 : Shape := ⟨2, ![16384, 1024]⟩
abbrev S2x8192x8x1 : Shape := ⟨4, ![2, 8192, 8, 1]⟩
abbrev S2x8192x8x63 : Shape := ⟨4, ![2, 8192, 8, 63]⟩
abbrev S2048x128 : Shape := ⟨2, ![2048, 128]⟩
abbrev S8192x128 : Shape := ⟨2, ![8192, 128]⟩
abbrev S2x1024x1024 : Shape := ⟨3, ![2, 1024, 1024]⟩
abbrev S1024x128 : Shape := ⟨2, ![1024, 128]⟩
abbrev S1024x1 : Shape := ⟨2, ![1024, 1]⟩
abbrev S1024x1024 : Shape := ⟨2, ![1024, 1024]⟩
abbrev S1x1024x1024 : Shape := ⟨3, ![1, 1024, 1024]⟩
abbrev S1024 : Shape := ⟨1, ![1024]⟩

abbrev nBuf : Space → Nat
  | .hbm => 26
  | .vmem => 10
  | .smem => 0
  | _ => 0

abbrev bufTy : (tb : Table) → Fin (tcTables nBuf tb) → BufTy
  | .hbm, ⟨0, _⟩ => ⟨S2x8192x8x96, .f32⟩
  | .hbm, ⟨1, _⟩ => ⟨S2x8192x8x96, .f32⟩
  | .hbm, ⟨2, _⟩ => ⟨S2x8192x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x8192x8x32, .f32⟩
  | .hbm, ⟨10, _⟩ => ⟨S2x8192x8x128, .f32⟩
  | .hbm, ⟨11, _⟩ => ⟨S2x8192x8x128, .f32⟩
  | .hbm, ⟨12, _⟩ => ⟨S2x8192x8x128, .f32⟩
  | .hbm, ⟨13, _⟩ => ⟨S16384x1024, .f32⟩
  | .hbm, ⟨14, _⟩ => ⟨S16384x1024, .bf16⟩
  | .hbm, ⟨15, _⟩ => ⟨S2x8192x8x128, .f32⟩
  | .hbm, ⟨16, _⟩ => ⟨S16384x1024, .f32⟩
  | .hbm, ⟨17, _⟩ => ⟨S16384x1024, .bf16⟩
  | .hbm, ⟨18, _⟩ => ⟨S_, .f32⟩
  | .hbm, ⟨19, _⟩ => ⟨S2x8192x8x1, .f32⟩
  | .hbm, ⟨20, _⟩ => ⟨S_, .f32⟩
  | .hbm, ⟨21, _⟩ => ⟨S2x8192x8x63, .f32⟩
  | .hbm, ⟨22, _⟩ => ⟨S2x8192x8x128, .f32⟩
  | .hbm, ⟨23, _⟩ => ⟨S16384x1024, .f32⟩
  | .hbm, ⟨24, _⟩ => ⟨S16384x1024, .bf16⟩
  | .hbm, ⟨25, _⟩ => ⟨S16384x1024, .bf16⟩
  | .local _ .vmem, ⟨0, _⟩ => ⟨S2048x128, .bf16⟩
  | .local _ .vmem, ⟨1, _⟩ => ⟨S2048x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S2048x128, .bf16⟩
  | .local _ .vmem, ⟨7, _⟩ => ⟨S2048x128, .bf16⟩
  | .local _ .vmem, ⟨8, _⟩ => ⟨S2x1024x1024, .f32⟩
  | .local _ .vmem, ⟨9, _⟩ => ⟨S2x1024x1024, .f32⟩
  | _, _ => ⟨S2x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

def k0_mult1 : BitVec 32 :=
  let c0_i32 : BitVec 32 := 0#32
  c0_i32
@[reducible] def k0_t1_loop (i : grid0.Coords) : Scf.Loop 32 :=
  let c0_i32_13 : BitVec 32 := 0#32
  let arg2 : BitVec 32 := BitVec.ofNat 32 (i 2).val
  let v20 : BitVec 32 := Scalar.subi arg2 c0_i32_13
  let c1_i32 : BitVec 32 := 1#32
  let v22 : BitVec 32 := Scalar.divsi v20 c1_i32
  let v23 : BitVec 32 := Scalar.muli v22 c1_i32
  let v24 : BitVec 32 := Scalar.addi c0_i32_13 v23
  let c1_i32_14 : BitVec 32 := 1#32
  ⟨c0_i32_13, v24, c1_i32_14⟩
def k0_mult2 (i : grid0.Coords) (k0_t1 : Fin (k0_t1_loop i).trips) : BitVec 32 :=
  let c2_i32_81 : BitVec 32 := 2#32
  let c0_i32_13 : BitVec 32 := 0#32
  let c1_i32_14 : BitVec 32 := 1#32
  let arg9 : BitVec 32 := Scf.iv c0_i32_13 c1_i32_14 k0_t1
  let v221 : BitVec 32 := Scalar.muli c2_i32_81 arg9
  let c1_i32_82 : BitVec 32 := 1#32
  let v222 : BitVec 32 := Scalar.addi v221 c1_i32_82
  let c1024_i32_83 : BitVec 32 := 1024#32
  let v223 : BitVec 32 := Scalar.muli v222 c1024_i32_83
  v223
def k0_off1 (i : grid0.Coords) (k0_t1 : Fin (k0_t1_loop i).trips) : Fin 2 → Nat :=
  let c2_i32_81 : BitVec 32 := 2#32
  let c0_i32_13 : BitVec 32 := 0#32
  let c1_i32_14 : BitVec 32 := 1#32
  let arg9 : BitVec 32 := Scf.iv c0_i32_13 c1_i32_14 k0_t1
  let v221 : BitVec 32 := Scalar.muli c2_i32_81 arg9
  let c1_i32_82 : BitVec 32 := 1#32
  let v222 : BitVec 32 := Scalar.addi v221 c1_i32_82
  let c1024_i32_83 : BitVec 32 := 1024#32
  let v223 : BitVec 32 := Scalar.muli v222 c1024_i32_83
  let v224 : BitVec 32 := v223
  let v225 : Index := Scalar.indexCast v224
  let c0_84 : Index := 0#32
  ![v225.toNat, 0]
def k0_mult3 (i : grid0.Coords) (k0_t1 : Fin (k0_t1_loop i).trips) : BitVec 32 :=
  let c2_i32_81 : BitVec 32 := 2#32
  let c0_i32_13 : BitVec 32 := 0#32
  let c1_i32_14 : BitVec 32 := 1#32
  let arg9 : BitVec 32 := Scf.iv c0_i32_13 c1_i32_14 k0_t1
  let v221 : BitVec 32 := Scalar.muli c2_i32_81 arg9
  let c1024_i32_93 : BitVec 32 := 1024#32
  let v236 : BitVec 32 := Scalar.muli v221 c1024_i32_93
  v236
def k0_off2 (i : grid0.Coords) (k0_t1 : Fin (k0_t1_loop i).trips) : Fin 2 → Nat :=
  let c2_i32_81 : BitVec 32 := 2#32
  let c0_i32_13 : BitVec 32 := 0#32
  let c1_i32_14 : BitVec 32 := 1#32
  let arg9 : BitVec 32 := Scf.iv c0_i32_13 c1_i32_14 k0_t1
  let v221 : BitVec 32 := Scalar.muli c2_i32_81 arg9
  let c1024_i32_93 : BitVec 32 := 1024#32
  let v236 : BitVec 32 := Scalar.muli v221 c1024_i32_93
  let v237 : BitVec 32 := v236
  let v238 : Index := Scalar.indexCast v237
  let c0_94 : Index := 0#32
  ![v238.toNat, 0]
def k0_mult4 (i : grid0.Coords) (k0_t1 : Fin (k0_t1_loop i).trips) : BitVec 32 :=
  let c2_i32_105 : BitVec 32 := 2#32
  let c0_i32_13 : BitVec 32 := 0#32
  let c1_i32_14 : BitVec 32 := 1#32
  let arg9 : BitVec 32 := Scf.iv c0_i32_13 c1_i32_14 k0_t1
  let v271 : BitVec 32 := Scalar.muli c2_i32_105 arg9
  let c1_i32_106 : BitVec 32 := 1#32
  let v272 : BitVec 32 := Scalar.addi v271 c1_i32_106
  let c1_i32_107 : BitVec 32 := 1#32
  let v273 : BitVec 32 := Scalar.addi v272 c1_i32_107
  let c1024_i32_108 : BitVec 32 := 1024#32
  let v274 : BitVec 32 := Scalar.muli v273 c1024_i32_108
  v274
def k0_off3 (i : grid0.Coords) (k0_t1 : Fin (k0_t1_loop i).trips) : Fin 2 → Nat :=
  let c2_i32_105 : BitVec 32 := 2#32
  let c0_i32_13 : BitVec 32 := 0#32
  let c1_i32_14 : BitVec 32 := 1#32
  let arg9 : BitVec 32 := Scf.iv c0_i32_13 c1_i32_14 k0_t1
  let v271 : BitVec 32 := Scalar.muli c2_i32_105 arg9
  let c1_i32_106 : BitVec 32 := 1#32
  let v272 : BitVec 32 := Scalar.addi v271 c1_i32_106
  let c1_i32_107 : BitVec 32 := 1#32
  let v273 : BitVec 32 := Scalar.addi v272 c1_i32_107
  let c1024_i32_108 : BitVec 32 := 1024#32
  let v274 : BitVec 32 := Scalar.muli v273 c1024_i32_108
  let v275 : BitVec 32 := v274
  let v276 : Index := Scalar.indexCast v275
  let c0_109 : Index := 0#32
  ![v276.toNat, 0]
def k0_mult5 (i : grid0.Coords) (k0_t1 : Fin (k0_t1_loop i).trips) : BitVec 32 :=
  let c2_i32_105 : BitVec 32 := 2#32
  let c0_i32_13 : BitVec 32 := 0#32
  let c1_i32_14 : BitVec 32 := 1#32
  let arg9 : BitVec 32 := Scf.iv c0_i32_13 c1_i32_14 k0_t1
  let v271 : BitVec 32 := Scalar.muli c2_i32_105 arg9
  let c1_i32_106 : BitVec 32 := 1#32
  let v272 : BitVec 32 := Scalar.addi v271 c1_i32_106
  let c1024_i32_118 : BitVec 32 := 1024#32
  let v287 : BitVec 32 := Scalar.muli v272 c1024_i32_118
  v287
@[reducible] def k0_t2_loop (i : grid0.Coords) : Scf.Loop 32 :=
  let c0_i32_13 : BitVec 32 := 0#32
  let arg2 : BitVec 32 := BitVec.ofNat 32 (i 2).val
  let v20 : BitVec 32 := Scalar.subi arg2 c0_i32_13
  let c1_i32 : BitVec 32 := 1#32
  let v22 : BitVec 32 := Scalar.divsi v20 c1_i32
  let v23 : BitVec 32 := Scalar.muli v22 c1_i32
  let v24 : BitVec 32 := Scalar.addi c0_i32_13 v23
  let v21 : BitVec 32 := Scalar.addi c0_i32_13 v20
  let c1_i32_15 : BitVec 32 := 1#32
  ⟨v24, v21, c1_i32_15⟩
def k0_mult6 (i : grid0.Coords) (k0_t2 : Fin (k0_t2_loop i).trips) : BitVec 32 :=
  let c2_i32_81 : BitVec 32 := 2#32
  let c0_i32_13 : BitVec 32 := 0#32
  let arg2 : BitVec 32 := BitVec.ofNat 32 (i 2).val
  let v20 : BitVec 32 := Scalar.subi arg2 c0_i32_13
  let c1_i32 : BitVec 32 := 1#32
  let v22 : BitVec 32 := Scalar.divsi v20 c1_i32
  let v23 : BitVec 32 := Scalar.muli v22 c1_i32
  let v24 : BitVec 32 := Scalar.addi c0_i32_13 v23
  let c1_i32_15 : BitVec 32 := 1#32
  let arg9 : BitVec 32 := Scf.iv v24 c1_i32_15 k0_t2
  let v221 : BitVec 32 := Scalar.muli c2_i32_81 arg9
  let c1_i32_82 : BitVec 32 := 1#32
  let v222 : BitVec 32 := Scalar.addi v221 c1_i32_82
  let c1024_i32_83 : BitVec 32 := 1024#32
  let v223 : BitVec 32 := Scalar.muli v222 c1024_i32_83
  v223
def k0_off4 (i : grid0.Coords) (k0_t2 : Fin (k0_t2_loop i).trips) : Fin 2 → Nat :=
  let c2_i32_81 : BitVec 32 := 2#32
  let c0_i32_13 : BitVec 32 := 0#32
  let arg2 : BitVec 32 := BitVec.ofNat 32 (i 2).val
  let v20 : BitVec 32 := Scalar.subi arg2 c0_i32_13
  let c1_i32 : BitVec 32 := 1#32
  let v22 : BitVec 32 := Scalar.divsi v20 c1_i32
  let v23 : BitVec 32 := Scalar.muli v22 c1_i32
  let v24 : BitVec 32 := Scalar.addi c0_i32_13 v23
  let c1_i32_15 : BitVec 32 := 1#32
  let arg9 : BitVec 32 := Scf.iv v24 c1_i32_15 k0_t2
  let v221 : BitVec 32 := Scalar.muli c2_i32_81 arg9
  let c1_i32_82 : BitVec 32 := 1#32
  let v222 : BitVec 32 := Scalar.addi v221 c1_i32_82
  let c1024_i32_83 : BitVec 32 := 1024#32
  let v223 : BitVec 32 := Scalar.muli v222 c1024_i32_83
  let v224 : BitVec 32 := v223
  let v225 : Index := Scalar.indexCast v224
  let c0_84 : Index := 0#32
  ![v225.toNat, 0]
def k0_mult7 (i : grid0.Coords) (k0_t2 : Fin (k0_t2_loop i).trips) : BitVec 32 :=
  let c2_i32_81 : BitVec 32 := 2#32
  let c0_i32_13 : BitVec 32 := 0#32
  let arg2 : BitVec 32 := BitVec.ofNat 32 (i 2).val
  let v20 : BitVec 32 := Scalar.subi arg2 c0_i32_13
  let c1_i32 : BitVec 32 := 1#32
  let v22 : BitVec 32 := Scalar.divsi v20 c1_i32
  let v23 : BitVec 32 := Scalar.muli v22 c1_i32
  let v24 : BitVec 32 := Scalar.addi c0_i32_13 v23
  let c1_i32_15 : BitVec 32 := 1#32
  let arg9 : BitVec 32 := Scf.iv v24 c1_i32_15 k0_t2
  let v221 : BitVec 32 := Scalar.muli c2_i32_81 arg9
  let c1024_i32_93 : BitVec 32 := 1024#32
  let v236 : BitVec 32 := Scalar.muli v221 c1024_i32_93
  v236
def k0_off5 (i : grid0.Coords) (k0_t2 : Fin (k0_t2_loop i).trips) : Fin 2 → Nat :=
  let c2_i32_81 : BitVec 32 := 2#32
  let c0_i32_13 : BitVec 32 := 0#32
  let arg2 : BitVec 32 := BitVec.ofNat 32 (i 2).val
  let v20 : BitVec 32 := Scalar.subi arg2 c0_i32_13
  let c1_i32 : BitVec 32 := 1#32
  let v22 : BitVec 32 := Scalar.divsi v20 c1_i32
  let v23 : BitVec 32 := Scalar.muli v22 c1_i32
  let v24 : BitVec 32 := Scalar.addi c0_i32_13 v23
  let c1_i32_15 : BitVec 32 := 1#32
  let arg9 : BitVec 32 := Scf.iv v24 c1_i32_15 k0_t2
  let v221 : BitVec 32 := Scalar.muli c2_i32_81 arg9
  let c1024_i32_93 : BitVec 32 := 1024#32
  let v236 : BitVec 32 := Scalar.muli v221 c1024_i32_93
  let v237 : BitVec 32 := v236
  let v238 : Index := Scalar.indexCast v237
  let c0_94 : Index := 0#32
  ![v238.toNat, 0]
def k0_mult8 (i : grid0.Coords) (k0_t2 : Fin (k0_t2_loop i).trips) : BitVec 32 :=
  let c2_i32_105 : BitVec 32 := 2#32
  let c0_i32_13 : BitVec 32 := 0#32
  let arg2 : BitVec 32 := BitVec.ofNat 32 (i 2).val
  let v20 : BitVec 32 := Scalar.subi arg2 c0_i32_13
  let c1_i32 : BitVec 32 := 1#32
  let v22 : BitVec 32 := Scalar.divsi v20 c1_i32
  let v23 : BitVec 32 := Scalar.muli v22 c1_i32
  let v24 : BitVec 32 := Scalar.addi c0_i32_13 v23
  let c1_i32_15 : BitVec 32 := 1#32
  let arg9 : BitVec 32 := Scf.iv v24 c1_i32_15 k0_t2
  let v271 : BitVec 32 := Scalar.muli c2_i32_105 arg9
  let c1_i32_106 : BitVec 32 := 1#32
  let v272 : BitVec 32 := Scalar.addi v271 c1_i32_106
  let c1_i32_107 : BitVec 32 := 1#32
  let v273 : BitVec 32 := Scalar.addi v272 c1_i32_107
  let c1024_i32_108 : BitVec 32 := 1024#32
  let v274 : BitVec 32 := Scalar.muli v273 c1024_i32_108
  v274
def k0_off6 (i : grid0.Coords) (k0_t2 : Fin (k0_t2_loop i).trips) : Fin 2 → Nat :=
  let c2_i32_105 : BitVec 32 := 2#32
  let c0_i32_13 : BitVec 32 := 0#32
  let arg2 : BitVec 32 := BitVec.ofNat 32 (i 2).val
  let v20 : BitVec 32 := Scalar.subi arg2 c0_i32_13
  let c1_i32 : BitVec 32 := 1#32
  let v22 : BitVec 32 := Scalar.divsi v20 c1_i32
  let v23 : BitVec 32 := Scalar.muli v22 c1_i32
  let v24 : BitVec 32 := Scalar.addi c0_i32_13 v23
  let c1_i32_15 : BitVec 32 := 1#32
  let arg9 : BitVec 32 := Scf.iv v24 c1_i32_15 k0_t2
  let v271 : BitVec 32 := Scalar.muli c2_i32_105 arg9
  let c1_i32_106 : BitVec 32 := 1#32
  let v272 : BitVec 32 := Scalar.addi v271 c1_i32_106
  let c1_i32_107 : BitVec 32 := 1#32
  let v273 : BitVec 32 := Scalar.addi v272 c1_i32_107
  let c1024_i32_108 : BitVec 32 := 1024#32
  let v274 : BitVec 32 := Scalar.muli v273 c1024_i32_108
  let v275 : BitVec 32 := v274
  let v276 : Index := Scalar.indexCast v275
  let c0_109 : Index := 0#32
  ![v276.toNat, 0]
def k0_mult9 (i : grid0.Coords) (k0_t2 : Fin (k0_t2_loop i).trips) : BitVec 32 :=
  let c2_i32_105 : BitVec 32 := 2#32
  let c0_i32_13 : BitVec 32 := 0#32
  let arg2 : BitVec 32 := BitVec.ofNat 32 (i 2).val
  let v20 : BitVec 32 := Scalar.subi arg2 c0_i32_13
  let c1_i32 : BitVec 32 := 1#32
  let v22 : BitVec 32 := Scalar.divsi v20 c1_i32
  let v23 : BitVec 32 := Scalar.muli v22 c1_i32
  let v24 : BitVec 32 := Scalar.addi c0_i32_13 v23
  let c1_i32_15 : BitVec 32 := 1#32
  let arg9 : BitVec 32 := Scf.iv v24 c1_i32_15 k0_t2
  let v271 : BitVec 32 := Scalar.muli c2_i32_105 arg9
  let c1_i32_106 : BitVec 32 := 1#32
  let v272 : BitVec 32 := Scalar.addi v271 c1_i32_106
  let c1024_i32_118 : BitVec 32 := 1024#32
  let v287 : BitVec 32 := Scalar.muli v272 c1024_i32_118
  v287
def k0_mult10 (i : grid0.Coords) : BitVec 32 :=
  let c2_i32 : BitVec 32 := 2#32
  let arg2 : BitVec 32 := BitVec.ofNat 32 (i 2).val
  let v27 : BitVec 32 := Scalar.muli c2_i32 arg2
  let c1_i32_16 : BitVec 32 := 1#32
  let v28 : BitVec 32 := Scalar.addi v27 c1_i32_16
  let c1024_i32 : BitVec 32 := 1024#32
  let v29 : BitVec 32 := Scalar.muli v28 c1024_i32
  v29
def k0_off7 (i : grid0.Coords) : Fin 2 → Nat :=
  let c2_i32 : BitVec 32 := 2#32
  let arg2 : BitVec 32 := BitVec.ofNat 32 (i 2).val
  let v27 : BitVec 32 := Scalar.muli c2_i32 arg2
  let c1_i32_16 : BitVec 32 := 1#32
  let v28 : BitVec 32 := Scalar.addi v27 c1_i32_16
  let c1024_i32 : BitVec 32 := 1024#32
  let v29 : BitVec 32 := Scalar.muli v28 c1024_i32
  let v30 : BitVec 32 := v29
  let v31 : Index := Scalar.indexCast v30
  let c0_17 : Index := 0#32
  ![v31.toNat, 0]
def k0_mult11 (i : grid0.Coords) : BitVec 32 :=
  let c2_i32_22 : BitVec 32 := 2#32
  let arg2 : BitVec 32 := BitVec.ofNat 32 (i 2).val
  let v38 : BitVec 32 := Scalar.muli c2_i32_22 arg2
  let c1024_i32_23 : BitVec 32 := 1024#32
  let v39 : BitVec 32 := Scalar.muli v38 c1024_i32_23
  v39
def k0_off8 (i : grid0.Coords) : Fin 2 → Nat :=
  let c2_i32_22 : BitVec 32 := 2#32
  let arg2 : BitVec 32 := BitVec.ofNat 32 (i 2).val
  let v38 : BitVec 32 := Scalar.muli c2_i32_22 arg2
  let c1024_i32_23 : BitVec 32 := 1024#32
  let v39 : BitVec 32 := Scalar.muli v38 c1024_i32_23
  let v40 : BitVec 32 := v39
  let v41 : Index := Scalar.indexCast v40
  let c0_24 : Index := 0#32
  ![v41.toNat, 0]
def k0_mult12 (i : grid0.Coords) : BitVec 32 :=
  let c2_i32_52 : BitVec 32 := 2#32
  let arg2 : BitVec 32 := BitVec.ofNat 32 (i 2).val
  let v129 : BitVec 32 := Scalar.muli c2_i32_52 arg2
  let c1_i32_53 : BitVec 32 := 1#32
  let v130 : BitVec 32 := Scalar.addi v129 c1_i32_53
  let c1024_i32_54 : BitVec 32 := 1024#32
  let v131 : BitVec 32 := Scalar.muli v130 c1024_i32_54
  v131
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x8x96 : Shape := ⟨4, ![2, 8192, 8, 96]⟩
abbrev S2x8192x8x64 : Shape := ⟨4, ![2, 8192, 8, 64]⟩
abbrev S2x8x8192x8192 : Shape := ⟨4, ![2, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩
abbrev S2x8192x8x128 : Shape := ⟨4, ![2, 8192, 8, 128]⟩
abbrev S16384x1024 : Shape := ⟨2, ![16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2x8192x8x96, .f32⟩
  | .hbm, ⟨1, _⟩ => ⟨S2x8192x8x96, .f32⟩
  | .hbm, ⟨2, _⟩ => ⟨S2x8192x8x64, .f32⟩
  | .hbm, ⟨3, _⟩ => ⟨S2x8x8192x8192, .f32⟩
  | .hbm, ⟨4, _⟩ => ⟨S_, .f32⟩
  | .hbm, ⟨5, _⟩ => ⟨S_, .f32⟩
  | .hbm, ⟨6, _⟩ => ⟨S2x8x8192x8192, .f32⟩
  | .hbm, ⟨7, _⟩ => ⟨S2x8x8192x8192, .f32⟩
  | .hbm, ⟨8, _⟩ => ⟨S8192, .i32⟩
  | .hbm, ⟨9, _⟩ => ⟨S_, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S1x8192, .i32⟩
  | .hbm, ⟨28, _⟩ => ⟨S8192x1, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S1x1x8192x8192, .i1⟩
  | .hbm, ⟨33, _⟩ => ⟨S_, .f32⟩
  | .hbm, ⟨34, _⟩ => ⟨S_, .f32⟩
  | .hbm, ⟨35, _⟩ => ⟨S2x8x8192x8192, .i1⟩
  | .hbm, ⟨36, _⟩ => ⟨S2x8x8192x8192, .f32⟩
  | .hbm, ⟨37, _⟩ => ⟨S2x8x8192x8192, .f32⟩
  | .hbm, ⟨38, _⟩ => ⟨S_, .f32⟩
  | .hbm, ⟨39, _⟩ => ⟨S2x8x8192, .f32⟩
  | .hbm, ⟨40, _⟩ => ⟨S_, .f32⟩
  | .hbm, ⟨41, _⟩ => ⟨S2x8x8192, .f32⟩
  | .hbm, ⟨42, _⟩ => ⟨S2x8x8192, .f32⟩
  | .hbm, ⟨43, _⟩ => ⟨S2x8x8192x1, .f32⟩
  | .hbm, ⟨44, _⟩ => ⟨S2x8x8192x8192, .f32⟩
  | .hbm, ⟨45, _⟩ => ⟨S2x8x8192x8192, .f32⟩
  | .hbm, ⟨46, _⟩ => ⟨S2x8x8192x8192, .f32⟩
  | .hbm, ⟨47, _⟩ => ⟨S_, .f32⟩
  | .hbm, ⟨48, _⟩ => ⟨S2x8x8192, .f32⟩
  | .hbm, ⟨49, _⟩ => ⟨S2x8x8192x1, .f32⟩
  | .hbm, ⟨50, _⟩ => ⟨S2x8x8192x8192, .f32⟩
  | .hbm, ⟨51, _⟩ => ⟨S2x8x8192x8192, .f32⟩
  | .hbm, ⟨52, _⟩ => ⟨S2x8x64x8192, .f32⟩
  | .hbm, ⟨53, _⟩ => ⟨S2x8192x8x64, .f32⟩
  | .hbm, ⟨54, _⟩ => ⟨S_, .f32⟩
  | .hbm, ⟨55, _⟩ => ⟨S2x8192x8x64, .f32⟩
  | .hbm, ⟨56, _⟩ => ⟨S2x8192x8x128, .f32⟩
  | .hbm, ⟨57, _⟩ => ⟨S16384x1024, .f32⟩
  | .hbm, ⟨58, _⟩ => ⟨S16384x1024, .bf16⟩
  | _, _ => ⟨S2x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_4 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩

abbrev nD : Nat := 1
abbrev τ : Topo := Topo.v7x

variable {F : FTy → Type} [FloatOps F]
-- ==== Merge.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S_ : Shape := ⟨0, ![]⟩
abbrev S2x8192x8x64 : Shape := ⟨4, ![2, 8192, 8, 64]⟩
abbrev S2x8192x8x128 : Shape := ⟨4, ![2, 8192, 8, 128]⟩
abbrev S16384x1024 : Shape := ⟨2, ![16384, 1024]⟩
abbrev S8x64x1024 : Shape := ⟨3, ![8, 64, 1024]⟩
abbrev S8x128x1024 : Shape := ⟨3, ![8, 128, 1024]⟩
abbrev S1024x8x2x128 : Shape := ⟨4, ![1024, 8, 2, 128]⟩
abbrev S1024x2x8x128 : Shape := ⟨4, ![1024, 2, 8, 128]⟩
abbrev S1x1024 : Shape := ⟨2, ![1, 1024]⟩
abbrev S8x1x128x128 : Shape := ⟨4, ![8, 1, 128, 128]⟩
abbrev S8x128x128 : Shape := ⟨3, ![8, 128, 128]⟩
abbrev S16384x512 : Shape := ⟨2, ![16384, 512]⟩
abbrev S16384x2048 : Shape := ⟨2, ![16384, 2048]⟩
abbrev S1024x16384 : Shape := ⟨2, ![1024, 16384]⟩
abbrev S8x128x16384 : Shape := ⟨3, ![8, 128, 16384]⟩
abbrev S512x512 : Shape := ⟨2, ![512, 512]⟩
abbrev S512x2048 : Shape := ⟨2, ![512, 2048]⟩
abbrev S1024x512 : Shape := ⟨2, ![1024, 512]⟩
abbrev S8x128x512 : Shape := ⟨3, ![8, 128, 512]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩
abbrev S128x8x512 : Shape := ⟨3, ![128, 8, 512]⟩

abbrev nBuf : Space → Nat
  | .hbm => 44
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S8x2x128x128, .f32⟩
  | .hbm, ⟨10, _⟩ => ⟨S_, .f32⟩
  | .hbm, ⟨11, _⟩ => ⟨S2x8192x8x64, .f32⟩
  | .hbm, ⟨12, _⟩ => ⟨S2x8192x8x64, .f32⟩
  | .hbm, ⟨13, _⟩ => ⟨S2x8192x8x128, .f32⟩
  | .hbm, ⟨14, _⟩ => ⟨S16384x1024, .f32⟩
  | .hbm, ⟨15, _⟩ => ⟨S16384x1024, .bf16⟩
  | .hbm, ⟨16, _⟩ => ⟨S8x64x1024, .f32⟩
  | .hbm, ⟨17, _⟩ => ⟨S_, .f32⟩
  | .hbm, ⟨18, _⟩ => ⟨S8x64x1024, .f32⟩
  | .hbm, ⟨19, _⟩ => ⟨S8x128x1024, .f32⟩
  | .hbm, ⟨20, _⟩ => ⟨S1024x1024, .f32⟩
  | .hbm, ⟨21, _⟩ => ⟨S1024x8x2x128, .f32⟩
  | .hbm, ⟨22, _⟩ => ⟨S1024x2x8x128, .f32⟩
  | .hbm, ⟨23, _⟩ => ⟨S1024x2048, .f32⟩
  | .hbm, ⟨24, _⟩ => ⟨S1024x1024, .bf16⟩
  | .hbm, ⟨25, _⟩ => ⟨S512x1024, .bf16⟩
  | .hbm, ⟨26, _⟩ => ⟨S1024x1024, .bf16⟩
  | .hbm, ⟨27, _⟩ => ⟨S1x1024, .f32⟩
  | .hbm, ⟨28, _⟩ => ⟨S1024x2048, .bf16⟩
  | .hbm, ⟨29, _⟩ => ⟨S8x1x128x128, .f32⟩
  | .hbm, ⟨30, _⟩ => ⟨S8x128x128, .f32⟩
  | .hbm, ⟨31, _⟩ => ⟨S8x128x128, .bf16⟩
  | .hbm, ⟨32, _⟩ => ⟨S8x1x128x128, .f32⟩
  | .hbm, ⟨33, _⟩ => ⟨S8x128x128, .f32⟩
  | .hbm, ⟨34, _⟩ => ⟨S8x128x128, .bf16⟩
  | .hbm, ⟨35, _⟩ => ⟨S16384x1024, .f32⟩
  | .hbm, ⟨36, _⟩ => ⟨S16384x512, .f32⟩
  | .hbm, ⟨37, _⟩ => ⟨S16384x512, .bf16⟩
  | .hbm, ⟨38, _⟩ => ⟨S16384x2048, .f32⟩
  | .hbm, ⟨39, _⟩ => ⟨S16384x1024, .f32⟩
  | .hbm, ⟨40, _⟩ => ⟨S1024x16384, .bf16⟩
  | .hbm, ⟨41, _⟩ => ⟨S1024x16384, .f32⟩
  | .hbm, ⟨42, _⟩ => ⟨S1024x16384, .f32⟩
  | .hbm, ⟨43, _⟩ => ⟨S8x128x16384, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S1024x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2048, .bf16⟩
  | .local _ .vmem, ⟨13, _⟩ => ⟨S8x128x128, .bf16⟩
  | .local _ .vmem, ⟨14, _⟩ => ⟨S8x128x128, .bf16⟩
  | .local _ .vmem, ⟨15, _⟩ => ⟨S512x1024, .f32⟩
  | .local _ .vmem, ⟨16, _⟩ => ⟨S512x1024, .f32⟩
  | .local _ .vmem, ⟨17, _⟩ => ⟨S1024x512, .bf16⟩
  | .local _ .vmem, ⟨18, _⟩ => ⟨S1024x512, .bf16⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S8x128x512, .f32⟩
  | .local _ .vmem, ⟨24, _⟩ => ⟨S8x128x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev main_v27_3 : Ref sig .tc := ⟨.hbm, 42, rfl⟩
abbrev main_v27_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeReferenceIdeal.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S_ : Shape := ⟨0, ![]⟩
abbrev S2x8192x2x1024 : Shape := ⟨4, ![2, 8192, 2, 1024]⟩
abbrev S2x8192x1x1024 : Shape := ⟨4, ![2, 8192, 1, 1024]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩
abbrev S16384x2048 : Shape := ⟨2, ![16384, 2048]⟩
abbrev S16384x8x2x128 : Shape := ⟨4, ![16384, 8, 2, 128]⟩
abbrev S8x2x128x16384 : Shape := ⟨4, ![8, 2, 128, 16384]⟩
abbrev S16384x8x1x128 : Shape := ⟨4, ![16384, 8, 1, 128]⟩
abbrev S16384x8x128 : Shape := ⟨3, ![16384, 8, 128]⟩
abbrev S1024x16384 : Shape := ⟨2, ![1024, 16384]⟩
abbrev S128x8x16384 : Shape := ⟨3, ![128, 8, 16384]⟩
abbrev S8x128x16384 : Shape := ⟨3, ![8, 128, 16384]⟩

abbrev nBuf : Space → Nat
  | .hbm => 63
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S8x2x128x128, .f32⟩
  | .hbm, ⟨10, _⟩ => ⟨S2x8192x2048, .f32⟩
  | .hbm, ⟨11, _⟩ => ⟨S2x8192x2048, .f32⟩
  | .hbm, ⟨12, _⟩ => ⟨S_, .f32⟩
  | .hbm, ⟨13, _⟩ => ⟨S2x8192x2048, .f32⟩
  | .hbm, ⟨14, _⟩ => ⟨S2x8192x2048, .f32⟩
  | .hbm, ⟨15, _⟩ => ⟨S_, .f32⟩
  | .hbm, ⟨16, _⟩ => ⟨S2x8192x2048, .f32⟩
  | .hbm, ⟨17, _⟩ => ⟨S2x8192x2048, .f32⟩
  | .hbm, ⟨18, _⟩ => ⟨S2x8192x2x1024, .f32⟩
  | .hbm, ⟨19, _⟩ => ⟨S2x8192x1x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S2x8192x1x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x8192, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S2x8192x1, .f32⟩
  | .hbm, ⟨41, _⟩ => ⟨S2x8192x1024, .f32⟩
  | .hbm, ⟨42, _⟩ => ⟨S2x8192x1024, .f32⟩
  | .hbm, ⟨43, _⟩ => ⟨S1x1x1024, .f32⟩
  | .hbm, ⟨44, _⟩ => ⟨S2x8192x1024, .f32⟩
  | .hbm, ⟨45, _⟩ => ⟨S2x8192x1024, .f32⟩
  | .hbm, ⟨46, _⟩ => ⟨S16384x1024, .f32⟩
  | .hbm, ⟨47, _⟩ => ⟨S16384x2048, .f32⟩
  | .hbm, ⟨48, _⟩ => ⟨S16384x8x2x128, .f32⟩
  | .hbm, ⟨49, _⟩ => ⟨S8x2x128x16384, .f32⟩
  | .hbm, ⟨50, _⟩ => ⟨S16384x8x2x128, .f32⟩
  | .hbm, ⟨51, _⟩ => ⟨S16384x8x1x128, .f32⟩
  | .hbm, ⟨52, _⟩ => ⟨S16384x8x128, .f32⟩
  | .hbm, ⟨53, _⟩ => ⟨S16384x8x1x128, .f32⟩
  | .hbm, ⟨54, _⟩ => ⟨S16384x8x128, .f32⟩
  | .hbm, ⟨55, _⟩ => ⟨S16384x1024, .f32⟩
  | .hbm, ⟨56, _⟩ => ⟨S1024x16384, .f32⟩
  | .hbm, ⟨57, _⟩ => ⟨S1024x16384, .bf16⟩
  | .hbm, ⟨58, _⟩ => ⟨S128x8x16384, .f32⟩
  | .hbm, ⟨59, _⟩ => ⟨S1024x16384, .f32⟩
  | .hbm, ⟨60, _⟩ => ⟨S128x8x16384, .f32⟩
  | .hbm, ⟨61, _⟩ => ⟨S1024x16384, .f32⟩
  | .hbm, ⟨62, _⟩ => ⟨S8x128x16384, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Proj.lean ====
abbrev S2x8192x1024 : Shape := ⟨3, ![2, 8192, 1024]⟩
abbrev S2x8192 : Shape := ⟨2, ![2, 8192]⟩
abbrev S1024 : Shape := ⟨1, ![1024]⟩
abbrev S1024x4272 : Shape := ⟨2, ![1024, 4272]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x16 : Shape := ⟨2, ![1024, 16]⟩
abbrev S1024x2048 : Shape := ⟨2, ![1024, 2048]⟩
abbrev S384x8x96 : Shape := ⟨3, ![384, 8, 96]⟩
abbrev S384x8x32 : Shape := ⟨3, ![384, 8, 32]⟩
abbrev S384x8x64 : Shape := ⟨3, ![384, 8, 64]⟩
abbrev S_ : Shape := ⟨0, ![]⟩
abbrev S384x8x128 : Shape := ⟨3, ![384, 8, 128]⟩
abbrev S384x8x16 : Shape := ⟨3, ![384, 8, 16]⟩
abbrev S256x8x128 : Shape := ⟨3, ![256, 8, 128]⟩
abbrev S256x8x64 : Shape := ⟨3, ![256, 8, 64]⟩
abbrev S1x1024 : Shape := ⟨2, ![1, 1024]⟩
abbrev S1024x640 : Shape := ⟨2, ![1024, 640]⟩
abbrev S1024x64 : Shape := ⟨2, ![1024, 64]⟩
abbrev S1024x128 : Shape := ⟨2, ![1024, 128]⟩
abbrev S1024x1280 : Shape := ⟨2, ![1024, 1280]⟩
abbrev S1024x272 : Shape := ⟨2, ![1024, 272]⟩
abbrev S272x1024 : Shape := ⟨2, ![272, 1024]⟩
abbrev S1x384 : Shape := ⟨2, ![1, 384]⟩
abbrev S1x256 : Shape := ⟨2, ![1, 256]⟩
abbrev S384x1024 : Shape := ⟨2, ![384, 1024]⟩
abbrev S16384x1 : Shape := ⟨2, ![16384, 1]⟩
abbrev S16384x1024 : Shape := ⟨2, ![16384, 1024]⟩
abbrev S16 : Shape := ⟨1, ![16]⟩
abbrev S64 : Shape := ⟨1, ![64]⟩
abbrev S32 : Shape := ⟨1, ![32]⟩
abbrev S128 : Shape := ⟨1, ![128]⟩
abbrev S1x128 : Shape := ⟨2, ![1, 128]⟩
abbrev S16384x256 : Shape := ⟨2, ![16384, 256]⟩
abbrev S256x16384 : Shape := ⟨2, ![256, 16384]⟩
abbrev S16384x512 : Shape := ⟨2, ![16384, 512]⟩
abbrev S16x16384 : Shape := ⟨2, ![16, 16384]⟩
abbrev S16384x2048 : Shape := ⟨2, ![16384, 2048]⟩
abbrev S512x1024 : Shape := ⟨2, ![512, 1024]⟩
abbrev S512x1 : Shape := ⟨2, ![512, 1]⟩
abbrev S512x256 : Shape := ⟨2, ![512, 256]⟩
abbrev S256x512 : Shape := ⟨2, ![256, 512]⟩
abbrev S512x512 : Shape := ⟨2, ![512, 512]⟩
abbrev S16x512 : Shape := ⟨2, ![16, 512]⟩
abbrev S512x2048 : Shape := ⟨2, ![512, 2048]⟩
abbrev S512 : Shape := ⟨1, ![512]⟩
abbrev S512x128 : Shape := ⟨2, ![512, 128]⟩
abbrev S512x640 : Shape := ⟨2, ![512, 640]⟩
abbrev S512x384 : Shape := ⟨2, ![512, 384]⟩
abbrev S512x1280 : Shape := ⟨2, ![512, 1280]⟩
abbrev S272x512 : Shape := ⟨2, ![272, 512]⟩

abbrev nBuf : Space → Nat
  | .hbm => 102
  | .vmem => 35
  | .smem => 0
  | _ => 0

abbrev bufTy : (tb : Table) → Fin (tcTables nBuf tb) → BufTy
  | .hbm, ⟨0, _⟩ => ⟨S2x8192x1024, .f32⟩
  | .hbm, ⟨1, _⟩ => ⟨S2x8192, .i32⟩
  | .hbm, ⟨2, _⟩ => ⟨S1024, .f32⟩
  | .hbm, ⟨3, _⟩ => ⟨S1024x4272, .f32⟩
  | .hbm, ⟨4, _⟩ => ⟨S384, .f32⟩
  | .hbm, ⟨5, _⟩ => ⟨S384x768, .f32⟩
  | .hbm, ⟨6, _⟩ => ⟨S256, .f32⟩
  | .hbm, ⟨7, _⟩ => ⟨S256x1024, .f32⟩
  | .hbm, ⟨8, _⟩ => ⟨S1024x384, .f32⟩
  | .hbm, ⟨9, _⟩ => ⟨S1024x256, .f32⟩
  | .hbm, ⟨10, _⟩ => ⟨S1024x32, .f32⟩
  | .hbm, ⟨11, _⟩ => ⟨S1024x256, .f32⟩
  | .hbm, ⟨12, _⟩ => ⟨S1024x256, .f32⟩
  | .hbm, ⟨13, _⟩ => ⟨S1024x512, .f32⟩
  | .hbm, ⟨14, _⟩ => ⟨S1024x16, .f32⟩
  | .hbm, ⟨15, _⟩ => ⟨S1024x512, .f32⟩
  | .hbm, ⟨16, _⟩ => ⟨S1024x2048, .f32⟩
  | .hbm, ⟨17, _⟩ => ⟨S384x8x96, .f32⟩
  | .hbm, ⟨18, _⟩ => ⟨S384x8x32, .f32⟩
  | .hbm, ⟨19, _⟩ => ⟨S384x8x64, .f32⟩
  | .hbm, ⟨20, _⟩ => ⟨S_, .f32⟩
  | .hbm, ⟨21, _⟩ => ⟨S384x8x32, .f32⟩
  | .hbm, ⟨22, _⟩ => ⟨S384x8x128, .f32⟩
  | .hbm, ⟨23, _⟩ => ⟨S384x8x16, .f32⟩
  | .hbm, ⟨24, _⟩ => ⟨S384x8x16, .f32⟩
  | .hbm, ⟨25, _⟩ => ⟨S384x8x16, .f32⟩
  | .hbm, ⟨26, _⟩ => ⟨S384x8x32, .f32⟩
  | .hbm, ⟨27, _⟩ => ⟨S_, .f32⟩
  | .hbm, ⟨28, _⟩ => ⟨S384x8x64, .f32⟩
  | .hbm, ⟨29, _⟩ => ⟨S_, .f32⟩
  | .hbm, ⟨30, _⟩ => ⟨S384x8x32, .f32⟩
  | .hbm, ⟨31, _⟩ => ⟨S384x8x128, .f32⟩
  | .hbm, ⟨32, _⟩ => ⟨S256x8x128, .f32⟩
  | .hbm, ⟨33, _⟩ => ⟨S256x8x64, .f32⟩
  | .hbm, ⟨34, _⟩ => ⟨S_, .f32⟩
  | .hbm, ⟨35, _⟩ => ⟨S256x8x64, .f32⟩
  | .hbm, ⟨36, _⟩ => ⟨S256x8x128, .f32⟩
  | .hbm, ⟨37, _⟩ => ⟨S256x8x64, .f32⟩
  | .hbm, ⟨38, _⟩ => ⟨S_, .f32⟩
  | .hbm, ⟨39, _⟩ => ⟨S256x8x64, .f32⟩
  | .hbm, ⟨40, _⟩ => ⟨S256x8x128, .f32⟩
  | .hbm, ⟨41, _⟩ => ⟨S1x1024, .f32⟩
  | .hbm, ⟨42, _⟩ => ⟨S1024x640, .f32⟩
  | .hbm, ⟨43, _⟩ => ⟨S1024x640, .bf16⟩
  | .hbm, ⟨44, _⟩ => ⟨S_, .f32⟩
  | .hbm, ⟨45, _⟩ => ⟨S1024x64, .f32⟩
  | .hbm, ⟨46, _⟩ => ⟨S_, .f32⟩
  | .hbm, ⟨47, _⟩ => ⟨S1024x32, .f32⟩
  | .hbm, ⟨48, _⟩ => ⟨S1024x128, .f32⟩
  | .hbm, ⟨49, _⟩ => ⟨S1024x16, .f32⟩
  | .hbm, ⟨50, _⟩ => ⟨S1024x16, .f32⟩
  | .hbm, ⟨51, _⟩ => ⟨S1024x16, .f32⟩
  | .hbm, ⟨52, _⟩ => ⟨S1024x32, .f32⟩
  | .hbm, ⟨53, _⟩ => ⟨S_, .f32⟩
  | .hbm, ⟨54, _⟩ => ⟨S1024x64, .f32⟩
  | .hbm, ⟨55, _⟩ => ⟨S_, .f32⟩
  | .hbm, ⟨56, _⟩ => ⟨S1024x32, .f32⟩
  | .hbm, ⟨57, _⟩ => ⟨S1024x128, .f32⟩
  | .hbm, ⟨58, _⟩ => ⟨S1024x256, .f32⟩
  | .hbm, ⟨59, _⟩ => ⟨S1024x256, .bf16⟩
  | .hbm, ⟨60, _⟩ => ⟨S1024x1280, .f32⟩
  | .hbm, ⟨61, _⟩ => ⟨S1024x1280, .bf16⟩
  | .hbm, ⟨62, _⟩ => ⟨S1024x272, .f32⟩
  | .hbm, ⟨63, _⟩ => ⟨S272x1024, .f32⟩
  | .hbm, ⟨64, _⟩ => ⟨S272x1024, .bf16⟩
  | .hbm, ⟨65, _⟩ => ⟨S1024x2048, .bf16⟩
  | .hbm, ⟨66, _⟩ => ⟨S1x384, .f32⟩
  | .hbm, ⟨67, _⟩ => ⟨S1x256, .f32⟩
  | .hbm, ⟨68, _⟩ => ⟨S384x1024, .f32⟩
  | .hbm, ⟨69, _⟩ => ⟨S384x1024, .bf16⟩
  | .hbm, ⟨70, _⟩ => ⟨S384x1024, .f32⟩
  | .hbm, ⟨71, _⟩ => ⟨S384x1024, .bf16⟩
  | .hbm, ⟨72, _⟩ => ⟨S256x1024, .f32⟩
  | .hbm, ⟨73, _⟩ => ⟨S256x1024, .bf16⟩
  | .hbm, ⟨74, _⟩ => ⟨S256x1024, .f32⟩
  | .hbm, ⟨75, _⟩ => ⟨S256x1024, .bf16⟩
  | .hbm, ⟨76, _⟩ => ⟨S16384x1, .i32⟩
  | .hbm, ⟨77, _⟩ => ⟨S16384x1, .f32⟩
  | .hbm, ⟨78, _⟩ => ⟨S16384x1024, .f32⟩
  | .hbm, ⟨79, _⟩ => ⟨S16, .f32⟩
  | .hbm, ⟨80, _⟩ => ⟨S16, .f32⟩
  | .hbm, ⟨81, _⟩ => ⟨S_, .f32⟩
  | .hbm, ⟨82, _⟩ => ⟨S16, .f32⟩
  | .hbm, ⟨83, _⟩ => ⟨S16, .f32⟩
  | .hbm, ⟨84, _⟩ => ⟨S_, .f32⟩
  | .hbm, ⟨85, _⟩ => ⟨S16, .f32⟩
  | .hbm, ⟨86, _⟩ => ⟨S16, .f32⟩
  | .hbm, ⟨87, _⟩ => ⟨S_, .f32⟩
  | .hbm, ⟨88, _⟩ => ⟨S64, .f32⟩
  | .hbm, ⟨89, _⟩ => ⟨S_, .f32⟩
  | .hbm, ⟨90, _⟩ => ⟨S32, .f32⟩
  | .hbm, ⟨91, _⟩ => ⟨S128, .f32⟩
  | .hbm, ⟨92, _⟩ => ⟨S1x128, .f32⟩
  | .hbm, ⟨93, _⟩ => ⟨S16384x1024, .bf16⟩
  | .hbm, ⟨94, _⟩ => ⟨S16384x1024, .bf16⟩
  | .hbm, ⟨95, _⟩ => ⟨S16384x1024, .bf16⟩
  | .hbm, ⟨96, _⟩ => ⟨S16384x256, .bf16⟩
  | .hbm, ⟨97, _⟩ => ⟨S256x16384, .f32⟩
  | .hbm, ⟨98, _⟩ => ⟨S16384x512, .bf16⟩
  | .hbm, ⟨99, _⟩ => ⟨S16x16384, .bf16⟩
  | .hbm, ⟨100, _⟩ => ⟨S16384x512, .f32⟩
  | .hbm, ⟨101, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x1, .f32⟩
  | .local _ .vmem, ⟨3, _⟩ => ⟨S512x1, .f32⟩
  | .local _ .vmem, ⟨4, _⟩ => ⟨S1x128, .f32⟩
  | .local _ .vmem, ⟨5, _⟩ => ⟨S1x1024, .f32⟩
  | .local _ .vmem, ⟨6, _⟩ => ⟨S1024x640, .bf16⟩
  | .local _ .vmem, ⟨7, _⟩ => ⟨S1024x256, .bf16⟩
  | .local _ .vmem, ⟨8, _⟩ => ⟨S1024x1280, .bf16⟩
  | .local _ .vmem, ⟨9, _⟩ => ⟨S272x1024, .bf16⟩
  | .local _ .vmem, ⟨10, _⟩ => ⟨S1024x2048, .bf16⟩
  | .local _ .vmem, ⟨11, _⟩ => ⟨S1x384, .f32⟩
  | .local _ .vmem, ⟨12, _⟩ => ⟨S384x1024, .bf16⟩
  | .local _ .vmem, ⟨13, _⟩ => ⟨S384x1024, .bf16⟩
  | .local _ .vmem, ⟨14, _⟩ => ⟨S1x256, .f32⟩
  | .local _ .vmem, ⟨15, _⟩ => ⟨S256x1024, .bf16⟩
  | .local _ .vmem, ⟨16, _⟩ => ⟨S256x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x256, .bf16⟩
  | .local _ .vmem, ⟨24, _⟩ => ⟨S512x256, .bf16⟩
  | .local _ .vmem, ⟨25, _⟩ => ⟨S256x512, .f32⟩
  | .local _ .vmem, ⟨26, _⟩ => ⟨S256x512, .f32⟩
  | .local _ .vmem, ⟨27, _⟩ => ⟨S512x512, .bf16⟩
  | .local _ .vmem, ⟨28, _⟩ => ⟨S512x512, .bf16⟩
  | .local _ .vmem, ⟨29, _⟩ => ⟨S16x512, .bf16⟩
  | .local _ .vmem, ⟨30, _⟩ => ⟨S16x512, .bf16⟩
  | .local _ .vmem, ⟨31, _⟩ => ⟨S512x512, .f32⟩
  | .local _ .vmem, ⟨32, _⟩ => ⟨S512x512, .f32⟩
  | .local _ .vmem, ⟨33, _⟩ => ⟨S512x2048, .f32⟩
  | .local _ .vmem, ⟨34, _⟩ => ⟨S512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72_0 : Ref sig .tc := ⟨.hbm, 93, rfl⟩
abbrev main_v72_1 : Ref sig .tc := ⟨.hbm, 94, rfl⟩
abbrev main_v72_2 : Ref sig .tc := ⟨.hbm, 95, rfl⟩
abbrev main_v72_3 : Ref sig .tc := ⟨.hbm, 96, rfl⟩
abbrev main_v72_4 : Ref sig .tc := ⟨.hbm, 97, rfl⟩
abbrev main_v72_5 : Ref sig .tc := ⟨.hbm, 98, rfl⟩
abbrev main_v72_6 : Ref sig .tc := ⟨.hbm, 99, rfl⟩
abbrev main_v72_7 : Ref sig .tc := ⟨.hbm, 100, rfl⟩
abbrev main_v72_8 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S272x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x2048 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ProjIdeal.lean ====
variable {F : FTy → Type} [FloatOps F] [Named F]
def κ : String → Option EReal := fun
  | "qscale" => some (((Real.sqrt 96)⁻¹ * (Real.log 2)⁻¹ : ℝ) : EReal)
  | _ => none
-- ==== ProjReferenceIdeal.lean ====
abbrev S2x8192x1024 : Shape := ⟨3, ![2, 8192, 1024]⟩
abbrev S2x8192 : Shape := ⟨2, ![2, 8192]⟩
abbrev S1024 : Shape := ⟨1, ![1024]⟩
abbrev S1024x4272 : Shape := ⟨2, ![1024, 4272]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S_ : Shape := ⟨0, ![]⟩
abbrev S2x8192x1 : Shape := ⟨3, ![2, 8192, 1]⟩
abbrev S1x1x1024 : Shape := ⟨3, ![1, 1, 1024]⟩
abbrev S2x8192x4272 : Shape := ⟨3, ![2, 8192, 4272]⟩
abbrev S2x8192x384 : Shape := ⟨3, ![2, 8192, 384]⟩
abbrev S2x8192x256 : Shape := ⟨3, ![2, 8192, 256]⟩
abbrev S2x8192x32 : Shape := ⟨3, ![2, 8192, 32]⟩
abbrev S2x8192x512 : Shape := ⟨3, ![2, 8192, 512]⟩
abbrev S2x8192x16 : Shape := ⟨3, ![2, 8192, 16]⟩
abbrev S2x8192x2048 : Shape := ⟨3, ![2, 8192, 2048]⟩
abbrev S1x1x384 : Shape := ⟨3, ![1, 1, 384]⟩
abbrev S2x8192x768 : Shape := ⟨3, ![2, 8192, 768]⟩
abbrev S2x8192x8x96 : Shape := ⟨4, ![2, 8192, 8, 96]⟩
abbrev S2x8192x8x64 : Shape := ⟨4, ![2, 8192, 8, 64]⟩
abbrev S2x8192x8x32 : Shape := ⟨4, ![2, 8192, 8, 32]⟩
abbrev S16 : Shape := ⟨1, ![16]⟩
abbrev S2x8192x1x1 : Shape := ⟨4, ![2, 8192, 1, 1]⟩
abbrev S1x1x1x16 : Shape := ⟨4, ![1, 1, 1, 16]⟩
abbrev S2x8192x1x16 : Shape := ⟨4, ![2, 8192, 1, 16]⟩
abbrev S2x8192x8x16 : Shape := ⟨4, ![2, 8192, 8, 16]⟩
abbrev S1x1x256 : Shape := ⟨3, ![1, 1, 256]⟩
abbrev S2x8192x8x128 : Shape := ⟨4, ![2, 8192, 8, 128]⟩
abbrev S2x8192x1x32 : Shape := ⟨4, ![2, 8192, 1, 32]⟩
abbrev S16384x1024 : Shape := ⟨2, ![16384, 1024]⟩
abbrev S2x8192x8x1 : Shape := ⟨4, ![2, 8192, 8, 1]⟩
abbrev S2x8192x8x63 : Shape := ⟨4, ![2, 8192, 8, 63]⟩
abbrev S16384x256 : Shape := ⟨2, ![16384, 256]⟩
abbrev S256x16384 : Shape := ⟨2, ![256, 16384]⟩
abbrev S16384x512 : Shape := ⟨2, ![16384, 512]⟩
abbrev S16384x16 : Shape := ⟨2, ![16384, 16]⟩
abbrev S16x16384 : Shape := ⟨2, ![16, 16384]⟩
abbrev S16384x2048 : Shape := ⟨2, ![16384, 2048]⟩

abbrev nBuf : Space → Nat
  | .hbm => 170
  | .vmem => 0
  | .smem => 0
  | _ => 0

abbrev hbmTy0_0 (i : Nat) : BufTy := match i % 128 with
  | 0 => ⟨S2x8192x1024, .f32⟩
  | 1 => ⟨S2x8192, .i32⟩
  | 2 => ⟨S1024, .f32⟩
  | 3 => ⟨S1024x4272, .f32⟩
  | 4 => ⟨S384, .f32⟩
  | 5 => ⟨S384x768, .f32⟩
  | 6 => ⟨S256, .f32⟩
  | 7 => ⟨S256x1024, .f32⟩
  | 8 => ⟨S2x8192x1024, .f32⟩
  | 9 => ⟨S_, .f32⟩
  | 10 => ⟨S2x8192, .f32⟩
  | 11 => ⟨S2x8192x1, .f32⟩
  | 12 => ⟨S_, .f32⟩
  | 13 => ⟨S2x8192x1, .f32⟩
  | 14 => ⟨S2x8192x1, .f32⟩
  | 15 => ⟨S_, .f32⟩
  | 16 => ⟨S2x8192x1, .f32⟩
  | 17 => ⟨S2x8192x1, .f32⟩
  | 18 => ⟨S2x8192x1, .f32⟩
  | 19 => ⟨S2x8192x1024, .f32⟩
  | 20 => ⟨S2x8192x1024, .f32⟩
  | 21 => ⟨S1x1x1024, .f32⟩
  | 22 => ⟨S2x8192x1024, .f32⟩
  | 23 => ⟨S2x8192x1024, .f32⟩
  | 24 => ⟨S2x8192x4272, .f32⟩
  | 25 => ⟨S2x8192x384, .f32⟩
  | 26 => ⟨S2x8192x256, .f32⟩
  | 27 => ⟨S2x8192x32, .f32⟩
  | 28 => ⟨S2x8192x256, .f32⟩
  | 29 => ⟨S2x8192x256, .f32⟩
  | 30 => ⟨S2x8192x512, .f32⟩
  | 31 => ⟨S2x8192x16, .f32⟩
  | 32 => ⟨S2x8192x512, .f32⟩
  | 33 => ⟨S2x8192x2048, .f32⟩
  | 34 => ⟨S2x8192x384, .f32⟩
  | 35 => ⟨S_, .f32⟩
  | 36 => ⟨S2x8192, .f32⟩
  | 37 => ⟨S2x8192x1, .f32⟩
  | 38 => ⟨S_, .f32⟩
  | 39 => ⟨S2x8192x1, .f32⟩
  | 40 => ⟨S2x8192x1, .f32⟩
  | 41 => ⟨S_, .f32⟩
  | 42 => ⟨S2x8192x1, .f32⟩
  | 43 => ⟨S2x8192x1, .f32⟩
  | 44 => ⟨S2x8192x1, .f32⟩
  | 45 => ⟨S2x8192x384, .f32⟩
  | 46 => ⟨S2x8192x384, .f32⟩
  | 47 => ⟨S1x1x384, .f32⟩
  | 48 => ⟨S2x8192x384, .f32⟩
  | 49 => ⟨S2x8192x384, .f32⟩
  | 50 => ⟨S2x8192x768, .f32⟩
  | 51 => ⟨S2x8192x8x96, .f32⟩
  | 52 => ⟨S2x8192x8x64, .f32⟩
  | 53 => ⟨S2x8192x8x32, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S2x8192, .f32⟩
  | 63 => ⟨S2x8192x1x1, .f32⟩
  | 64 => ⟨S1x1x1x16, .f32⟩
  | 65 => ⟨S2x8192x1x16, .f32⟩
  | 66 => ⟨S2x8192x1x16, .f32⟩
  | 67 => ⟨S2x8192x1x16, .f32⟩
  | 68 => ⟨S2x8192x1x16, .f32⟩
  | 69 => ⟨S2x8192x1x16, .f32⟩
  | 70 => ⟨S2x8192x8x16, .f32⟩
  | 71 => ⟨S2x8192x8x16, .f32⟩
  | 72 => ⟨S2x8192x8x16, .f32⟩
  | 73 => ⟨S2x8192x8x16, .f32⟩
  | 74 => ⟨S2x8192x8x16, .f32⟩
  | 75 => ⟨S2x8192x8x16, .f32⟩
  | 76 => ⟨S2x8192x8x16, .f32⟩
  | 77 => ⟨S2x8192x8x16, .f32⟩
  | 78 => ⟨S2x8192x8x16, .f32⟩
  | 79 => ⟨S2x8192x8x16, .f32⟩
  | 80 => ⟨S2x8192x8x16, .f32⟩
  | 81 => ⟨S2x8192x8x16, .f32⟩
  | 82 => ⟨S2x8192x8x32, .f32⟩
  | 83 => ⟨S2x8192x8x96, .f32⟩
  | 84 => ⟨S2x8192x256, .f32⟩
  | 85 => ⟨S_, .f32⟩
  | 86 => ⟨S2x8192, .f32⟩
  | 87 => ⟨S2x8192x1, .f32⟩
  | 88 => ⟨S_, .f32⟩
  | 89 => ⟨S2x8192x1, .f32⟩
  | 90 => ⟨S2x8192x1, .f32⟩
  | 91 => ⟨S_, .f32⟩
  | 92 => ⟨S2x8192x1, .f32⟩
  | 93 => ⟨S2x8192x1, .f32⟩
  | 94 => ⟨S2x8192x1, .f32⟩
  | 95 => ⟨S2x8192x256, .f32⟩
  | 96 => ⟨S2x8192x256, .f32⟩
  | 97 => ⟨S1x1x256, .f32⟩
  | 98 => ⟨S2x8192x256, .f32⟩
  | 99 => ⟨S2x8192x256, .f32⟩
  | 100 => ⟨S2x8192x1024, .f32⟩
  | 101 => ⟨S2x8192x8x128, .f32⟩
  | 102 => ⟨S2x8192x1x32, .f32⟩
  | 103 => ⟨S16, .f32⟩
  | 104 => ⟨S16, .f32⟩
  | 105 => ⟨S_, .f32⟩
  | 106 => ⟨S16, .f32⟩
  | 107 => ⟨S16, .f32⟩
  | 108 => ⟨S_, .f32⟩
  | 109 => ⟨S16, .f32⟩
  | 110 => ⟨S16, .f32⟩
  | 111 => ⟨S2x8192, .f32⟩
  | 112 => ⟨S2x8192x1x1, .f32⟩
  | 113 => ⟨S1x1x1x16, .f32⟩
  | 114 => ⟨S2x8192x1x16, .f32⟩
  | 115 => ⟨S2x8192x1x16, .f32⟩
  | 116 => ⟨S2x8192x1x16, .f32⟩
  | 117 => ⟨S2x8192x1x16, .f32⟩
  | 118 => ⟨S2x8192x1x16, .f32⟩
  | 119 => ⟨S2x8192x1x16, .f32⟩
  | 120 => ⟨S2x8192x1x16, .f32⟩
  | 121 => ⟨S2x8192x1x16, .f32⟩
  | 122 => ⟨S2x8192x1x16, .f32⟩
  | 123 => ⟨S2x8192x1x16, .f32⟩
  | 124 => ⟨S2x8192x1x16, .f32⟩
  | 125 => ⟨S2x8192x1x16, .f32⟩
  | 126 => ⟨S2x8192x1x16, .f32⟩
  | 127 => ⟨S2x8192x1x32, .f32⟩
  | _ => ⟨S2x8192x1024, .f32⟩

abbrev hbmTy0_1 (i : Nat) : BufTy := match i % 128 with
  | 0 => ⟨S2x8192x8x64, .f32⟩
  | 1 => ⟨S2x8192x8x32, .f32⟩
  | 2 => ⟨S2x8192x8x96, .f32⟩
  | 3 => ⟨S2x8192x8x64, .f32⟩
  | 4 => ⟨S_, .f32⟩
  | 5 => ⟨S_, .f32⟩
  | 6 => ⟨S_, .f32⟩
  | 7 => ⟨S_, .f32⟩
  | 8 => ⟨S_, .f32⟩
  | 9 => ⟨S2x8192x8x96, .f32⟩
  | 10 => ⟨S2x8192x8x96, .f32⟩
  | 11 => ⟨S_, .f32⟩
  | 12 => ⟨S2x8192x8x32, .f32⟩
  | 13 => ⟨S2x8192x8x128, .f32⟩
  | 14 => ⟨S16384x1024, .f32⟩
  | 15 => ⟨S16384x1024, .bf16⟩
  | 16 => ⟨S_, .f32⟩
  | 17 => ⟨S2x8192x8x32, .f32⟩
  | 18 => ⟨S2x8192x8x128, .f32⟩
  | 19 => ⟨S16384x1024, .f32⟩
  | 20 => ⟨S16384x1024, .bf16⟩
  | 21 => ⟨S_, .f32⟩
  | 22 => ⟨S2x8192x8x1, .f32⟩
  | 23 => ⟨S_, .f32⟩
  | 24 => ⟨S2x8192x8x63, .f32⟩
  | 25 => ⟨S2x8192x8x128, .f32⟩
  | 26 => ⟨S16384x1024, .f32⟩
  | 27 => ⟨S16384x1024, .bf16⟩
  | 28 => ⟨S_, .f32⟩
  | 29 => ⟨S2x8192x256, .f32⟩
  | 30 => ⟨S2x8192x256, .f32⟩
  | 31 => ⟨S16384x256, .f32⟩
  | 32 => ⟨S16384x256, .bf16⟩
  | 33 => ⟨S16384x256, .f32⟩
  | 34 => ⟨S256x16384, .f32⟩
  | 35 => ⟨S16384x512, .f32⟩
  | 36 => ⟨S16384x512, .bf16⟩
  | 37 => ⟨S16384x16, .f32⟩
  | 38 => ⟨S16x16384, .f32⟩
  | 39 => ⟨S16x16384, .bf16⟩
  | 40 => ⟨S16384x512, .f32⟩
  | 41 => ⟨S16384x2048, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_cst_8 : Ref sig .tc := ⟨.hbm, 88, rfl⟩
abbrev main_v71 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_10 : Ref sig .tc := ⟨.hbm, 105, rfl⟩
abbrev main_v86 : Ref sig .tc := ⟨.hbm, 106, rfl⟩
abbrev main_v87 : Ref sig .tc := ⟨.hbm, 107, rfl⟩
abbrev main_cst_11 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_cst_12 : Ref sig .tc := ⟨.hbm, 132, rfl⟩
abbrev main_v111 : Ref sig .tc := ⟨.hbm, 133, rfl⟩
abbrev main_cst_13 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_cst_14 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_cst_15 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_cst_16 : Ref sig .tc := ⟨.hbm, 149, rfl⟩
abbrev main_v124 : Ref sig .tc := ⟨.hbm, 150, rfl⟩
abbrev main_cst_17 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_cst_18 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩

abbrev nD : Nat := 1
abbrev τ : Topo := Topo.v7x

variable {F : FTy → Type} [FloatOps F]
-- ==== Proof.WordLaunch.lean ====
/- The attention call's run at any float values: the pipeline's proof data with the output block named (`blk`), the
   frame, and the result array after the run, block by block. -/
module

public import proofs.«01_k».proof.Proof.WordRun
public import Idealize.ShloMosaic.Lib.Claim
public import Idealize.ShloMosaic.Lib.Pipeline.Value

@[expose] public section

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output's staging buffer holds after the body at point `t`. -/
def outAt (c : Dev nD) (t : Fin cfg0.N) : Vec F S2048x128 .bf16 :=
  blk (grid0.coords t 2).val (iblk m c 0 t) (iblk m c 1 t) (iblk m c 2 t)

/-! ## The pipeline's proof data -/

/-- The proof data of the one pipeline on core `c`: the arrays as the region finds them (`V`); after the body at
    point `t` each input's buffer at its block and the outputs' at `outAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outAt m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outAt
  iintro ⟨⟨⟨HS0, HS1⟩, Hg⟩, Ho, ⟨%d0, H0⟩, ⟨%d1, H1⟩, ⟨%d2, H2⟩, ⟨%d3, H3⟩⟩
  iapply (run c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel`'s statement (Defs.lean) at any `F` . -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Attn

end
-- ==== Proof.AttnRun.lean ====
/- The attention body's run at the ideal values: what one grid point leaves in the output block, as a recursion over
   the key tiles. -/
module

public import proofs.«01_k».proof.Proof.Gen.KernelIdeal.Frame.Runs
public import Idealize.ShloMosaic.Lib.ValueIdx
public import Idealize.ShloMosaic.Lib.Pipeline.ValueKit.Tiles

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-! ## The values -/

/-- Key (or value) tile `j`: rows `1024 j ..` of the 8192 rows. -/
def tile (x : Vec F S8192x128 .bf16) (j : ℕ) : Vec F S1024x128 .bf16 :=
  fun y => x (ix2 ⟨(1024 * j + (y 0).val) % 8192, Nat.mod_lt _ (by norm_num)⟩ (y 1))

/-- The half of the query block (0: rows below 1024, 1: the rest). -/
def qlo (x : Vec F S2048x128 .bf16) : Vec F S1024x128 .bf16 :=
  View.ld x (Rect.unit (s := S2048x128) ![0, 0] S1024x128.size inb_S2048x128_S1024x128_0_0)

/-- The other half of the query block. -/
def qhi (x : Vec F S2048x128 .bf16) : Vec F S1024x128 .bf16 :=
  View.ld x (Rect.unit (s := S2048x128) ![1024, 0] S1024x128.size inb_S2048x128_S1024x128_1024_0)

/-- The scores of a query tile against a key tile. -/
def scr (q k : Vec F S1024x128 .bf16) : FVec F S1024x1024 .f32 := k0_pay7 (k0_pay40 q k)

/-- The running maximum and the running weighted sum after the first `n` key tiles. -/
def stp (q : Vec F S1024x128 .bf16) (K V : Vec F S8192x128 .bf16) : ℕ → FVec F S1024x1 .f32 × FVec F S1024x128 .f32
  | 0 => (k0_pay35, k0_pay36)
  | n + 1 => (k0_pay42 (stp q K V n).1 (scr q (tile K n)),
      k0_pay43 (stp q K V n).1 (stp q K V n).2 (k0_pay6 (tile V n)) (scr q (tile K n)))

/-- Both query halves' running values after the first `n` key tiles. -/
def stq (q q' : Vec F S1024x128 .bf16) (K V : Vec F S8192x128 .bf16) (n : ℕ) :
    FVec F S1024x1 .f32 × FVec F S1024x128 .f32 × FVec F S1024x1 .f32 × FVec F S1024x128 .f32 :=
  ((stp q K V n).1, (stp q K V n).2, (stp q' K V n).1, (stp q' K V n).2)

/-- The lower half's block rows: the masked update at key tile `2 i`, then the division. -/
def outLo (n : ℕ) (q : Vec F S1024x128 .bf16) (K V : Vec F S8192x128 .bf16) : FVec F S1024x128 .bf16 :=
  k0_pay1 (k0_pay64 (k0_pay56 (stp q K V n).1 (stp q K V n).2 (k0_pay53 (tile V n)) (scr q (tile K n)) k0_pay55))

/-- The upper half's block rows: the masked update at key tile `2 i + 1`, then the division. -/
def outHi (n : ℕ) (q : Vec F S1024x128 .bf16) (K V : Vec F S8192x128 .bf16) : FVec F S1024x128 .bf16 :=
  k0_pay2 (k0_pay63 (stp q K V n).1 (stp q K V n).2 (scr q (tile K n)) (k0_pay61 (tile V n)) k0_pay62
    (iota .tc S1024x1024 32 [1] iota_S1024x1024_d1_w32)) (iota .tc S1024x128 32 [1] iota_S1024x128_d1_w32)

/-- The output block of one grid point with query block index `n`. -/
def blk (n : ℕ) (x0 : Vec F S2048x128 .bf16) (x1 x2 : Vec F S8192x128 .bf16) : Vec F S2048x128 .bf16 :=
  View.canon [⟨Rect.unit (s := S2048x128) ![1024, 0] S1024x128.size inb_S2048x128_S1024x128_1024_0, outHi (2 * n + 1) (qhi x0) x1 x2⟩,
    ⟨Rect.unit (s := S2048x128) ![0, 0] S1024x128.size inb_S2048x128_S1024x128_0_0, outLo (2 * n) (qlo x0) x1 x2⟩]

/-! ## What the loads read -/

/-- A load of 1024 rows at row `1024 j` is tile `j`. -/
theorem ld_tile (x : Vec F S8192x128 .bf16) (off : Fin 2 → ℕ) (inb : ∀ a, off a + S1024x128.size a ≤ S8192x128.size a) (j : ℕ)
    (h : off = ![1024 * j, 0]) : View.ld x (Rect.unit (s := S8192x128) off S1024x128.size inb) = tile x j := by
  subst h
  funext y
  have h0 := inb 0
  have hy : (y 0).val < 1024 := (y 0).isLt
  refine View.ld_unit_apply_of x _ _ inb y _ (fun a => ?_)
  have h0' : 1024 * j + 1024 ≤ 8192 := h0
  match a with
  | ⟨0, _⟩ => show (1024 * j + (y 0).val) % 8192 = 1024 * j + (y 0).val; exact Nat.mod_eq_of_lt (by omega)
  | ⟨1, _⟩ => show (y 1).val = 0 + (y 1).val; omega

/-- The first half of a scratch buffer. -/
abbrev rLo : Rect S2x1024x1024 := Rect.unit (s := S2x1024x1024) ![0, 0, 0] S1x1024x1024.size inb_S2x1024x1024_S1x1024x1024_0_0_0

/-- The second half of a scratch buffer. -/
abbrev rHi : Rect S2x1024x1024 := Rect.unit (s := S2x1024x1024) ![1, 0, 0] S1x1024x1024.size inb_S2x1024x1024_S1x1024x1024_1_0_0

/-- The two halves share no element. -/
theorem disj_halves : Disjoint rHi.set rLo.toLoadRect.set := by
  have h : Disjoint rHi.set rLo.set := Rect.unit_disjoint 0 (by decide)
  exact h

/-- After both halves are stored, the first half reads what was stored there. -/
theorem cov_lo {sp : Space} (v : View sig .tc sp S2x1024x1024 .f32) (a b : Vec F S1x1024x1024 .f32) :
    v.readCov (Val := Elt F) [⟨rHi, b⟩, ⟨rLo, a⟩] rLo.toLoadRect = a := by
  have h := View.readCov_cons_of_disjoint (Val := Elt F) v (⟨rHi, b⟩ : View.Piece (Elt F) S2x1024x1024 .f32) [⟨rLo, a⟩] rLo.toLoadRect disj_halves
  refine h.trans ?_
  exact View.readCov_cons_toLoadRect (Val := Elt F) v rLo a []

/-- After both halves are stored, the second half reads what was stored there. -/
theorem cov_hi {sp : Space} (v : View sig .tc sp S2x1024x1024 .f32) (a b : Vec F S1x1024x1024 .f32) :
    v.readCov (Val := Elt F) [⟨rHi, b⟩, ⟨rLo, a⟩] rHi.toLoadRect = b :=
  View.readCov_cons_toLoadRect (Val := Elt F) v rHi b _

/-- The same for a read of the buffer's contents: the first half. -/
theorem wr_lo {sp : Space} (v : View sig .tc sp S2x1024x1024 .f32) (f : v.ty.Contents (Elt F)) (a b : Vec F S1x1024x1024 .f32) :
    v.readAt (Elt F) rLo.toLoadRect (v.writes (Elt F) f [⟨rHi, b⟩, ⟨rLo, a⟩]) = a := by
  rw [View.readAt_writes_of_cover v f _ rLo.toLoadRect (fun j => ⟨⟨rLo, a⟩, by simp, LoadRect.idx_mem _ j⟩)]
  exact cov_lo v a b

/-- The same for a read of the buffer's contents: the second half. -/
theorem wr_hi {sp : Space} (v : View sig .tc sp S2x1024x1024 .f32) (f : v.ty.Contents (Elt F)) (a b : Vec F S1x1024x1024 .f32) :
    v.readAt (Elt F) rHi.toLoadRect (v.writes (Elt F) f [⟨rHi, b⟩, ⟨rLo, a⟩]) = b := by
  rw [View.readAt_writes_of_cover v f _ rHi.toLoadRect (fun j => ⟨⟨rHi, b⟩, by simp, LoadRect.idx_mem _ j⟩)]
  exact cov_hi v a b

/-- A load of 1024 rows at row `1024 j` of a whole array held in a buffer is tile `j`. -/
theorem rd_tile {sp : Space} {m : Memref sig .tc sp S8192x128 .bf16} (hm : m.IsWhole) (x : Vec F S8192x128 .bf16) (off : Fin 2 → ℕ)
    (inb : ∀ a, off a + S1024x128.size a ≤ S8192x128.size a) (j : ℕ) (h : off = ![1024 * j, 0]) :
    m.view.readAt (Elt F) (Rect.unit (s := S8192x128) off S1024x128.size inb).toLoadRect (hm.unread x) = tile x j := by
  refine Eq.trans ?_ (ld_tile x off inb j h)
  rw [View.readAt_eq_ld, hm.read_unread]

/-- The main loop runs as many times as the query block's index. -/
theorem trips1 (i : grid0.Coords) : (k0_t1_loop i).trips = (i 2).val := by
  have h : ∀ a : Fin 4, (⟨0#32, Scalar.addi 0#32 (Scalar.muli (Scalar.divsi (Scalar.subi (BitVec.ofNat 32 a.val) 0#32) 1#32) 1#32), 1#32⟩ : Scf.Loop 32).trips = a.val := by
    decide +kernel
  exact h (i 2)

/-- The remainder loop never runs. -/
theorem trips2 (i : grid0.Coords) (k : Fin (k0_t2_loop i).trips) : False :=
  Nat.not_lt.2 (Nat.le_trans (k0_t2_abs i).2.1 (Nat.zero_le _)) k.isLt

/-- The same as a count. -/
theorem trips2' (i : grid0.Coords) : Scf.trips (k0_t2_loop i).lb (k0_t2_loop i).ub (k0_t2_loop i).st = 0 :=
  Nat.eq_zero_of_le_zero (Nat.not_lt.1 fun h => trips2 i ⟨0, h⟩)

/-- The two stored pieces fill the output block. -/
theorem cover6 {a b : FVec F S1024x128 .bf16} : ∀ y, ∃ p ∈ ([⟨Rect.unit (s := S2048x128) ![1024, 0] S1024x128.size inb_S2048x128_S1024x128_1024_0, a⟩,
    ⟨Rect.unit (s := S2048x128) ![0, 0] S1024x128.size inb_S2048x128_S1024x128_0_0, b⟩] : List (View.Piece (Elt F) S2048x128 .bf16)), y ∈ p.1.set := by
  intro y
  have h0 : (y 0).val < 2048 := (y 0).isLt
  have h1 : (y 1).val < 128 := (y 1).isLt
  by_cases h : (y 0).val < 1024
  · refine ⟨⟨Rect.unit (s := S2048x128) ![0, 0] S1024x128.size inb_S2048x128_S1024x128_0_0, b⟩, List.mem_cons_of_mem _ (List.mem_singleton_self _), (Rect.mem_set_unit (inb := inb_S2048x128_S1024x128_0_0)).2 fun d => ?_⟩
    match d with
    | ⟨0, _⟩ => exact ⟨Nat.zero_le _, by show (y 0).val < 0 + 1024; omega⟩
    | ⟨1, _⟩ => exact ⟨Nat.zero_le _, by show (y 1).val < 0 + 128; omega⟩
  · refine ⟨_, List.mem_cons_self, (Rect.mem_set_unit (inb := inb_S2048x128_S1024x128_1024_0)).2 fun d => ?_⟩
    match d with
    | ⟨0, _⟩ => exact ⟨by show 1024 ≤ (y 0).val; omega, by show (y 0).val < 1024 + 1024; omega⟩
    | ⟨1, _⟩ => exact ⟨Nat.zero_le _, by show (y 1).val < 0 + 128; omega⟩

/-- Equal pieces make equal blocks. -/
theorem blk_congr {n : ℕ} {x0 : Vec F S2048x128 .bf16} {x1 x2 : Vec F S8192x128 .bf16} {a b : FVec F S1024x128 .bf16}
    (ha : a = outHi (2 * n + 1) (qhi x0) x1 x2) (hb : b = outLo (2 * n) (qlo x0) x1 x2) :
    View.canon (Val := Elt F) [⟨Rect.unit (s := S2048x128) ![1024, 0] S1024x128.size inb_S2048x128_S1024x128_1024_0, a⟩,
      ⟨Rect.unit (s := S2048x128) ![0, 0] S1024x128.size inb_S2048x128_S1024x128_0_0, b⟩] = blk n x0 x1 x2 := by
  subst ha; subst hb; rfl

/-! ## The loops -/

/-- The invariant of the main loop before trip `k`: the first scratch buffer holds both halves' scores against key
    tile `2 k`, and the carried values are those after the first `2 k` key tiles. -/
def inv1 (c : Dev nD) (i : grid0.Coords) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S2048x128 .bf16) (harg6 : arg6.IsWhole) (arg7 : Memref sig .tc .vmem S2x1024x1024 .f32) (harg7 : arg7.IsWhole) (arg8 : Memref sig .tc .vmem S2x1024x1024 .f32) (harg8 : arg8.IsWhole)
    (v0 v2 : Vec F S1024x128 .bf16) (x1 x2 : Vec F S8192x128 .bf16) (k : ℕ)
    (acc : FVec F S1024x1 .f32 × FVec F S1024x128 .f32 × FVec F S1024x1 .f32 × FVec F S1024x128 .f32) : sProp 𝕄 :=
  iprop((arg4.view.loc (c : Thread nD τ) ↦[arg4.view.set]{fullShare} harg4.unread x1) ∗ (arg5.view.loc (c : Thread nD τ) ↦[arg5.view.set]{fullShare} harg5.unread x2)
    ∗ (∃ f, (arg7.view.loc (c : Thread nD τ) ↦[arg7.view.set]{fullShare} f) ∗ ⌜arg7.view.readAt (Elt F) (Rect.unit (s := S2x1024x1024) ![0, 0, 0] S1x1024x1024.size inb_S2x1024x1024_S1x1024x1024_0_0_0).toLoadRect f = k0_pay40 v0 (tile x1 (2 * k)) ∧ arg7.view.readAt (Elt F) (Rect.unit (s := S2x1024x1024) ![1, 0, 0] S1x1024x1024.size inb_S2x1024x1024_S1x1024x1024_1_0_0).toLoadRect f = k0_pay40 v2 (tile x1 (2 * k))⌝)
    ∗ (∃ f, (arg8.view.loc (c : Thread nD τ) ↦[arg8.view.set]{fullShare} f)) ∗ ⌜acc = stq v0 v2 x1 x2 (2 * k)⌝)

/-- The offset of the second key tile of a trip. -/
theorem off1 (i : grid0.Coords) (k : Fin (k0_t1_loop i).trips) : k0_off1 i k = ![1024 * (2 * k.val + 1), 0] :=
  (k0_off1_eq i k).trans (by congr 1; omega)

/-- The offset of the first key tile of a trip. -/
theorem off2 (i : grid0.Coords) (k : Fin (k0_t1_loop i).trips) : k0_off2 i k = ![1024 * (2 * k.val), 0] :=
  (k0_off2_eq i k).trans (by congr 1; omega)

/-- The offset of the key tile after a trip's two. -/
theorem off3 (i : grid0.Coords) (k : Fin (k0_t1_loop i).trips) : k0_off3 i k = ![1024 * (2 * (k.val + 1)), 0] :=
  (k0_off3_eq i k).trans (by congr 1; omega)

/-- One trip of the main loop keeps the invariant. -/
theorem step1 (c : Dev nD) (E : Set ℕ) (i : grid0.Coords) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S2048x128 .bf16) (harg6 : arg6.IsWhole) (arg7 : Memref sig .tc .vmem S2x1024x1024 .f32) (harg7 : arg7.IsWhole) (arg8 : Memref sig .tc .vmem S2x1024x1024 .f32) (harg8 : arg8.IsWhole)
    (v0 v2 : Vec F S1024x128 .bf16) (x1 x2 : Vec F S8192x128 .bf16) (k : Fin (k0_t1_loop i).trips)
    (acc : FVec F S1024x1 .f32 × FVec F S1024x128 .f32 × FVec F S1024x1 .f32 × FVec F S1024x128 .f32) :
    inv1 c i arg3 harg3 arg4 harg4 arg5 harg5 arg6 harg6 arg7 harg7 arg8 harg8 v0 v2 x1 x2 k.val acc
      ⊢ wp frame (wpE (defs₀ (F := F)) Variants.none (c : Thread nD τ) none) E (k0_t1_body (F := F) i arg3 harg3 arg4 harg4 arg5 harg5 arg6 harg6 arg7 harg7 arg8 harg8 v0 v2 k acc)
          (inv1 c i arg3 harg3 arg4 harg4 arg5 harg5 arg6 harg6 arg7 harg7 arg8 harg8 v0 v2 x1 x2 (k.val + 1)) := by
  unfold inv1 k0_t1_body
  iintro ⟨H4, H5, ⟨%f7, H7, %h7⟩, ⟨%f8, H8⟩, %hacc⟩
  obtain ⟨h70, h71⟩ := h7
  subst hacc
  unfold stq
  sl_exec
  sl_step
  isplitl [H4]; · iexact H4
  isplitl [H5]; · iexact H5
  isplitl [H7]
  · iexists _; isplitl [H7]; · iexact H7
    ipureintro
    have e3 := rd_tile (F := F) harg4 x1 _ (k0_off3_inb i k) _ (off3 i k)
    exact ⟨(wr_lo _ _ _ _).trans (congrArg (k0_pay40 v0) e3), (wr_hi _ _ _ _).trans (congrArg (k0_pay40 v2) e3)⟩
  isplitl [H8]
  · iexists _; iexact H8
  ipureintro
  have e1 := rd_tile (F := F) harg4 x1 _ (k0_off1_inb i k) _ (off1 i k)
  have e1' := rd_tile (F := F) harg5 x2 _ (k0_off1_inb i k) _ (off1 i k)
  have e2 := rd_tile (F := F) harg5 x2 _ (k0_off2_inb i k) _ (off2 i k)
  have a0 : step1.sl.v245 i v0 x1 x2 k = (stp v0 x1 x2 (2 * k.val + 1)).1 := rfl
  have a1 : step1.sl.v260 i v2 x1 x2 k = (stp v2 x1 x2 (2 * k.val + 1)).1 := rfl
  have b0 : step1.sl.v255 i arg5 harg5 v0 x1 x2 k = (stp v0 x1 x2 (2 * k.val + 1)).2 := by
    have : step1.sl.v255 i arg5 harg5 v0 x1 x2 k = k0_pay43 (stp v0 x1 x2 (2 * k.val)).1 (stp v0 x1 x2 (2 * k.val)).2 (k0_pay6 (arg5.view.readAt (Elt F) (Rect.unit (s := S8192x128) (k0_off2 i k) S1024x128.size (k0_off2_inb i k)).toLoadRect (harg5.unread x2))) (scr v0 (tile x1 (2 * k.val))) := rfl
    rw [this, e2]; rfl
  have b1 : step1.sl.v270 i arg5 harg5 v2 x1 x2 k = (stp v2 x1 x2 (2 * k.val + 1)).2 := by
    have : step1.sl.v270 i arg5 harg5 v2 x1 x2 k = k0_pay43 (stp v2 x1 x2 (2 * k.val)).1 (stp v2 x1 x2 (2 * k.val)).2 (k0_pay6 (arg5.view.readAt (Elt F) (Rect.unit (s := S8192x128) (k0_off2 i k) S1024x128.size (k0_off2_inb i k)).toLoadRect (harg5.unread x2))) (scr v2 (tile x1 (2 * k.val))) := rfl
    rw [this, e2]; rfl
  have c0 : step1.sl.v291 i arg5 harg5 x2 k = k0_pay6 (tile x2 (2 * k.val + 1)) := congrArg k0_pay6 e1'
  have d0 : step1.sl.v293 i arg4 harg4 arg8 v0 v2 x1 k = scr v0 (tile x1 (2 * k.val + 1)) :=
    congrArg k0_pay7 ((cov_lo arg8.view _ _).trans (congrArg (k0_pay40 v0) e1))
  have d1 : step1.sl.v307 i arg4 harg4 arg8 v0 v2 x1 k = k0_pay40 v2 (tile x1 (2 * k.val + 1)) :=
    ((cov_hi arg8.view _ _).trans (congrArg (k0_pay40 v2) e1))
  rw [a0, a1, b0, b1, c0, d0, d1]
  rfl

/-- The main loop at the head of a program: the invariant at trip 0, and the continuation from the invariant after the last trip. -/
theorem loop_rule {w : Nat} {σ : Type} (c : Dev nD) (E : Set ℕ) (lb ub st : BitVec w) (hok : Scf.OK lb ub st) (init : σ)
    (body : Fin (Scf.trips lb ub st) → σ → Prog (TpuEff nD τ sig (Elt F) Λ₀ .tc) σ)
    (I : Nat → σ → sProp 𝕄) (hI : ∀ (k : Fin (Scf.trips lb ub st)) (acc : σ), I k acc ⊢ wp frame (wpE (defs₀ (F := F)) Variants.none (c : Thread nD τ) none) E (body k acc) (I (k.val + 1)))
    {β : Type} (kk : σ → Prog (TpuEff nD τ sig (Elt F) Λ₀ .tc) β) (Q : β → sProp 𝕄) :
    iprop(I 0 init ∗ (∀ acc, I (Scf.trips lb ub st) acc -∗ wp frame (wpE (defs₀ (F := F)) Variants.none (c : Thread nD τ) none) E (kk acc) Q))
      ⊢ wp frame (wpE (defs₀ (F := F)) Variants.none (c : Thread nD τ) none) E (Scf.for lb ub st hok init body >>= kk) Q :=
  BI.wand_elim (Scf.wp_for_bind frame (wpE (defs₀ (F := F)) Variants.none (c : Thread nD τ) none) E lb ub st hok init body I hI)

set_option maxHeartbeats 300000 in
/-- One grid point: from the three input blocks the body leaves `blk` in the output block. -/
theorem run (c : Dev nD) (i : grid0.Coords) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S2048x128 .bf16) (harg6 : arg6.IsWhole) (arg7 : Memref sig .tc .vmem S2x1024x1024 .f32) (harg7 : arg7.IsWhole) (arg8 : Memref sig .tc .vmem S2x1024x1024 .f32) (harg8 : arg8.IsWhole)
    (x0 : Vec F S2048x128 .bf16) (x1 x2 : Vec F S8192x128 .bf16) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare (blk (i 2).val x0 x1 x2) ∗ (∃ d, owns (c : Thread nD τ) arg7 fullShare d) ∗ (∃ d, owns (c : Thread nD τ) arg8 fullShare d)) -∗ K ⟨⟩))
          ⊢ wp frame (wpE (defs₀ (F := F)) Variants.none c none) E (cc0_attn i arg3 harg3 arg4 harg4 arg5 harg5 arg6 harg6 arg7 harg7 arg8 harg8) K := by
    simp only [cc0_attn_eq_skeleton]; unfold cc0_attn_skel
    simp only [k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg3.eq_unread hf0; obtain rfl := harg4.eq_unread hf1; obtain rfl := harg5.eq_unread hf2
    set_option sl_exec.maxSteps 8 in sl_exec
    beta_reduce
    iapply (loop_rule (F := F) c E _ _ _ _ _ _ (inv1 c i arg3 harg3 arg4 harg4 arg5 harg5 arg6 harg6 arg7 harg7 arg8 harg8 (arg3.view.readAt (Elt F) (Rect.unit (s := S2048x128) ![0, 0] S1024x128.size inb_S2048x128_S1024x128_0_0).toLoadRect (harg3.unread x0)) (arg3.view.readAt (Elt F) (Rect.unit (s := S2048x128) ![1024, 0] S1024x128.size inb_S2048x128_S1024x128_1024_0).toLoadRect (harg3.unread x0)) x1 x2) (fun k acc => step1 c E i arg3 harg3 arg4 harg4 arg5 harg5 arg6 harg6 arg7 harg7 arg8 harg8 _ _ x1 x2 k acc))
    unfold inv1
    isplitl [H1 H2 HS0 HS1]
    · isplitl [H1]; · iexact H1
      isplitl [H2]; · iexact H2
      isplitl [HS0]
      · iexists _; isplitl [HS0]; · iexact HS0
        ipureintro
        have e := rd_tile (F := F) harg4 x1 _ inb_S8192x128_S1024x128_0_0 (2 * 0) rfl
        exact ⟨(wr_lo _ _ _ _).trans (congrArg (k0_pay40 _) e), (wr_hi _ _ _ _).trans (congrArg (k0_pay40 _) e)⟩
      isplitl [HS1]; · iexists _; iexact HS1
      ipureintro
      rfl
    iintro %acc ⟨H1, H2, ⟨%f7, HS0, %h7⟩, ⟨%f8, HS1⟩, %hacc⟩
    obtain ⟨h70, h71⟩ := h7
    obtain ⟨m0, a0, m1, a1⟩ := acc
    have ht : Scf.trips (k0_t1_loop i).lb (k0_t1_loop i).ub (k0_t1_loop i).st = (i 2).val := trips1 i
    rw [ht] at h70 h71 hacc
    have hm0 := congrArg Prod.fst hacc
    have ha0 := congrArg (fun z => z.2.1) hacc
    have hm1 := congrArg (fun z => z.2.2.1) hacc
    have ha1 := congrArg (fun z => z.2.2.2) hacc
    clear hacc
    dsimp only at hm0 ha0 hm1 ha1
    dsimp only
    iapply (loop_rule (F := F) c E _ _ _ _ _ _ (fun _ acc => iprop(⌜acc = (m0, a0, m1, a1)⌝)) (fun k _ => (trips2 i k).elim))
    isplitr
    · ipureintro; rfl
    iintro %acc %hacc
    subst hacc
    dsimp only
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      have e7 := rd_tile (F := F) harg4 x1 _ (k0_off7_inb i) (2 * (i 2).val + 1) ((k0_off7_eq i).trans (by congr 1; omega))
      have e7' := rd_tile (F := F) harg5 x2 _ (k0_off7_inb i) (2 * (i 2).val + 1) ((k0_off7_eq i).trans (by congr 1; omega))
      have e8 := rd_tile (F := F) harg5 x2 _ (k0_off8_inb i) (2 * (i 2).val) ((k0_off8_eq i).trans (by congr 1; omega))
      have hlo : arg3.view.readAt (Elt F) (Rect.unit (s := S2048x128) ![0, 0] S1024x128.size inb_S2048x128_S1024x128_0_0).toLoadRect (harg3.unread x0) = qlo x0 := by
        rw [View.readAt_eq_ld, harg3.read_unread]; rfl
      have hhi : arg3.view.readAt (Elt F) (Rect.unit (s := S2048x128) ![1024, 0] S1024x128.size inb_S2048x128_S1024x128_1024_0).toLoadRect (harg3.unread x0) = qhi x0 := by
        rw [View.readAt_eq_ld, harg3.read_unread]; rfl
      refine (View.read_writes_eq_canon arg6.view _ _ cover6).trans ?_
      refine blk_congr ?_ ?_
      · have hr : run.sl.r_10 i arg3 harg3 arg4 harg4 arg5 harg5 arg8 x0 x1 x2 m1 a1
            = k0_pay63 (k0_pay42 m1 (scr (arg3.view.readAt (Elt F) (Rect.unit (s := S2048x128) ![1024, 0] S1024x128.size inb_S2048x128_S1024x128_1024_0).toLoadRect (harg3.unread x0)) (tile x1 (2 * (i 2).val))))
                (k0_pay43 m1 a1 (k0_pay6 (arg5.view.readAt (Elt F) (Rect.unit (s := S8192x128) (k0_off8 i) S1024x128.size (k0_off8_inb i)).toLoadRect (harg5.unread x2))) (scr (arg3.view.readAt (Elt F) (Rect.unit (s := S2048x128) ![1024, 0] S1024x128.size inb_S2048x128_S1024x128_1024_0).toLoadRect (harg3.unread x0)) (tile x1 (2 * (i 2).val))))
                (k0_pay7 (arg8.view.readCov [⟨rHi, k0_pay40 (arg3.view.readAt (Elt F) (Rect.unit (s := S2048x128) ![1024, 0] S1024x128.size inb_S2048x128_S1024x128_1024_0).toLoadRect (harg3.unread x0)) (arg4.view.readAt (Elt F) (Rect.unit (s := S8192x128) (k0_off7 i) S1024x128.size (k0_off7_inb i)).toLoadRect (harg4.unread x1))⟩] rHi.toLoadRect))
                (k0_pay61 (arg5.view.readAt (Elt F) (Rect.unit (s := S8192x128) (k0_off7 i) S1024x128.size (k0_off7_inb i)).toLoadRect (harg5.unread x2))) k0_pay62
                (iota .tc S1024x1024 32 [1] iota_S1024x1024_d1_w32) := rfl
        have hc : arg8.view.readCov (Val := Elt F) [⟨rHi, k0_pay40 (qhi x0) (tile x1 (2 * (i 2).val + 1))⟩] rHi.toLoadRect = k0_pay40 (qhi x0) (tile x1 (2 * (i 2).val + 1)) :=
          View.readCov_cons_toLoadRect (Val := Elt F) arg8.view rHi _ []
        rw [hr, e7, e7', e8, hm1, ha1, hhi, hc]
        rfl
      · have hr : run.sl.r_11 i arg3 harg3 arg5 harg5 x0 x1 x2 m0 a0
            = k0_pay64 (k0_pay56 m0 a0 (k0_pay53 (arg5.view.readAt (Elt F) (Rect.unit (s := S8192x128) (k0_off8 i) S1024x128.size (k0_off8_inb i)).toLoadRect (harg5.unread x2))) (scr (arg3.view.readAt (Elt F) (Rect.unit (s := S2048x128) ![0, 0] S1024x128.size inb_S2048x128_S1024x128_0_0).toLoadRect (harg3.unread x0)) (tile x1 (2 * (i 2).val))) k0_pay55) := rfl
        rw [hr, e8, hm0, ha0, hlo]
        rfl
    isplitl [HS0]
    · iexists _, _; isplitr; swap; · iexact HS0
      ipureintro; rfl
    iexists _, _; isplitr; swap; · iexact HS1
    ipureintro; rfl

end Cert.KernelIdeal.Attn

end
-- ==== Proof.AttnLaunch.lean ====
/- The attention call's run at the ideal values: the pipeline's proof data with the output block named (`blk`), the
   frame, and the result array after the run, block by block. -/
module

public import proofs.«01_k».proof.Proof.AttnRun
public import Idealize.ShloMosaic.Lib.Claim
public import Idealize.ShloMosaic.Lib.Pipeline.Value

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the output's staging buffer holds after the body at point `t`. -/
def outAt (c : Dev nD) (t : Fin cfg0.N) : Vec F S2048x128 .bf16 :=
  blk (grid0.coords t 2).val (iblk m c 0 t) (iblk m c 1 t) (iblk m c 2 t)

/-! ## The pipeline's proof data -/

/-- The proof data of the one pipeline on core `c`: the arrays as the region finds them (`V`); after the body at
    point `t` each input's buffer at its block and the outputs' at `outAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outAt m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outAt
  iintro ⟨⟨⟨HS0, HS1⟩, Hg⟩, Ho, ⟨%d0, H0⟩, ⟨%d1, H1⟩, ⟨%d2, H2⟩, ⟨%d3, H3⟩⟩
  iapply (run c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` . -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ## The result array, block by block -/

/-- What point `t` writes back: the block it computes. -/
theorem flushed3 (c : Dev nD) (t : Fin cfg0.N) :
    (dats m 0 c).flushed 3 t = (cfg0.win 3).cut (grid0.coords t) (outAt m c t) := by
  show (cfg0.win 3).cut (grid0.coords t) ((dats m 0 c).after 3 t) = _
  rw [after0_3]

/-- The index map sends distinct grid points to distinct block indices (decided over the 64 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back , for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S16384x1024.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v17) = (dats m 0 c).arrAt 3 cfg0.N :=
  (h c).1 3

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v17) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.KernelIdeal.Attn

end
-- ==== Proof.AttnRow.lean ====
/- One row of a softmax kept by a running maximum: weights `2 ^ (s - m)` of extended-real scores, the weighted sum over a
   growing set of keys, and its rescaling when the maximum moves. -/
module

public import Idealize.ShloMosaic.PureOps.Ideal
public import Idealize.ShloMosaic.Lib.ValueIdx

@[expose] public section

noncomputable section

namespace Cert.AttnRow

open Idealize.ShloMosaic
open scoped BigOperators

/-- The weight of score `s` against maximum `m`. -/
def wt (s m : EReal) : EReal := Ideal.exp2 (s - m)

/-- A masked score has weight zero. -/
theorem wt_bot (m : EReal) : wt ⊥ m = 0 := by
  unfold wt; rw [EReal.bot_sub]; rfl

/-- The weight of a real score against a real maximum. -/
theorem wt_coe (s m : ℝ) : wt (s : EReal) (m : EReal) = (((2 : ℝ) ^ (s - m) : ℝ) : EReal) := by
  unfold wt; rw [← EReal.coe_sub]; rfl

/-- Weights are not negative. -/
theorem wt_nonneg (s m : EReal) : 0 ≤ wt s m := by
  unfold wt
  generalize s - m = x
  induction x using EReal.rec with
  | bot => exact le_refl _
  | top => exact le_top
  | coe r => exact EReal.coe_nonneg.2 (Real.rpow_nonneg (by norm_num) r)

/-- A score that is not above the maximum (and not `⊤`) has a finite weight. -/
theorem wt_ne_top {s m : EReal} (h : s ≤ m) (hm : m ≠ ⊤) : wt s m ≠ ⊤ := by
  induction s using EReal.rec with
  | bot => rw [wt_bot]; exact EReal.zero_ne_top
  | top => exact absurd (top_le_iff.1 h) hm
  | coe r =>
    induction m using EReal.rec with
    | bot => exact absurd (le_bot_iff.1 h) (EReal.coe_ne_bot r)
    | top => exact absurd rfl hm
    | coe t => rw [wt_coe]; exact EReal.coe_ne_top _

/-- Moving the maximum: the weight against the new one is the weight against the old one times the old one's. -/
theorem wt_mul {s m m' : EReal} (h : s ≤ m) (h' : m ≤ m') (hm : m' ≠ ⊤) : wt m m' * wt s m = wt s m' := by
  induction s using EReal.rec with
  | bot => rw [wt_bot, wt_bot, mul_zero]
  | top => exact absurd (top_le_iff.1 (h.trans h')) hm
  | coe r =>
    induction m using EReal.rec with
    | bot => exact absurd (le_bot_iff.1 h) (EReal.coe_ne_bot r)
    | top => exact absurd (top_le_iff.1 h') hm
    | coe t =>
      induction m' using EReal.rec with
      | bot => exact absurd (le_bot_iff.1 h') (EReal.coe_ne_bot t)
      | top => exact absurd rfl hm
      | coe u =>
        rw [wt_coe, wt_coe, wt_coe, ← EReal.coe_mul, ← Real.rpow_add (by norm_num)]
        congr 2; ring

/-- A finite nonnegative factor distributes over a finite sum of extended reals. -/
theorem mul_sum {ι : Type} (c : EReal) (h0 : 0 ≤ c) (ht : c ≠ ⊤) (A : Finset ι) (f : ι → EReal) :
    c * ∑ j ∈ A, f j = ∑ j ∈ A, c * f j := by
  classical
  induction A using Finset.induction_on with
  | empty => simp
  | insert a A ha ih => rw [Finset.sum_insert ha, Finset.sum_insert ha, EReal.left_distrib_of_nonneg_of_ne_top h0 ht, ih]

/-- The maximum of the first `a` scores. -/
def rmax (σ : ℕ → EReal) (a : ℕ) : EReal := (Finset.range a).sup σ

/-- The weighted sum over the first `a` keys. -/
def racc (σ w : ℕ → EReal) (a : ℕ) : EReal := ∑ j ∈ Finset.range a, wt (σ j) (rmax σ a) * w j

/-- A maximum over a range as one over the indices below it. -/
theorem sup_range (f : ℕ → EReal) (b : ℕ) : (Finset.range b).sup f = (Finset.univ : Finset (Fin b)).sup (fun t => f t.val) := by
  apply le_antisymm
  · refine Finset.sup_le fun j hj => ?_
    exact Finset.le_sup (f := fun t : Fin b => f t.val) (Finset.mem_univ ⟨j, Finset.mem_range.1 hj⟩)
  · refine Finset.sup_le fun t _ => ?_
    exact Finset.le_sup (f := f) (Finset.mem_range.2 t.isLt)

/-- The maximum after `b` more keys. -/
theorem rmax_add (σ : ℕ → EReal) (a b : ℕ) :
    rmax σ (a + b) = max (rmax σ a) ((Finset.univ : Finset (Fin b)).sup (fun t => σ (a + t.val))) := by
  rw [← sup_range (fun t => σ (a + t))]
  apply le_antisymm
  · refine Finset.sup_le fun j hj => ?_
    by_cases h : j < a
    · exact le_max_of_le_left (Finset.le_sup (f := σ) (Finset.mem_range.2 h))
    · have hj' := Finset.mem_range.1 hj
      refine le_max_of_le_right ?_
      have := Finset.le_sup (f := fun t => σ (a + t)) (Finset.mem_range.2 (show j - a < b by omega))
      rwa [Nat.add_sub_cancel' (by omega)] at this
  · refine max_le (Finset.sup_mono (Finset.range_mono (Nat.le_add_right a b))) (Finset.sup_le fun t ht => ?_)
    have := Finset.mem_range.1 ht
    exact Finset.le_sup (f := σ) (Finset.mem_range.2 (by omega))

/-- No maximum of scores below `⊤` is `⊤`. -/
theorem rmax_ne_top (σ : ℕ → EReal) (h : ∀ j, σ j ≠ ⊤) (a : ℕ) : rmax σ a ≠ ⊤ := by
  have : rmax σ a < ⊤ := (Finset.sup_lt_iff (bot_lt_top)).2 fun j _ => lt_top_iff_ne_top.2 (h j)
  exact this.ne

/-- The weighted sum after `b` more keys: the old sum rescaled, plus the new keys' terms. -/
theorem racc_add (σ w : ℕ → EReal) (h : ∀ j, σ j ≠ ⊤) (a b : ℕ) :
    racc σ w (a + b) = wt (rmax σ a) (rmax σ (a + b)) * racc σ w a
      + ∑ t : Fin b, wt (σ (a + t.val)) (rmax σ (a + b)) * w (a + t.val) := by
  have hm : rmax σ a ≤ rmax σ (a + b) := Finset.sup_mono (Finset.range_mono (Nat.le_add_right a b))
  have ht := rmax_ne_top σ h (a + b)
  unfold racc
  rw [Finset.sum_range_add, mul_sum _ (wt_nonneg _ _) (wt_ne_top hm ht), Finset.sum_range (fun t => wt (σ (a + t)) (rmax σ (a + b)) * w (a + t))]
  congr 1
  refine Finset.sum_congr rfl fun j hj => ?_
  have hj' : σ j ≤ rmax σ a := Finset.le_sup (f := σ) hj
  rw [← mul_assoc, wt_mul hj' hm ht]

/-- Keys past `a` that are all masked change neither the maximum … -/
theorem rmax_of_bot (σ : ℕ → EReal) (a b : ℕ) (h : ∀ t, σ (a + t) = ⊥) : rmax σ (a + b) = rmax σ a := by
  rw [rmax_add]
  refine max_eq_left (Finset.sup_le fun t _ => ?_)
  rw [h]; exact bot_le

/-- … nor the weighted sum. -/
theorem racc_of_bot (σ w : ℕ → EReal) (a b : ℕ) (h : ∀ t, σ (a + t) = ⊥) : racc σ w (a + b) = racc σ w a := by
  unfold racc
  rw [Finset.sum_range_add, rmax_of_bot σ a b h]
  rw [Finset.sum_eq_zero (s := Finset.range b) fun t _ => by rw [h, wt_bot, zero_mul], add_zero]

/-- Division by a positive real is multiplication by its inverse. -/
theorem div_pos_coe (x : EReal) (L : ℝ) (h : 0 < L) : Ideal.div x (L : EReal) = x * ((L⁻¹ : ℝ) : EReal) := by
  unfold Ideal.div
  rw [if_neg (by exact_mod_cast h.ne'), ← EReal.coe_inv]

/-- A real score's weight in base two, the scores scaled by `1 / log 2`, is its exponential. -/
theorem wt_exp (u v : ℝ) : wt ((u / Real.log 2 : ℝ) : EReal) ((v / Real.log 2 : ℝ) : EReal) = ((Real.exp (u - v) : ℝ) : EReal) := by
  rw [wt_coe]
  congr 1
  rw [Real.rpow_def_of_pos (by norm_num)]
  congr 1
  have : Real.log 2 ≠ 0 := (Real.log_pos (by norm_num)).ne'
  field_simp

/-- The kernel's quotient of weighted sums, base two over scaled scores, is the softmax-weighted sum of the plain scores. -/
theorem softmax_bridge (N : ℕ) (vis : ℕ → Prop) [DecidablePred vis] (u : ℕ → ℝ) (σ t w one : ℕ → EReal)
    (hσ : ∀ j, σ j = if vis j then ((u j / Real.log 2 : ℝ) : EReal) else ⊥) (ht : ∀ j, t j = if vis j then ((u j : ℝ) : EReal) else ⊥)
    (h1 : ∀ j, one j = 1) (j0 : ℕ) (hj0 : j0 < N) (hv : vis j0) :
    Ideal.div (racc σ w N) (racc σ one N)
      = ∑ k ∈ Finset.range N, w k * Ideal.div (Ideal.exp (t k - (Finset.range N).sup t)) (∑ j ∈ Finset.range N, Ideal.exp (t j - (Finset.range N).sup t)) := by
  have hlog : 0 < Real.log 2 := Real.log_pos (by norm_num)
  obtain ⟨a, ha, hmax⟩ := Finset.exists_max_image ((Finset.range N).filter vis) u ⟨j0, Finset.mem_filter.2 ⟨Finset.mem_range.2 hj0, hv⟩⟩
  obtain ⟨haN, hav⟩ := Finset.mem_filter.1 ha
  have hT : (Finset.range N).sup t = ((u a : ℝ) : EReal) := by
    apply le_antisymm
    · refine Finset.sup_le fun j hj => ?_
      rw [ht]
      split
      · rename_i hjv
        exact EReal.coe_le_coe_iff.2 (hmax j (Finset.mem_filter.2 ⟨hj, hjv⟩))
      · exact bot_le
    · have := Finset.le_sup (f := t) haN
      rwa [ht, if_pos hav] at this
  have hM : rmax σ N = ((u a / Real.log 2 : ℝ) : EReal) := by
    apply le_antisymm
    · refine Finset.sup_le fun j hj => ?_
      rw [hσ]
      split
      · rename_i hjv
        exact EReal.coe_le_coe_iff.2 (div_le_div_of_nonneg_right (hmax j (Finset.mem_filter.2 ⟨hj, hjv⟩)) hlog.le)
      · exact bot_le
    · have := Finset.le_sup (f := σ) haN
      rwa [hσ, if_pos hav] at this
  let E : ℕ → ℝ := fun j => if vis j then Real.exp (u j - u a) else 0
  have hE0 : ∀ j, 0 ≤ E j := fun j => by
    show 0 ≤ (if vis j then Real.exp (u j - u a) else 0)
    split
    · exact (Real.exp_pos _).le
    · exact le_refl _
  have hwt : ∀ j, wt (σ j) (rmax σ N) = ((E j : ℝ) : EReal) := fun j => by
    rw [hM, hσ]
    show _ = ((if vis j then Real.exp (u j - u a) else 0 : ℝ) : EReal)
    split
    · exact wt_exp _ _
    · rw [wt_bot]; rfl
  have hex : ∀ j, Ideal.exp (t j - (Finset.range N).sup t) = ((E j : ℝ) : EReal) := fun j => by
    rw [hT, ht]
    show _ = ((if vis j then Real.exp (u j - u a) else 0 : ℝ) : EReal)
    split
    · rw [← EReal.coe_sub]; rfl
    · rw [EReal.bot_sub]; rfl
  have hsum : ∀ A : Finset ℕ, (∑ j ∈ A, ((E j : ℝ) : EReal)) = ((∑ j ∈ A, E j : ℝ) : EReal) := fun A => by
    induction A using Finset.induction_on with
    | empty => simp
    | insert b A hb ih => rw [Finset.sum_insert hb, Finset.sum_insert hb, ih, EReal.coe_add]
  have hL : 0 < ∑ j ∈ Finset.range N, E j := by
    refine lt_of_lt_of_le ?_ (Finset.single_le_sum (f := E) (fun j _ => hE0 j) haN)
    show 0 < (if vis a then Real.exp (u a - u a) else 0)
    rw [if_pos hav]; exact Real.exp_pos _
  have hone : racc σ one N = ((∑ j ∈ Finset.range N, E j : ℝ) : EReal) := by
    unfold racc
    rw [← hsum]
    exact Finset.sum_congr rfl fun j _ => by rw [hwt, h1, mul_one]
  rw [hone, div_pos_coe _ _ hL]
  simp only [hex, hsum, div_pos_coe _ _ hL]
  unfold racc
  have hi : (0 : EReal) ≤ (((∑ j ∈ Finset.range N, E j)⁻¹ : ℝ) : EReal) := by exact_mod_cast (inv_pos.2 hL).le
  rw [mul_comm, mul_sum _ hi (EReal.coe_ne_top _)]
  refine Finset.sum_congr rfl fun k _ => ?_
  rw [hwt, ← mul_assoc, mul_comm (w k), mul_comm (((∑ j ∈ Finset.range N, E j)⁻¹ : ℝ) : EReal)]

end Cert.AttnRow

end
-- ==== Proof.AttnTile.lean ====
/- The attention body's arithmetic at the ideal values, read at one element: scores, running maximum, weighted sum,
   mask and the closing division. -/
module

public import proofs.«01_k».proof.Proof.AttnRun
public import proofs.«01_k».proof.Proof.AttnRow
public import Idealize.ShloMosaic.Lib.MatmulPlain
public import Idealize.ShloMosaic.Lib.ValueLayout
public import Idealize.ShloMosaic.Lib.ValueLayoutCasts

@[expose] public section

set_option maxRecDepth 16384

noncomputable section

namespace Cert.KernelIdeal.Attn

open Cert.KernelIdeal Cert.KernelIdeal.Gen Cert.AttnRow
open Idealize.ShloMosaic Idealize.ShloMosaic.ValueIdx
open scoped BigOperators

/-- A score is the product of a query row and a key row. -/
theorem scr_apply (q k : Vec Ideal S1024x128 .bf16) (r t : Fin 1024) :
    scr (F := Ideal) q k (ix2 r t) = ∑ d : Fin 128, q (ix2 r d) * k (ix2 t d) := by
  unfold scr k0_pay7 k0_pay40 k0_pay33 k0_pay39
  rw [shapeCast_shapeCast, shapeCast_self, shapeCast_self]
  refine (Ideal.matmul_transposedRhs_apply (M := 1024) (K := 128) (N := 1024) none q k (constant S1024x1024 .f32 0x00000000#32) r t).trans ?_
  show Ideal.ofBits .f32 0x00000000#32 + _ = _
  rw [Ideal.ofBits_zero_f32, zero_add]

/-- The initial maximum is `⊥`. -/
theorem pay35_apply (r : Fin 1024) : (k0_pay35 (F := Ideal)) (ix2 r 0) = ⊥ := rfl

/-- The initial weighted sum is zero. -/
theorem pay36_apply (r : Fin 1024) (d : Fin 128) : (k0_pay36 (F := Ideal)) (ix2 r d) = 0 := Ideal.ofBits_zero_f32

/-- A row maximum from minus infinity, over 1024 columns. -/
theorem rowmax_apply (s : FVec Ideal S1024x1024 .f32) (r : Fin 1024) (h : Shape.Reduces S1024x1024 [1] S1024) (h1) (h2) :
    multiReduction .maximumf [1] S1024 s 0xFF800000#32 h h1 h2 (ix1 r) = (Finset.univ : Finset (Fin 1024)).sup (fun t => s (ix2 r t)) := by
  rw [Ideal.multiReduction_maximumf_single]
  have hb : (FloatOps.ofBits (F := Ideal) .f32 0xFF800000#32) = (⊥ : EReal) := by
    simp [Ideal.ofBits, Ideal.ieee]
  rw [hb]
  have hf : (s ∘ h.lift (ix1 r)) = fun t : Fin 1024 => s (ix2 r t) := by
    funext t
    refine congrArg s ?_
    funext a
    match a with
    | ⟨0, _⟩ => rfl
    | ⟨1, _⟩ => rfl
  exact congrArg (fun f : Fin 1024 → EReal => (Finset.univ : Finset (Fin 1024)).fold max ⊥ f) hf

/-- A column broadcast along the rows reads the row's element. -/
theorem bcol_apply {N : ℕ} (hN : 1 < N) (x : S1024x1.Idx → EReal) (h : S1024x1.Broadcasts ⟨2, ![1024, N]⟩) (r : Fin 1024) (c : Fin N) :
    broadcastTo ⟨2, ![1024, N]⟩ x h (ix2 r c) = x (ix2 r 0) := by
  refine broadcastTo_apply x h (ix2 r c) (ix2 r 0) fun a => ?_
  match a with
  | ⟨0, _⟩ => rfl
  | ⟨1, _⟩ => rfl

/-- The new maximum of a row. -/
theorem pay42_apply (m : FVec Ideal S1024x1 .f32) (s : FVec Ideal S1024x1024 .f32) (r : Fin 1024) :
    k0_pay42 (F := Ideal) m s (ix2 r 0) = max (m (ix2 r 0)) ((Finset.univ : Finset (Fin 1024)).sup (fun t => s (ix2 r t))) := by
  unfold k0_pay42
  show max (m (ix2 r 0)) (shapeCast S1024x1 _ _ (ix2 r 0)) = _
  rw [shapeCast_a_a1_apply]
  exact congrArg _ (rowmax_apply s r _ _ rfl)

/-- The new weighted sum of a row. -/
theorem pay43_apply (m : FVec Ideal S1024x1 .f32) (a : FVec Ideal S1024x128 .f32) (v : FVec Ideal S1024x128 .bf16) (s : FVec Ideal S1024x1024 .f32)
    (r : Fin 1024) (d : Fin 128) :
    k0_pay43 (F := Ideal) m a v s (ix2 r d) = wt (m (ix2 r 0)) (k0_pay42 (F := Ideal) m s (ix2 r 0)) * a (ix2 r d)
      + ∑ t : Fin 1024, wt (s (ix2 r t)) (k0_pay42 (F := Ideal) m s (ix2 r 0)) * v (ix2 t d) := by
  unfold k0_pay43
  show broadcastTo S1024x128 _ _ (ix2 r d) * a (ix2 r d) + _ = _
  congr 1
  · congr 1
    exact bcol_apply (by norm_num) _ _ r d
  · refine (Ideal.matmul_plain_apply (M := 1024) (K := 1024) (N := 128) none _ v (constant S1024x128 .f32 0x00000000#32) r d).trans ?_
    show Ideal.ofBits .f32 0x00000000#32 + _ = _
    rw [Ideal.ofBits_zero_f32, zero_add]
    refine Finset.sum_congr rfl fun t _ => ?_
    congr 1
    show Ideal.exp2 (s (ix2 r t) - broadcastTo S1024x1024 _ _ (ix2 r t)) = _
    rw [show broadcastTo S1024x1024 (k0_pay42 (F := Ideal) m s) _ (ix2 r t) = _ from bcol_apply (by norm_num) _ _ r t]
    rfl

/-! ## The mask of the last tile -/

/-- A word's quotient by 64, rounded down. -/
def fdw (x : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt 64#32 0#32)) (Scalar.extui (Scalar.cmpi .slt 64#32 0#32))))
    (IntOp.cmpi .ne (IntOp.remsi .vector x 64#32) 0#32))
    (IntOp.subi (IntOp.divsi .vector x 64#32) 1#32) (IntOp.divsi .vector x 64#32)

/-- On a tile's coordinate it is the quotient by 64. -/
theorem fdw_ofNat : ∀ n : Fin 1024, fdw (BitVec.ofNat 32 n.val) = BitVec.ofNat 32 (n.val / 64) := by
  decide +kernel

/-- Comparing two chunk numbers of a tile as words is comparing them as numbers. -/
theorem sle_chunk : ∀ a b : Fin 16, IntOp.cmpi .sle (BitVec.ofNat 32 a.val) (BitVec.ofNat 32 b.val) = if a.val ≤ b.val then 1#1 else 0#1 := by
  decide +kernel

/-- Scores inside the diagonal tile: minus infinity where the key's chunk lies past the query's. -/
def msk (s : FVec Ideal S1024x1024 .f32) : FVec Ideal S1024x1024 .f32 :=
  fun i => if (i 1).val / 64 ≤ (i 0).val / 64 then s i else ⊥

/-- The selection the mask makes, at one element. -/
theorem sel_apply (c r : Fin 1024) (x y : EReal) :
    Scalar.select (IntOp.cmpi .sle (fdw (BitVec.ofNat 32 c.val)) (fdw (BitVec.ofNat 32 r.val))) x y = if c.val / 64 ≤ r.val / 64 then x else y := by
  rw [fdw_ofNat, fdw_ofNat]
  have h := sle_chunk ⟨c.val / 64, by have := c.isLt; omega⟩ ⟨r.val / 64, by have := r.isLt; omega⟩
  rw [show IntOp.cmpi .sle (BitVec.ofNat 32 (c.val / 64)) (BitVec.ofNat 32 (r.val / 64)) = _ from h]
  unfold Scalar.select
  by_cases hc : c.val / 64 ≤ r.val / 64
  · simp [hc]
  · simp [hc]

/-- The masked update is the plain one at the masked scores. -/
theorem pay56_eq (m : FVec Ideal S1024x1 .f32) (a : FVec Ideal S1024x128 .f32) (v : FVec Ideal S1024x128 .bf16) (s : FVec Ideal S1024x1024 .f32) :
    k0_pay56 (F := Ideal) m a v s k0_pay55 = k0_pay43 (F := Ideal) m a v (msk s) := by
  have h : (fun i : S1024x1024.Idx => Scalar.select (IntOp.cmpi .sle (fdw (iota .tc S1024x1024 32 [1] iota_S1024x1024_d1_w32 i))
      (fdw (iota .tc S1024x1024 32 [0] iota_S1024x1024_d0_w32 i))) (s i) (⊥ : EReal)) = msk s := by
    funext i
    rw [iota_single_apply, iota_single_apply]
    exact sel_apply (i 1) (i 0) _ _
  rw [← h]
  rfl

/-- The same of the upper half's update. -/
theorem pay63_eq (m : FVec Ideal S1024x1 .f32) (a : FVec Ideal S1024x128 .f32) (v : FVec Ideal S1024x128 .bf16) (s : FVec Ideal S1024x1024 .f32) :
    k0_pay63 (F := Ideal) m a s v k0_pay62 (iota .tc S1024x1024 32 [1] iota_S1024x1024_d1_w32) = k0_pay43 (F := Ideal) m a v (msk s) := by
  rw [← pay56_eq]
  rfl

/-- The closing division: lane 64 holds the sum of the weights, lanes 64 and up become zero. -/
theorem pay64_apply (a : FVec Ideal S1024x128 .f32) (r : Fin 1024) (d : Fin 128) :
    k0_pay64 (F := Ideal) a (ix2 r d) = if d.val < 64 then Ideal.div (a (ix2 r d)) (a (ix2 r 64)) else 0 := by
  have hb : ∀ e : Fin 128, IntOp.cmpi .slt (BitVec.ofNat 32 e.val) 64#32 = if e.val < 64 then 1#1 else 0#1 := by decide +kernel
  unfold k0_pay64
  show Scalar.select (IntOp.cmpi .slt (iota .tc S1024x128 32 [1] _ (ix2 r d)) 64#32)
    (Ideal.div (a (ix2 r d)) (broadcastTo S1024x128 (extractStridedSlice S1024x1 ![0, 64] a _) _ (ix2 r d))) (Ideal.ofBits .f32 0x00000000#32) = _
  rw [iota_single_apply, show IntOp.cmpi .slt (BitVec.ofNat 32 ((ix2 r d : S1024x128.Idx) 1).val) 64#32 = _ from hb d, Ideal.ofBits_zero_f32]
  rw [show broadcastTo S1024x128 (extractStridedSlice S1024x1 ![0, 64] a _) _ (ix2 r d) = _ from bcol_apply (by norm_num) _ _ r d]
  rw [extractStridedSlice_apply _ a _ (ix2 r 0) (ix2 r 64) (by
    intro b
    match b with
    | ⟨0, _⟩ => show r.val = 0 + r.val; omega
    | ⟨1, _⟩ => rfl)]
  unfold Scalar.select
  by_cases hd : d.val < 64
  · simp [hd]
  · simp [hd]

/-! ## The running pair after some tiles -/

/-- A query row against key `j`. -/
def sc (q : Vec Ideal S1024x128 .bf16) (K : Vec Ideal S8192x128 .bf16) (r : Fin 1024) (j : ℕ) : EReal :=
  ∑ d : Fin 128, q (ix2 r d) * K (ix2 ⟨j % 8192, Nat.mod_lt _ (by norm_num)⟩ d)

/-- Lane `d` of value row `j`. -/
def vl (V : Vec Ideal S8192x128 .bf16) (d : Fin 128) (j : ℕ) : EReal := V (ix2 ⟨j % 8192, Nat.mod_lt _ (by norm_num)⟩ d)

/-- Scores against a tile are scores against its keys. -/
theorem scr_tile (q : Vec Ideal S1024x128 .bf16) (K : Vec Ideal S8192x128 .bf16) (n : ℕ) (r t : Fin 1024) :
    scr (F := Ideal) q (tile K n) (ix2 r t) = sc q K r (1024 * n + t.val) := scr_apply q (tile K n) r t

/-- After `n` tiles the pair is the maximum and the weighted sum over the first `1024 n` keys. -/
theorem stp_eq (q : Vec Ideal S1024x128 .bf16) (K V : Vec Ideal S8192x128 .bf16) (r : Fin 1024) (hne : ∀ j, sc q K r j ≠ ⊤) (n : ℕ) :
    (stp q K V n).1 (ix2 r 0) = rmax (sc q K r) (1024 * n)
      ∧ ∀ d, (stp q K V n).2 (ix2 r d) = racc (sc q K r) (vl V d) (1024 * n) := by
  induction n with
  | zero => exact ⟨rfl, fun d => (pay36_apply r d).trans (by simp [racc])⟩
  | succ n ih =>
    have hm : (stp q K V (n + 1)).1 (ix2 r 0) = rmax (sc q K r) (1024 * (n + 1)) := by
      show k0_pay42 (F := Ideal) (stp q K V n).1 (scr q (tile K n)) (ix2 r 0) = _
      rw [pay42_apply, ih.1, show 1024 * (n + 1) = 1024 * n + 1024 by ring, rmax_add]
      simp only [scr_tile]
    refine ⟨hm, fun d => ?_⟩
    show k0_pay43 (F := Ideal) (stp q K V n).1 (stp q K V n).2 (k0_pay6 (tile V n)) (scr q (tile K n)) (ix2 r d) = _
    rw [pay43_apply, show k0_pay42 (F := Ideal) (stp q K V n).1 (scr q (tile K n)) (ix2 r 0) = _ from hm, ih.1, ih.2,
      show 1024 * (n + 1) = 1024 * n + 1024 by ring, racc_add _ _ hne]
    simp only [scr_tile]
    unfold k0_pay6
    rw [shapeCast_self]
    rfl

/-- The score of key `j` as query row `1024 n + r` sees it: minus infinity past its chunk. -/
def vs (q : Vec Ideal S1024x128 .bf16) (K : Vec Ideal S8192x128 .bf16) (n : ℕ) (r : Fin 1024) (j : ℕ) : EReal :=
  if j / 64 ≤ (1024 * n + r.val) / 64 then sc q K r j else ⊥

/-- Masked scores inside the diagonal tile are the visible scores of its keys. -/
theorem msk_tile (q : Vec Ideal S1024x128 .bf16) (K : Vec Ideal S8192x128 .bf16) (n : ℕ) (r t : Fin 1024) :
    msk (scr (F := Ideal) q (tile K n)) (ix2 r t) = vs q K n r (1024 * n + t.val) := by
  unfold msk vs
  rw [scr_tile]
  have h : (t.val / 64 ≤ r.val / 64) ↔ ((1024 * n + t.val) / 64 ≤ (1024 * n + r.val) / 64) := by omega
  exact if_congr h rfl rfl

/-- Every key of an earlier tile is visible. -/
theorem vs_early (q : Vec Ideal S1024x128 .bf16) (K : Vec Ideal S8192x128 .bf16) (n : ℕ) (r : Fin 1024) (j : ℕ) (h : j < 1024 * n) :
    sc q K r j = vs q K n r j := by
  unfold vs
  rw [if_pos (by omega)]

/-- No key past the diagonal tile is visible. -/
theorem vs_late (q : Vec Ideal S1024x128 .bf16) (K : Vec Ideal S8192x128 .bf16) (n : ℕ) (r : Fin 1024) (t : ℕ) :
    vs q K n r (1024 * n + 1024 + t) = ⊥ := by
  unfold vs
  have := r.isLt
  rw [if_neg (by omega)]

/-- The masked update leaves the weighted sum over all visible keys. -/
theorem last_eq (q : Vec Ideal S1024x128 .bf16) (K V : Vec Ideal S8192x128 .bf16) (r : Fin 1024) (hne : ∀ j, sc q K r j ≠ ⊤) (n : ℕ) (hn : n < 8)
    (v : FVec Ideal S1024x128 .bf16) (hv : v = tile V n) (d : Fin 128) :
    k0_pay43 (F := Ideal) (stp q K V n).1 (stp q K V n).2 v (msk (scr q (tile K n))) (ix2 r d) = racc (vs q K n r) (vl V d) 8192 := by
  have hne' : ∀ j, vs q K n r j ≠ ⊤ := fun j => by
    unfold vs
    split
    · exact hne j
    · exact bot_ne_top
  have e1 : rmax (sc q K r) (1024 * n) = rmax (vs q K n r) (1024 * n) :=
    Finset.sup_congr rfl fun j hj => vs_early q K n r j (Finset.mem_range.1 hj)
  have e2 : racc (sc q K r) (vl V d) (1024 * n) = racc (vs q K n r) (vl V d) (1024 * n) := by
    unfold racc
    rw [e1]
    exact Finset.sum_congr rfl fun j hj => by rw [vs_early q K n r j (Finset.mem_range.1 hj)]
  have hm : k0_pay42 (F := Ideal) (stp q K V n).1 (msk (scr q (tile K n))) (ix2 r 0) = rmax (vs q K n r) (1024 * n + 1024) := by
    rw [pay42_apply, (stp_eq q K V r hne n).1, e1, rmax_add]
    simp only [msk_tile]
  rw [pay43_apply, hm, (stp_eq q K V r hne n).1, (stp_eq q K V r hne n).2, e1, e2,
    show (8192 : ℕ) = 1024 * n + 1024 + (8192 - (1024 * n + 1024)) by omega,
    racc_of_bot _ _ _ _ (vs_late q K n r), racc_add _ _ hne', hv]
  simp only [msk_tile]
  rfl

/-- One element of the output of a query tile, from the visible scores of its row. -/
def orow (q : Vec Ideal S1024x128 .bf16) (K V : Vec Ideal S8192x128 .bf16) (n : ℕ) (r : Fin 1024) (d : Fin 128) : EReal :=
  if d.val < 64 then Ideal.div (racc (vs q K n r) (vl V d) 8192) (racc (vs q K n r) (vl V 64) 8192) else 0

/-- The lower half's output, element by element. -/
theorem outLo_apply (q : Vec Ideal S1024x128 .bf16) (K V : Vec Ideal S8192x128 .bf16) (r : Fin 1024) (hne : ∀ j, sc q K r j ≠ ⊤) (n : ℕ) (hn : n < 8)
    (d : Fin 128) : outLo (F := Ideal) n q K V (ix2 r d) = orow q K V n r d := by
  unfold outLo k0_pay1
  show k0_pay64 (F := Ideal) _ (ix2 r d) = _
  rw [pay64_apply, pay56_eq, last_eq q K V r hne n hn _ (by unfold k0_pay53; exact shapeCast_self _ _),
    last_eq q K V r hne n hn _ (by unfold k0_pay53; exact shapeCast_self _ _)]
  rfl

/-- The upper half's output, element by element. -/
theorem outHi_apply (q : Vec Ideal S1024x128 .bf16) (K V : Vec Ideal S8192x128 .bf16) (r : Fin 1024) (hne : ∀ j, sc q K r j ≠ ⊤) (n : ℕ) (hn : n < 8)
    (d : Fin 128) : outHi (F := Ideal) n q K V (ix2 r d) = orow q K V n r d := by
  unfold outHi
  rw [pay63_eq]
  show k0_pay64 (F := Ideal) _ (ix2 r d) = _
  rw [pay64_apply, last_eq q K V r hne n hn _ (by unfold k0_pay61; exact shapeCast_self _ _),
    last_eq q K V r hne n hn _ (by unfold k0_pay61; exact shapeCast_self _ _)]
  rfl

end Cert.KernelIdeal.Attn

end
-- ==== Proof.AttnRef.lean ====
/- The reference's result at one element: the masked softmax over the keys, weighted by the values. -/
module

public import proofs.«01_k».proof.Proof.Gen.ReferenceIdeal.Read
public import Idealize.ShloMosaic.Lib.ValueIdx
public import Idealize.ShloMosaic.Lib.KernelVsHost
public import Idealize.ShloMosaic.PureOps.Ideal.Laws

@[expose] public section

set_option maxRecDepth 16384

noncomputable section

namespace Cert.AttnRef

open Cert.ReferenceIdeal Cert.ReferenceIdeal.Gen Cert.ReferenceIdeal.Read
open Idealize.ShloMosaic Idealize.ShloMosaic.ValueIdx
open scoped BigOperators

/-- The queries' and keys' type. -/
abbrev QK := (⟨S2x8192x8x96, .f32⟩ : BufTy).Contents (Elt Ideal)

/-- The values' type. -/
abbrev VV := (⟨S2x8192x8x64, .f32⟩ : BufTy).Contents (Elt Ideal)

/-- The score of query `R` against key `k` in batch `b`, head `h`: minus infinity where the key's chunk is past the query's. -/
def tsc (x0 x1 : QK) (b : Fin 2) (h : Fin 8) (R k : Fin 8192) : EReal :=
  if k.val / 64 ≤ R.val / 64 then Ideal.div (∑ d : Fin 96, x0 (ix4 b R h d) * x1 (ix4 b k h d)) ((Real.sqrt 96 : ℝ) : EReal) else ⊥

/-- A word's quotient by 64 as the reference spells it. -/
def fdh (x : BitVec 32) : BitVec 32 :=
  let sg : BitVec 32 → BitVec 32 := fun y => if y = 0 then 0 else if y.msb then -1 else 1
  Scalar.select (IntOp.andi (IntOp.cmpi .ne (sg x) (sg 64#32)) (IntOp.cmpi .ne (IntOp.remsi .host x 64#32) 0#32))
    (IntOp.subi (IntOp.divsi .host x 64#32) 1#32) (IntOp.divsi .host x 64#32)

/-- It is the quotient by 64. -/
theorem fdh_ofNat : ∀ n : Fin 8192, fdh (BitVec.ofNat 32 n.val) = BitVec.ofNat 32 (n.val / 64) := by
  decide +kernel

/-- Comparing two chunk numbers as words is comparing them as numbers. -/
theorem sle_chunk : ∀ a b : Fin 128, IntOp.cmpi .sle (BitVec.ofNat 32 a.val) (BitVec.ofNat 32 b.val) = if a.val ≤ b.val then 1#1 else 0#1 := by
  decide +kernel

/-- The chunk number of a position. -/
theorem v5_apply (i : S8192.Idx) : val_main_v5 (F := Ideal) i = BitVec.ofNat 32 ((i 0).val / 64) := by
  rw [val_main_v5_apply, val_main_call0_v11_apply, val_main_call0_v13_apply, val_main_call0_v2_apply, val_main_call0_v6_apply,
    val_main_call0_v10_apply, val_main_call0_v8_apply, val_main_call0_v12_apply, val_main_call0_v5_apply, val_main_call0_v7_apply,
    val_main_call0_v1_apply, val_main_call0_v9_apply]
  exact fdh_ofNat (i 0)

/-- Which keys a query sees. -/
theorem v10_apply (R k : Fin 8192) : val_main_v10 (F := Ideal) (ix2 R k) = if k.val / 64 ≤ R.val / 64 then 1#1 else 0#1 := by
  rw [val_main_v10_apply, val_main_v8_apply, val_main_v9_apply, val_main_v6_apply, val_main_v7_apply, v5_apply, v5_apply]
  exact sle_chunk ⟨k.val / 64, by have := k.isLt; omega⟩ ⟨R.val / 64, by have := R.isLt; omega⟩

/-- The root of 96, as a real. -/
theorem sqrt96 : Ideal.sqrt (Ideal.ofBits .f32 0x42C00000#32) = ((Real.sqrt 96 : ℝ) : EReal) := by
  have h : Ideal.ofBits .f32 0x42C00000#32 = ((96 : ℝ) : EReal) := by
    simp [Ideal.ofBits, Ideal.ieee]
    rw [← EReal.coe_mul]
    norm_num
  rw [h]
  unfold Ideal.sqrt
  show (if (96 : ℝ) < 0 then (⊥ : EReal) else _) = _
  rw [if_neg (by norm_num)]

/-- Minus infinity's word. -/
theorem ninf : (FloatOps.ofBits (F := Ideal) .f32 0xFF800000#32) = (⊥ : EReal) := by
  simp [Ideal.ofBits, Ideal.ieee]

/-- The masked scores. -/
theorem v12_apply (x0 x1 : QK) (b : Fin 2) (h : Fin 8) (R k : Fin 8192) :
    val_main_v12 (F := Ideal) x0 x1 (ix4 b h R k) = tsc x0 x1 b h R k := by
  rw [val_main_v12_apply, val_main_call1_v1_apply, val_main_v11_apply, val_main_v3_apply, val_main_v0_apply, val_main_v2_apply, val_main_v1_apply,
    val_main_cst_apply, val_main_call1_v2_apply, val_main_call1_v0_apply, val_main_cst_0_apply]
  have hb : val_main_v10 (F := Ideal) (idx_main_v11 (idx_main_call1_v1 (ix4 b h R k))) = if k.val / 64 ≤ R.val / 64 then 1#1 else 0#1 := by
    rw [← v10_apply R k]
    exact congrArg _ (by funext a; match a with
      | ⟨0, _⟩ => rfl
      | ⟨1, _⟩ => rfl)
  rw [hb, ninf]
  have hs : (FloatOps.hostUnary (F := Ideal) .sqrt (FloatOps.ofBits .f32 0x42C00000#32)) = ((Real.sqrt 96 : ℝ) : EReal) := sqrt96
  rw [hs]
  have hd : (∑ d : Fin 96, x0 (lidx_main_v0 (ix4 b h R k) d) * x1 (ridx_main_v0 (ix4 b h R k) d))
      = ∑ d : Fin 96, x0 (ix4 b R h d) * x1 (ix4 b k h d) := by
    refine Finset.sum_congr rfl fun d _ => ?_
    congr 1
    · exact congrArg x0 (by funext a; match a with
        | ⟨0, _⟩ => rfl
        | ⟨1, _⟩ => rfl
        | ⟨2, _⟩ => rfl
        | ⟨3, _⟩ => rfl)
    · exact congrArg x1 (by funext a; match a with
        | ⟨0, _⟩ => rfl
        | ⟨1, _⟩ => rfl
        | ⟨2, _⟩ => rfl
        | ⟨3, _⟩ => rfl)
  rw [hd]
  unfold Scalar.select tsc
  by_cases hc : k.val / 64 ≤ R.val / 64
  · simp [hc]
  · simp [hc]

/-- The scores lose their last axis under a maximum. -/
theorem red_last : Shape.Reduces S2x8x8192x8192 [3] S2x8x8192 := by decide

/-- A maximum over the last axis from minus infinity. -/
theorem hmax_apply (x : FVec Ideal S2x8x8192x8192 .f32) (b : Fin 2) (h : Fin 8) (R : Fin 8192) :
    Host.reduce FloatOps.maximumf x (constant (F := Ideal) S_ .f32 0xFF800000#32) reducesTo_S2x8x8192x8192_S2x8x8192_d3 h_S_ (ix3 b h R)
      = (Finset.univ : Finset (Fin 8192)).sup (fun k => x (ix4 b h R k)) := by
  rw [hostReduce_maximumf_eq_multiReduction (F := Ideal) (φ := .f32) x 0xFF800000#32 _ _ red_last (.inl rfl) rfl]
  have e := Ideal.multiReduction_maximumf_single (φ := .f32) x 0xFF800000#32 red_last (.inl rfl) rfl (ix3 b h R)
  rw [ninf] at e
  refine e.trans ?_
  have hf : (x ∘ red_last.lift (ix3 b h R)) = fun k : Fin 8192 => x (ix4 b h R k) := by
    funext k
    exact congrArg x (by funext a; match a with
      | ⟨0, _⟩ => rfl
      | ⟨1, _⟩ => rfl
      | ⟨2, _⟩ => rfl
      | ⟨3, _⟩ => rfl)
  exact congrArg (fun f : Fin 8192 → EReal => (Finset.univ : Finset (Fin 8192)).fold max ⊥ f) hf

/-- The row maximum. -/
theorem v13_apply (x0 x1 : QK) (b : Fin 2) (h : Fin 8) (R : Fin 8192) :
    val_main_v13 (F := Ideal) x0 x1 (ix3 b h R) = (Finset.univ : Finset (Fin 8192)).sup (fun k => tsc x0 x1 b h R k) := by
  unfold val_main_v13 val_main_cst_1
  refine (hmax_apply (val_main_v12 (F := Ideal) x0 x1) b h R).trans ?_
  exact congrArg (fun f : Fin 8192 → EReal => (Finset.univ : Finset (Fin 8192)).sup f) (funext fun k => v12_apply x0 x1 b h R k)

/-- A weight before the division. -/
theorem v19_apply (x0 x1 : QK) (b : Fin 2) (h : Fin 8) (R k : Fin 8192) :
    val_main_v19 (F := Ideal) x0 x1 (ix4 b h R k)
      = Ideal.exp (tsc x0 x1 b h R k - (Finset.univ : Finset (Fin 8192)).sup (fun k => tsc x0 x1 b h R k)) := by
  rw [val_main_v19_apply, val_main_v18_apply, val_main_v17_apply, val_main_v16_apply, val_main_v15_apply, val_main_v14_apply, val_main_cst_2_apply,
    v12_apply, ninf]
  have hm : val_main_v13 (F := Ideal) x0 x1 (idx_main_v16 (idx_main_v17 (ix4 b h R k)))
      = (Finset.univ : Finset (Fin 8192)).sup (fun k => tsc x0 x1 b h R k) := by
    rw [show idx_main_v16 (idx_main_v17 (ix4 b h R k)) = ix3 b h R from by funext a; match a with
      | ⟨0, _⟩ => rfl
      | ⟨1, _⟩ => rfl
      | ⟨2, _⟩ => rfl]
    exact v13_apply x0 x1 b h R
  rw [hm]
  show Ideal.exp (_ - max ⊥ _) = _
  rw [max_eq_right bot_le]

/-- A weight after the division. -/
theorem v23_apply (x0 x1 : QK) (b : Fin 2) (h : Fin 8) (R k : Fin 8192) :
    val_main_v23 (F := Ideal) x0 x1 (ix4 b h R k)
      = Ideal.div (Ideal.exp (tsc x0 x1 b h R k - (Finset.univ : Finset (Fin 8192)).sup (fun k => tsc x0 x1 b h R k)))
        (∑ j : Fin 8192, Ideal.exp (tsc x0 x1 b h R j - (Finset.univ : Finset (Fin 8192)).sup (fun k => tsc x0 x1 b h R k))) := by
  rw [val_main_v23_apply, v19_apply, val_main_v22_apply, val_main_v21_apply, val_main_v20_apply, val_main_cst_3_apply]
  show Ideal.div _ (Ideal.ofBits .f32 0x00000000#32 + _) = _
  rw [Ideal.ofBits_zero_f32, zero_add]
  congr 1
  refine Finset.sum_congr rfl fun j _ => ?_
  rw [← v19_apply]
  exact congrArg (val_main_v19 (F := Ideal) x0 x1) (by funext a; match a with
    | ⟨0, _⟩ => rfl
    | ⟨1, _⟩ => rfl
    | ⟨2, _⟩ => rfl
    | ⟨3, _⟩ => rfl)

/-- One element of the reference's result. -/
def oref (x0 x1 : QK) (x2 : VV) (b : Fin 2) (h : Fin 8) (R : Fin 8192) (l : Fin 128) : EReal :=
  if hl : l.val < 64 then
    ∑ k : Fin 8192, x2 (ix4 b k h ⟨l.val, hl⟩)
      * Ideal.div (Ideal.exp (tsc x0 x1 b h R k - (Finset.univ : Finset (Fin 8192)).sup (fun k => tsc x0 x1 b h R k)))
        (∑ j : Fin 8192, Ideal.exp (tsc x0 x1 b h R j - (Finset.univ : Finset (Fin 8192)).sup (fun k => tsc x0 x1 b h R k)))
  else 0

/-- The padded rows, by their four coordinates. -/
theorem v27_apply (x0 x1 : QK) (x2 : VV) (b : Fin 2) (h : Fin 8) (R : Fin 8192) (l : Fin 128) :
    val_main_v27 (F := Ideal) x0 x1 x2 (ix4 b R h l) = oref x0 x1 x2 b h R l := by
  unfold val_main_v27 oref
  by_cases hl : l.val < 64
  · rw [dif_pos hl, concatenate_pair_apply_left (s₁ := S2x8192x8x64) (s₂ := S2x8192x8x64) _ _ _ _ (ix4 b R h l) rfl
      (ix4 b R h (⟨l.val, hl⟩ : Fin 64)) (fun a => by match a with
      | ⟨0, _⟩ => rfl
      | ⟨1, _⟩ => rfl
      | ⟨2, _⟩ => rfl
      | ⟨3, _⟩ => rfl)]
    rw [val_main_v25_apply, val_main_v24_apply]
    refine Finset.sum_congr rfl fun k _ => ?_
    refine congrArg₂ (fun y z : EReal => y * z) ?_ (Eq.trans ?_ (v23_apply x0 x1 b h R k))
    · exact congrArg x2 (by funext a; match a with
        | ⟨0, _⟩ => rfl
        | ⟨1, _⟩ => rfl
        | ⟨2, _⟩ => rfl
        | ⟨3, _⟩ => rfl)
    · exact congrArg (val_main_v23 (F := Ideal) x0 x1) (by funext a; match a with
        | ⟨0, _⟩ => rfl
        | ⟨1, _⟩ => rfl
        | ⟨2, _⟩ => rfl
        | ⟨3, _⟩ => rfl)
  · rw [dif_neg hl, concatenate_pair_apply_right (s₁ := S2x8192x8x64) (s₂ := S2x8192x8x64) _ _ _ _ (ix4 b R h l) rfl rfl
      (ix4 b R h (⟨l.val - 64, by have := l.isLt; omega⟩ : Fin 64)) (fun a ha => by
      match a with
      | ⟨0, _⟩ => rfl
      | ⟨1, _⟩ => rfl
      | ⟨2, _⟩ => rfl
      | ⟨3, _⟩ => exact absurd rfl ha) (by show l.val - 64 + 64 = l.val; omega)]
    rw [val_main_v26_apply, val_main_cst_4_apply]
    exact Ideal.ofBits_zero_f32

/-- The reference's result, by batch, row, head and lane. -/
theorem v29_apply (x0 x1 : QK) (x2 : VV) (i : S16384x1024.Idx) (b : Fin 2) (h : Fin 8) (R : Fin 8192) (l : Fin 128)
    (h0 : (i 0).val = b.val * 8192 + R.val) (h1 : (i 1).val = h.val * 128 + l.val) :
    val_main_v29 (F := Ideal) x0 x1 x2 i = oref x0 x1 x2 b h R l := by
  rw [val_main_v29_apply, val_main_v28_apply, ← v27_apply]
  refine congrArg (val_main_v27 (F := Ideal) x0 x1 x2) ?_
  have hb := b.isLt
  have hh := h.isLt
  have hR := R.isLt
  have hl := l.isLt
  funext a
  apply Fin.ext
  match a with
  | ⟨0, _⟩ => show ((i 0).val * 1024 + (i 1).val) / 8388608 = b.val; omega
  | ⟨1, _⟩ => show ((i 0).val * 1024 + (i 1).val) / 1024 % 8192 = R.val; omega
  | ⟨2, _⟩ => show ((i 0).val * 1024 + (i 1).val) / 128 % 8 = h.val; omega
  | ⟨3, _⟩ => show ((i 0).val * 1024 + (i 1).val) % 128 = l.val; omega

end Cert.AttnRef

end
-- ==== Proof.AttnPack.lean ====
/- The arrays the attention call reads, as the host packs them from the queries, keys and values. -/
module

public import proofs.«01_k».proof.Proof.AttnLaunch
public import Idealize.ShloMosaic.Lib.ValueIdx
public import Idealize.ShloMosaic.PureOps.Ideal.Laws

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx

variable (m : (ℓ : Loc nD τ sig) → Buf (Elt Ideal) ℓ)

/-- The query scale `rsqrt 96 / log 2`. -/
def qscale : EReal := Ideal.div (Ideal.rsqrt (Ideal.ofBits .f32 0x42C00000#32)) (Ideal.log (Ideal.ofBits .f32 0x40000000#32))

/-- The packed queries. -/
def packQ (x : FVec Ideal S2x8192x8x96 .f32) : FVec Ideal S16384x1024 .bf16 :=
  truncf .bf16 (shapeCast S16384x1024 (mulf (concatenate S2x8192x8x128 3 [⟨S2x8192x8x96, x⟩, ⟨S2x8192x8x32, broadcastInDim S2x8192x8x32 ![] bcast_S_S2x8192x8x32 (constant S_ .f32 0x00000000#32)⟩] concatenates_S2x8192x8x96_S2x8192x8x32_S2x8192x8x128_d3)
    (broadcastInDim S2x8192x8x128 ![] bcast_S_S2x8192x8x128 (Host.divf (Host.rsqrt (constant S_ .f32 0x42C00000#32)) (Host.log (constant S_ .f32 0x40000000#32))))) shapeCasts_S2x8192x8x128_S16384x1024) bitsLt_bf16_f32

/-- The packed keys. -/
def packK (x : FVec Ideal S2x8192x8x96 .f32) : FVec Ideal S16384x1024 .bf16 :=
  truncf .bf16 (shapeCast S16384x1024 (concatenate S2x8192x8x128 3 [⟨S2x8192x8x96, x⟩, ⟨S2x8192x8x32, broadcastInDim S2x8192x8x32 ![] bcast_S_S2x8192x8x32 (constant S_ .f32 0x00000000#32)⟩] concatenates_S2x8192x8x96_S2x8192x8x32_S2x8192x8x128_d3) shapeCasts_S2x8192x8x128_S16384x1024) bitsLt_bf16_f32

/-- The values, the column of ones and the zero lanes, as pieces. -/
abbrev vpieces (x : FVec Ideal S2x8192x8x64 .f32) : List ((s : Shape) × (s.Idx → EReal)) :=
  [⟨S2x8192x8x64, x⟩, ⟨S2x8192x8x1, broadcastInDim S2x8192x8x1 ![] bcast_S_S2x8192x8x1 (constant (F := Ideal) S_ .f32 0x3F800000#32)⟩,
    ⟨S2x8192x8x63, broadcastInDim S2x8192x8x63 ![] bcast_S_S2x8192x8x63 (constant (F := Ideal) S_ .f32 0x00000000#32)⟩]

/-- The packed values. -/
def packV (x : FVec Ideal S2x8192x8x64 .f32) : FVec Ideal S16384x1024 .bf16 :=
  truncf .bf16 (shapeCast S16384x1024 (concatenate S2x8192x8x128 3 [⟨S2x8192x8x64, x⟩, ⟨S2x8192x8x1, broadcastInDim S2x8192x8x1 ![] bcast_S_S2x8192x8x1 (constant S_ .f32 0x3F800000#32)⟩, ⟨S2x8192x8x63, broadcastInDim S2x8192x8x63 ![] bcast_S_S2x8192x8x63 (constant S_ .f32 0x00000000#32)⟩] concatenates_S2x8192x8x64_S2x8192x8x1_S2x8192x8x63_S2x8192x8x128_d3) shapeCasts_S2x8192x8x128_S16384x1024) bitsLt_bf16_f32

/-- The array window 0 reads. -/
theorem V_v8 (c : Dev nD) : V m c main_v8 = packQ (m ((c : Thread nD τ).loc main_arg0)) := by
  unfold V hostOps0
  after_results_simp
  rfl

/-- The array window 1 reads. -/
theorem V_v11 (c : Dev nD) : V m c main_v11 = packK (m ((c : Thread nD τ).loc main_arg1)) := by
  unfold V hostOps0
  after_results_simp
  rfl

/-- The array window 2 reads. -/
theorem V_v16 (c : Dev nD) : V m c main_v16 = packV (m ((c : Thread nD τ).loc main_arg2)) := by
  unfold V hostOps0
  after_results_simp
  rfl

/-- The row and column of a packed array as batch, row, head and lane. -/
theorem cast_apply (x : FVec Ideal S2x8192x8x128 .f32) (h) (i : S16384x1024.Idx) (b : Fin 2) (R : Fin 8192) (hd : Fin 8) (l : Fin 128)
    (h0 : (i 0).val = b.val * 8192 + R.val) (h1 : (i 1).val = hd.val * 128 + l.val) :
    (truncf .bf16 (shapeCast S16384x1024 x h) bitsLt_bf16_f32 : FVec Ideal S16384x1024 .bf16) i = x (ix4 b R hd l) := by
  refine shapeCast_apply x h i (ix4 b R hd l) ?_
  rw [Shape.rowMajor_val_four, Shape.rowMajor_val_two]
  show ((b.val * 8192 + R.val) * 8 + hd.val) * 128 + l.val = (i 0).val * 1024 + (i 1).val
  omega

/-- A padded lane of queries or keys. -/
theorem pad_apply (x : FVec Ideal S2x8192x8x96 .f32) (b : Fin 2) (R : Fin 8192) (hd : Fin 8) (l : Fin 128) :
    concatenate S2x8192x8x128 3 [⟨S2x8192x8x96, x⟩, ⟨S2x8192x8x32, broadcastInDim S2x8192x8x32 ![] bcast_S_S2x8192x8x32 (constant (F := Ideal) S_ .f32 0x00000000#32)⟩]
        concatenates_S2x8192x8x96_S2x8192x8x32_S2x8192x8x128_d3 (ix4 b R hd l)
      = if hl : l.val < 96 then x (ix4 b R hd ⟨l.val, hl⟩) else 0 := by
  by_cases hl : l.val < 96
  · rw [dif_pos hl, concatenate_pair_apply_left (s₁ := S2x8192x8x96) (s₂ := S2x8192x8x32) _ _ _ _ (ix4 b R hd l) rfl
      (ix4 b R hd (⟨l.val, hl⟩ : Fin 96)) (fun a => by match a with
      | ⟨0, _⟩ => rfl
      | ⟨1, _⟩ => rfl
      | ⟨2, _⟩ => rfl
      | ⟨3, _⟩ => rfl)]
  · rw [dif_neg hl, concatenate_pair_apply_right (s₁ := S2x8192x8x96) (s₂ := S2x8192x8x32) _ _ _ _ (ix4 b R hd l) rfl rfl
      (ix4 b R hd (⟨l.val - 96, by have := l.isLt; omega⟩ : Fin 32)) (fun a ha => by
      match a with
      | ⟨0, _⟩ => rfl
      | ⟨1, _⟩ => rfl
      | ⟨2, _⟩ => rfl
      | ⟨3, _⟩ => exact absurd rfl ha) (by show l.val - 96 + 96 = l.val; omega)]
    exact Ideal.ofBits_zero_f32

/-- A packed query lane: scaled below 96, zero past it. -/
theorem packQ_apply (x : FVec Ideal S2x8192x8x96 .f32) (i : S16384x1024.Idx) (b : Fin 2) (R : Fin 8192) (hd : Fin 8) (l : Fin 128)
    (h0 : (i 0).val = b.val * 8192 + R.val) (h1 : (i 1).val = hd.val * 128 + l.val) :
    packQ x i = (if hl : l.val < 96 then x (ix4 b R hd ⟨l.val, hl⟩) else 0) * qscale := by
  unfold packQ
  refine (cast_apply _ _ i b R hd l h0 h1).trans ?_
  rw [← pad_apply]
  rfl

/-- A packed key lane. -/
theorem packK_apply (x : FVec Ideal S2x8192x8x96 .f32) (i : S16384x1024.Idx) (b : Fin 2) (R : Fin 8192) (hd : Fin 8) (l : Fin 128)
    (h0 : (i 0).val = b.val * 8192 + R.val) (h1 : (i 1).val = hd.val * 128 + l.val) :
    packK x i = if hl : l.val < 96 then x (ix4 b R hd ⟨l.val, hl⟩) else 0 := by
  unfold packK
  refine (cast_apply _ _ i b R hd l h0 h1).trans ?_
  rw [← pad_apply]

/-- A packed value lane below 64. -/
theorem packV_apply (x : FVec Ideal S2x8192x8x64 .f32) (i : S16384x1024.Idx) (b : Fin 2) (R : Fin 8192) (hd : Fin 8) (l : Fin 64)
    (h0 : (i 0).val = b.val * 8192 + R.val) (h1 : (i 1).val = hd.val * 128 + l.val) :
    packV x i = x (ix4 b R hd l) := by
  unfold packV
  have hl := l.isLt
  refine (cast_apply _ _ i b R hd ⟨l.val, by omega⟩ h0 h1).trans ?_
  exact concatenate_apply_piece (t := S2x8192x8x128) 3 (vpieces x) _ (ix4 b R hd (⟨l.val, by omega⟩ : Fin 128)) 0 (by show 0 < 3; omega) S2x8192x8x64 x rfl rfl 0 rfl (ix4 b R hd l) (fun a ha => by
      match a with
      | ⟨0, _⟩ => rfl
      | ⟨1, _⟩ => rfl
      | ⟨2, _⟩ => rfl
      | ⟨3, _⟩ => exact absurd rfl ha) (by show 0 + l.val = l.val; omega)

/-- Lane 64 of the packed values is one. -/
theorem packV_one (x : FVec Ideal S2x8192x8x64 .f32) (i : S16384x1024.Idx) (b : Fin 2) (R : Fin 8192) (hd : Fin 8)
    (h0 : (i 0).val = b.val * 8192 + R.val) (h1 : (i 1).val = hd.val * 128 + 64) :
    packV x i = 1 := by
  unfold packV
  refine (cast_apply _ _ i b R hd (64 : Fin 128) h0 h1).trans ?_
  refine (concatenate_apply_piece (t := S2x8192x8x128) 3 (vpieces x) _ (ix4 b R hd (64 : Fin 128)) 1 (by show 1 < 3; omega) S2x8192x8x1 _ rfl rfl 64 rfl (ix4 b R hd (0 : Fin 1)) (fun a ha => by
      match a with
      | ⟨0, _⟩ => rfl
      | ⟨1, _⟩ => rfl
      | ⟨2, _⟩ => rfl
      | ⟨3, _⟩ => exact absurd rfl ha) (by show 64 + 0 = 64; omega)).trans ?_
  show Ideal.ofBits .f32 0x3F800000#32 = 1
  simp [Ideal.ofBits, Ideal.ieee]
  rw [← EReal.coe_mul, ← EReal.coe_one]
  norm_num

/-- The query scale is a real. -/
theorem qscale_eq : qscale = (((Real.sqrt 96)⁻¹ * (Real.log 2)⁻¹ : ℝ) : EReal) := by
  have h96 : Ideal.ofBits .f32 0x42C00000#32 = ((96 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  have hlog : Real.log 2 ≠ 0 := (Real.log_pos (by norm_num)).ne'
  unfold qscale
  rw [h96, h2, show Ideal.rsqrt ((96 : ℝ) : EReal) = (((Real.sqrt 96)⁻¹ : ℝ) : EReal) from by
      show (if (96 : ℝ) < 0 then (⊥ : EReal) else if (96 : ℝ) = 0 then ⊤ else _) = _
      rw [if_neg (by norm_num), if_neg (by norm_num)],
    show Ideal.log ((2 : ℝ) : EReal) = ((Real.log 2 : ℝ) : EReal) from by
      show (if (2 : ℝ) ≤ 0 then (⊥ : EReal) else _) = _
      rw [if_neg (by norm_num)]]
  unfold Ideal.div
  rw [if_neg (by exact_mod_cast hlog), ← EReal.coe_inv, ← EReal.coe_mul]

end Cert.KernelIdeal.Attn

end
-- ==== Proof.AttnValue.lean ====
/- The attention call's result array is the reference's result. -/
module

public import proofs.«01_k».proof.Proof.AttnLaunch
public import proofs.«01_k».proof.Proof.AttnTile
public import proofs.«01_k».proof.Proof.AttnRef
public import proofs.«01_k».proof.Proof.AttnPack
public import Idealize.ShloMosaic.Lib.Pipeline.ValueKit.Geometry

@[expose] public section

set_option maxRecDepth 16384

noncomputable section

namespace Cert.KernelIdeal.Attn

open Cert.KernelIdeal Cert.KernelIdeal.Gen Cert.AttnRow
open Idealize.ShloMosaic Idealize.ShloMosaic.TcCoe Idealize.ShloMosaic.ValueIdx
open scoped BigOperators

/-! ## One element of one block -/

/-- The lower half's rows of the query block. -/
theorem qlo_apply (x : Vec Ideal S2048x128 .bf16) (r : Fin 1024) (d : Fin 128) : qlo x (ix2 r d) = x (ix2 ⟨r.val, by have := r.isLt; omega⟩ d) := by
  unfold qlo
  refine congrArg x ?_
  funext a
  apply Fin.ext
  match a with
  | ⟨0, _⟩ => show 0 + 1 * r.val = r.val; omega
  | ⟨1, _⟩ => show 0 + 1 * d.val = d.val; omega

/-- The upper half's rows of the query block. -/
theorem qhi_apply (x : Vec Ideal S2048x128 .bf16) (r : Fin 1024) (d : Fin 128) : qhi x (ix2 r d) = x (ix2 ⟨1024 + r.val, by have := r.isLt; omega⟩ d) := by
  unfold qhi
  refine congrArg x ?_
  funext a
  apply Fin.ext
  match a with
  | ⟨0, _⟩ => show 1024 + 1 * r.val = 1024 + r.val; omega
  | ⟨1, _⟩ => show 0 + 1 * d.val = d.val; omega

/-- The scores of one row of the query block. -/
def bsc (x0 : Vec Ideal S2048x128 .bf16) (x1 : Vec Ideal S8192x128 .bf16) (r : Fin 2048) (j : ℕ) : EReal :=
  ∑ d : Fin 128, x0 (ix2 r d) * x1 (ix2 ⟨j % 8192, Nat.mod_lt _ (by norm_num)⟩ d)

/-- The same as the row sees them, the block being number `n`. -/
def bvs (n : ℕ) (x0 : Vec Ideal S2048x128 .bf16) (x1 : Vec Ideal S8192x128 .bf16) (r : Fin 2048) (j : ℕ) : EReal :=
  if j / 64 ≤ (2048 * n + r.val) / 64 then bsc x0 x1 r j else ⊥

/-- One element of the output block. -/
theorem blk_apply (n : ℕ) (hn : n < 4) (x0 : Vec Ideal S2048x128 .bf16) (x1 x2 : Vec Ideal S8192x128 .bf16) (r : Fin 2048) (d : Fin 128)
    (hne : ∀ j, bsc x0 x1 r j ≠ ⊤) :
    blk (F := Ideal) n x0 x1 x2 (ix2 r d)
      = if d.val < 64 then Ideal.div (racc (bvs n x0 x1 r) (vl x2 d) 8192) (racc (bvs n x0 x1 r) (vl x2 64) 8192) else 0 := by
  by_cases hr : r.val < 1024
  · have hq : ∀ e, qlo x0 (ix2 ⟨r.val, hr⟩ e) = x0 (ix2 r e) := fun e => qlo_apply x0 ⟨r.val, hr⟩ e
    have hsc : ∀ j, sc (qlo x0) x1 ⟨r.val, hr⟩ j = bsc x0 x1 r j := fun j => by
      unfold sc bsc
      exact Finset.sum_congr rfl fun e _ => by rw [hq]
    have hvs : vs (qlo x0) x1 (2 * n) ⟨r.val, hr⟩ = bvs n x0 x1 r := by
      funext j
      unfold vs bvs
      rw [hsc]
      have : 1024 * (2 * n) + r.val = 2048 * n + r.val := by ring
      exact if_congr (by rw [this]) rfl rfl
    have h := outLo_apply (qlo x0) x1 x2 ⟨r.val, hr⟩ (fun j => by rw [hsc]; exact hne j) (2 * n) (by omega) d
    have hb : blk (F := Ideal) n x0 x1 x2 (ix2 r d) = outLo (2 * n) (qlo x0) x1 x2 (ix2 ⟨r.val, hr⟩ d) := by
      unfold blk
      rw [View.canon_cons_of_not_mem]
      · have he : (ix2 r d : S2048x128.Idx) = (Rect.unit (s := S2048x128) ![0, 0] S1024x128.size inb_S2048x128_S1024x128_0_0).emb (ix2 (⟨r.val, hr⟩ : Fin 1024) d) := by
          funext a
          apply Fin.ext
          match a with
          | ⟨0, _⟩ => show r.val = 0 + 1 * r.val; omega
          | ⟨1, _⟩ => show d.val = 0 + 1 * d.val; omega
        rw [he, View.canon_cons_emb]
      · intro hm
        have := (Rect.mem_set_unit (inb := inb_S2048x128_S1024x128_1024_0)).1 hm 0
        have h2 : 1024 ≤ r.val := this.1
        omega
    rw [hb, h]
    unfold orow
    rw [hvs]
  · have hr2 : r.val - 1024 < 1024 := by have := r.isLt; omega
    have hq : ∀ e, qhi x0 (ix2 ⟨r.val - 1024, hr2⟩ e) = x0 (ix2 r e) := fun e => by
      rw [qhi_apply]
      exact congrArg (fun y : Fin 2048 => x0 (ix2 y e)) (Fin.ext (by show 1024 + (r.val - 1024) = r.val; omega))
    have hsc : ∀ j, sc (qhi x0) x1 ⟨r.val - 1024, hr2⟩ j = bsc x0 x1 r j := fun j => by
      unfold sc bsc
      exact Finset.sum_congr rfl fun e _ => by rw [hq]
    have hvs : vs (qhi x0) x1 (2 * n + 1) ⟨r.val - 1024, hr2⟩ = bvs n x0 x1 r := by
      funext j
      unfold vs bvs
      rw [hsc]
      have : 1024 * (2 * n + 1) + (r.val - 1024) = 2048 * n + r.val := by omega
      exact if_congr (by rw [this]) rfl rfl
    have h := outHi_apply (qhi x0) x1 x2 ⟨r.val - 1024, hr2⟩ (fun j => by rw [hsc]; exact hne j) (2 * n + 1) (by omega) d
    have hb : blk (F := Ideal) n x0 x1 x2 (ix2 r d) = outHi (2 * n + 1) (qhi x0) x1 x2 (ix2 ⟨r.val - 1024, hr2⟩ d) := by
      unfold blk
      have he : (ix2 r d : S2048x128.Idx) = (Rect.unit (s := S2048x128) ![1024, 0] S1024x128.size inb_S2048x128_S1024x128_1024_0).emb (ix2 (⟨r.val - 1024, hr2⟩ : Fin 1024) d) := by
        funext a
        apply Fin.ext
        match a with
        | ⟨0, _⟩ => show r.val = 1024 + 1 * (r.val - 1024); omega
        | ⟨1, _⟩ => show d.val = 0 + 1 * d.val; omega
      rw [he, View.canon_cons_emb]
    rw [hb, h]
    unfold orow
    rw [hvs]

/-! ## The blocks as parts of the packed arrays -/

/-- Every entry is a real number. -/
def Fin96 (x : FVec Ideal S2x8192x8x96 .f32) : Prop := ∀ i, ∃ r : ℝ, x i = (r : EReal)

/-- A score of the packed arrays: the product over 96 lanes, scaled. -/
theorem score_eq (x0 x1 : FVec Ideal S2x8192x8x96 .f32) (b : Fin 2) (h : Fin 8) (R k : Fin 8192) (p0 p1 : Fin 128 → EReal)
    (y0 y1 : Fin 96 → ℝ) (hy0 : ∀ d, x0 (ix4 b R h d) = (y0 d : EReal)) (hy1 : ∀ d, x1 (ix4 b k h d) = (y1 d : EReal))
    (h0 : ∀ l, p0 l = (if hl : l.val < 96 then x0 (ix4 b R h ⟨l.val, hl⟩) else 0) * qscale)
    (h1 : ∀ l, p1 l = if hl : l.val < 96 then x1 (ix4 b k h ⟨l.val, hl⟩) else 0) :
    ∑ l : Fin 128, p0 l * p1 l = (((∑ d : Fin 96, y0 d * y1 d) * (Real.sqrt 96)⁻¹ / Real.log 2 : ℝ) : EReal) := by
  have hs : ∀ l : Fin 128, p0 l * p1 l = (((if hl : l.val < 96 then y0 ⟨l.val, hl⟩ * y1 ⟨l.val, hl⟩ else 0) * ((Real.sqrt 96)⁻¹ * (Real.log 2)⁻¹) : ℝ) : EReal) := fun l => by
    rw [h0, h1, qscale_eq]
    by_cases hl : l.val < 96
    · rw [dif_pos hl, dif_pos hl, dif_pos hl, hy0, hy1, ← EReal.coe_mul, ← EReal.coe_mul]
      congr 1; ring
    · rw [dif_neg hl, dif_neg hl, dif_neg hl, zero_mul, zero_mul, zero_mul]; rfl
  have hc : ∀ f : Fin 128 → ℝ, (∑ l, ((f l : ℝ) : EReal)) = ((∑ l, f l : ℝ) : EReal) := fun f => by
    have : ∀ A : Finset (Fin 128), (∑ l ∈ A, ((f l : ℝ) : EReal)) = ((∑ l ∈ A, f l : ℝ) : EReal) := fun A => by
      induction A using Finset.induction_on with
      | empty => simp
      | insert b A hb ih => rw [Finset.sum_insert hb, Finset.sum_insert hb, ih, EReal.coe_add]
    exact this _
  rw [Finset.sum_congr rfl fun l _ => hs l, hc, ← Finset.sum_mul]
  congr 1
  have e : (∑ l : Fin 128, (if hl : l.val < 96 then y0 ⟨l.val, hl⟩ * y1 ⟨l.val, hl⟩ else 0)) = ∑ d : Fin 96, y0 d * y1 d := by
    rw [Fin.sum_univ_add (a := 96) (b := 32) (fun l : Fin 128 => if hl : l.val < 96 then y0 ⟨l.val, hl⟩ * y1 ⟨l.val, hl⟩ else 0)]
    rw [Finset.sum_eq_zero (s := (Finset.univ : Finset (Fin 32))) fun t _ => dif_neg (by show ¬ 96 + t.val < 96; omega), add_zero]
    exact Finset.sum_congr rfl fun d _ => dif_pos (show d.val < 96 from d.isLt)
  rw [e]
  ring

/-- The output block of batch `b`, head `h`, query block `n` holds the reference's elements. -/
theorem blk_ref (x0 x1 : FVec Ideal S2x8192x8x96 .f32) (x2 : FVec Ideal S2x8192x8x64 .f32) (f0 : Fin96 x0) (f1 : Fin96 x1)
    (b : Fin 2) (h : Fin 8) (n : Fin 4) (B0 : Vec Ideal S2048x128 .bf16) (B1 B2 : Vec Ideal S8192x128 .bf16)
    (h0 : ∀ (r : Fin 2048) (l : Fin 128), B0 (ix2 r l) = (if hl : l.val < 96 then x0 (ix4 b (⟨2048 * n.val + r.val, by have := r.isLt; have := n.isLt; omega⟩ : Fin 8192) h ⟨l.val, hl⟩) else 0) * qscale)
    (h1 : ∀ (r : Fin 8192) (l : Fin 128), B1 (ix2 r l) = if hl : l.val < 96 then x1 (ix4 b r h ⟨l.val, hl⟩) else 0)
    (h2 : ∀ (r : Fin 8192) (l : Fin 128) (hl : l.val < 64), B2 (ix2 r l) = x2 (ix4 b r h ⟨l.val, hl⟩))
    (h2' : ∀ (r : Fin 8192), B2 (ix2 r (64 : Fin 128)) = 1) (r : Fin 2048) (l : Fin 128) :
    blk (F := Ideal) n.val B0 B1 B2 (ix2 r l)
      = Cert.AttnRef.oref x0 x1 x2 b h ⟨2048 * n.val + r.val, by have := r.isLt; have := n.isLt; omega⟩ l := by
  let R : Fin 8192 := ⟨2048 * n.val + r.val, by have := r.isLt; have := n.isLt; omega⟩
  choose y0 hy0 using fun d : Fin 96 => f0 (ix4 b R h d)
  choose y1 hy1 using fun (k : Fin 8192) (d : Fin 96) => f1 (ix4 b k h d)
  let u : ℕ → ℝ := fun j => (∑ d : Fin 96, y0 d * y1 ⟨j % 8192, Nat.mod_lt _ (by norm_num)⟩ d) * (Real.sqrt 96)⁻¹
  have hsc : ∀ j, bsc B0 B1 r j = ((u j / Real.log 2 : ℝ) : EReal) := fun j =>
    score_eq x0 x1 b h R ⟨j % 8192, Nat.mod_lt _ (by norm_num)⟩ (fun l => B0 (ix2 r l)) (fun l => B1 (ix2 ⟨j % 8192, Nat.mod_lt _ (by norm_num)⟩ l))
      y0 (y1 _) hy0 (hy1 _) (fun l => h0 r l) (fun l => h1 _ l)
  rw [blk_apply n.val n.isLt B0 B1 B2 r l (fun j => by rw [hsc]; exact EReal.coe_ne_top _)]
  unfold Cert.AttnRef.oref
  by_cases hl : l.val < 64
  swap
  · rw [if_neg hl, dif_neg hl]
  rw [if_pos hl, dif_pos hl]
  have hrt : 0 < Real.sqrt 96 := Real.sqrt_pos.2 (by norm_num)
  have ht : ∀ k : Fin 8192, Cert.AttnRef.tsc x0 x1 b h R k = if k.val / 64 ≤ R.val / 64 then ((u k.val : ℝ) : EReal) else ⊥ := fun k => by
    unfold Cert.AttnRef.tsc
    refine if_congr Iff.rfl ?_ rfl
    have hk : (⟨k.val % 8192, Nat.mod_lt _ (by norm_num)⟩ : Fin 8192) = k := Fin.ext (Nat.mod_eq_of_lt k.isLt)
    rw [div_pos_coe _ _ hrt]
    show _ = (((∑ d : Fin 96, y0 d * y1 ⟨k.val % 8192, _⟩ d) * (Real.sqrt 96)⁻¹ : ℝ) : EReal)
    rw [hk, EReal.coe_mul]
    congr 1
    have hc : ∀ A : Finset (Fin 96), (∑ d ∈ A, x0 (ix4 b R h d) * x1 (ix4 b k h d)) = ((∑ d ∈ A, y0 d * y1 k d : ℝ) : EReal) := fun A => by
      induction A using Finset.induction_on with
      | empty => simp
      | insert a A ha ih => rw [Finset.sum_insert ha, Finset.sum_insert ha, ih, hy0, hy1, EReal.coe_add, EReal.coe_mul]
    exact hc _
  let t : ℕ → EReal := fun j => if j / 64 ≤ R.val / 64 then ((u j : ℝ) : EReal) else ⊥
  have hbr := softmax_bridge 8192 (fun j => j / 64 ≤ R.val / 64) u (bvs n.val B0 B1 r) t (vl B2 l) (vl B2 64)
    (fun j => by unfold bvs; rw [hsc]) (fun j => rfl) (fun j => h2' _) 0 (by norm_num) (by simp)
  rw [hbr]
  have hsup : (Finset.univ : Finset (Fin 8192)).sup (fun k => Cert.AttnRef.tsc x0 x1 b h R k) = (Finset.range 8192).sup t := by
    rw [sup_range]
    exact congrArg (fun f : Fin 8192 → EReal => (Finset.univ : Finset (Fin 8192)).sup f) (funext ht)
  have hden : (∑ j : Fin 8192, Ideal.exp (Cert.AttnRef.tsc x0 x1 b h R j - (Finset.univ : Finset (Fin 8192)).sup (fun k => Cert.AttnRef.tsc x0 x1 b h R k)))
      = ∑ j ∈ Finset.range 8192, Ideal.exp (t j - (Finset.range 8192).sup t) := by
    rw [hsup, Finset.sum_range]
    exact Finset.sum_congr rfl fun j _ => by rw [ht]
  rw [Finset.sum_range]
  refine Finset.sum_congr rfl fun k _ => ?_
  rw [show (⟨2048 * n.val + r.val, by have := r.isLt; have := n.isLt; omega⟩ : Fin 8192) = R from rfl, hden, hsup, ht]
  congr 1
  show B2 (ix2 ⟨k.val % 8192, _⟩ l) = _
  rw [h2 _ l hl]
  exact congrArg (fun y : Fin 8192 => x2 (ix4 b y h (⟨l.val, hl⟩ : Fin 64))) (Fin.ext (Nat.mod_eq_of_lt k.isLt))

/-! ## The array after the run -/

variable (m : (ℓ : Loc nD τ sig) → Buf (Elt Ideal) ℓ)

/-- The queries a device is given. -/
abbrev arg0 (c : Dev nD) : FVec Ideal S2x8192x8x96 .f32 := m ((c : Thread nD τ).loc main_arg0)

/-- The keys a device is given. -/
abbrev arg1 (c : Dev nD) : FVec Ideal S2x8192x8x96 .f32 := m ((c : Thread nD τ).loc main_arg1)

/-- The values a device is given. -/
abbrev arg2 (c : Dev nD) : FVec Ideal S2x8192x8x64 .f32 := m ((c : Thread nD τ).loc main_arg2)

/-- The query window's block index. -/
theorem index0 : ∀ t : Fin cfg0.N, win0_0.index t = ![(grid0.coords t 0).val * 4 + (grid0.coords t 2).val, (grid0.coords t 1).val] :=
  (by decide +kernel : ∀ t : Fin grid0.N, win0_0.index t = ![(grid0.coords t 0).val * 4 + (grid0.coords t 2).val, (grid0.coords t 1).val])

/-- The key window's block index. -/
theorem index1 : ∀ t : Fin cfg0.N, win0_1.index t = ![(grid0.coords t 0).val, (grid0.coords t 1).val] :=
  (by decide +kernel : ∀ t : Fin grid0.N, win0_1.index t = ![(grid0.coords t 0).val, (grid0.coords t 1).val])

/-- The value window's block index. -/
theorem index2 : ∀ t : Fin cfg0.N, win0_2.index t = ![(grid0.coords t 0).val, (grid0.coords t 1).val] :=
  (by decide +kernel : ∀ t : Fin grid0.N, win0_2.index t = ![(grid0.coords t 0).val, (grid0.coords t 1).val])

/-- The output window's block index. -/
theorem index3 : ∀ t : Fin cfg0.N, win0_3.index t = ![(grid0.coords t 0).val * 4 + (grid0.coords t 2).val, (grid0.coords t 1).val] :=
  (by decide +kernel : ∀ t : Fin grid0.N, win0_3.index t = ![(grid0.coords t 0).val * 4 + (grid0.coords t 2).val, (grid0.coords t 1).val])

/-- A lane of the query block at a grid point. -/
theorem iblk0_apply (c : Dev nD) (t : Fin cfg0.N) (b : Fin 2) (h : Fin 8) (n : Fin 4) (hb : (grid0.coords t 0).val = b.val)
    (hh : (grid0.coords t 1).val = h.val) (hn : (grid0.coords t 2).val = n.val) (r : Fin 2048) (l : Fin 128) :
    (iblk m c 0 t : Vec Ideal S2048x128 .bf16) (ix2 r l)
      = (if hl : l.val < 96 then arg0 m c (ix4 b (⟨2048 * n.val + r.val, by have := r.isLt; have := n.isLt; omega⟩ : Fin 8192) h ⟨l.val, hl⟩) else 0) * qscale := by
  unfold iblk
  rw [View.read_apply]
  show V m c main_v8 _ = _
  rw [V_v8]
  have hi := index0 t
  refine packQ_apply _ _ b ⟨2048 * n.val + r.val, by have := r.isLt; have := n.isLt; omega⟩ h l ?_ ?_
  · show win0_0.index t 0 * 2048 + 1 * r.val = _
    rw [hi]
    show ((grid0.coords t 0).val * 4 + (grid0.coords t 2).val) * 2048 + 1 * r.val = b.val * 8192 + (2048 * n.val + r.val)
    omega
  · show win0_0.index t 1 * 128 + 1 * l.val = _
    rw [hi]
    show (grid0.coords t 1).val * 128 + 1 * l.val = h.val * 128 + l.val
    omega

/-- A lane of the key block at a grid point. -/
theorem iblk1_apply (c : Dev nD) (t : Fin cfg0.N) (b : Fin 2) (h : Fin 8) (hb : (grid0.coords t 0).val = b.val)
    (hh : (grid0.coords t 1).val = h.val) (r : Fin 8192) (l : Fin 128) :
    (iblk m c 1 t : Vec Ideal S8192x128 .bf16) (ix2 r l)
      = if hl : l.val < 96 then arg1 m c (ix4 b r h ⟨l.val, hl⟩) else 0 := by
  unfold iblk
  rw [View.read_apply]
  show V m c main_v11 _ = _
  rw [V_v11]
  have hi := index1 t
  refine packK_apply _ _ b r h l ?_ ?_
  · show win0_1.index t 0 * 8192 + 1 * r.val = _
    rw [hi]
    show (grid0.coords t 0).val * 8192 + 1 * r.val = b.val * 8192 + r.val
    omega
  · show win0_1.index t 1 * 128 + 1 * l.val = _
    rw [hi]
    show (grid0.coords t 1).val * 128 + 1 * l.val = h.val * 128 + l.val
    omega

/-- Where an element of the value block lies in the packed values. -/
theorem iblk2_at (c : Dev nD) (t : Fin cfg0.N) (b : Fin 2) (h : Fin 8) (hb : (grid0.coords t 0).val = b.val)
    (hh : (grid0.coords t 1).val = h.val) (r : Fin 8192) (l : Fin 128) :
    ∃ i : S16384x1024.Idx, (i 0).val = b.val * 8192 + r.val ∧ (i 1).val = h.val * 128 + l.val ∧
      (iblk m c 2 t : Vec Ideal S8192x128 .bf16) (ix2 r l) = packV (m ((c : Thread nD τ).loc main_arg2)) i := by
  have hi := index2 t
  refine ⟨((cfg0.win 2).blk t).view.emb (ix2 r l), ?_, ?_, ?_⟩
  · show win0_2.index t 0 * 8192 + 1 * r.val = _
    rw [hi]
    show (grid0.coords t 0).val * 8192 + 1 * r.val = b.val * 8192 + r.val
    omega
  · show win0_2.index t 1 * 128 + 1 * l.val = _
    rw [hi]
    show (grid0.coords t 1).val * 128 + 1 * l.val = h.val * 128 + l.val
    omega
  · unfold iblk
    rw [View.read_apply]
    show V m c main_v16 _ = _
    rw [V_v16]

/-- One element of the output block of a grid point is the reference's. -/
theorem outAt_apply (c : Dev nD) (f0 : Fin96 (arg0 m c)) (f1 : Fin96 (arg1 m c)) (t : Fin cfg0.N) (b : Fin 2) (h : Fin 8) (n : Fin 4)
    (hb : (grid0.coords t 0).val = b.val) (hh : (grid0.coords t 1).val = h.val) (hn : (grid0.coords t 2).val = n.val) (r : Fin 2048) (l : Fin 128) :
    (outAt m c t : Vec Ideal S2048x128 .bf16) (ix2 r l)
      = Cert.AttnRef.oref (arg0 m c) (arg1 m c) (arg2 m c) b h ⟨2048 * n.val + r.val, by have := r.isLt; have := n.isLt; omega⟩ l := by
  have key := blk_ref (arg0 m c) (arg1 m c) (arg2 m c) f0 f1 b h n (iblk m c 0 t) (iblk m c 1 t) (iblk m c 2 t)
    (iblk0_apply m c t b h n hb hh hn) (iblk1_apply m c t b h hb hh)
      (fun r l hl => by
        obtain ⟨i, e0, e1, e⟩ := iblk2_at m c t b h hb hh r l
        rw [e]
        exact packV_apply _ i b r h ⟨l.val, hl⟩ e0 e1)
      (fun r => by
        obtain ⟨i, e0, e1, e⟩ := iblk2_at m c t b h hb hh r 64
        rw [e]
        exact packV_one _ i b r h e0 e1) r l
  rw [← key]
  unfold outAt
  rw [hn]

set_option maxHeartbeats 1000000 in
/-- The result array is any array whose elements are the reference's. -/
theorem final3_of (c : Dev nD) (f0 : Fin96 (arg0 m c)) (f1 : Fin96 (arg1 m c)) (G : S16384x1024.Idx → EReal)
    (hv : ∀ (i : S16384x1024.Idx) (b : Fin 2) (h : Fin 8) (R : Fin 8192) (l : Fin 128), (i 0).val = b.val * 8192 + R.val → (i 1).val = h.val * 128 + l.val →
      G i = Cert.AttnRef.oref (arg0 m c) (arg1 m c) (arg2 m c) b h R l) :
    (dats m 0 c).arrAt 3 cfg0.N = G := by
  refine (dats m 0 c).arrAt_eq_of_covers 3 G (by decide +kernel) fun t hf y => ?_
  have hi := index3 t
  obtain ⟨b, hb⟩ : ∃ b : Fin 2, (grid0.coords t 0).val = b.val := ⟨⟨_, (grid0.coords t 0).isLt⟩, rfl⟩
  obtain ⟨h, hh⟩ : ∃ h : Fin 8, (grid0.coords t 1).val = h.val := ⟨⟨_, (grid0.coords t 1).isLt⟩, rfl⟩
  obtain ⟨n, hn⟩ : ∃ n : Fin 4, (grid0.coords t 2).val = n.val := ⟨⟨_, (grid0.coords t 2).isLt⟩, rfl⟩
  obtain ⟨r, l, hy⟩ : ∃ (r : Fin 2048) (l : Fin 128), (y : S2048x128.Idx) = ix2 r l := ⟨y 0, y 1, eq_ix2 (n0 := 2048) (n1 := 128) y⟩
  subst hy
  rw [after0_3]
  refine (outAt_apply m c f0 f1 t b h n hb hh hn r l).trans (hv _ b h _ l ?_ ?_).symm
  · show win0_3.index t 0 * 2048 + 1 * r.val = _
    rw [hi]
    show ((grid0.coords t 0).val * 4 + (grid0.coords t 2).val) * 2048 + 1 * r.val = b.val * 8192 + (2048 * n.val + r.val)
    omega
  · show win0_3.index t 1 * 128 + 1 * l.val = _
    rw [hi]
    show (grid0.coords t 1).val * 128 + 1 * l.val = h.val * 128 + l.val
    omega

/-- The result array is the reference's result. -/
theorem final3 (c : Dev nD) (f0 : Fin96 (arg0 m c)) (f1 : Fin96 (arg1 m c)) :
    (dats m 0 c).arrAt 3 cfg0.N = Cert.ReferenceIdeal.Read.val_main_v29 (F := Ideal) (arg0 m c) (arg1 m c) (arg2 m c) :=
  final3_of m c f0 f1 _ fun i b h R l h0 h1 => Cert.AttnRef.v29_apply _ _ _ i b h R l h0 h1

end Cert.KernelIdeal.Attn

end
-- ==== Proof.AttnPre.lean ====
/- What the precondition says: every entry of the queries and of the keys is a real number. -/
module

public import proofs.«01_k».proof.Defs
public import proofs.«01_k».proof.Proof.AttnValue
public import Idealize.ShloMosaic.Lib.ReduceAll

@[expose] public section

set_option maxRecDepth 16384

noncomputable section

namespace Cert.AttnPre

open Idealize.ShloMosaic Cert.Pre_finite_qk

/-- The shape facts the precondition states. -/
instance facts : Cert.Pre_finite_qk.Facts where
  bcast_S_S2x8192x8x96 := by decide
  reducesTo_S2x8192x8x96_S_d0_1_2_3 := by decide
  h_S_ := by decide

/-- The scalar shape has one index. -/
instance : Subsingleton S_.Idx := ⟨fun i j => funext fun a => a.elim0⟩

/-- The word of plus infinity stands for it. -/
theorem inf_word : Ideal.ofBits .f32 0x7F800000#32 = (⊤ : EReal) := by
  simp [Ideal.ofBits, Ideal.ieee]

/-- An entry whose absolute value is below plus infinity is a real number. -/
theorem real_of_lt (x : EReal) (h : Ideal.cmp .olt (max x (-x)) (⊤ : EReal) = 1#1) : ∃ r : ℝ, x = (r : EReal) := by
  have hlt : max x (-x) < ⊤ := by
    by_contra hn
    have : Ideal.cmp .olt (max x (-x)) (⊤ : EReal) = 0#1 := by simp [Ideal.cmp, hn]
    rw [this] at h
    exact absurd h (by decide)
  induction x with
  | bot => simp at hlt
  | top => simp at hlt
  | coe r => exact ⟨r, rfl⟩

/-- From the precondition, the queries and the keys are real. -/
theorem real_of_pre (x0 x1 : FVec Ideal S2x8192x8x96 .f32) (x2 : FVec Ideal S2x8192x8x64 .f32)
    (h : Cert.Pre_finite_qk.fn (F := Ideal) x0 x1 x2 = fun _ => 1#1) :
    (∀ i, ∃ r : ℝ, x0 i = (r : EReal)) ∧ (∀ i, ∃ r : ℝ, x1 i = (r : EReal)) := by
  have h0 := congrFun h (fun a => a.elim0)
  dsimp only [Cert.Pre_finite_qk.fn] at h0
  obtain ⟨ha, hb⟩ := IntOp.andi_eq_one.1 h0
  exact ⟨fun i => real_of_lt _ (inf_word ▸ (Host.reduce_andi_all _ _ _ _ _ ha i)),
    fun i => real_of_lt _ (inf_word ▸ (Host.reduce_andi_all _ _ _ _ _ hb i))⟩

end Cert.AttnPre

end
-- ==== Proof.MergeRow.lean ====
/- One token's row through the gated merge, the norm and the peer scores, on plain functions of extended reals. -/
module

public import Idealize.ShloMosaic.PureOps.Ideal.Laws
public import Mathlib.Algebra.BigOperators.Fin

@[expose] public section

noncomputable section

namespace Cert.MergeRow

open Idealize.ShloMosaic
open scoped BigOperators

/-- The merged row: the two branch outputs weighted by the sigmoid of their gates. -/
def mix (ga gb a b : Fin 1024 → EReal) (e : Fin 1024) : EReal :=
  Ideal.logistic (ga e) * a e + Ideal.logistic (gb e) * b e

/-- The row after the residual sum. -/
def res (x ga gb a b : Fin 1024 → EReal) (w : Fin 1024 → Fin 1024 → EReal) (d : Fin 1024) : EReal :=
  x d + ∑ e : Fin 1024, mix ga gb a b e * w e d

/-- The row after the root-mean-square norm. -/
def nrm (y g : Fin 1024 → EReal) (d : Fin 1024) : EReal :=
  y d * Ideal.rsqrt (Ideal.div (∑ k : Fin 1024, y k * y k) (Ideal.ofBits .f32 0x44800000#32) + Ideal.ofBits .f32 0x358637BD#32) * g d

/-- The score of one key. -/
def scr (h : Fin 1024 → EReal) (w : Fin 1024 → Fin 128 → EReal) (key : Fin 128 → EReal) : EReal :=
  ∑ e : Fin 128, key e * ∑ d : Fin 1024, h d * w d e

/-- A sum over eight groups of 128 lanes, of which the upper 64 are zero, is the sum over eight groups of 64. -/
theorem sum_lanes (f : Fin 1024 → EReal) (g : Fin 512 → EReal)
    (hlo : ∀ (h : Fin 8) (l : Fin 64), f ⟨h.val * 128 + l.val, by have := h.isLt; have := l.isLt; omega⟩ = g ⟨h.val * 64 + l.val, by have := h.isLt; have := l.isLt; omega⟩)
    (hhi : ∀ (h : Fin 8) (l : Fin 64), f ⟨h.val * 128 + (64 + l.val), by have := h.isLt; have := l.isLt; omega⟩ = 0) :
    ∑ k, f k = ∑ k, g k := by
  have e1 : ∑ k, f k = ∑ p : Fin 8 × Fin 128, f (finProdFinEquiv p) := (Equiv.sum_comp (finProdFinEquiv (m := 8) (n := 128)) f).symm
  have e2 : ∑ k, g k = ∑ p : Fin 8 × Fin 64, g (finProdFinEquiv p) := (Equiv.sum_comp (finProdFinEquiv (m := 8) (n := 64)) g).symm
  rw [e1, e2, Fintype.sum_prod_type, Fintype.sum_prod_type]
  refine Finset.sum_congr rfl fun h _ => ?_
  rw [Fin.sum_univ_add (a := 64) (b := 64) (fun l : Fin 128 => f (finProdFinEquiv (h, l)))]
  have z : (∑ l : Fin 64, f (finProdFinEquiv (h, Fin.natAdd 64 l))) = 0 := Finset.sum_eq_zero fun l _ => by
    rw [← hhi h l]
    exact congrArg f (Fin.ext (by show (64 + l.val) + 128 * h.val = _; show _ = h.val * 128 + (64 + l.val); omega))
  rw [z, add_zero]
  refine Finset.sum_congr rfl fun l _ => ?_
  have e := hlo h l
  have a1 : (finProdFinEquiv (h, Fin.castAdd 64 l) : Fin 1024) = ⟨h.val * 128 + l.val, by have := h.isLt; have := l.isLt; omega⟩ :=
    Fin.ext (by show l.val + 128 * h.val = h.val * 128 + l.val; omega)
  have a2 : (finProdFinEquiv (h, l) : Fin 512) = ⟨h.val * 64 + l.val, by have := h.isLt; have := l.isLt; omega⟩ :=
    Fin.ext (by show l.val + 64 * h.val = h.val * 64 + l.val; omega)
  exact (congrArg f a1).trans (e.trans (congrArg g a2).symm)

end Cert.MergeRow

end
-- ==== Proof.MergeTile.lean ====
/- The merge body's arithmetic at the ideal values, read at one element of each output block. -/
module

public import proofs.«01_k».proof.Proof.MergeRow
public import proofs.«01_k».proof.Proof.Gen.MergeIdeal.Frame
public import Idealize.ShloMosaic.Lib.Pipeline.Value
public import Idealize.ShloMosaic.Lib.ValueIdx
public import Idealize.ShloMosaic.Lib.MatmulPlain
public import Idealize.ShloMosaic.Lib.ValueLayout
public import Idealize.ShloMosaic.Lib.ValueLayoutCasts

@[expose] public section

set_option maxRecDepth 16384

noncomputable section

namespace Cert.MergeIdeal.Merge

open Cert.MergeIdeal Cert.MergeIdeal.Gen Cert.MergeRow
open Idealize.ShloMosaic Idealize.ShloMosaic.ValueIdx
open scoped BigOperators

/-! ## The residual row and its norm -/

/-- The residual row of a token of the block. -/
def yb (x0 : Vec Ideal S512x1024 .f32) (x1 : Vec Ideal S512x1024 .bf16) (x2 : Vec Ideal S512x512 .bf16) (x3 : Vec Ideal S512x2048 .f32)
    (x4 : Vec Ideal S1024x1024 .bf16) (x5 : Vec Ideal S512x1024 .bf16) (x6 : Vec Ideal S1024x1024 .bf16) (r : Fin 512) : Fin 1024 → EReal :=
  res (fun d => x0 (ix2 r d)) (fun e => x3 (ix2 r (⟨e.val, by have := e.isLt; omega⟩ : Fin 2048))) (fun e => x3 (ix2 r (⟨1024 + e.val, by have := e.isLt; omega⟩ : Fin 2048)))
    (fun e => ∑ c : Fin 1024, x1 (ix2 r c) * x4 (ix2 c e)) (fun e => ∑ c : Fin 512, x2 (ix2 r c) * x5 (ix2 c e)) (fun e d => x6 (ix2 e d))

/-- A product with the zero accumulator, over 1024 terms. -/
theorem mm1024 (a : FVec Ideal S512x1024 .bf16) (b : FVec Ideal S1024x1024 .bf16) (r : Fin 512) (d : Fin 1024) :
    matmul dot_S512x1024_S1024x1024_S512x1024_1_0_0_1_n_n none a b (constant S512x1024 .f32 0x00000000#32) (ix2 r d) = ∑ c : Fin 1024, a (ix2 r c) * b (ix2 c d) := by
  refine (Ideal.matmul_plain_apply (M := 512) (K := 1024) (N := 1024) none a b (constant S512x1024 .f32 0x00000000#32) r d).trans ?_
  show Ideal.ofBits .f32 0x00000000#32 + _ = _
  rw [Ideal.ofBits_zero_f32, zero_add]

/-- The same over 512 terms. -/
theorem mm512 (a : FVec Ideal S512x512 .bf16) (b : FVec Ideal S512x1024 .bf16) (r : Fin 512) (d : Fin 1024) :
    matmul dot_S512x512_S512x1024_S512x1024_1_0_0_1_n_n none a b (constant S512x1024 .f32 0x00000000#32) (ix2 r d) = ∑ c : Fin 512, a (ix2 r c) * b (ix2 c d) := by
  refine (Ideal.matmul_plain_apply (M := 512) (K := 512) (N := 1024) none a b (constant S512x1024 .f32 0x00000000#32) r d).trans ?_
  show Ideal.ofBits .f32 0x00000000#32 + _ = _
  rw [Ideal.ofBits_zero_f32, zero_add]

/-- The same into 2048 columns. -/
theorem mm2048 (a : FVec Ideal S512x1024 .bf16) (b : FVec Ideal S1024x2048 .bf16) (r : Fin 512) (d : Fin 2048) :
    matmul dot_S512x1024_S1024x2048_S512x2048_1_0_0_1_n_n none a b (constant S512x2048 .f32 0x00000000#32) (ix2 r d) = ∑ c : Fin 1024, a (ix2 r c) * b (ix2 c d) := by
  refine (Ideal.matmul_plain_apply (M := 512) (K := 1024) (N := 2048) none a b (constant S512x2048 .f32 0x00000000#32) r d).trans ?_
  show Ideal.ofBits .f32 0x00000000#32 + _ = _
  rw [Ideal.ofBits_zero_f32, zero_add]

/-- The residual block at one element. -/
theorem pay9_apply (x0 : Vec Ideal S512x1024 .f32) (x1 : Vec Ideal S512x1024 .bf16) (x2 : Vec Ideal S512x512 .bf16) (x3 : Vec Ideal S512x2048 .f32)
    (x4 : Vec Ideal S1024x1024 .bf16) (x5 : Vec Ideal S512x1024 .bf16) (x6 : Vec Ideal S1024x1024 .bf16) (r : Fin 512) (d : Fin 1024) :
    k0_pay9 (F := Ideal) x3 x1 x4 x2 x5 x0 x6 (ix2 r d) = yb x0 x1 x2 x3 x4 x5 x6 r d := by
  unfold k0_pay9
  simp only [shapeCast_self]
  show x0 (ix2 r d) + _ = _
  unfold yb res
  congr 1
  refine (mm1024 _ x6 r d).trans (Finset.sum_congr rfl fun e _ => ?_)
  congr 1
  show extractStridedSlice S512x1024 ![0, 0] (logistic (F := Ideal) (s := S512x2048) (φ := .f32) x3) _ (ix2 r e) * _ + extractStridedSlice S512x1024 ![0, 1024] (logistic (F := Ideal) (s := S512x2048) (φ := .f32) x3) _ (ix2 r e) * _ = _
  unfold mix
  congr 1
  · congr 1
    · refine (extractStridedSlice_apply _ _ _ _ (ix2 r (⟨e.val, by have := e.isLt; omega⟩ : Fin 2048)) fun a => ?_).trans rfl
      match a with
      | ⟨0, _⟩ => show r.val = 0 + r.val; omega
      | ⟨1, _⟩ => show e.val = 0 + e.val; omega
    · exact mm1024 x1 x4 r e
  · congr 1
    · refine (extractStridedSlice_apply _ _ _ _ (ix2 r (⟨1024 + e.val, by have := e.isLt; omega⟩ : Fin 2048)) fun a => ?_).trans rfl
      match a with
      | ⟨0, _⟩ => show r.val = 0 + r.val; omega
      | ⟨1, _⟩ => rfl
    · exact mm512 x2 x5 r e

/-- A row's sum. -/
theorem rowsum_apply (s : FVec Ideal S512x1024 .f32) (r : Fin 512) (h : Shape.Reduces S512x1024 [1] S512) (h1) (h2) :
    multiReduction .add [1] S512 s 0x00000000#32 h h1 h2 (ix1 r) = ∑ k : Fin 1024, s (ix2 r k) := by
  refine (Ideal.multiReduction_add_single s _ h h1 h2 (ix1 r)).trans ?_
  refine Finset.sum_congr rfl fun k _ => congrArg s ?_
  funext a
  match a with
  | ⟨0, _⟩ => rfl
  | ⟨1, _⟩ => rfl

/-- A column broadcast along the rows reads the row's element. -/
theorem bcol_apply (x : S512x1.Idx → EReal) (h : S512x1.Broadcasts S512x1024) (r : Fin 512) (c : Fin 1024) :
    broadcastTo S512x1024 x h (ix2 r c) = x (ix2 r 0) := by
  refine broadcastTo_apply x h (ix2 r c) (ix2 r 0) fun a => ?_
  match a with
  | ⟨0, _⟩ => rfl
  | ⟨1, _⟩ => rfl

/-- A row broadcast down the columns reads the column's element. -/
theorem brow_apply (x : S1x1024.Idx → EReal) (h : S1x1024.Broadcasts S512x1024) (r : Fin 512) (c : Fin 1024) :
    broadcastTo S512x1024 x h (ix2 r c) = x (ix2 0 c) := by
  refine broadcastTo_apply x h (ix2 r c) (ix2 0 c) fun a => ?_
  match a with
  | ⟨0, _⟩ => rfl
  | ⟨1, _⟩ => rfl

/-- The normed block at one element. -/
theorem pay13_apply (y : FVec Ideal S512x1024 .f32) (g : FVec Ideal S1x1024 .f32) (v : FVec Ideal S512x1 .f32) (r : Fin 512) (d : Fin 1024)
    (hv : v (ix2 r 0) = Ideal.div (∑ k : Fin 1024, y (ix2 r k) * y (ix2 r k)) (Ideal.ofBits .f32 0x44800000#32)) :
    k0_pay13 (F := Ideal) y g v k0_pay12 (ix2 r d) = nrm (fun k => y (ix2 r k)) (fun k => g (ix2 0 k)) d := by
  unfold k0_pay13
  show y (ix2 r d) * broadcastTo S512x1024 _ _ (ix2 r d) * broadcastTo S512x1024 g _ (ix2 r d) = _
  rw [brow_apply, bcol_apply]
  unfold nrm
  rw [← hv]
  rfl

/-- The mean square of a row of the residual block. -/
theorem pay11_apply (x0 : Vec Ideal S512x1024 .f32) (x1 : Vec Ideal S512x1024 .bf16) (x2 : Vec Ideal S512x512 .bf16) (x3 : Vec Ideal S512x2048 .f32)
    (x4 : Vec Ideal S1024x1024 .bf16) (x5 : Vec Ideal S512x1024 .bf16) (x6 : Vec Ideal S1024x1024 .bf16) (r : Fin 512) :
    k0_pay11 (F := Ideal) x3 x1 x4 x2 x5 x0 x6 (ix2 r 0)
      = Ideal.div (∑ k : Fin 1024, k0_pay9 (F := Ideal) x3 x1 x4 x2 x5 x0 x6 (ix2 r k) * k0_pay9 (F := Ideal) x3 x1 x4 x2 x5 x0 x6 (ix2 r k)) (Ideal.ofBits .f32 0x44800000#32) := by
  unfold k0_pay11
  show Ideal.div (shapeCast S512x1 _ _ (ix2 r 0)) _ = _
  rw [shapeCast_a_a1_apply]
  exact congrArg (Ideal.div · _) (rowsum_apply _ r _ _ rfl)

/-! ## The scores -/

/-- A block of scores: one head's keys by the tokens' queries. -/
theorem score_apply (off : Fin 2 → ℕ) (p : FVec Ideal S512x2048 .bf16) (key : FVec Ideal S1x128x128 .bf16) (hs : S512x2048.Slices off S512x128) (hc)
    (o : ℕ) (ho : o + 128 ≤ 2048) (h0 : off 0 = 0) (h1 : off 1 = o) (n : Fin 128) (r : Fin 512) :
    matmul dot_S128x128_S512x128_S128x512_1_1_0_0_n_n none (shapeCast S128x128 key hc) (extractStridedSlice S512x128 off p hs) (constant S128x512 .f32 0x00000000#32) (ix2 n r)
      = ∑ e : Fin 128, key (ix3 0 n e) * p (ix2 r ⟨o + e.val, by have := e.isLt; omega⟩) := by
  refine (Ideal.matmul_transposedRhs_apply (M := 128) (K := 128) (N := 512) none _ _ (constant S128x512 .f32 0x00000000#32) n r).trans ?_
  show Ideal.ofBits .f32 0x00000000#32 + _ = _
  rw [Ideal.ofBits_zero_f32, zero_add]
  refine Finset.sum_congr rfl fun e _ => ?_
  congr 1
  · exact shapeCast_1ab_ab_apply key hc n e
  · refine extractStridedSlice_apply off p hs _ _ fun a => ?_
    match a with
    | ⟨0, _⟩ => show r.val = off 0 + r.val; omega
    | ⟨1, _⟩ => show o + e.val = off 1 + e.val; omega

/-- One head's keys out of the eight. -/
theorem ldkey (off : Fin 3 → ℕ) (x : Vec Ideal S8x128x128 .bf16) (inb) (h : Fin 8) (n e : Fin 128) (h0 : off 0 = h.val) (h1 : off 1 = 0) (h2 : off 2 = 0) :
    View.ld x (Rect.unit (s := S8x128x128) off S1x128x128.size inb) (ix3 (0 : Fin 1) n e) = x (ix3 h n e) := by
  refine congrArg x ?_
  funext a
  apply Fin.ext
  match a with
  | ⟨0, _⟩ => show off 0 + 1 * 0 = h.val; omega
  | ⟨1, _⟩ => show off 1 + 1 * n.val = n.val; omega
  | ⟨2, _⟩ => show off 2 + 1 * e.val = e.val; omega

/-- Eight blocks, as pieces of a stack. -/
abbrev pcs (a : Fin 8 → FVec Ideal S128x512 .f32) : List ((s : Shape) × (s.Idx → EReal)) :=
  [⟨S1x128x512, shapeCast S1x128x512 (a 0) shapeCasts_S128x512_S1x128x512⟩, ⟨S1x128x512, shapeCast S1x128x512 (a 1) shapeCasts_S128x512_S1x128x512⟩,
    ⟨S1x128x512, shapeCast S1x128x512 (a 2) shapeCasts_S128x512_S1x128x512⟩, ⟨S1x128x512, shapeCast S1x128x512 (a 3) shapeCasts_S128x512_S1x128x512⟩,
    ⟨S1x128x512, shapeCast S1x128x512 (a 4) shapeCasts_S128x512_S1x128x512⟩, ⟨S1x128x512, shapeCast S1x128x512 (a 5) shapeCasts_S128x512_S1x128x512⟩,
    ⟨S1x128x512, shapeCast S1x128x512 (a 6) shapeCasts_S128x512_S1x128x512⟩, ⟨S1x128x512, shapeCast S1x128x512 (a 7) shapeCasts_S128x512_S1x128x512⟩]

/-- The stack read at a head. -/
theorem stack_apply (a : Fin 8 → FVec Ideal S128x512 .f32) (hc : Shape.Concatenates ((pcs a).map (·.1)) S8x128x512 0) (h : Fin 8) (n : Fin 128) (r : Fin 512) :
    concatenate S8x128x512 0 (pcs a) hc (ix3 h n r) = a h (ix2 n r) := by
  have go : ∀ (k : ℕ) (hk : k < 8) (hl : k < (pcs a).length) (x : FVec Ideal S128x512 .f32),
      (pcs a)[k] = ⟨S1x128x512, shapeCast S1x128x512 x shapeCasts_S128x512_S1x128x512⟩ →
      ((((pcs a).take k).map (·.1)).map fun s => if e : s.rank = S8x128x512.rank then s.size ((0 : Fin 3).cast e.symm) else 0).sum = k →
      concatenate S8x128x512 0 (pcs a) hc (ix3 (⟨k, hk⟩ : Fin 8) n r) = x (ix2 n r) := fun k hk hl x hx hp => by
    refine (concatenate_apply_piece (t := S8x128x512) 0 (pcs a) hc (ix3 (⟨k, hk⟩ : Fin 8) n r) k hl S1x128x512 _ hx rfl k hp (ix3 (0 : Fin 1) n r) (fun b hb => ?_) ?_).trans ?_
    · match b with
      | ⟨0, _⟩ => exact absurd rfl hb
      | ⟨1, _⟩ => rfl
      | ⟨2, _⟩ => rfl
    · show k + 0 = k; omega
    · exact shapeCast_ab_1ab_apply x _ 0 n r
  match h with
  | ⟨0, _⟩ => exact go 0 (by omega) (by show 0 < 8; omega) _ rfl rfl
  | ⟨1, _⟩ => exact go 1 (by omega) (by show 1 < 8; omega) _ rfl rfl
  | ⟨2, _⟩ => exact go 2 (by omega) (by show 2 < 8; omega) _ rfl rfl
  | ⟨3, _⟩ => exact go 3 (by omega) (by show 3 < 8; omega) _ rfl rfl
  | ⟨4, _⟩ => exact go 4 (by omega) (by show 4 < 8; omega) _ rfl rfl
  | ⟨5, _⟩ => exact go 5 (by omega) (by show 5 < 8; omega) _ rfl rfl
  | ⟨6, _⟩ => exact go 6 (by omega) (by show 6 < 8; omega) _ rfl rfl
  | ⟨7, _⟩ => exact go 7 (by omega) (by show 7 < 8; omega) _ rfl rfl

/-- The stack with heads innermost, flattened. -/
theorem inter_apply (a : Fin 8 → FVec Ideal S128x512 .f32) (hc : Shape.Concatenates ((pcs a).map (·.1)) S8x128x512 0) (ht) (hs) (h : Fin 8) (n : Fin 128) (r : Fin 512) :
    shapeCast S1024x512 (transpose S128x8x512 [1, 0, 2] (concatenate S8x128x512 0 (pcs a) hc) ht) hs
      (ix2 (⟨n.val * 8 + h.val, by have := n.isLt; have := h.isLt; omega⟩ : Fin 1024) r) = a h (ix2 n r) := by
  refine (shapeCast_apply _ hs _ (ix3 n h r) ?_).trans ?_
  · rw [Shape.rowMajor_val_three, Shape.rowMajor_val_two]
    rfl
  · refine (transpose_apply _ _ ht (ix3 n h r) (ix3 h n r) fun b => ?_).trans (stack_apply a hc h n r)
    match b with
    | ⟨0, _⟩ => rfl
    | ⟨1, _⟩ => rfl
    | ⟨2, _⟩ => rfl

/-- Eight blocks of the first half, interleaved. -/
theorem pay32_apply (a : Fin 8 → FVec Ideal S128x512 .f32) (h : Fin 8) (n : Fin 128) (r : Fin 512) :
    k0_pay32 (F := Ideal) (a 0) (a 1) (a 2) (a 3) (a 4) (a 5) (a 6) (a 7) (ix2 (⟨n.val * 8 + h.val, by have := n.isLt; have := h.isLt; omega⟩ : Fin 1024) r) = a h (ix2 n r) := by
  unfold k0_pay32
  exact inter_apply a _ _ _ h n r

/-! ## The five output blocks -/

section
variable (x0 : Vec Ideal S512x1024 .f32) (x1 : Vec Ideal S512x1024 .bf16) (x2 : Vec Ideal S512x512 .bf16) (x3 : Vec Ideal S512x2048 .f32)
    (x4 : Vec Ideal S1024x1024 .bf16) (x5 : Vec Ideal S512x1024 .bf16) (x6 : Vec Ideal S1024x1024 .bf16) (x7 : Vec Ideal S1x1024 .f32)
    (x8 : Vec Ideal S1024x2048 .bf16) (x9 : Vec Ideal S8x128x128 .bf16) (x10 : Vec Ideal S8x128x128 .bf16)

/-- The normed row of a token of the block. -/
def hb (r : Fin 512) : Fin 1024 → EReal := nrm (yb x0 x1 x2 x3 x4 x5 x6 r) (fun k => x7 (ix2 0 k))

/-- The residual output block. -/
theorem out11_apply (r : Fin 512) (d : Fin 1024) : out0_11 (F := Ideal) x0 x1 x2 x3 x4 x5 x6 x7 x8 x9 x10 (ix2 r d) = yb x0 x1 x2 x3 x4 x5 x6 r d := by
  unfold out0_11
  rw [View.canon_unit_zero (by decide)]
  rw [View.ld_unit_zero (by decide), View.ld_unit_zero (by decide), View.ld_unit_zero (by decide), View.ld_unit_zero (by decide), View.ld_unit_zero (by decide), View.ld_unit_zero (by decide), View.ld_unit_zero (by decide)]
  exact pay9_apply x0 x1 x2 x3 x4 x5 x6 r d

/-- The residual block as the later values name it. -/
theorem pay34_eq : k0_pay34 (F := Ideal) x0 x1 x2 x3 x4 x5 x6 x7 x8 x9 x10 = k0_pay9 (F := Ideal) x3 x1 x4 x2 x5 x0 x6 := by
  unfold k0_pay34
  rw [View.ld_unit_zero (by decide), View.ld_unit_zero (by decide), View.ld_unit_zero (by decide), View.ld_unit_zero (by decide), View.ld_unit_zero (by decide), View.ld_unit_zero (by decide), View.ld_unit_zero (by decide)]

/-- The mean squares as the later values name them. -/
theorem pay36_eq : k0_pay36 (F := Ideal) x0 x1 x2 x3 x4 x5 x6 x7 x8 x9 x10 = k0_pay11 (F := Ideal) x3 x1 x4 x2 x5 x0 x6 := by
  unfold k0_pay36
  rw [View.ld_unit_zero (by decide), View.ld_unit_zero (by decide), View.ld_unit_zero (by decide), View.ld_unit_zero (by decide), View.ld_unit_zero (by decide), View.ld_unit_zero (by decide), View.ld_unit_zero (by decide)]

/-- The norm's weights as the later values name them. -/
theorem pay35_eq : k0_pay35 (F := Ideal) x0 x1 x2 x3 x4 x5 x6 x7 x8 x9 x10 = x7 := by
  unfold k0_pay35 k0_pay10
  rw [View.ld_unit_zero (by decide)]
  exact shapeCast_self _ _

/-- The normed block. -/
theorem normed_apply (r : Fin 512) (d : Fin 1024) :
    k0_pay13 (F := Ideal) (k0_pay34 x0 x1 x2 x3 x4 x5 x6 x7 x8 x9 x10) (k0_pay35 x0 x1 x2 x3 x4 x5 x6 x7 x8 x9 x10) (k0_pay36 x0 x1 x2 x3 x4 x5 x6 x7 x8 x9 x10) (k0_pay37 x0 x1 x2 x3 x4 x5 x6 x7 x8 x9 x10) (ix2 r d) = hb x0 x1 x2 x3 x4 x5 x6 x7 r d := by
  unfold k0_pay37
  rw [pay34_eq, pay35_eq, pay36_eq]
  refine (pay13_apply _ x7 _ r d (pay11_apply x0 x1 x2 x3 x4 x5 x6 r)).trans ?_
  unfold hb
  exact congrArg (fun y : Fin 1024 → EReal => nrm y (fun k => x7 (ix2 0 k)) d) (funext fun k => pay9_apply x0 x1 x2 x3 x4 x5 x6 r k)

/-- The transposed normed output block. -/
theorem out12_apply (r : Fin 512) (d : Fin 1024) : out0_12 (F := Ideal) x0 x1 x2 x3 x4 x5 x6 x7 x8 x9 x10 (ix2 d r) = hb x0 x1 x2 x3 x4 x5 x6 x7 r d := by
  unfold out0_12
  rw [View.canon_unit_zero (by decide)]
  rw [← normed_apply x0 x1 x2 x3 x4 x5 x6 x7 x8 x9 x10 r d]
  unfold k0_pay14
  show transpose S1024x512 [1, 0] (k0_pay13 (F := Ideal) (k0_pay34 x0 x1 x2 x3 x4 x5 x6 x7 x8 x9 x10) (k0_pay35 x0 x1 x2 x3 x4 x5 x6 x7 x8 x9 x10) (k0_pay36 x0 x1 x2 x3 x4 x5 x6 x7 x8 x9 x10) (k0_pay37 x0 x1 x2 x3 x4 x5 x6 x7 x8 x9 x10)) transposes_S512x1024_p1_0_S1024x512 (ix2 d r) = _
  refine transpose_apply [1, 0] _ transposes_S512x1024_p1_0_S1024x512 (ix2 d r) (ix2 r d) fun b => ?_
  match b with
  | ⟨0, _⟩ => rfl
  | ⟨1, _⟩ => rfl

/-- The queries. -/
theorem quer_apply (r : Fin 512) (c : Fin 2048) : k0_pay38 (F := Ideal) x0 x1 x2 x3 x4 x5 x6 x7 x8 x9 x10 (ix2 r c) = ∑ d : Fin 1024, hb x0 x1 x2 x3 x4 x5 x6 x7 r d * x8 (ix2 d c) := by
  unfold k0_pay38 k0_pay15
  rw [View.ld_unit_zero (by decide)]
  simp only [shapeCast_self]
  refine (mm2048 _ x8 r c).trans (Finset.sum_congr rfl fun d _ => ?_)
  rw [← normed_apply x0 x1 x2 x3 x4 x5 x6 x7 x8 x9 x10 r d]
  rfl

/-- The score of a key of one half's head, that head's queries starting at lane `o`. -/
def sb (xk : Vec Ideal S8x128x128 .bf16) (r : Fin 512) (h : Fin 8) (n : Fin 128) (o : ℕ) (ho : o + 128 ≤ 2048) : EReal :=
  scr (hb x0 x1 x2 x3 x4 x5 x6 x7 r) (fun d e => x8 (ix2 d ⟨o + e.val, by have := e.isLt; omega⟩)) (fun e => xk (ix3 h n e))

/-- A block of scores read at one element. -/
theorem sblk (off : Fin 2 → ℕ) (key : FVec Ideal S1x128x128 .bf16) (xk : Vec Ideal S8x128x128 .bf16) (hs : S512x2048.Slices off S512x128) (hc)
    (o : ℕ) (ho : o + 128 ≤ 2048) (h0 : off 0 = 0) (h1 : off 1 = o) (h : Fin 8) (hk : ∀ n e, key (ix3 0 n e) = xk (ix3 h n e)) (n : Fin 128) (r : Fin 512) :
    matmul dot_S128x128_S512x128_S128x512_1_1_0_0_n_n none (shapeCast S128x128 key hc) (extractStridedSlice S512x128 off (k0_pay38 (F := Ideal) x0 x1 x2 x3 x4 x5 x6 x7 x8 x9 x10) hs) (constant S128x512 .f32 0x00000000#32) (ix2 n r)
      = sb x0 x1 x2 x3 x4 x5 x6 x7 x8 xk r h n o ho := by
  refine (score_apply off _ key hs hc o ho h0 h1 n r).trans ?_
  unfold sb scr
  exact Finset.sum_congr rfl fun e _ => by rw [hk, quer_apply]

/-- The first half's score blocks. -/
def s9 : Fin 8 → FVec Ideal S128x512 .f32 :=
  ![k0_pay16 (k0_pay34 x0 x1 x2 x3 x4 x5 x6 x7 x8 x9 x10) (k0_pay35 x0 x1 x2 x3 x4 x5 x6 x7 x8 x9 x10) (k0_pay36 x0 x1 x2 x3 x4 x5 x6 x7 x8 x9 x10) (k0_pay37 x0 x1 x2 x3 x4 x5 x6 x7 x8 x9 x10) (View.ld x8 r0_6) (View.ld x9 r0_7),
    k0_pay17 (k0_pay34 x0 x1 x2 x3 x4 x5 x6 x7 x8 x9 x10) (k0_pay35 x0 x1 x2 x3 x4 x5 x6 x7 x8 x9 x10) (k0_pay36 x0 x1 x2 x3 x4 x5 x6 x7 x8 x9 x10) (k0_pay37 x0 x1 x2 x3 x4 x5 x6 x7 x8 x9 x10) (View.ld x8 r0_6) (View.ld x9 r0_8),
    k0_pay18 (k0_pay34 x0 x1 x2 x3 x4 x5 x6 x7 x8 x9 x10) (k0_pay35 x0 x1 x2 x3 x4 x5 x6 x7 x8 x9 x10) (k0_pay36 x0 x1 x2 x3 x4 x5 x6 x7 x8 x9 x10) (k0_pay37 x0 x1 x2 x3 x4 x5 x6 x7 x8 x9 x10) (View.ld x8 r0_6) (View.ld x9 r0_9),
    k0_pay19 (k0_pay34 x0 x1 x2 x3 x4 x5 x6 x7 x8 x9 x10) (k0_pay35 x0 x1 x2 x3 x4 x5 x6 x7 x8 x9 x10) (k0_pay36 x0 x1 x2 x3 x4 x5 x6 x7 x8 x9 x10) (k0_pay37 x0 x1 x2 x3 x4 x5 x6 x7 x8 x9 x10) (View.ld x8 r0_6) (View.ld x9 r0_10),
    k0_pay20 (k0_pay34 x0 x1 x2 x3 x4 x5 x6 x7 x8 x9 x10) (k0_pay35 x0 x1 x2 x3 x4 x5 x6 x7 x8 x9 x10) (k0_pay36 x0 x1 x2 x3 x4 x5 x6 x7 x8 x9 x10) (k0_pay37 x0 x1 x2 x3 x4 x5 x6 x7 x8 x9 x10) (View.ld x8 r0_6) (View.ld x9 r0_11),
    k0_pay21 (k0_pay38 x0 x1 x2 x3 x4 x5 x6 x7 x8 x9 x10) (View.ld x9 r0_12), k0_pay22 (k0_pay38 x0 x1 x2 x3 x4 x5 x6 x7 x8 x9 x10) (View.ld x9 r0_13), k0_pay23 (k0_pay38 x0 x1 x2 x3 x4 x5 x6 x7 x8 x9 x10) (View.ld x9 r0_14)]

/-- The second half's score blocks. -/
def s10 : Fin 8 → FVec Ideal S128x512 .f32 :=
  ![k0_pay39 x0 x1 x2 x3 x4 x5 x6 x7 x8 x9 x10, k0_pay40 x0 x1 x2 x3 x4 x5 x6 x7 x8 x9 x10, k0_pay41 x0 x1 x2 x3 x4 x5 x6 x7 x8 x9 x10, k0_pay42 x0 x1 x2 x3 x4 x5 x6 x7 x8 x9 x10,
    k0_pay28 (k0_pay38 x0 x1 x2 x3 x4 x5 x6 x7 x8 x9 x10) (View.ld x10 r0_11), k0_pay29 (k0_pay38 x0 x1 x2 x3 x4 x5 x6 x7 x8 x9 x10) (View.ld x10 r0_12), k0_pay30 (k0_pay38 x0 x1 x2 x3 x4 x5 x6 x7 x8 x9 x10) (View.ld x10 r0_13), k0_pay31 (k0_pay38 x0 x1 x2 x3 x4 x5 x6 x7 x8 x9 x10) (View.ld x10 r0_14)]

/-- A first-half score. -/
theorem s9_apply (h : Fin 8) (n : Fin 128) (r : Fin 512) : s9 x0 x1 x2 x3 x4 x5 x6 x7 x8 x9 x10 h (ix2 n r) = sb x0 x1 x2 x3 x4 x5 x6 x7 x8 x9 r h n (h.val * 128) (by have := h.isLt; omega) := by
  match h with
  | ⟨0, hh⟩ => exact sblk x0 x1 x2 x3 x4 x5 x6 x7 x8 x9 x10 ![0, 0] (View.ld x9 r0_7) x9 slices_S512x2048_o0_0_S512x128 shapeCasts_S1x128x128_S128x128 0 _ rfl rfl ⟨0, hh⟩ (fun n e => ldkey _ x9 _ _ n e rfl rfl rfl) n r
  | ⟨1, hh⟩ => exact sblk x0 x1 x2 x3 x4 x5 x6 x7 x8 x9 x10 ![0, 128] (View.ld x9 r0_8) x9 slices_S512x2048_o0_128_S512x128 shapeCasts_S1x128x128_S128x128 128 _ rfl rfl ⟨1, hh⟩ (fun n e => ldkey _ x9 _ _ n e rfl rfl rfl) n r
  | ⟨2, hh⟩ => exact sblk x0 x1 x2 x3 x4 x5 x6 x7 x8 x9 x10 ![0, 256] (View.ld x9 r0_9) x9 slices_S512x2048_o0_256_S512x128 shapeCasts_S1x128x128_S128x128 256 _ rfl rfl ⟨2, hh⟩ (fun n e => ldkey _ x9 _ _ n e rfl rfl rfl) n r
  | ⟨3, hh⟩ => exact sblk x0 x1 x2 x3 x4 x5 x6 x7 x8 x9 x10 ![0, 384] (View.ld x9 r0_10) x9 slices_S512x2048_o0_384_S512x128 shapeCasts_S1x128x128_S128x128 384 _ rfl rfl ⟨3, hh⟩ (fun n e => ldkey _ x9 _ _ n e rfl rfl rfl) n r
  | ⟨4, hh⟩ => exact sblk x0 x1 x2 x3 x4 x5 x6 x7 x8 x9 x10 ![0, 512] (View.ld x9 r0_11) x9 slices_S512x2048_o0_512_S512x128 shapeCasts_S1x128x128_S128x128 512 _ rfl rfl ⟨4, hh⟩ (fun n e => ldkey _ x9 _ _ n e rfl rfl rfl) n r
  | ⟨5, hh⟩ => exact sblk x0 x1 x2 x3 x4 x5 x6 x7 x8 x9 x10 ![0, 640] (View.ld x9 r0_12) x9 slices_S512x2048_o0_640_S512x128 shapeCasts_S1x128x128_S128x128 640 _ rfl rfl ⟨5, hh⟩ (fun n e => ldkey _ x9 _ _ n e rfl rfl rfl) n r
  | ⟨6, hh⟩ => exact sblk x0 x1 x2 x3 x4 x5 x6 x7 x8 x9 x10 ![0, 768] (View.ld x9 r0_13) x9 slices_S512x2048_o0_768_S512x128 shapeCasts_S1x128x128_S128x128 768 _ rfl rfl ⟨6, hh⟩ (fun n e => ldkey _ x9 _ _ n e rfl rfl rfl) n r
  | ⟨7, hh⟩ => exact sblk x0 x1 x2 x3 x4 x5 x6 x7 x8 x9 x10 ![0, 896] (View.ld x9 r0_14) x9 slices_S512x2048_o0_896_S512x128 shapeCasts_S1x128x128_S128x128 896 _ rfl rfl ⟨7, hh⟩ (fun n e => ldkey _ x9 _ _ n e rfl rfl rfl) n r

/-- A second-half score. -/
theorem s10_apply (h : Fin 8) (n : Fin 128) (r : Fin 512) : s10 x0 x1 x2 x3 x4 x5 x6 x7 x8 x9 x10 h (ix2 n r) = sb x0 x1 x2 x3 x4 x5 x6 x7 x8 x10 r h n (1024 + h.val * 128) (by have := h.isLt; omega) := by
  match h with
  | ⟨0, hh⟩ => exact sblk x0 x1 x2 x3 x4 x5 x6 x7 x8 x9 x10 ![0, 1024] (View.ld x10 r0_7) x10 slices_S512x2048_o0_1024_S512x128 shapeCasts_S1x128x128_S128x128 1024 _ rfl rfl ⟨0, hh⟩ (fun n e => ldkey _ x10 _ _ n e rfl rfl rfl) n r
  | ⟨1, hh⟩ => exact sblk x0 x1 x2 x3 x4 x5 x6 x7 x8 x9 x10 ![0, 1152] (View.ld x10 r0_8) x10 slices_S512x2048_o0_1152_S512x128 shapeCasts_S1x128x128_S128x128 1152 _ rfl rfl ⟨1, hh⟩ (fun n e => ldkey _ x10 _ _ n e rfl rfl rfl) n r
  | ⟨2, hh⟩ => exact sblk x0 x1 x2 x3 x4 x5 x6 x7 x8 x9 x10 ![0, 1280] (View.ld x10 r0_9) x10 slices_S512x2048_o0_1280_S512x128 shapeCasts_S1x128x128_S128x128 1280 _ rfl rfl ⟨2, hh⟩ (fun n e => ldkey _ x10 _ _ n e rfl rfl rfl) n r
  | ⟨3, hh⟩ => exact sblk x0 x1 x2 x3 x4 x5 x6 x7 x8 x9 x10 ![0, 1408] (View.ld x10 r0_10) x10 slices_S512x2048_o0_1408_S512x128 shapeCasts_S1x128x128_S128x128 1408 _ rfl rfl ⟨3, hh⟩ (fun n e => ldkey _ x10 _ _ n e rfl rfl rfl) n r
  | ⟨4, hh⟩ => exact sblk x0 x1 x2 x3 x4 x5 x6 x7 x8 x9 x10 ![0, 1536] (View.ld x10 r0_11) x10 slices_S512x2048_o0_1536_S512x128 shapeCasts_S1x128x128_S128x128 1536 _ rfl rfl ⟨4, hh⟩ (fun n e => ldkey _ x10 _ _ n e rfl rfl rfl) n r
  | ⟨5, hh⟩ => exact sblk x0 x1 x2 x3 x4 x5 x6 x7 x8 x9 x10 ![0, 1664] (View.ld x10 r0_12) x10 slices_S512x2048_o0_1664_S512x128 shapeCasts_S1x128x128_S128x128 1664 _ rfl rfl ⟨5, hh⟩ (fun n e => ldkey _ x10 _ _ n e rfl rfl rfl) n r
  | ⟨6, hh⟩ => exact sblk x0 x1 x2 x3 x4 x5 x6 x7 x8 x9 x10 ![0, 1792] (View.ld x10 r0_13) x10 slices_S512x2048_o0_1792_S512x128 shapeCasts_S1x128x128_S128x128 1792 _ rfl rfl ⟨6, hh⟩ (fun n e => ldkey _ x10 _ _ n e rfl rfl rfl) n r
  | ⟨7, hh⟩ => exact sblk x0 x1 x2 x3 x4 x5 x6 x7 x8 x9 x10 ![0, 1920] (View.ld x10 r0_14) x10 slices_S512x2048_o0_1920_S512x128 shapeCasts_S1x128x128_S128x128 1920 _ rfl rfl ⟨7, hh⟩ (fun n e => ldkey _ x10 _ _ n e rfl rfl rfl) n r

/-- The first half's scores, heads innermost. -/
theorem out13_apply (h : Fin 8) (n : Fin 128) (r : Fin 512) :
    out0_13 (F := Ideal) x0 x1 x2 x3 x4 x5 x6 x7 x8 x9 x10 (ix2 (⟨n.val * 8 + h.val, by have := n.isLt; have := h.isLt; omega⟩ : Fin 1024) r)
      = sb x0 x1 x2 x3 x4 x5 x6 x7 x8 x9 r h n (h.val * 128) (by have := h.isLt; omega) := by
  unfold out0_13
  rw [View.canon_unit_zero (by decide)]
  exact (pay32_apply (s9 x0 x1 x2 x3 x4 x5 x6 x7 x8 x9 x10) h n r).trans (s9_apply x0 x1 x2 x3 x4 x5 x6 x7 x8 x9 x10 h n r)

/-- The second half's scores, heads innermost. -/
theorem out14_apply (h : Fin 8) (n : Fin 128) (r : Fin 512) :
    out0_14 (F := Ideal) x0 x1 x2 x3 x4 x5 x6 x7 x8 x9 x10 (ix2 (⟨n.val * 8 + h.val, by have := n.isLt; have := h.isLt; omega⟩ : Fin 1024) r)
      = sb x0 x1 x2 x3 x4 x5 x6 x7 x8 x10 r h n (1024 + h.val * 128) (by have := h.isLt; omega) := by
  unfold out0_14
  rw [View.canon_unit_zero (by decide)]
  unfold k0_pay33
  exact (inter_apply (s10 x0 x1 x2 x3 x4 x5 x6 x7 x8 x9 x10) _ _ _ h n r).trans (s10_apply x0 x1 x2 x3 x4 x5 x6 x7 x8 x9 x10 h n r)

/-- The second half's scores, heads outermost. -/
theorem out15_apply (h : Fin 8) (n : Fin 128) (r : Fin 512) :
    out0_15 (F := Ideal) x0 x1 x2 x3 x4 x5 x6 x7 x8 x9 x10 (ix3 h n r) = sb x0 x1 x2 x3 x4 x5 x6 x7 x8 x10 r h n (1024 + h.val * 128) (by have := h.isLt; omega) := by
  have key : ∀ (off : Fin 3 → ℕ) (inb) (g : Fin 8) (a : FVec Ideal S128x512 .f32) (ha : a = s10 x0 x1 x2 x3 x4 x5 x6 x7 x8 x9 x10 g) (h0 : off 0 = g.val) (h1 : off 1 = 0) (h2 : off 2 = 0)
      (z : (Rect.unit (s := S8x128x512) off S1x128x512.size inb).shape.Idx),
      (shapeCast S1x128x512 a shapeCasts_S128x512_S1x128x512 : S1x128x512.Idx → EReal) z
        = (fun y : S8x128x512.Idx => s10 x0 x1 x2 x3 x4 x5 x6 x7 x8 x9 x10 (y 0) (ix2 (y 1) (y 2))) ((Rect.unit (s := S8x128x512) off S1x128x512.size inb).emb z) := by
    intro off inb g a ha h0 h1 h2 z
    obtain ⟨u, n, r, hz⟩ : ∃ (u : Fin 1) (n : Fin 128) (r : Fin 512), (z : S1x128x512.Idx) = ix3 u n r := ⟨z 0, z 1, z 2, eq_ix3 (n0 := 1) (n1 := 128) (n2 := 512) z⟩
    subst hz
    rw [ha]
    refine (shapeCast_ab_1ab_apply (s10 x0 x1 x2 x3 x4 x5 x6 x7 x8 x9 x10 g) shapeCasts_S128x512_S1x128x512 u n r).trans ?_
    have e0 : ((Rect.unit (s := S8x128x512) off S1x128x512.size inb).emb (ix3 u n r)) 0 = g := Fin.ext (by show off 0 + 1 * u.val = g.val; omega)
    have e1 : ((Rect.unit (s := S8x128x512) off S1x128x512.size inb).emb (ix3 u n r)) 1 = n := Fin.ext (by show off 1 + 1 * n.val = n.val; omega)
    have e2 : ((Rect.unit (s := S8x128x512) off S1x128x512.size inb).emb (ix3 u n r)) 2 = r := Fin.ext (by show off 2 + 1 * r.val = r.val; omega)
    show _ = s10 x0 x1 x2 x3 x4 x5 x6 x7 x8 x9 x10 (((Rect.unit (s := S8x128x512) off S1x128x512.size inb).emb (ix3 u n r)) 0)
      (ix2 (((Rect.unit (s := S8x128x512) off S1x128x512.size inb).emb (ix3 u n r)) 1) (((Rect.unit (s := S8x128x512) off S1x128x512.size inb).emb (ix3 u n r)) 2))
    rw [e0, e1, e2]
  rw [← s10_apply x0 x1 x2 x3 x4 x5 x6 x7 x8 x9 x10 h n r]
  unfold out0_15
  refine (View.canon_apply_of_pieces (fun y : S8x128x512.Idx => s10 x0 x1 x2 x3 x4 x5 x6 x7 x8 x9 x10 (y 0) (ix2 (y 1) (y 2))) _ (fun pc hpc z => ?_) (ix3 h n r) (cover0_15 _ _ _ _ _ _ _ _ _)).trans rfl
  simp only [List.mem_cons, List.not_mem_nil, or_false] at hpc
  rcases hpc with rfl | rfl | rfl | rfl | rfl | rfl | rfl | rfl
  · exact key ![7, 0, 0] inb_S8x128x512_S1x128x512_7_0_0 (7 : Fin 8) _ rfl rfl rfl rfl z
  · exact key ![6, 0, 0] inb_S8x128x512_S1x128x512_6_0_0 (6 : Fin 8) _ rfl rfl rfl rfl z
  · exact key ![5, 0, 0] inb_S8x128x512_S1x128x512_5_0_0 (5 : Fin 8) _ rfl rfl rfl rfl z
  · exact key ![4, 0, 0] inb_S8x128x512_S1x128x512_4_0_0 (4 : Fin 8) _ rfl rfl rfl rfl z
  · exact key ![3, 0, 0] inb_S8x128x512_S1x128x512_3_0_0 (3 : Fin 8) _ rfl rfl rfl rfl z
  · exact key ![2, 0, 0] inb_S8x128x512_S1x128x512_2_0_0 (2 : Fin 8) _ rfl rfl rfl rfl z
  · exact key ![1, 0, 0] inb_S8x128x512_S1x128x512_1_0_0 (1 : Fin 8) _ rfl rfl rfl rfl z
  · exact key ![0, 0, 0] inb_S8x128x512_S1x128x512_0_0_0 (0 : Fin 8) _ rfl rfl rfl rfl z

end

end Cert.MergeIdeal.Merge

end
-- ==== Proof.MergePack.lean ====
/- The arrays the merge call reads, as the host lays them out. -/
module

public import proofs.«01_k».proof.Proof.MergeTile

@[expose] public section

set_option maxRecDepth 16384

noncomputable section

namespace Cert.MergeIdeal.Merge

open Cert.MergeIdeal Cert.MergeIdeal.Gen Cert.MergeRow
open Idealize.ShloMosaic Idealize.ShloMosaic.TcCoe Idealize.ShloMosaic.ValueIdx
open scoped BigOperators

variable (m : (ℓ : Loc nD τ sig) → Buf (Elt Ideal) ℓ)

/-! ## The layouts -/

/-- The tokens in one axis. -/
theorem flat_apply {N : ℕ} (x : (⟨3, ![2, 8192, N]⟩ : Shape).Idx → EReal) (h : (⟨3, ![2, 8192, N]⟩ : Shape).ShapeCasts ⟨2, ![16384, N]⟩)
    (i : (⟨2, ![16384, N]⟩ : Shape).Idx) (b : Fin 2) (R : Fin 8192) (d : Fin N) (h0 : (i 0).val = b.val * 8192 + R.val) (h1 : (i 1).val = d.val) :
    shapeCast ⟨2, ![16384, N]⟩ x h i = x (ix3 b R d) := by
  refine shapeCast_apply x h i (ix3 b R d) ?_
  rw [Shape.rowMajor_val_three, Shape.rowMajor_val_two]
  show (b.val * 8192 + R.val) * N + d.val = (i 0).val * N + (i 1).val
  rw [h0, h1]

/-- The norm's weights as a row. -/
theorem row_apply (x : FVec Ideal S1024 .f32) (h : S1024.ShapeCasts S1x1024) (i : S1x1024.Idx) (k : Fin 1024) (h1 : (i 1).val = k.val) :
    shapeCast S1x1024 x h i = x (ix1 k) := by
  refine shapeCast_apply x h i (ix1 k) ?_
  rw [Shape.rowMajor_val_one, Shape.rowMajor_val_two]
  have h0 : (i 0).val < 1 := (i 0).isLt
  show k.val = (i 0).val * 1024 + (i 1).val
  omega

/-- The first branch's rows in groups of 128 lanes. -/
def packY (x : FVec Ideal S2x8192x512 .f32) : FVec Ideal S16384x1024 .f32 :=
  shapeCast S16384x1024 (concatenate S2x8192x8x128 3 [⟨S2x8192x8x64, shapeCast S2x8192x8x64 x shapeCasts_S2x8192x512_S2x8192x8x64⟩,
    ⟨S2x8192x8x64, broadcastInDim S2x8192x8x64 ![] bcast_S_S2x8192x8x64 (constant S_ .f32 0x00000000#32)⟩] concatenates_S2x8192x8x64_S2x8192x8x64_S2x8192x8x128_d3) shapeCasts_S2x8192x8x128_S16384x1024

/-- The first branch's weights in groups of 128 rows. -/
def packW (x : FVec Ideal S512x1024 .f32) : FVec Ideal S1024x1024 .f32 :=
  shapeCast S1024x1024 (concatenate S8x128x1024 1 [⟨S8x64x1024, shapeCast S8x64x1024 x shapeCasts_S512x1024_S8x64x1024⟩,
    ⟨S8x64x1024, broadcastInDim S8x64x1024 ![] bcast_S_S8x64x1024 (constant S_ .f32 0x00000000#32)⟩] concatenates_S8x64x1024_S8x64x1024_S8x128x1024_d1) shapeCasts_S8x128x1024_S1024x1024

/-- The query weights with the halves outermost. -/
def packQ (x : FVec Ideal S1024x2048 .f32) : FVec Ideal S1024x2048 .f32 :=
  shapeCast S1024x2048 (transpose S1024x2x8x128 [0, 2, 1, 3] (shapeCast S1024x8x2x128 x shapeCasts_S1024x2048_S1024x8x2x128) transposes_S1024x8x2x128_S1024x2x8x128_0_2_1_3) shapeCasts_S1024x2x8x128_S1024x2048

/-- The first half's keys. -/
def packK1 (x : FVec Ideal S8x2x128x128 .f32) : FVec Ideal S8x128x128 .f32 :=
  shapeCast S8x128x128 (extractStridedSlice S8x1x128x128 ![0, 0, 0, 0] x slices_S8x2x128x128_S8x1x128x128_0_0_0_0) shapeCasts_S8x1x128x128_S8x128x128

/-- The second half's keys. -/
def packK2 (x : FVec Ideal S8x2x128x128 .f32) : FVec Ideal S8x128x128 .f32 :=
  shapeCast S8x128x128 (extractStridedSlice S8x1x128x128 ![0, 1, 0, 0] x slices_S8x2x128x128_S8x1x128x128_0_1_0_0) shapeCasts_S8x1x128x128_S8x128x128

/-- A packed lane of the first branch as a lane of its group. -/
theorem packY_cat (x : FVec Ideal S2x8192x512 .f32) (i : S16384x1024.Idx) (b : Fin 2) (R : Fin 8192) (h : Fin 8) (l : Fin 128)
    (h0 : (i 0).val = b.val * 8192 + R.val) (h1 : (i 1).val = h.val * 128 + l.val) :
    packY x i = concatenate S2x8192x8x128 3 [⟨S2x8192x8x64, shapeCast S2x8192x8x64 x shapeCasts_S2x8192x512_S2x8192x8x64⟩,
      ⟨S2x8192x8x64, broadcastInDim S2x8192x8x64 ![] bcast_S_S2x8192x8x64 (constant (F := Ideal) S_ .f32 0x00000000#32)⟩] concatenates_S2x8192x8x64_S2x8192x8x64_S2x8192x8x128_d3 (ix4 b R h l) := by
  unfold packY
  refine shapeCast_apply _ shapeCasts_S2x8192x8x128_S16384x1024 i (ix4 b R h l) ?_
  rw [Shape.rowMajor_val_four, Shape.rowMajor_val_two]
  show ((b.val * 8192 + R.val) * 8 + h.val) * 128 + l.val = (i 0).val * 1024 + (i 1).val
  omega

/-- The lower lanes hold the row. -/
theorem packY_lo (x : FVec Ideal S2x8192x512 .f32) (i : S16384x1024.Idx) (b : Fin 2) (R : Fin 8192) (h : Fin 8) (l : Fin 64)
    (h0 : (i 0).val = b.val * 8192 + R.val) (h1 : (i 1).val = h.val * 128 + l.val) :
    packY x i = x (ix3 b R (⟨h.val * 64 + l.val, by have := h.isLt; have := l.isLt; omega⟩ : Fin 512)) := by
  have hl := l.isLt
  refine (packY_cat x i b R h ⟨l.val, by omega⟩ h0 h1).trans ?_
  refine (concatenate_pair_apply_left (s₁ := S2x8192x8x64) (s₂ := S2x8192x8x64) _ _ _ _ (ix4 b R h (⟨l.val, by omega⟩ : Fin 128)) rfl (ix4 b R h l) (fun a => by
    match a with
    | ⟨0, _⟩ => rfl
    | ⟨1, _⟩ => rfl
    | ⟨2, _⟩ => rfl
    | ⟨3, _⟩ => rfl)).trans ?_
  refine shapeCast_apply x _ _ _ ?_
  rw [Shape.rowMajor_val_three, Shape.rowMajor_val_four]
  show (b.val * 8192 + R.val) * 512 + (h.val * 64 + l.val) = ((b.val * 8192 + R.val) * 8 + h.val) * 64 + l.val
  ring

/-- The upper lanes hold zero. -/
theorem packY_hi (x : FVec Ideal S2x8192x512 .f32) (i : S16384x1024.Idx) (b : Fin 2) (R : Fin 8192) (h : Fin 8) (l : Fin 64)
    (h0 : (i 0).val = b.val * 8192 + R.val) (h1 : (i 1).val = h.val * 128 + (64 + l.val)) : packY x i = 0 := by
  have hl := l.isLt
  refine (packY_cat x i b R h ⟨64 + l.val, by omega⟩ h0 h1).trans ?_
  refine (concatenate_pair_apply_right (s₁ := S2x8192x8x64) (s₂ := S2x8192x8x64) _ _ _ _ (ix4 b R h (⟨64 + l.val, by omega⟩ : Fin 128)) rfl rfl (ix4 b R h l) (fun a ha => by
    match a with
    | ⟨0, _⟩ => rfl
    | ⟨1, _⟩ => rfl
    | ⟨2, _⟩ => rfl
    | ⟨3, _⟩ => exact absurd rfl ha) (by show l.val + 64 = 64 + l.val; omega)).trans ?_
  exact Ideal.ofBits_zero_f32

/-- The lower rows of a group hold the weights. -/
theorem packW_lo (x : FVec Ideal S512x1024 .f32) (i : S1024x1024.Idx) (h : Fin 8) (l : Fin 64) (e : Fin 1024)
    (h0 : (i 0).val = h.val * 128 + l.val) (h1 : (i 1).val = e.val) :
    packW x i = x (ix2 (⟨h.val * 64 + l.val, by have := h.isLt; have := l.isLt; omega⟩ : Fin 512) e) := by
  have hl := l.isLt
  unfold packW
  refine (shapeCast_apply _ shapeCasts_S8x128x1024_S1024x1024 i (ix3 h (⟨l.val, by omega⟩ : Fin 128) e) ?_).trans ?_
  · rw [Shape.rowMajor_val_three, Shape.rowMajor_val_two]
    show (h.val * 128 + l.val) * 1024 + e.val = (i 0).val * 1024 + (i 1).val
    rw [h0, h1]
  refine (concatenate_pair_apply_left (s₁ := S8x64x1024) (s₂ := S8x64x1024) _ _ _ _ (ix3 h (⟨l.val, by omega⟩ : Fin 128) e) rfl (ix3 h l e) (fun a => by
    match a with
    | ⟨0, _⟩ => rfl
    | ⟨1, _⟩ => rfl
    | ⟨2, _⟩ => rfl)).trans ?_
  refine shapeCast_apply x _ _ _ ?_
  rw [Shape.rowMajor_val_three, Shape.rowMajor_val_two]
  rfl

/-- A query weight. -/
theorem packQ_apply (x : FVec Ideal S1024x2048 .f32) (i : S1024x2048.Idx) (d : Fin 1024) (p : Fin 2) (h : Fin 8) (e : Fin 128)
    (h0 : (i 0).val = d.val) (h1 : (i 1).val = p.val * 1024 + h.val * 128 + e.val) :
    packQ x i = x (ix2 d (⟨(h.val * 2 + p.val) * 128 + e.val, by have := h.isLt; have := p.isLt; have := e.isLt; omega⟩ : Fin 2048)) := by
  unfold packQ
  refine (shapeCast_apply _ shapeCasts_S1024x2x8x128_S1024x2048 i (ix4 d p h e) ?_).trans ?_
  · rw [Shape.rowMajor_val_four, Shape.rowMajor_val_two]
    show ((d.val * 2 + p.val) * 8 + h.val) * 128 + e.val = (i 0).val * 2048 + (i 1).val
    omega
  refine (transpose_apply _ _ transposes_S1024x8x2x128_S1024x2x8x128_0_2_1_3 (ix4 d p h e) (ix4 d h p e) fun b => ?_).trans ?_
  · match b with
    | ⟨0, _⟩ => rfl
    | ⟨1, _⟩ => rfl
    | ⟨2, _⟩ => rfl
    | ⟨3, _⟩ => rfl
  refine shapeCast_apply x _ _ _ ?_
  rw [Shape.rowMajor_val_four, Shape.rowMajor_val_two]
  show d.val * 2048 + ((h.val * 2 + p.val) * 128 + e.val) = ((d.val * 8 + h.val) * 2 + p.val) * 128 + e.val
  ring

/-- A first-half key. -/
theorem packK1_apply (x : FVec Ideal S8x2x128x128 .f32) (i : S8x128x128.Idx) (h : Fin 8) (n e : Fin 128)
    (h0 : (i 0).val = h.val) (h1 : (i 1).val = n.val) (h2 : (i 2).val = e.val) : packK1 x i = x (ix4 h 0 n e) := by
  unfold packK1
  refine (shapeCast_apply _ shapeCasts_S8x1x128x128_S8x128x128 i (ix4 h (0 : Fin 1) n e) ?_).trans ?_
  · rw [Shape.rowMajor_val_four, Shape.rowMajor_val_three]
    show ((h.val * 1 + 0) * 128 + n.val) * 128 + e.val = ((i 0).val * 128 + (i 1).val) * 128 + (i 2).val
    rw [h0, h1, h2]
    ring
  refine extractStridedSlice_apply _ x _ _ _ fun a => ?_
  match a with
  | ⟨0, _⟩ => show h.val = 0 + h.val; omega
  | ⟨1, _⟩ => rfl
  | ⟨2, _⟩ => show n.val = 0 + n.val; omega
  | ⟨3, _⟩ => show e.val = 0 + e.val; omega

/-- A second-half key. -/
theorem packK2_apply (x : FVec Ideal S8x2x128x128 .f32) (i : S8x128x128.Idx) (h : Fin 8) (n e : Fin 128)
    (h0 : (i 0).val = h.val) (h1 : (i 1).val = n.val) (h2 : (i 2).val = e.val) : packK2 x i = x (ix4 h 1 n e) := by
  unfold packK2
  refine (shapeCast_apply _ shapeCasts_S8x1x128x128_S8x128x128 i (ix4 h (0 : Fin 1) n e) ?_).trans ?_
  · rw [Shape.rowMajor_val_four, Shape.rowMajor_val_three]
    show ((h.val * 1 + 0) * 128 + n.val) * 128 + e.val = ((i 0).val * 128 + (i 1).val) * 128 + (i 2).val
    rw [h0, h1, h2]
    ring
  refine extractStridedSlice_apply _ x _ _ _ fun a => ?_
  match a with
  | ⟨0, _⟩ => show h.val = 0 + h.val; omega
  | ⟨1, _⟩ => rfl
  | ⟨2, _⟩ => show n.val = 0 + n.val; omega
  | ⟨3, _⟩ => show e.val = 0 + e.val; omega

/-! ## The arrays the windows read -/

/-- The residual stream a device is given. -/
abbrev arg0 (c : Dev nD) : FVec Ideal S2x8192x1024 .f32 := m ((c : Thread nD τ).loc main_arg0)

/-- The first branch a device is given. -/
abbrev arg1 (c : Dev nD) : FVec Ideal S2x8192x512 .f32 := m ((c : Thread nD τ).loc main_arg1)

/-- The second branch a device is given. -/
abbrev arg2 (c : Dev nD) : FVec Ideal S2x8192x512 .f32 := m ((c : Thread nD τ).loc main_arg2)

/-- The gates' inputs a device is given. -/
abbrev arg3 (c : Dev nD) : FVec Ideal S2x8192x2048 .f32 := m ((c : Thread nD τ).loc main_arg3)

/-- The first branch's weights a device is given. -/
abbrev arg4 (c : Dev nD) : FVec Ideal S512x1024 .f32 := m ((c : Thread nD τ).loc main_arg4)

/-- The second branch's weights a device is given. -/
abbrev arg5 (c : Dev nD) : FVec Ideal S512x1024 .f32 := m ((c : Thread nD τ).loc main_arg5)

/-- The output weights a device is given. -/
abbrev arg6 (c : Dev nD) : FVec Ideal S1024x1024 .f32 := m ((c : Thread nD τ).loc main_arg6)

/-- The norm's weights a device is given. -/
abbrev arg7 (c : Dev nD) : FVec Ideal S1024 .f32 := m ((c : Thread nD τ).loc main_arg7)

/-- The query weights a device is given. -/
abbrev arg8 (c : Dev nD) : FVec Ideal S1024x2048 .f32 := m ((c : Thread nD τ).loc main_arg8)

/-- The keys a device is given. -/
abbrev arg9 (c : Dev nD) : FVec Ideal S8x2x128x128 .f32 := m ((c : Thread nD τ).loc main_arg9)

/-- The array window 0 reads. -/
theorem V_v23 (c : Dev nD) : V m c main_v23 = shapeCast S16384x1024 (arg0 m c) shapeCasts_S2x8192x1024_S16384x1024 := by
  unfold V hostOps0
  after_results_simp
  rfl

/-- The array window 1 reads. -/
theorem V_v4 (c : Dev nD) : V m c main_v4 = (truncf .bf16 (packY (arg1 m c)) bitsLt_bf16_f32 : FVec Ideal S16384x1024 .bf16) := by
  unfold V hostOps0
  after_results_simp
  rfl

/-- The array window 2 reads. -/
theorem V_v25 (c : Dev nD) : V m c main_v25 = (truncf .bf16 (shapeCast S16384x512 (arg2 m c) shapeCasts_S2x8192x512_S16384x512) bitsLt_bf16_f32 : FVec Ideal S16384x512 .bf16) := by
  unfold V hostOps0
  after_results_simp
  rfl

/-- The array window 3 reads. -/
theorem V_v26 (c : Dev nD) : V m c main_v26 = shapeCast S16384x2048 (arg3 m c) shapeCasts_S2x8192x2048_S16384x2048 := by
  unfold V hostOps0
  after_results_simp
  rfl

/-- The array window 4 reads. -/
theorem V_v12 (c : Dev nD) : V m c main_v12 = (truncf .bf16 (packW (arg4 m c)) bitsLt_bf16_f32 : FVec Ideal S1024x1024 .bf16) := by
  unfold V hostOps0
  after_results_simp
  rfl

/-- The array window 5 reads. -/
theorem V_v13 (c : Dev nD) : V m c main_v13 = (truncf .bf16 (arg5 m c) bitsLt_bf16_f32 : FVec Ideal S512x1024 .bf16) := by
  unfold V hostOps0
  after_results_simp

/-- The array window 6 reads. -/
theorem V_v14 (c : Dev nD) : V m c main_v14 = (truncf .bf16 (arg6 m c) bitsLt_bf16_f32 : FVec Ideal S1024x1024 .bf16) := by
  unfold V hostOps0
  after_results_simp

/-- The array window 7 reads. -/
theorem V_v15 (c : Dev nD) : V m c main_v15 = shapeCast S1x1024 (arg7 m c) shapeCasts_S1024_S1x1024 := by
  unfold V hostOps0
  after_results_simp
  rfl

/-- The array window 8 reads. -/
theorem V_v16 (c : Dev nD) : V m c main_v16 = (truncf .bf16 (packQ (arg8 m c)) bitsLt_bf16_f32 : FVec Ideal S1024x2048 .bf16) := by
  unfold V hostOps0
  after_results_simp
  rfl

/-- The array window 9 reads. -/
theorem V_v19 (c : Dev nD) : V m c main_v19 = (truncf .bf16 (packK1 (arg9 m c)) bitsLt_bf16_f32 : FVec Ideal S8x128x128 .bf16) := by
  unfold V hostOps0
  after_results_simp
  rfl

/-- The array window 10 reads. -/
theorem V_v22 (c : Dev nD) : V m c main_v22 = (truncf .bf16 (packK2 (arg9 m c)) bitsLt_bf16_f32 : FVec Ideal S8x128x128 .bf16) := by
  unfold V hostOps0
  after_results_simp
  rfl

end Cert.MergeIdeal.Merge

end
-- ==== Proof.MergeRef.lean ====
/- The merge reference's results at one element. -/
module

public import proofs.«01_k».proof.Proof.MergeRow
public import proofs.«01_k».proof.Proof.Gen.MergeReferenceIdeal.Read
public import Idealize.ShloMosaic.Lib.ValueIdx
public import Idealize.ShloMosaic.PureOps.Ideal.Laws

@[expose] public section

set_option maxRecDepth 16384

noncomputable section

namespace Cert.MergeRef

open Cert.MergeReferenceIdeal Cert.MergeReferenceIdeal.Gen Cert.MergeReferenceIdeal.Read Cert.MergeRow
open Idealize.ShloMosaic Idealize.ShloMosaic.ValueIdx
open scoped BigOperators

/-- The word of one. -/
theorem one_word : Ideal.ofBits .f32 0x3F800000#32 = 1 := by
  simp [Ideal.ofBits, Ideal.ieee]
  rw [← EReal.coe_mul, ← EReal.coe_one]
  norm_num

variable (x0 : FVec Ideal S2x8192x1024 .f32) (x1 x2 : FVec Ideal S2x8192x512 .f32) (x3 : FVec Ideal S2x8192x2048 .f32)
  (x4 x5 : FVec Ideal S512x1024 .f32) (x6 : FVec Ideal S1024x1024 .f32) (x7 : FVec Ideal S1024 .f32) (x8 : FVec Ideal S1024x2048 .f32)
  (x9 : FVec Ideal S8x2x128x128 .f32)

/-- The residual row of a token. -/
def yt (b : Fin 2) (R : Fin 8192) : Fin 1024 → EReal :=
  res (fun d => x0 (ix3 b R d)) (fun e => x3 (ix3 b R (⟨e.val, by have := e.isLt; omega⟩ : Fin 2048))) (fun e => x3 (ix3 b R (⟨1024 + e.val, by have := e.isLt; omega⟩ : Fin 2048)))
    (fun e => ∑ c : Fin 512, x1 (ix3 b R c) * x4 (ix2 c e)) (fun e => ∑ c : Fin 512, x2 (ix3 b R c) * x5 (ix2 c e)) (fun e d => x6 (ix2 e d))

/-- The normed row of a token. -/
def ht (b : Fin 2) (R : Fin 8192) : Fin 1024 → EReal := nrm (yt x0 x1 x2 x3 x4 x5 x6 b R) (fun k => x7 (ix1 k))

/-- A token's score of key `n` of half `p` of head `h`. -/
def st (b : Fin 2) (R : Fin 8192) (h : Fin 8) (p : Fin 2) (n : Fin 128) : EReal :=
  scr (ht x0 x1 x2 x3 x4 x5 x6 x7 b R) (fun d e => x8 (ix2 d (⟨(h.val * 2 + p.val) * 128 + e.val, by have := h.isLt; have := p.isLt; have := e.isLt; omega⟩ : Fin 2048))) (fun e => x9 (ix4 h p n e))

/-- A gate: the sigmoid of its input. -/
theorem v5_apply (i : S2x8192x2048.Idx) : val_main_v5 (F := Ideal) x3 i = Ideal.logistic (x3 i) := by
  rw [val_main_v5_apply, val_main_v4_apply, val_main_v3_apply, val_main_v2_apply, val_main_v1_apply, val_main_v0_apply, val_main_cst_apply, val_main_cst_0_apply]
  show Ideal.div (Ideal.ofBits .f32 0x3F800000#32) (Ideal.ofBits .f32 0x3F800000#32 + Ideal.exp (-(x3 i))) = _
  rw [one_word]
  rfl

/-- The first branch's gate. -/
theorem v8_apply (b : Fin 2) (R : Fin 8192) (e : Fin 1024) :
    val_main_v8 (F := Ideal) x3 (ix3 b R e) = Ideal.logistic (x3 (ix3 b R (⟨e.val, by have := e.isLt; omega⟩ : Fin 2048))) := by
  rw [val_main_v8_apply, val_main_v7_apply, val_main_v6_apply, v5_apply]
  refine congrArg (fun i => Ideal.logistic (x3 i)) ?_
  have := b.isLt; have := R.isLt; have := e.isLt
  funext a
  apply Fin.ext
  match a with
  | ⟨0, _⟩ => simp [idx_main_v6, idx_main_v7, idx_main_v8, ix3]; omega
  | ⟨1, _⟩ => simp [idx_main_v6, idx_main_v7, idx_main_v8, ix3]; omega
  | ⟨2, _⟩ => simp [idx_main_v6, idx_main_v7, idx_main_v8, ix3]; omega

/-- The second branch's gate. -/
theorem v12_apply (b : Fin 2) (R : Fin 8192) (e : Fin 1024) :
    val_main_v12 (F := Ideal) x3 (ix3 b R e) = Ideal.logistic (x3 (ix3 b R (⟨1024 + e.val, by have := e.isLt; omega⟩ : Fin 2048))) := by
  rw [val_main_v12_apply, val_main_v11_apply, val_main_v6_apply, v5_apply]
  refine congrArg (fun i => Ideal.logistic (x3 i)) ?_
  have := b.isLt; have := R.isLt; have := e.isLt
  funext a
  apply Fin.ext
  match a with
  | ⟨0, _⟩ => simp [idx_main_v6, idx_main_v11, idx_main_v12, ix3]; omega
  | ⟨1, _⟩ => simp [idx_main_v6, idx_main_v11, idx_main_v12, ix3]; omega
  | ⟨2, _⟩ => simp [idx_main_v6, idx_main_v11, idx_main_v12, ix3]; omega

/-- The first branch's product. -/
theorem v9_apply (b : Fin 2) (R : Fin 8192) (e : Fin 1024) :
    val_main_v9 (F := Ideal) x1 x4 (ix3 b R e) = ∑ c : Fin 512, x1 (ix3 b R c) * x4 (ix2 c e) := by
  rw [val_main_v9_apply]
  refine Finset.sum_congr rfl fun c _ => congrArg₂ (· * ·) (congrArg x1 ?_) (congrArg x4 ?_)
  · funext a
    match a with
    | ⟨0, _⟩ => rfl
    | ⟨1, _⟩ => rfl
    | ⟨2, _⟩ => rfl
  · funext a
    match a with
    | ⟨0, _⟩ => rfl
    | ⟨1, _⟩ => rfl

/-- The second branch's product. -/
theorem v13_apply (b : Fin 2) (R : Fin 8192) (e : Fin 1024) :
    val_main_v13 (F := Ideal) x2 x5 (ix3 b R e) = ∑ c : Fin 512, x2 (ix3 b R c) * x5 (ix2 c e) := by
  rw [val_main_v13_apply]
  refine Finset.sum_congr rfl fun c _ => congrArg₂ (· * ·) (congrArg x2 ?_) (congrArg x5 ?_)
  · funext a
    match a with
    | ⟨0, _⟩ => rfl
    | ⟨1, _⟩ => rfl
    | ⟨2, _⟩ => rfl
  · funext a
    match a with
    | ⟨0, _⟩ => rfl
    | ⟨1, _⟩ => rfl

/-- The residual sum. -/
theorem v17_apply (b : Fin 2) (R : Fin 8192) (d : Fin 1024) :
    val_main_v17 (F := Ideal) x0 x1 x2 x3 x4 x5 x6 (ix3 b R d) = yt x0 x1 x2 x3 x4 x5 x6 b R d := by
  rw [val_main_v17_apply, val_main_v16_apply]
  unfold yt res
  refine congrArg (fun z : EReal => x0 (ix3 b R d) + z) (Finset.sum_congr rfl fun e _ => congrArg₂ (· * ·) ?_ (congrArg x6 ?_))
  · have hi : lidx_main_v16 (ix3 b R d) e = ix3 b R e := by
      funext a
      match a with
      | ⟨0, _⟩ => rfl
      | ⟨1, _⟩ => rfl
      | ⟨2, _⟩ => rfl
    rw [hi, val_main_v15_apply, val_main_v10_apply, val_main_v14_apply, v8_apply, v9_apply, v12_apply, v13_apply]
    rfl
  · funext a
    match a with
    | ⟨0, _⟩ => rfl
    | ⟨1, _⟩ => rfl

/-- The mean square's root, inverted. -/
theorem v25_apply (b : Fin 2) (R : Fin 8192) (u : Fin 1) :
    val_main_v25 (F := Ideal) x0 x1 x2 x3 x4 x5 x6 (ix3 b R u)
      = Ideal.rsqrt (Ideal.div (∑ k : Fin 1024, yt x0 x1 x2 x3 x4 x5 x6 b R k * yt x0 x1 x2 x3 x4 x5 x6 b R k) (Ideal.ofBits .f32 0x44800000#32) + Ideal.ofBits .f32 0x358637BD#32) := by
  rw [val_main_v25_apply, val_main_v24_apply, val_main_v22_apply, val_main_v20_apply, val_main_v21_apply, val_main_v23_apply, val_main_v19_apply,
    val_main_cst_2_apply, val_main_cst_3_apply, val_main_cst_1_apply]
  have hs : (∑ k : Fin 1024, val_main_v18 (F := Ideal) x0 x1 x2 x3 x4 x5 x6 (idx_main_v19 (idx_main_v20 (ix3 b R u)) k)) = ∑ k : Fin 1024, yt x0 x1 x2 x3 x4 x5 x6 b R k * yt x0 x1 x2 x3 x4 x5 x6 b R k :=
    Finset.sum_congr rfl fun k _ => by
      have hi : idx_main_v19 (idx_main_v20 (ix3 b R u)) k = ix3 b R k := by
        funext a
        match a with
        | ⟨0, _⟩ => rfl
        | ⟨1, _⟩ => rfl
        | ⟨2, _⟩ => rfl
      rw [hi, val_main_v18_apply, v17_apply]
      rfl
  rw [hs]
  show Ideal.rsqrt (Ideal.div (Ideal.ofBits .f32 0x00000000#32 + _) _ + _) = _
  rw [Ideal.ofBits_zero_f32, zero_add]
  rfl

/-- The normed row. -/
theorem v30_apply (b : Fin 2) (R : Fin 8192) (d : Fin 1024) :
    val_main_v30 (F := Ideal) x0 x1 x2 x3 x4 x5 x6 x7 (ix3 b R d) = ht x0 x1 x2 x3 x4 x5 x6 x7 b R d := by
  have hi : idx_main_v26 (ix3 b R d) = ix3 b R (0 : Fin 1) := by
    funext a
    match a with
    | ⟨0, _⟩ => rfl
    | ⟨1, _⟩ => rfl
    | ⟨2, _⟩ => rfl
  have hg : idx_main_v28 (idx_main_v29 (ix3 b R d)) = ix1 d := by
    funext a
    match a with
    | ⟨0, _⟩ => rfl
  rw [val_main_v30_apply, val_main_v27_apply, val_main_v29_apply, val_main_v28_apply, val_main_v26_apply, hi, v25_apply, v17_apply, hg]
  rfl

/-- The normed row, the tokens in one axis. -/
theorem v31_apply (i : S16384x1024.Idx) (b : Fin 2) (R : Fin 8192) (d : Fin 1024) (h0 : (i 0).val = b.val * 8192 + R.val) (h1 : (i 1).val = d.val) :
    val_main_v31 (F := Ideal) x0 x1 x2 x3 x4 x5 x6 x7 i = ht x0 x1 x2 x3 x4 x5 x6 x7 b R d := by
  rw [← v30_apply]
  unfold val_main_v31
  generalize val_main_v30 (F := Ideal) x0 x1 x2 x3 x4 x5 x6 x7 = y
  refine shapeCast_apply y _ i (ix3 b R d) ?_
  rw [Shape.rowMajor_val_three, Shape.rowMajor_val_two]
  show (b.val * 8192 + R.val) * 1024 + d.val = (i 0).val * 1024 + (i 1).val
  omega

/-- The first result. -/
theorem v40_apply (i : S16384x1024.Idx) (b : Fin 2) (R : Fin 8192) (d : Fin 1024) (h0 : (i 0).val = b.val * 8192 + R.val) (h1 : (i 1).val = d.val) :
    val_main_v40 (F := Ideal) x0 x1 x2 x3 x4 x5 x6 i = yt x0 x1 x2 x3 x4 x5 x6 b R d := by
  rw [← v17_apply]
  unfold val_main_v40
  generalize val_main_v17 (F := Ideal) x0 x1 x2 x3 x4 x5 x6 = y
  refine shapeCast_apply y _ i (ix3 b R d) ?_
  rw [Shape.rowMajor_val_three, Shape.rowMajor_val_two]
  show (b.val * 8192 + R.val) * 1024 + d.val = (i 0).val * 1024 + (i 1).val
  omega

/-- The second result. -/
theorem v42_apply (i : S1024x16384.Idx) (b : Fin 2) (R : Fin 8192) (d : Fin 1024) (h0 : (i 0).val = d.val) (h1 : (i 1).val = b.val * 8192 + R.val) :
    val_main_v42 (F := Ideal) x0 x1 x2 x3 x4 x5 x6 x7 i = ht x0 x1 x2 x3 x4 x5 x6 x7 b R d := by
  rw [val_main_v42_apply, val_main_v41_apply]
  exact v31_apply x0 x1 x2 x3 x4 x5 x6 x7 (idx_main_v41 i) b R d h1 h0

/-- The queries. -/
theorem v32_apply (i : S16384x2048.Idx) (b : Fin 2) (R : Fin 8192) (c : Fin 2048) (h0 : (i 0).val = b.val * 8192 + R.val) (h1 : (i 1).val = c.val) :
    val_main_v32 (F := Ideal) x0 x1 x2 x3 x4 x5 x6 x7 x8 i = ∑ d : Fin 1024, ht x0 x1 x2 x3 x4 x5 x6 x7 b R d * x8 (ix2 d c) := by
  rw [val_main_v32_apply]
  refine Finset.sum_congr rfl fun d _ => congrArg₂ (· * ·) (v31_apply x0 x1 x2 x3 x4 x5 x6 x7 _ b R d h0 rfl) (congrArg x8 ?_)
  funext a
  apply Fin.ext
  match a with
  | ⟨0, _⟩ => rfl
  | ⟨1, _⟩ => exact h1

/-- The scores, before they are laid out. -/
theorem v34_apply (i : S8x2x128x16384.Idx) (b : Fin 2) (R : Fin 8192) (h : Fin 8) (p : Fin 2) (n : Fin 128)
    (h0 : (i 0).val = h.val) (h1 : (i 1).val = p.val) (h2 : (i 2).val = n.val) (h3 : (i 3).val = b.val * 8192 + R.val) :
    val_main_v34 (F := Ideal) x0 x1 x2 x3 x4 x5 x6 x7 x8 x9 i = st x0 x1 x2 x3 x4 x5 x6 x7 x8 x9 b R h p n := by
  rw [val_main_v34_apply]
  unfold st scr
  refine Finset.sum_congr rfl fun e _ => congrArg₂ (· * ·) (congrArg x9 ?_) ?_
  · funext a
    apply Fin.ext
    match a with
    | ⟨0, _⟩ => exact h0
    | ⟨1, _⟩ => exact h1
    | ⟨2, _⟩ => exact h2
    | ⟨3, _⟩ => rfl
  · rw [← v32_apply x0 x1 x2 x3 x4 x5 x6 x7 x8 (ix2 (⟨b.val * 8192 + R.val, by have := b.isLt; have := R.isLt; omega⟩ : Fin 16384)
      (⟨(h.val * 2 + p.val) * 128 + e.val, by have := h.isLt; have := p.isLt; have := e.isLt; omega⟩ : Fin 2048)) b R _ rfl rfl]
    unfold val_main_v33
    generalize val_main_v32 (F := Ideal) x0 x1 x2 x3 x4 x5 x6 x7 x8 = y
    refine shapeCast_apply y _ _ _ ?_
    rw [Shape.rowMajor_val_two, Shape.rowMajor_val_four]
    show (b.val * 8192 + R.val) * 2048 + ((h.val * 2 + p.val) * 128 + e.val) = (((i 3).val * 8 + (i 0).val) * 2 + (i 1).val) * 128 + e.val
    rw [h0, h1, h3]
    ring

/-- The first half's scores. -/
theorem v37_apply (i : S16384x8x128.Idx) (b : Fin 2) (R : Fin 8192) (h : Fin 8) (n : Fin 128)
    (h0 : (i 0).val = b.val * 8192 + R.val) (h1 : (i 1).val = h.val) (h2 : (i 2).val = n.val) :
    val_main_v37 (F := Ideal) x0 x1 x2 x3 x4 x5 x6 x7 x8 x9 i = st x0 x1 x2 x3 x4 x5 x6 x7 x8 x9 b R h 0 n := by
  have e : val_main_v37 (F := Ideal) x0 x1 x2 x3 x4 x5 x6 x7 x8 x9 i = val_main_v36 (F := Ideal) x0 x1 x2 x3 x4 x5 x6 x7 x8 x9 (ix4 (⟨b.val * 8192 + R.val, by have := b.isLt; have := R.isLt; omega⟩ : Fin 16384) h (0 : Fin 1) n) := by
    unfold val_main_v37
    generalize val_main_v36 (F := Ideal) x0 x1 x2 x3 x4 x5 x6 x7 x8 x9 = y
    refine shapeCast_apply y _ _ _ ?_
    rw [Shape.rowMajor_val_three, Shape.rowMajor_val_four]
    show ((((b.val * 8192 + R.val) * 8 + h.val) * 1 + 0) * 128 + n.val) = ((i 0).val * 8 + (i 1).val) * 128 + (i 2).val
    omega
  rw [e, val_main_v36_apply, val_main_v35_apply]
  exact v34_apply x0 x1 x2 x3 x4 x5 x6 x7 x8 x9 _ b R h 0 n rfl rfl rfl rfl

/-- The second half's scores. -/
theorem v39_apply (i : S16384x8x128.Idx) (b : Fin 2) (R : Fin 8192) (h : Fin 8) (n : Fin 128)
    (h0 : (i 0).val = b.val * 8192 + R.val) (h1 : (i 1).val = h.val) (h2 : (i 2).val = n.val) :
    val_main_v39 (F := Ideal) x0 x1 x2 x3 x4 x5 x6 x7 x8 x9 i = st x0 x1 x2 x3 x4 x5 x6 x7 x8 x9 b R h 1 n := by
  have e : val_main_v39 (F := Ideal) x0 x1 x2 x3 x4 x5 x6 x7 x8 x9 i = val_main_v38 (F := Ideal) x0 x1 x2 x3 x4 x5 x6 x7 x8 x9 (ix4 (⟨b.val * 8192 + R.val, by have := b.isLt; have := R.isLt; omega⟩ : Fin 16384) h (0 : Fin 1) n) := by
    unfold val_main_v39
    generalize val_main_v38 (F := Ideal) x0 x1 x2 x3 x4 x5 x6 x7 x8 x9 = y
    refine shapeCast_apply y _ _ _ ?_
    rw [Shape.rowMajor_val_three, Shape.rowMajor_val_four]
    show ((((b.val * 8192 + R.val) * 8 + h.val) * 1 + 0) * 128 + n.val) = ((i 0).val * 8 + (i 1).val) * 128 + (i 2).val
    omega
  rw [e, val_main_v38_apply, val_main_v35_apply]
  exact v34_apply x0 x1 x2 x3 x4 x5 x6 x7 x8 x9 _ b R h 1 n rfl rfl rfl rfl

/-- The third result: the first half's scores, heads innermost. -/
theorem v44_apply (i : S1024x16384.Idx) (b : Fin 2) (R : Fin 8192) (h : Fin 8) (n : Fin 128)
    (h0 : (i 0).val = n.val * 8 + h.val) (h1 : (i 1).val = b.val * 8192 + R.val) :
    val_main_v44 (F := Ideal) x0 x1 x2 x3 x4 x5 x6 x7 x8 x9 i = st x0 x1 x2 x3 x4 x5 x6 x7 x8 x9 b R h 0 n := by
  have e : val_main_v44 (F := Ideal) x0 x1 x2 x3 x4 x5 x6 x7 x8 x9 i = val_main_v43 (F := Ideal) x0 x1 x2 x3 x4 x5 x6 x7 x8 x9 (ix3 n h (⟨b.val * 8192 + R.val, by have := b.isLt; have := R.isLt; omega⟩ : Fin 16384)) := by
    unfold val_main_v44
    generalize val_main_v43 (F := Ideal) x0 x1 x2 x3 x4 x5 x6 x7 x8 x9 = y
    refine shapeCast_apply y _ _ _ ?_
    rw [Shape.rowMajor_val_two, Shape.rowMajor_val_three]
    show (n.val * 8 + h.val) * 16384 + (b.val * 8192 + R.val) = (i 0).val * 16384 + (i 1).val
    rw [h0, h1]
  rw [e, val_main_v43_apply]
  exact v37_apply x0 x1 x2 x3 x4 x5 x6 x7 x8 x9 _ b R h n rfl rfl rfl

/-- The fourth result: the second half's scores, heads innermost. -/
theorem v46_apply (i : S1024x16384.Idx) (b : Fin 2) (R : Fin 8192) (h : Fin 8) (n : Fin 128)
    (h0 : (i 0).val = n.val * 8 + h.val) (h1 : (i 1).val = b.val * 8192 + R.val) :
    val_main_v46 (F := Ideal) x0 x1 x2 x3 x4 x5 x6 x7 x8 x9 i = st x0 x1 x2 x3 x4 x5 x6 x7 x8 x9 b R h 1 n := by
  have e : val_main_v46 (F := Ideal) x0 x1 x2 x3 x4 x5 x6 x7 x8 x9 i = val_main_v45 (F := Ideal) x0 x1 x2 x3 x4 x5 x6 x7 x8 x9 (ix3 n h (⟨b.val * 8192 + R.val, by have := b.isLt; have := R.isLt; omega⟩ : Fin 16384)) := by
    unfold val_main_v46
    generalize val_main_v45 (F := Ideal) x0 x1 x2 x3 x4 x5 x6 x7 x8 x9 = y
    refine shapeCast_apply y _ _ _ ?_
    rw [Shape.rowMajor_val_two, Shape.rowMajor_val_three]
    show (n.val * 8 + h.val) * 16384 + (b.val * 8192 + R.val) = (i 0).val * 16384 + (i 1).val
    rw [h0, h1]
  rw [e, val_main_v45_apply]
  exact v39_apply x0 x1 x2 x3 x4 x5 x6 x7 x8 x9 _ b R h n rfl rfl rfl

/-- The fifth result: the second half's scores, heads outermost. -/
theorem v47_apply (i : S8x128x16384.Idx) (b : Fin 2) (R : Fin 8192) (h : Fin 8) (n : Fin 128)
    (h0 : (i 0).val = h.val) (h1 : (i 1).val = n.val) (h2 : (i 2).val = b.val * 8192 + R.val) :
    val_main_v47 (F := Ideal) x0 x1 x2 x3 x4 x5 x6 x7 x8 x9 i = st x0 x1 x2 x3 x4 x5 x6 x7 x8 x9 b R h 1 n := by
  rw [val_main_v47_apply]
  exact v39_apply x0 x1 x2 x3 x4 x5 x6 x7 x8 x9 _ b R h n h2 h0 h1

end Cert.MergeRef

end
-- ==== Proof.MergeBlocks.lean ====
/- The blocks of the merge call at a grid point: the tokens its rows hold, and the reference's elements it writes. -/
module

public import proofs.«01_k».proof.Proof.MergePack
public import proofs.«01_k».proof.Proof.MergeRef

@[expose] public section

set_option maxRecDepth 16384

noncomputable section

namespace Cert.MergeIdeal.Merge

open Cert.MergeIdeal Cert.MergeIdeal.Gen Cert.MergeRow
open Idealize.ShloMosaic Idealize.ShloMosaic.TcCoe Idealize.ShloMosaic.ValueIdx
open scoped BigOperators

/-! ## A block's rows and the reference's -/

section Bridge

variable (x0 : Vec Ideal S512x1024 .f32) (x1 : Vec Ideal S512x1024 .bf16) (x2 : Vec Ideal S512x512 .bf16) (x3 : Vec Ideal S512x2048 .f32)
    (x4 : Vec Ideal S1024x1024 .bf16) (x5 : Vec Ideal S512x1024 .bf16) (x6 : Vec Ideal S1024x1024 .bf16) (x7 : Vec Ideal S1x1024 .f32)
    (x8 : Vec Ideal S1024x2048 .bf16) (x9 : Vec Ideal S8x128x128 .bf16) (x10 : Vec Ideal S8x128x128 .bf16)
    (a0 : FVec Ideal S2x8192x1024 .f32) (a1 a2 : FVec Ideal S2x8192x512 .f32) (a3 : FVec Ideal S2x8192x2048 .f32)
    (a4 a5 : FVec Ideal S512x1024 .f32) (a6 : FVec Ideal S1024x1024 .f32) (a7 : FVec Ideal S1024 .f32) (a8 : FVec Ideal S1024x2048 .f32)
    (a9 : FVec Ideal S8x2x128x128 .f32)

/-- The row `r` of a grid point's blocks holds token `R` of batch `b`, and the whole-array blocks hold the weights. -/
structure Holds (b : Fin 2) (R : Fin 8192) (r : Fin 512) : Prop where
  h0 : ∀ d : Fin 1024, x0 (ix2 r d) = a0 (ix3 b R d)
  h1 : ∀ (h : Fin 8) (l : Fin 64), x1 (ix2 r (⟨h.val * 128 + l.val, by have := h.isLt; have := l.isLt; omega⟩ : Fin 1024)) = a1 (ix3 b R (⟨h.val * 64 + l.val, by have := h.isLt; have := l.isLt; omega⟩ : Fin 512))
  h1z : ∀ (h : Fin 8) (l : Fin 64), x1 (ix2 r (⟨h.val * 128 + (64 + l.val), by have := h.isLt; have := l.isLt; omega⟩ : Fin 1024)) = (0 : EReal)
  h2 : ∀ d : Fin 512, x2 (ix2 r d) = a2 (ix3 b R d)
  h3 : ∀ d : Fin 2048, x3 (ix2 r d) = a3 (ix3 b R d)
  h4 : ∀ (h : Fin 8) (l : Fin 64) (e : Fin 1024), x4 (ix2 (⟨h.val * 128 + l.val, by have := h.isLt; have := l.isLt; omega⟩ : Fin 1024) e) = a4 (ix2 (⟨h.val * 64 + l.val, by have := h.isLt; have := l.isLt; omega⟩ : Fin 512) e)
  h5 : ∀ (d : Fin 512) (e : Fin 1024), x5 (ix2 d e) = a5 (ix2 d e)
  h6 : ∀ d e : Fin 1024, x6 (ix2 d e) = a6 (ix2 d e)
  h7 : ∀ k : Fin 1024, x7 (ix2 0 k) = a7 (ix1 k)
  h8 : ∀ (d : Fin 1024) (p : Fin 2) (h : Fin 8) (e : Fin 128) (k : Fin 2048), k.val = p.val * 1024 + h.val * 128 + e.val →
    x8 (ix2 d k) = a8 (ix2 d (⟨(h.val * 2 + p.val) * 128 + e.val, by have := h.isLt; have := p.isLt; have := e.isLt; omega⟩ : Fin 2048))
  h9 : ∀ (h : Fin 8) (n e : Fin 128), x9 (ix3 h n e) = a9 (ix4 h 0 n e)
  h10 : ∀ (h : Fin 8) (n e : Fin 128), x10 (ix3 h n e) = a9 (ix4 h 1 n e)

variable {x0 x1 x2 x3 x4 x5 x6 x7 x8 x9 x10 a0 a1 a2 a3 a4 a5 a6 a7 a8 a9} {b : Fin 2} {R : Fin 8192} {r : Fin 512}

/-- The residual rows are equal. -/
theorem Holds.y (H : Holds x0 x1 x2 x3 x4 x5 x6 x7 x8 x9 x10 a0 a1 a2 a3 a4 a5 a6 a7 a8 a9 b R r) :
    yb x0 x1 x2 x3 x4 x5 x6 r = Cert.MergeRef.yt a0 a1 a2 a3 a4 a5 a6 b R := by
  have e0 : (fun d : Fin 1024 => (x0 (ix2 r d) : EReal)) = fun d => a0 (ix3 b R d) := funext H.h0
  have e1 : (fun e : Fin 1024 => (∑ c : Fin 1024, x1 (ix2 r c) * x4 (ix2 c e) : EReal)) = fun e => ∑ c : Fin 512, a1 (ix3 b R c) * a4 (ix2 c e) :=
    funext fun e => sum_lanes (fun c => x1 (ix2 r c) * x4 (ix2 c e)) (fun c => a1 (ix3 b R c) * a4 (ix2 c e))
      (fun h l => congrArg₂ (fun u v : EReal => u * v) (H.h1 h l) (H.h4 h l e))
      (fun h l => (congrArg (fun u : EReal => u * _) (H.h1z h l)).trans (zero_mul _))
  have e2 : (fun e : Fin 1024 => (∑ c : Fin 512, x2 (ix2 r c) * x5 (ix2 c e) : EReal)) = fun e => ∑ c : Fin 512, a2 (ix3 b R c) * a5 (ix2 c e) :=
    funext fun e => Finset.sum_congr rfl fun c _ => congrArg₂ (fun u v : EReal => u * v) (H.h2 c) (H.h5 c e)
  have e3 : (fun e : Fin 1024 => (x3 (ix2 r (⟨e.val, by have := e.isLt; omega⟩ : Fin 2048)) : EReal)) = fun e => a3 (ix3 b R (⟨e.val, by have := e.isLt; omega⟩ : Fin 2048)) :=
    funext fun e => H.h3 _
  have e4 : (fun e : Fin 1024 => (x3 (ix2 r (⟨1024 + e.val, by have := e.isLt; omega⟩ : Fin 2048)) : EReal)) = fun e => a3 (ix3 b R (⟨1024 + e.val, by have := e.isLt; omega⟩ : Fin 2048)) :=
    funext fun e => H.h3 _
  have e6 : (fun e d : Fin 1024 => (x6 (ix2 e d) : EReal)) = fun e d => a6 (ix2 e d) := funext fun e => funext fun d => H.h6 e d
  unfold yb Cert.MergeRef.yt
  rw [e0, e1, e2, e3, e4, e6]

/-- The normed rows are equal. -/
theorem Holds.n (H : Holds x0 x1 x2 x3 x4 x5 x6 x7 x8 x9 x10 a0 a1 a2 a3 a4 a5 a6 a7 a8 a9 b R r) :
    hb x0 x1 x2 x3 x4 x5 x6 x7 r = Cert.MergeRef.ht a0 a1 a2 a3 a4 a5 a6 a7 b R := by
  have e7 : (fun k : Fin 1024 => (x7 (ix2 0 k) : EReal)) = fun k => a7 (ix1 k) := funext H.h7
  unfold hb Cert.MergeRef.ht
  rw [H.y, e7]

/-- The first half's scores are equal. -/
theorem Holds.s1 (H : Holds x0 x1 x2 x3 x4 x5 x6 x7 x8 x9 x10 a0 a1 a2 a3 a4 a5 a6 a7 a8 a9 b R r) (h : Fin 8) (n : Fin 128) (ho : h.val * 128 + 128 ≤ 2048) :
    sb x0 x1 x2 x3 x4 x5 x6 x7 x8 x9 r h n (h.val * 128) ho = Cert.MergeRef.st a0 a1 a2 a3 a4 a5 a6 a7 a8 a9 b R h 0 n := by
  unfold sb Cert.MergeRef.st
  rw [H.n]
  refine congrArg₂ (scr _) (funext fun d => funext fun e => H.h8 d 0 h e _ ?_) (funext fun e => H.h9 h n e)
  show h.val * 128 + e.val = 0 * 1024 + h.val * 128 + e.val
  omega

/-- The second half's scores are equal. -/
theorem Holds.s2 (H : Holds x0 x1 x2 x3 x4 x5 x6 x7 x8 x9 x10 a0 a1 a2 a3 a4 a5 a6 a7 a8 a9 b R r) (h : Fin 8) (n : Fin 128) (ho : 1024 + h.val * 128 + 128 ≤ 2048) :
    sb x0 x1 x2 x3 x4 x5 x6 x7 x8 x10 r h n (1024 + h.val * 128) ho = Cert.MergeRef.st a0 a1 a2 a3 a4 a5 a6 a7 a8 a9 b R h 1 n := by
  unfold sb Cert.MergeRef.st
  rw [H.n]
  refine congrArg₂ (scr _) (funext fun d => funext fun e => H.h8 d 1 h e _ ?_) (funext fun e => H.h10 h n e)
  show 1024 + h.val * 128 + e.val = 1 * 1024 + h.val * 128 + e.val
  omega

end Bridge

variable (m : (ℓ : Loc nD τ sig) → Buf (Elt Ideal) ℓ)

/-! ## The blocks a grid point reads -/

/-- Window 0's block index. -/
theorem index0 : ∀ t : Fin cfg0.N, win0_0.index t = ![(grid0.coords t 0).val, 0] :=
  (by decide +kernel : ∀ t : Fin grid0.N, win0_0.index t = ![(grid0.coords t 0).val, 0])

/-- Window 1's block index. -/
theorem index1 : ∀ t : Fin cfg0.N, win0_1.index t = ![(grid0.coords t 0).val, 0] :=
  (by decide +kernel : ∀ t : Fin grid0.N, win0_1.index t = ![(grid0.coords t 0).val, 0])

/-- Window 2's block index. -/
theorem index2 : ∀ t : Fin cfg0.N, win0_2.index t = ![(grid0.coords t 0).val, 0] :=
  (by decide +kernel : ∀ t : Fin grid0.N, win0_2.index t = ![(grid0.coords t 0).val, 0])

/-- Window 3's block index. -/
theorem index3 : ∀ t : Fin cfg0.N, win0_3.index t = ![(grid0.coords t 0).val, 0] :=
  (by decide +kernel : ∀ t : Fin grid0.N, win0_3.index t = ![(grid0.coords t 0).val, 0])

/-- Window 4's block index. -/
theorem index4 : ∀ t : Fin cfg0.N, win0_4.index t = ![0, 0] :=
  (by decide +kernel : ∀ t : Fin grid0.N, win0_4.index t = ![0, 0])

/-- Window 5's block index. -/
theorem index5 : ∀ t : Fin cfg0.N, win0_5.index t = ![0, 0] :=
  (by decide +kernel : ∀ t : Fin grid0.N, win0_5.index t = ![0, 0])

/-- Window 6's block index. -/
theorem index6 : ∀ t : Fin cfg0.N, win0_6.index t = ![0, 0] :=
  (by decide +kernel : ∀ t : Fin grid0.N, win0_6.index t = ![0, 0])

/-- Window 7's block index. -/
theorem index7 : ∀ t : Fin cfg0.N, win0_7.index t = ![0, 0] :=
  (by decide +kernel : ∀ t : Fin grid0.N, win0_7.index t = ![0, 0])

/-- Window 8's block index. -/
theorem index8 : ∀ t : Fin cfg0.N, win0_8.index t = ![0, 0] :=
  (by decide +kernel : ∀ t : Fin grid0.N, win0_8.index t = ![0, 0])

/-- Window 9's block index. -/
theorem index9 : ∀ t : Fin cfg0.N, win0_9.index t = ![0, 0, 0] :=
  (by decide +kernel : ∀ t : Fin grid0.N, win0_9.index t = ![0, 0, 0])

/-- Window 10's block index. -/
theorem index10 : ∀ t : Fin cfg0.N, win0_10.index t = ![0, 0, 0] :=
  (by decide +kernel : ∀ t : Fin grid0.N, win0_10.index t = ![0, 0, 0])

/-- Window 11's block index. -/
theorem index11 : ∀ t : Fin cfg0.N, win0_11.index t = ![(grid0.coords t 0).val, 0] :=
  (by decide +kernel : ∀ t : Fin grid0.N, win0_11.index t = ![(grid0.coords t 0).val, 0])

/-- Window 12's block index. -/
theorem index12 : ∀ t : Fin cfg0.N, win0_12.index t = ![0, (grid0.coords t 0).val] :=
  (by decide +kernel : ∀ t : Fin grid0.N, win0_12.index t = ![0, (grid0.coords t 0).val])

/-- Window 13's block index. -/
theorem index13 : ∀ t : Fin cfg0.N, win0_13.index t = ![0, (grid0.coords t 0).val] :=
  (by decide +kernel : ∀ t : Fin grid0.N, win0_13.index t = ![0, (grid0.coords t 0).val])

/-- Window 14's block index. -/
theorem index14 : ∀ t : Fin cfg0.N, win0_14.index t = ![0, (grid0.coords t 0).val] :=
  (by decide +kernel : ∀ t : Fin grid0.N, win0_14.index t = ![0, (grid0.coords t 0).val])

/-- Window 15's block index. -/
theorem index15 : ∀ t : Fin cfg0.N, win0_15.index t = ![0, 0, (grid0.coords t 0).val] :=
  (by decide +kernel : ∀ t : Fin grid0.N, win0_15.index t = ![0, 0, (grid0.coords t 0).val])

/-- The residual stream's block. -/
theorem iblk0_apply (c : Dev nD) (t : Fin cfg0.N) (b : Fin 2) (R : Fin 8192) (r : Fin 512) (hT : (grid0.coords t 0).val * 512 + r.val = b.val * 8192 + R.val) (d : Fin 1024) :
    (iblk m c 0 t : Vec Ideal S512x1024 .f32) (ix2 r d) = arg0 m c (ix3 b R d) := by
  unfold iblk
  rw [View.read_apply]
  show V m c main_v23 _ = _
  rw [V_v23]
  have hi := index0 t
  refine flat_apply _ _ _ b R d ?_ ?_
  · show win0_0.index t 0 * 512 + 1 * r.val = _
    rw [hi]
    show (grid0.coords t 0).val * 512 + 1 * r.val = b.val * 8192 + R.val
    omega
  · show win0_0.index t 1 * 1024 + 1 * d.val = _
    rw [hi]
    show 0 * 1024 + 1 * d.val = d.val
    rw [Nat.zero_mul, Nat.zero_add, Nat.one_mul]

/-- The first branch's block, a lower lane. -/
theorem iblk1_lo (c : Dev nD) (t : Fin cfg0.N) (b : Fin 2) (R : Fin 8192) (r : Fin 512) (hT : (grid0.coords t 0).val * 512 + r.val = b.val * 8192 + R.val) (h : Fin 8) (l : Fin 64) :
    (iblk m c 1 t : Vec Ideal S512x1024 .bf16) (ix2 r (⟨h.val * 128 + l.val, by have := h.isLt; have := l.isLt; omega⟩ : Fin 1024)) = arg1 m c (ix3 b R (⟨h.val * 64 + l.val, by have := h.isLt; have := l.isLt; omega⟩ : Fin 512)) := by
  unfold iblk
  rw [View.read_apply]
  show V m c main_v4 _ = _
  rw [V_v4]
  have hi := index1 t
  refine packY_lo _ _ b R h l ?_ ?_
  · show win0_1.index t 0 * 512 + 1 * r.val = _
    rw [hi]
    show (grid0.coords t 0).val * 512 + 1 * r.val = b.val * 8192 + R.val
    omega
  · show win0_1.index t 1 * 1024 + 1 * (h.val * 128 + l.val) = _
    rw [hi]
    show 0 * 1024 + 1 * (h.val * 128 + l.val) = h.val * 128 + l.val
    rw [Nat.zero_mul, Nat.zero_add, Nat.one_mul]

/-- The first branch's block, an upper lane. -/
theorem iblk1_hi (c : Dev nD) (t : Fin cfg0.N) (b : Fin 2) (R : Fin 8192) (r : Fin 512) (hT : (grid0.coords t 0).val * 512 + r.val = b.val * 8192 + R.val) (h : Fin 8) (l : Fin 64) :
    (iblk m c 1 t : Vec Ideal S512x1024 .bf16) (ix2 r (⟨h.val * 128 + (64 + l.val), by have := h.isLt; have := l.isLt; omega⟩ : Fin 1024)) = (0 : EReal) := by
  unfold iblk
  rw [View.read_apply]
  show V m c main_v4 _ = _
  rw [V_v4]
  have hi := index1 t
  refine packY_hi _ _ b R h l ?_ ?_
  · show win0_1.index t 0 * 512 + 1 * r.val = _
    rw [hi]
    show (grid0.coords t 0).val * 512 + 1 * r.val = b.val * 8192 + R.val
    omega
  · show win0_1.index t 1 * 1024 + 1 * (h.val * 128 + (64 + l.val)) = _
    rw [hi]
    show 0 * 1024 + 1 * (h.val * 128 + (64 + l.val)) = h.val * 128 + (64 + l.val)
    rw [Nat.zero_mul, Nat.zero_add, Nat.one_mul]

/-- The second branch's block. -/
theorem iblk2_apply (c : Dev nD) (t : Fin cfg0.N) (b : Fin 2) (R : Fin 8192) (r : Fin 512) (hT : (grid0.coords t 0).val * 512 + r.val = b.val * 8192 + R.val) (d : Fin 512) :
    (iblk m c 2 t : Vec Ideal S512x512 .bf16) (ix2 r d) = arg2 m c (ix3 b R d) := by
  unfold iblk
  rw [View.read_apply]
  show V m c main_v25 _ = _
  rw [V_v25]
  have hi := index2 t
  refine flat_apply (arg2 m c) shapeCasts_S2x8192x512_S16384x512 _ b R d ?_ ?_
  · show win0_2.index t 0 * 512 + 1 * r.val = _
    rw [hi]
    show (grid0.coords t 0).val * 512 + 1 * r.val = b.val * 8192 + R.val
    omega
  · show win0_2.index t 1 * 512 + 1 * d.val = _
    rw [hi]
    show 0 * 512 + 1 * d.val = d.val
    rw [Nat.zero_mul, Nat.zero_add, Nat.one_mul]

/-- The gates' block. -/
theorem iblk3_apply (c : Dev nD) (t : Fin cfg0.N) (b : Fin 2) (R : Fin 8192) (r : Fin 512) (hT : (grid0.coords t 0).val * 512 + r.val = b.val * 8192 + R.val) (d : Fin 2048) :
    (iblk m c 3 t : Vec Ideal S512x2048 .f32) (ix2 r d) = arg3 m c (ix3 b R d) := by
  unfold iblk
  rw [View.read_apply]
  show V m c main_v26 _ = _
  rw [V_v26]
  have hi := index3 t
  refine flat_apply _ _ _ b R d ?_ ?_
  · show win0_3.index t 0 * 512 + 1 * r.val = _
    rw [hi]
    show (grid0.coords t 0).val * 512 + 1 * r.val = b.val * 8192 + R.val
    omega
  · show win0_3.index t 1 * 2048 + 1 * d.val = _
    rw [hi]
    show 0 * 2048 + 1 * d.val = d.val
    rw [Nat.zero_mul, Nat.zero_add, Nat.one_mul]

/-- The first branch's weights. -/
theorem iblk4_lo (c : Dev nD) (t : Fin cfg0.N) (h : Fin 8) (l : Fin 64) (e : Fin 1024) :
    (iblk m c 4 t : Vec Ideal S1024x1024 .bf16) (ix2 (⟨h.val * 128 + l.val, by have := h.isLt; have := l.isLt; omega⟩ : Fin 1024) e) = arg4 m c (ix2 (⟨h.val * 64 + l.val, by have := h.isLt; have := l.isLt; omega⟩ : Fin 512) e) := by
  unfold iblk
  rw [View.read_apply]
  show V m c main_v12 _ = _
  rw [V_v12]
  have hi := index4 t
  refine packW_lo _ _ h l e ?_ ?_
  · show win0_4.index t 0 * 1024 + 1 * (h.val * 128 + l.val) = _
    rw [hi]
    show 0 * 1024 + 1 * (h.val * 128 + l.val) = h.val * 128 + l.val
    rw [Nat.zero_mul, Nat.zero_add, Nat.one_mul]
  · show win0_4.index t 1 * 1024 + 1 * e.val = _
    rw [hi]
    show 0 * 1024 + 1 * e.val = e.val
    rw [Nat.zero_mul, Nat.zero_add, Nat.one_mul]

/-- Window 5's block is its array. -/
theorem iblk5_apply (c : Dev nD) (t : Fin cfg0.N) (d : Fin 512) (e : Fin 1024) :
    (iblk m c 5 t : Vec Ideal S512x1024 .bf16) (ix2 d e) = arg5 m c (ix2 d e) := by
  unfold iblk
  rw [View.read_apply]
  show V m c main_v13 _ = _
  rw [V_v13]
  have hi := index5 t
  refine congrArg (arg5 m c) (funext fun a => Fin.ext ?_)
  match a with
  | ⟨0, _⟩ =>
    show win0_5.index t 0 * 512 + 1 * d.val = d.val
    rw [hi]
    show 0 * 512 + 1 * d.val = d.val
    rw [Nat.zero_mul, Nat.zero_add, Nat.one_mul]
  | ⟨1, _⟩ =>
    show win0_5.index t 1 * 1024 + 1 * e.val = e.val
    rw [hi]
    show 0 * 1024 + 1 * e.val = e.val
    rw [Nat.zero_mul, Nat.zero_add, Nat.one_mul]

/-- Window 6's block is its array. -/
theorem iblk6_apply (c : Dev nD) (t : Fin cfg0.N) (d : Fin 1024) (e : Fin 1024) :
    (iblk m c 6 t : Vec Ideal S1024x1024 .bf16) (ix2 d e) = arg6 m c (ix2 d e) := by
  unfold iblk
  rw [View.read_apply]
  show V m c main_v14 _ = _
  rw [V_v14]
  have hi := index6 t
  refine congrArg (arg6 m c) (funext fun a => Fin.ext ?_)
  match a with
  | ⟨0, _⟩ =>
    show win0_6.index t 0 * 1024 + 1 * d.val = d.val
    rw [hi]
    show 0 * 1024 + 1 * d.val = d.val
    rw [Nat.zero_mul, Nat.zero_add, Nat.one_mul]
  | ⟨1, _⟩ =>
    show win0_6.index t 1 * 1024 + 1 * e.val = e.val
    rw [hi]
    show 0 * 1024 + 1 * e.val = e.val
    rw [Nat.zero_mul, Nat.zero_add, Nat.one_mul]

/-- The norm's weights. -/
theorem iblk7_apply (c : Dev nD) (t : Fin cfg0.N) (k : Fin 1024) :
    (iblk m c 7 t : Vec Ideal S1x1024 .f32) (ix2 (0 : Fin 1) k) = arg7 m c (ix1 k) := by
  unfold iblk
  rw [View.read_apply]
  show V m c main_v15 _ = _
  rw [V_v15]
  have hi := index7 t
  refine row_apply _ _ _ k ?_
  · show win0_7.index t 1 * 1024 + 1 * k.val = _
    rw [hi]
    show 0 * 1024 + 1 * k.val = k.val
    rw [Nat.zero_mul, Nat.zero_add, Nat.one_mul]

/-- The query weights. -/
theorem iblk8_apply (c : Dev nD) (t : Fin cfg0.N) (d : Fin 1024) (p : Fin 2) (h : Fin 8) (e : Fin 128) (k : Fin 2048) (hk : k.val = p.val * 1024 + h.val * 128 + e.val) :
    (iblk m c 8 t : Vec Ideal S1024x2048 .bf16) (ix2 d k) = arg8 m c (ix2 d (⟨(h.val * 2 + p.val) * 128 + e.val, by have := h.isLt; have := p.isLt; have := e.isLt; omega⟩ : Fin 2048)) := by
  unfold iblk
  rw [View.read_apply]
  show V m c main_v16 _ = _
  rw [V_v16]
  have hi := index8 t
  refine packQ_apply _ _ d p h e ?_ ?_
  · show win0_8.index t 0 * 1024 + 1 * d.val = _
    rw [hi]
    show 0 * 1024 + 1 * d.val = d.val
    rw [Nat.zero_mul, Nat.zero_add, Nat.one_mul]
  · show win0_8.index t 1 * 2048 + 1 * k.val = _
    rw [hi]
    show 0 * 2048 + 1 * k.val = p.val * 1024 + h.val * 128 + e.val
    omega

/-- The keys of one half. -/
theorem iblk9_apply (c : Dev nD) (t : Fin cfg0.N) (h : Fin 8) (n e : Fin 128) :
    (iblk m c 9 t : Vec Ideal S8x128x128 .bf16) (ix3 h n e) = arg9 m c (ix4 h 0 n e) := by
  unfold iblk
  rw [View.read_apply]
  show V m c main_v19 _ = _
  rw [V_v19]
  have hi := index9 t
  refine packK1_apply _ _ h n e ?_ ?_ ?_
  · show win0_9.index t 0 * 8 + 1 * h.val = _
    rw [hi]
    show 0 * 8 + 1 * h.val = h.val
    rw [Nat.zero_mul, Nat.zero_add, Nat.one_mul]
  · show win0_9.index t 1 * 128 + 1 * n.val = _
    rw [hi]
    show 0 * 128 + 1 * n.val = n.val
    rw [Nat.zero_mul, Nat.zero_add, Nat.one_mul]
  · show win0_9.index t 2 * 128 + 1 * e.val = _
    rw [hi]
    show 0 * 128 + 1 * e.val = e.val
    rw [Nat.zero_mul, Nat.zero_add, Nat.one_mul]

/-- The keys of one half. -/
theorem iblk10_apply (c : Dev nD) (t : Fin cfg0.N) (h : Fin 8) (n e : Fin 128) :
    (iblk m c 10 t : Vec Ideal S8x128x128 .bf16) (ix3 h n e) = arg9 m c (ix4 h 1 n e) := by
  unfold iblk
  rw [View.read_apply]
  show V m c main_v22 _ = _
  rw [V_v22]
  have hi := index10 t
  refine packK2_apply _ _ h n e ?_ ?_ ?_
  · show win0_10.index t 0 * 8 + 1 * h.val = _
    rw [hi]
    show 0 * 8 + 1 * h.val = h.val
    rw [Nat.zero_mul, Nat.zero_add, Nat.one_mul]
  · show win0_10.index t 1 * 128 + 1 * n.val = _
    rw [hi]
    show 0 * 128 + 1 * n.val = n.val
    rw [Nat.zero_mul, Nat.zero_add, Nat.one_mul]
  · show win0_10.index t 2 * 128 + 1 * e.val = _
    rw [hi]
    show 0 * 128 + 1 * e.val = e.val
    rw [Nat.zero_mul, Nat.zero_add, Nat.one_mul]

/-- A grid point's blocks hold the tokens of its rows. -/
theorem holds (c : Dev nD) (t : Fin cfg0.N) (b : Fin 2) (R : Fin 8192) (r : Fin 512) (hT : (grid0.coords t 0).val * 512 + r.val = b.val * 8192 + R.val) :
    Holds (iblk m c 0 t) (iblk m c 1 t) (iblk m c 2 t) (iblk m c 3 t) (iblk m c 4 t) (iblk m c 5 t) (iblk m c 6 t) (iblk m c 7 t) (iblk m c 8 t) (iblk m c 9 t) (iblk m c 10 t) (arg0 m c) (arg1 m c) (arg2 m c) (arg3 m c) (arg4 m c) (arg5 m c) (arg6 m c) (arg7 m c) (arg8 m c) (arg9 m c) b R r where
  h0 := iblk0_apply m c t b R r hT
  h1 := iblk1_lo m c t b R r hT
  h1z := iblk1_hi m c t b R r hT
  h2 := iblk2_apply m c t b R r hT
  h3 := iblk3_apply m c t b R r hT
  h4 := iblk4_lo m c t
  h5 := iblk5_apply m c t
  h6 := iblk6_apply m c t
  h7 := iblk7_apply m c t
  h8 := iblk8_apply m c t
  h9 := iblk9_apply m c t
  h10 := iblk10_apply m c t

/-- The token a grid point's row is. -/
theorem token (t : Fin cfg0.N) (r : Fin 512) : ∃ (b : Fin 2) (R : Fin 8192), (grid0.coords t 0).val * 512 + r.val = b.val * 8192 + R.val := by
  have h : (grid0.coords t 0).val < 32 := (grid0.coords t 0).isLt
  have hr := r.isLt
  exact ⟨⟨((grid0.coords t 0).val * 512 + r.val) / 8192, by omega⟩, ⟨((grid0.coords t 0).val * 512 + r.val) % 8192, by omega⟩, by
    show _ = ((grid0.coords t 0).val * 512 + r.val) / 8192 * 8192 + ((grid0.coords t 0).val * 512 + r.val) % 8192
    omega⟩

/-! ## The blocks a grid point writes -/

/-- An element of the residual block. -/
theorem elem11 (c : Dev nD) (t : Fin cfg0.N) (b : Fin 2) (R : Fin 8192) (r : Fin 512) (hT : (grid0.coords t 0).val * 512 + r.val = b.val * 8192 + R.val) (d : Fin 1024) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d) = Cert.MergeRef.yt (arg0 m c) (arg1 m c) (arg2 m c) (arg3 m c) (arg4 m c) (arg5 m c) (arg6 m c) b R d :=
  (out11_apply (iblk m c 0 t) (iblk m c 1 t) (iblk m c 2 t) (iblk m c 3 t) (iblk m c 4 t) (iblk m c 5 t) (iblk m c 6 t) (iblk m c 7 t) (iblk m c 8 t) (iblk m c 9 t) (iblk m c 10 t) r d).trans (congrFun (holds m c t b R r hT).y d)

/-- An element of the normed block. -/
theorem elem12 (c : Dev nD) (t : Fin cfg0.N) (b : Fin 2) (R : Fin 8192) (r : Fin 512) (hT : (grid0.coords t 0).val * 512 + r.val = b.val * 8192 + R.val) (d : Fin 1024) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 d r) = Cert.MergeRef.ht (arg0 m c) (arg1 m c) (arg2 m c) (arg3 m c) (arg4 m c) (arg5 m c) (arg6 m c) (arg7 m c) b R d :=
  (out12_apply (iblk m c 0 t) (iblk m c 1 t) (iblk m c 2 t) (iblk m c 3 t) (iblk m c 4 t) (iblk m c 5 t) (iblk m c 6 t) (iblk m c 7 t) (iblk m c 8 t) (iblk m c 9 t) (iblk m c 10 t) r d).trans (congrFun (holds m c t b R r hT).n d)

/-- An element of a block of scores, window 13's. -/
theorem elem13 (c : Dev nD) (t : Fin cfg0.N) (b : Fin 2) (R : Fin 8192) (r : Fin 512) (hT : (grid0.coords t 0).val * 512 + r.val = b.val * 8192 + R.val) (h : Fin 8) (n : Fin 128) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 (⟨n.val * 8 + h.val, by have := n.isLt; have := h.isLt; omega⟩ : Fin 1024) r) = Cert.MergeRef.st (arg0 m c) (arg1 m c) (arg2 m c) (arg3 m c) (arg4 m c) (arg5 m c) (arg6 m c) (arg7 m c) (arg8 m c) (arg9 m c) b R h 0 n :=
  (out13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) h n r).trans ((holds m c t b R r hT).s1 h n _)

/-- An element of a block of scores, window 14's. -/
theorem elem14 (c : Dev nD) (t : Fin cfg0.N) (b : Fin 2) (R : Fin 8192) (r : Fin 512) (hT : (grid0.coords t 0).val * 512 + r.val = b.val * 8192 + R.val) (h : Fin 8) (n : Fin 128) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 (⟨n.val * 8 + h.val, by have := n.isLt; have := h.isLt; omega⟩ : Fin 1024) r) = Cert.MergeRef.st (arg0 m c) (arg1 m c) (arg2 m c) (arg3 m c) (arg4 m c) (arg5 m c) (arg6 m c) (arg7 m c) (arg8 m c) (arg9 m c) b R h 1 n :=
  (out14_apply (iblk m c 0 t) (iblk m c 1 t) (iblk m c 2 t) (iblk m c 3 t) (iblk m c 4 t) (iblk m c 5 t) (iblk m c 6 t) (iblk m c 7 t) (iblk m c 8 t) (iblk m c 9 t) (iblk m c 10 t) h n r).trans ((holds m c t b R r hT).s2 h n _)

/-- An element of a block of scores, window 15's. -/
theorem elem15 (c : Dev nD) (t : Fin cfg0.N) (b : Fin 2) (R : Fin 8192) (r : Fin 512) (hT : (grid0.coords t 0).val * 512 + r.val = b.val * 8192 + R.val) (h : Fin 8) (n : Fin 128) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 h n r) = Cert.MergeRef.st (arg0 m c) (arg1 m c) (arg2 m c) (arg3 m c) (arg4 m c) (arg5 m c) (arg6 m c) (arg7 m c) (arg8 m c) (arg9 m c) b R h 1 n :=
  (out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) h n r).trans ((holds m c t b R r hT).s2 h n _)

end Cert.MergeIdeal.Merge

end
-- ==== Proof.MergeValue.lean ====
/- The merge call's results: the reference's, element by element. -/
module

public import proofs.«01_k».proof.Proof.MergeBlocks
public import Idealize.ShloMosaic.Lib.Pipeline.ValueKit.Geometry

@[expose] public section

set_option maxRecDepth 16384

noncomputable section

namespace Cert.MergeIdeal.Merge

open Cert.MergeIdeal Cert.MergeIdeal.Gen Cert.MergeRow
open Idealize.ShloMosaic Idealize.ShloMosaic.TcCoe Idealize.ShloMosaic.ValueIdx
open scoped BigOperators

variable (m : (ℓ : Loc nD τ sig) → Buf (Elt Ideal) ℓ)

/-- The blocks of window 11 cover its array. -/
theorem covers11 : (cfg0.win 11).Covers := by decide +kernel

/-- The array of window 11 is any array whose blocks the body leaves. -/
theorem final11_of (c : Dev nD) (G : S16384x1024.Idx → EReal) (B : Fin cfg0.N → S512x1024.Idx → EReal) (hB : ∀ t, (dats m 0 c).after 11 t = B t)
    (hv : ∀ (t : Fin cfg0.N) (r : Fin 512) (d : Fin 1024) (i : S16384x1024.Idx), (i 0).val = (grid0.coords t 0).val * 512 + r.val → (i 1).val = d.val → B t (ix2 r d) = G i) :
    (dats m 0 c).arrAt 11 cfg0.N = G := by
  refine (dats m 0 c).arrAt_eq_of_covers 11 G covers11 fun t hf y => ?_
  have hi := index11 t
  rw [hB t]
  obtain ⟨r, d, hy⟩ : ∃ (r : Fin 512) (d : Fin 1024), (y : S512x1024.Idx) = ix2 r d := ⟨y 0, y 1, eq_ix2 (n0 := 512) (n1 := 1024) y⟩
  subst hy
  refine hv t r d _ ?_ ?_
  · show win0_11.index t 0 * 512 + 1 * r.val = _
    rw [hi]
    show (grid0.coords t 0).val * 512 + 1 * r.val = (grid0.coords t 0).val * 512 + r.val
    rw [Nat.one_mul]
  · show win0_11.index t 1 * 1024 + 1 * d.val = _
    rw [hi]
    show 0 * 1024 + 1 * d.val = d.val
    rw [Nat.zero_mul, Nat.zero_add, Nat.one_mul]

/-- The blocks of window 12 cover its array. -/
theorem covers12 : (cfg0.win 12).Covers := by decide +kernel

/-- The array of window 12 is any array whose blocks the body leaves. -/
theorem final12_of (c : Dev nD) (G : S1024x16384.Idx → EReal) (B : Fin cfg0.N → S1024x512.Idx → EReal) (hB : ∀ t, (dats m 0 c).after 12 t = B t)
    (hv : ∀ (t : Fin cfg0.N) (d : Fin 1024) (r : Fin 512) (i : S1024x16384.Idx), (i 0).val = d.val → (i 1).val = (grid0.coords t 0).val * 512 + r.val → B t (ix2 d r) = G i) :
    (dats m 0 c).arrAt 12 cfg0.N = G := by
  refine (dats m 0 c).arrAt_eq_of_covers 12 G covers12 fun t hf y => ?_
  have hi := index12 t
  rw [hB t]
  obtain ⟨d, r, hy⟩ : ∃ (d : Fin 1024) (r : Fin 512), (y : S1024x512.Idx) = ix2 d r := ⟨y 0, y 1, eq_ix2 (n0 := 1024) (n1 := 512) y⟩
  subst hy
  refine hv t d r _ ?_ ?_
  · show win0_12.index t 0 * 1024 + 1 * d.val = _
    rw [hi]
    show 0 * 1024 + 1 * d.val = d.val
    rw [Nat.zero_mul, Nat.zero_add, Nat.one_mul]
  · show win0_12.index t 1 * 512 + 1 * r.val = _
    rw [hi]
    show (grid0.coords t 0).val * 512 + 1 * r.val = (grid0.coords t 0).val * 512 + r.val
    rw [Nat.one_mul]

/-- The blocks of window 13 cover its array. -/
theorem covers13 : (cfg0.win 13).Covers := by decide +kernel

/-- The array of window 13 is any array whose blocks the body leaves. -/
theorem final13_of (c : Dev nD) (G : S1024x16384.Idx → EReal) (B : Fin cfg0.N → S1024x512.Idx → EReal) (hB : ∀ t, (dats m 0 c).after 13 t = B t)
    (hv : ∀ (t : Fin cfg0.N) (d : Fin 1024) (r : Fin 512) (i : S1024x16384.Idx), (i 0).val = d.val → (i 1).val = (grid0.coords t 0).val * 512 + r.val → B t (ix2 d r) = G i) :
    (dats m 0 c).arrAt 13 cfg0.N = G := by
  refine (dats m 0 c).arrAt_eq_of_covers 13 G covers13 fun t hf y => ?_
  have hi := index13 t
  rw [hB t]
  obtain ⟨d, r, hy⟩ : ∃ (d : Fin 1024) (r : Fin 512), (y : S1024x512.Idx) = ix2 d r := ⟨y 0, y 1, eq_ix2 (n0 := 1024) (n1 := 512) y⟩
  subst hy
  refine hv t d r _ ?_ ?_
  · show win0_13.index t 0 * 1024 + 1 * d.val = _
    rw [hi]
    show 0 * 1024 + 1 * d.val = d.val
    rw [Nat.zero_mul, Nat.zero_add, Nat.one_mul]
  · show win0_13.index t 1 * 512 + 1 * r.val = _
    rw [hi]
    show (grid0.coords t 0).val * 512 + 1 * r.val = (grid0.coords t 0).val * 512 + r.val
    rw [Nat.one_mul]

/-- The blocks of window 14 cover its array. -/
theorem covers14 : (cfg0.win 14).Covers := by decide +kernel

/-- The array of window 14 is any array whose blocks the body leaves. -/
theorem final14_of (c : Dev nD) (G : S1024x16384.Idx → EReal) (B : Fin cfg0.N → S1024x512.Idx → EReal) (hB : ∀ t, (dats m 0 c).after 14 t = B t)
    (hv : ∀ (t : Fin cfg0.N) (d : Fin 1024) (r : Fin 512) (i : S1024x16384.Idx), (i 0).val = d.val → (i 1).val = (grid0.coords t 0).val * 512 + r.val → B t (ix2 d r) = G i) :
    (dats m 0 c).arrAt 14 cfg0.N = G := by
  refine (dats m 0 c).arrAt_eq_of_covers 14 G covers14 fun t hf y => ?_
  have hi := index14 t
  rw [hB t]
  obtain ⟨d, r, hy⟩ : ∃ (d : Fin 1024) (r : Fin 512), (y : S1024x512.Idx) = ix2 d r := ⟨y 0, y 1, eq_ix2 (n0 := 1024) (n1 := 512) y⟩
  subst hy
  refine hv t d r _ ?_ ?_
  · show win0_14.index t 0 * 1024 + 1 * d.val = _
    rw [hi]
    show 0 * 1024 + 1 * d.val = d.val
    rw [Nat.zero_mul, Nat.zero_add, Nat.one_mul]
  · show win0_14.index t 1 * 512 + 1 * r.val = _
    rw [hi]
    show (grid0.coords t 0).val * 512 + 1 * r.val = (grid0.coords t 0).val * 512 + r.val
    rw [Nat.one_mul]

/-- The blocks of window 15 cover its array. -/
theorem covers15 : (cfg0.win 15).Covers := by decide +kernel

/-- The array of window 15 is any array whose blocks the body leaves. -/
theorem final15_of (c : Dev nD) (G : S8x128x16384.Idx → EReal) (B : Fin cfg0.N → S8x128x512.Idx → EReal) (hB : ∀ t, (dats m 0 c).after 15 t = B t)
    (hv : ∀ (t : Fin cfg0.N) (h : Fin 8) (n : Fin 128) (r : Fin 512) (i : S8x128x16384.Idx), (i 0).val = h.val → (i 1).val = n.val → (i 2).val = (grid0.coords t 0).val * 512 + r.val → B t (ix3 h n r) = G i) :
    (dats m 0 c).arrAt 15 cfg0.N = G := by
  refine (dats m 0 c).arrAt_eq_of_covers 15 G covers15 fun t hf y => ?_
  have hi := index15 t
  rw [hB t]
  obtain ⟨h, n, r, hy⟩ : ∃ (h : Fin 8) (n : Fin 128) (r : Fin 512), (y : S8x128x512.Idx) = ix3 h n r := ⟨y 0, y 1, y 2, eq_ix3 (n0 := 8) (n1 := 128) (n2 := 512) y⟩
  subst hy
  refine hv t h n r _ ?_ ?_ ?_
  · show win0_15.index t 0 * 8 + 1 * h.val = _
    rw [hi]
    show 0 * 8 + 1 * h.val = h.val
    rw [Nat.zero_mul, Nat.zero_add, Nat.one_mul]
  · show win0_15.index t 1 * 128 + 1 * n.val = _
    rw [hi]
    show 0 * 128 + 1 * n.val = n.val
    rw [Nat.zero_mul, Nat.zero_add, Nat.one_mul]
  · show win0_15.index t 2 * 512 + 1 * r.val = _
    rw [hi]
    show (grid0.coords t 0).val * 512 + 1 * r.val = (grid0.coords t 0).val * 512 + r.val
    rw [Nat.one_mul]

/-- A row of the scores is a key of a head. -/
theorem key_head (d : Fin 1024) : ∃ (n : Fin 128) (h : Fin 8), d = ⟨n.val * 8 + h.val, by have := n.isLt; have := h.isLt; omega⟩ := by
  have hd := d.isLt
  refine ⟨⟨d.val / 8, by omega⟩, ⟨d.val % 8, by omega⟩, Fin.ext ?_⟩
  show d.val = d.val / 8 * 8 + d.val % 8
  omega

/-- The residual result is the reference's. -/
theorem final11 (c : Dev nD) :
    (dats m 0 c).arrAt 11 cfg0.N = Cert.MergeReferenceIdeal.Read.val_main_v40 (F := Ideal) (arg0 m c) (arg1 m c) (arg2 m c) (arg3 m c) (arg4 m c) (arg5 m c) (arg6 m c) := by
  refine final11_of m c _ (fun t => out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (after0_11 m c) fun t r d i h0 h1 => ?_
  obtain ⟨b, R, hT⟩ := token t r
  exact (elem11 m c t b R r hT d).trans (Cert.MergeRef.v40_apply _ _ _ _ _ _ _ i b R d (h0.trans hT) h1).symm

/-- The normed result is the reference's. -/
theorem final12 (c : Dev nD) :
    (dats m 0 c).arrAt 12 cfg0.N = Cert.MergeReferenceIdeal.Read.val_main_v42 (F := Ideal) (arg0 m c) (arg1 m c) (arg2 m c) (arg3 m c) (arg4 m c) (arg5 m c) (arg6 m c) (arg7 m c) := by
  refine final12_of m c _ (fun t => out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (after0_12 m c) fun t d r i h0 h1 => ?_
  obtain ⟨b, R, hT⟩ := token t r
  exact (elem12 m c t b R r hT d).trans (Cert.MergeRef.v42_apply _ _ _ _ _ _ _ _ i b R d h0 (h1.trans hT)).symm

/-- The first half's scores are the reference's. -/
theorem final13 (c : Dev nD) :
    (dats m 0 c).arrAt 13 cfg0.N = Cert.MergeReferenceIdeal.Read.val_main_v44 (F := Ideal) (arg0 m c) (arg1 m c) (arg2 m c) (arg3 m c) (arg4 m c) (arg5 m c) (arg6 m c) (arg7 m c) (arg8 m c) (arg9 m c) := by
  refine final13_of m c _ (fun t => out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (after0_13 m c) fun t d r i h0 h1 => ?_
  obtain ⟨b, R, hT⟩ := token t r
  obtain ⟨n, h, rfl⟩ := key_head d
  exact (elem13 m c t b R r hT h n).trans (Cert.MergeRef.v44_apply _ _ _ _ _ _ _ _ _ _ i b R h n h0 (h1.trans hT)).symm

/-- The second half's scores are the reference's. -/
theorem final14 (c : Dev nD) :
    (dats m 0 c).arrAt 14 cfg0.N = Cert.MergeReferenceIdeal.Read.val_main_v46 (F := Ideal) (arg0 m c) (arg1 m c) (arg2 m c) (arg3 m c) (arg4 m c) (arg5 m c) (arg6 m c) (arg7 m c) (arg8 m c) (arg9 m c) := by
  refine final14_of m c _ (fun t => out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (after0_14 m c) fun t d r i h0 h1 => ?_
  obtain ⟨b, R, hT⟩ := token t r
  obtain ⟨n, h, rfl⟩ := key_head d
  exact (elem14 m c t b R r hT h n).trans (Cert.MergeRef.v46_apply _ _ _ _ _ _ _ _ _ _ i b R h n h0 (h1.trans hT)).symm

/-- The second half's scores by head are the reference's. -/
theorem final15 (c : Dev nD) :
    (dats m 0 c).arrAt 15 cfg0.N = Cert.MergeReferenceIdeal.Read.val_main_v47 (F := Ideal) (arg0 m c) (arg1 m c) (arg2 m c) (arg3 m c) (arg4 m c) (arg5 m c) (arg6 m c) (arg7 m c) (arg8 m c) (arg9 m c) := by
  refine final15_of m c _ (fun t => out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (after0_15 m c) fun t h n r i h0 h1 h2 => ?_
  obtain ⟨b, R, hT⟩ := token t r
  exact (elem15 m c t b R r hT h n).trans (Cert.MergeRef.v47_apply _ _ _ _ _ _ _ _ _ _ i b R h n h0 h1 (h2.trans hT)).symm

end Cert.MergeIdeal.Merge

end
-- ==== Proof.ProjRow.lean ====
/- The row-level functions of the projection call: the norm of a row and its product with a column. -/
module

public import Idealize.ShloMosaic.Lib.ValueIdx

@[expose] public section

noncomputable section

namespace Cert.ProjRow

open Idealize.ShloMosaic
open scoped BigOperators

/-- The root-mean-square norm of a row, the word `w` its length. -/
def nrm {n : ℕ} (w : BitVec 32) (x g : Fin n → EReal) (d : Fin n) : EReal :=
  x d * Ideal.rsqrt (Ideal.div (∑ k : Fin n, x k * x k) (Ideal.ofBits .f32 w) + Ideal.ofBits .f32 0x358637BD#32) * g d

/-- A row times a column. -/
def dot {n : ℕ} (x w : Fin n → EReal) : EReal := ∑ k : Fin n, x k * w k

/-- A rotation's frequency: ten thousand to the power of minus the index over sixteen. -/
def inv (k : Fin 16) : EReal :=
  Ideal.pow (Ideal.ofBits .f32 0x461C4000#32) (Ideal.div (-((((BitVec.ofNat 32 k.val).toInt : ℝ)) : EReal)) (Ideal.ofBits .f32 0x41800000#32))

/-- The first half of a rotated pair. -/
def rot1 (a b t : EReal) : EReal := a * Ideal.cos t - b * Ideal.sin t

/-- The second half of a rotated pair. -/
def rot2 (a b t : EReal) : EReal := b * Ideal.cos t + a * Ideal.sin t

end Cert.ProjRow

end
-- ==== Proof.ProjRun.lean ====
/- The projection call's run over any values: each point's body, the launch, and the frame. -/
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.ProjIdeal.Run

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The TensorCore's arrays when the call is entered, after the host's operations. -/
abbrev V (c : Dev nD) (b : Ref sig .tc) : Buf (Elt F) ((c : Thread nD τ).loc b) := StableHlo.after hostOps0 (fun b => m (c, b)) b

/-- The host's operations claim no array. -/
theorem hostOps0_fresh : (hostOps0 : List (HloOp τ sig (Elt F))).Forall fun op => op.fresh = ∅ := by
  simp only [List.Forall]; repeat' constructor

set_option maxHeartbeats 800000 in
/-- The host part of the program runs up to the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host leaves argument 0 as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host leaves argument 1 as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host leaves argument 2 as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host leaves argument 3 as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host leaves argument 4 as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host leaves argument 5 as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host leaves argument 6 as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host leaves argument 7 as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The block of an input window at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What window 0's buffer holds before the body. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- What window 1's buffer holds before the body. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- What window 2's buffer holds before the body. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- What window 3's buffer holds before the body. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- What window 4's buffer holds before the body. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- What window 5's buffer holds before the body. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- What window 6's buffer holds before the body. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- What window 7's buffer holds before the body. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- What window 8's buffer holds before the body. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- What window 9's buffer holds before the body. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- What window 10's buffer holds before the body. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- What window 11's buffer holds before the body. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- What window 12's buffer holds before the body. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- What window 13's buffer holds before the body. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- What window 14's buffer holds before the body. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1440000 in
/-- From a run of the call, the arguments end unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-- Rectangle 0 of the body's loads and stores. -/
abbrev r0_0 : Rect S512x1024 := Rect.unit (s := S512x1024) ![0, 0] S512x1024.size inb_S512x1024_S512x1024_0_0
/-- Rectangle 1 of the body's loads and stores. -/
abbrev r0_1 : Rect S1x1024 := Rect.unit (s := S1x1024) ![0, 0] S1x1024.size inb_S1x1024_S1x1024_0_0
/-- Rectangle 2 of the body's loads and stores. -/
abbrev r0_2 : Rect S512x1 := Rect.unit (s := S512x1) ![0, 0] S512x1.size inb_S512x1_S512x1_0_0
/-- Rectangle 3 of the body's loads and stores. -/
abbrev r0_3 : Rect S1x128 := Rect.unit (s := S1x128) ![0, 0] S1x128.size inb_S1x128_S1x128_0_0
/-- Rectangle 4 of the body's loads and stores. -/
abbrev r0_4 : Rect S1024x640 := Rect.unit (s := S1024x640) ![0, 0] S1024x640.size inb_S1024x640_S1024x640_0_0
/-- Rectangle 5 of the body's loads and stores. -/
abbrev r0_5 : Rect S1x384 := Rect.unit (s := S1x384) ![0, 0] S1x384.size inb_S1x384_S1x384_0_0
/-- Rectangle 6 of the body's loads and stores. -/
abbrev r0_6 : Rect S1x256 := Rect.unit (s := S1x256) ![0, 0] S1x256.size inb_S1x256_S1x256_0_0
/-- Rectangle 7 of the body's loads and stores. -/
abbrev r0_7 : Rect S384x1024 := Rect.unit (s := S384x1024) ![0, 0] S384x1024.size inb_S384x1024_S384x1024_0_0
/-- Rectangle 8 of the body's loads and stores. -/
abbrev r0_8 : Rect S1024x256 := Rect.unit (s := S1024x256) ![0, 0] S1024x256.size inb_S1024x256_S1024x256_0_0
/-- Rectangle 9 of the body's loads and stores. -/
abbrev r0_9 : Rect S256x1024 := Rect.unit (s := S256x1024) ![0, 0] S256x1024.size inb_S256x1024_S256x1024_0_0
/-- Rectangle 10 of the body's loads and stores. -/
abbrev r0_10 : Rect S512x1024 := Rect.unit (s := S512x1024) ![0, 0] S512x128.size inb_S512x1024_S512x128_0_0
/-- Rectangle 11 of the body's loads and stores. -/
abbrev r0_11 : Rect S512x1024 := Rect.unit (s := S512x1024) ![0, 128] S512x128.size inb_S512x1024_S512x128_0_128
/-- Rectangle 12 of the body's loads and stores. -/
abbrev r0_12 : Rect S512x1024 := Rect.unit (s := S512x1024) ![0, 256] S512x128.size inb_S512x1024_S512x128_0_256
/-- Rectangle 13 of the body's loads and stores. -/
abbrev r0_13 : Rect S512x1024 := Rect.unit (s := S512x1024) ![0, 384] S512x128.size inb_S512x1024_S512x128_0_384
/-- Rectangle 14 of the body's loads and stores. -/
abbrev r0_14 : Rect S512x1024 := Rect.unit (s := S512x1024) ![0, 512] S512x128.size inb_S512x1024_S512x128_0_512
/-- Rectangle 15 of the body's loads and stores. -/
abbrev r0_15 : Rect S512x1024 := Rect.unit (s := S512x1024) ![0, 640] S512x128.size inb_S512x1024_S512x128_0_640
/-- Rectangle 16 of the body's loads and stores. -/
abbrev r0_16 : Rect S512x1024 := Rect.unit (s := S512x1024) ![0, 768] S512x128.size inb_S512x1024_S512x128_0_768
/-- Rectangle 17 of the body's loads and stores. -/
abbrev r0_17 : Rect S512x1024 := Rect.unit (s := S512x1024) ![0, 896] S512x128.size inb_S512x1024_S512x128_0_896
/-- Rectangle 18 of the body's loads and stores. -/
abbrev r0_18 : Rect S1024x1280 := Rect.unit (s := S1024x1280) ![0, 0] S1024x1280.size inb_S1024x1280_S1024x1280_0_0
/-- Rectangle 19 of the body's loads and stores. -/
abbrev r0_19 : Rect S512x256 := Rect.unit (s := S512x256) ![0, 0] S512x256.size inb_S512x256_S512x256_0_0
/-- Rectangle 20 of the body's loads and stores. -/
abbrev r0_20 : Rect S512x512 := Rect.unit (s := S512x512) ![0, 0] S512x512.size inb_S512x512_S512x512_0_0
/-- Rectangle 21 of the body's loads and stores. -/
abbrev r0_21 : Rect S272x1024 := Rect.unit (s := S272x1024) ![0, 0] S272x1024.size inb_S272x1024_S272x1024_0_0
/-- Rectangle 22 of the body's loads and stores. -/
abbrev r0_22 : Rect S256x512 := Rect.unit (s := S256x512) ![0, 0] S256x512.size inb_S256x512_S256x512_0_0
/-- Rectangle 23 of the body's loads and stores. -/
abbrev r0_23 : Rect S16x512 := Rect.unit (s := S16x512) ![0, 0] S16x512.size inb_S16x512_S16x512_0_0
/-- Rectangle 24 of the body's loads and stores. -/
abbrev r0_24 : Rect S1024x2048 := Rect.unit (s := S1024x2048) ![0, 0] S1024x2048.size inb_S1024x2048_S1024x2048_0_0
/-- Rectangle 25 of the body's loads and stores. -/
abbrev r0_25 : Rect S512x2048 := Rect.unit (s := S512x2048) ![0, 0] S512x2048.size inb_S512x2048_S512x2048_0_0

/-- Value 45 of the body, from the input blocks. -/
def k0_pay45 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : FVec F S512x1024 .bf16 :=
  k0_pay2 (View.ld x0 r0_0) (View.ld x3 r0_1) -- `v16`
/-- Value 46 of the body, from the input blocks. -/
def k0_pay46 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : FVec F S512x128 .f32 :=
  k0_pay4 (View.ld x1 r0_2) (View.ld x2 r0_3) -- `v24`
/-- Value 47 of the body, from the input blocks. -/
def k0_pay47 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : FVec F S512x128 .f32 :=
  k0_pay5 (View.ld x1 r0_2) (View.ld x2 r0_3) -- `v25`
/-- Value 48 of the body, from the input blocks. -/
def k0_pay48 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : FVec F S512x640 .f32 :=
  k0_pay6 (View.ld x0 r0_0) (View.ld x3 r0_1) (View.ld x4 r0_4) -- `v28`
/-- Value 49 of the body, from the input blocks. -/
def k0_pay49 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : FVec F S512x384 .f32 :=
  k0_pay7 (View.ld x0 r0_0) (View.ld x3 r0_1) (View.ld x4 r0_4) -- `v29`
/-- Value 50 of the body, from the input blocks. -/
def k0_pay50 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : FVec F S1x384 .f32 :=
  k0_pay8 (View.ld x9 r0_5) -- `v31`
/-- Value 51 of the body, from the input blocks. -/
def k0_pay51 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : FVec F S512x1 .f32 :=
  k0_pay9 (View.ld x0 r0_0) (View.ld x3 r0_1) (View.ld x4 r0_4) -- `v39`
/-- Value 52 of the body, from the input blocks. -/
def k0_pay52 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : FVec F S512x1024 .f32 :=
  k0_pay12 (k0_pay49 x0 x1 x2 x3 x4 x5 x6 x7 x8 x9 x10 x11 x12 x13 x14) (k0_pay50 x0 x1 x2 x3 x4 x5 x6 x7 x8 x9 x10 x11 x12 x13 x14) (k0_pay51 x0 x1 x2 x3 x4 x5 x6 x7 x8 x9 x10 x11 x12 x13 x14) (View.ld x10 r0_7) -- `v63`
/-- Value 53 of the body, from the input blocks. -/
def k0_pay53 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : FVec F S512x1024 .f32 :=
  k0_pay13 (k0_pay49 x0 x1 x2 x3 x4 x5 x6 x7 x8 x9 x10 x11 x12 x13 x14) (k0_pay50 x0 x1 x2 x3 x4 x5 x6 x7 x8 x9 x10 x11 x12 x13 x14) (k0_pay51 x0 x1 x2 x3 x4 x5 x6 x7 x8 x9 x10 x11 x12 x13 x14) (View.ld x11 r0_7) -- `v66`
/-- Value 54 of the body, from the input blocks. -/
def k0_pay54 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : FVec F S512x128 .f32 :=
  k0_pay14 (k0_pay45 x0 x1 x2 x3 x4 x5 x6 x7 x8 x9 x10 x11 x12 x13 x14) (k0_pay46 x0 x1 x2 x3 x4 x5 x6 x7 x8 x9 x10 x11 x12 x13 x14) (k0_pay47 x0 x1 x2 x3 x4 x5 x6 x7 x8 x9 x10 x11 x12 x13 x14) (View.ld x5 r0_8) -- `v74`
/-- Value 55 of the body, from the input blocks. -/
def k0_pay55 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : FVec F S512x1024 .f32 :=
  k0_pay15 (k0_pay48 x0 x1 x2 x3 x4 x5 x6 x7 x8 x9 x10 x11 x12 x13 x14) (View.ld x12 r0_6) (View.ld x13 r0_9) -- `v77`

/-- The block of window 15 after the body. -/
def out0_15 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : Vec F S512x1024 .bf16 :=
  View.canon [⟨r0_17, k0_pay33 (k0_pay46 x0 x1 x2 x3 x4 x5 x6 x7 x8 x9 x10 x11 x12 x13 x14) (k0_pay47 x0 x1 x2 x3 x4 x5 x6 x7 x8 x9 x10 x11 x12 x13 x14) (k0_pay52 x0 x1 x2 x3 x4 x5 x6 x7 x8 x9 x10 x11 x12 x13 x14) (k0_pay53 x0 x1 x2 x3 x4 x5 x6 x7 x8 x9 x10 x11 x12 x13 x14)⟩,
    ⟨r0_16, k0_pay31 (k0_pay30 (k0_pay46 x0 x1 x2 x3 x4 x5 x6 x7 x8 x9 x10 x11 x12 x13 x14) (k0_pay47 x0 x1 x2 x3 x4 x5 x6 x7 x8 x9 x10 x11 x12 x13 x14) (k0_pay52 x0 x1 x2 x3 x4 x5 x6 x7 x8 x9 x10 x11 x12 x13 x14) (k0_pay53 x0 x1 x2 x3 x4 x5 x6 x7 x8 x9 x10 x11 x12 x13 x14))⟩,
    ⟨r0_15, k0_pay28 (k0_pay46 x0 x1 x2 x3 x4 x5 x6 x7 x8 x9 x10 x11 x12 x13 x14) (k0_pay47 x0 x1 x2 x3 x4 x5 x6 x7 x8 x9 x10 x11 x12 x13 x14) (k0_pay52 x0 x1 x2 x3 x4 x5 x6 x7 x8 x9 x10 x11 x12 x13 x14) (k0_pay53 x0 x1 x2 x3 x4 x5 x6 x7 x8 x9 x10 x11 x12 x13 x14)⟩,
    ⟨r0_14, k0_pay26 (k0_pay46 x0 x1 x2 x3 x4 x5 x6 x7 x8 x9 x10 x11 x12 x13 x14) (k0_pay47 x0 x1 x2 x3 x4 x5 x6 x7 x8 x9 x10 x11 x12 x13 x14) (k0_pay52 x0 x1 x2 x3 x4 x5 x6 x7 x8 x9 x10 x11 x12 x13 x14) (k0_pay53 x0 x1 x2 x3 x4 x5 x6 x7 x8 x9 x10 x11 x12 x13 x14)⟩,
    ⟨r0_13, k0_pay24 (k0_pay23 (k0_pay46 x0 x1 x2 x3 x4 x5 x6 x7 x8 x9 x10 x11 x12 x13 x14) (k0_pay47 x0 x1 x2 x3 x4 x5 x6 x7 x8 x9 x10 x11 x12 x13 x14) (k0_pay52 x0 x1 x2 x3 x4 x5 x6 x7 x8 x9 x10 x11 x12 x13 x14) (k0_pay53 x0 x1 x2 x3 x4 x5 x6 x7 x8 x9 x10 x11 x12 x13 x14))⟩,
    ⟨r0_12, k0_pay21 (k0_pay46 x0 x1 x2 x3 x4 x5 x6 x7 x8 x9 x10 x11 x12 x13 x14) (k0_pay47 x0 x1 x2 x3 x4 x5 x6 x7 x8 x9 x10 x11 x12 x13 x14) (k0_pay52 x0 x1 x2 x3 x4 x5 x6 x7 x8 x9 x10 x11 x12 x13 x14) (k0_pay53 x0 x1 x2 x3 x4 x5 x6 x7 x8 x9 x10 x11 x12 x13 x14)⟩,
    ⟨r0_11, k0_pay19 (k0_pay46 x0 x1 x2 x3 x4 x5 x6 x7 x8 x9 x10 x11 x12 x13 x14) (k0_pay47 x0 x1 x2 x3 x4 x5 x6 x7 x8 x9 x10 x11 x12 x13 x14) (k0_pay52 x0 x1 x2 x3 x4 x5 x6 x7 x8 x9 x10 x11 x12 x13 x14) (k0_pay53 x0 x1 x2 x3 x4 x5 x6 x7 x8 x9 x10 x11 x12 x13 x14)⟩,
    ⟨r0_10, k0_pay17 (k0_pay16 (k0_pay46 x0 x1 x2 x3 x4 x5 x6 x7 x8 x9 x10 x11 x12 x13 x14) (k0_pay47 x0 x1 x2 x3 x4 x5 x6 x7 x8 x9 x10 x11 x12 x13 x14) (k0_pay49 x0 x1 x2 x3 x4 x5 x6 x7 x8 x9 x10 x11 x12 x13 x14) (k0_pay50 x0 x1 x2 x3 x4 x5 x6 x7 x8 x9 x10 x11 x12 x13 x14) (k0_pay51 x0 x1 x2 x3 x4 x5 x6 x7 x8 x9 x10 x11 x12 x13 x14) (View.ld x10 r0_7) (View.ld x11 r0_7))⟩]

/-- The stores into window 15 cover its block. -/
theorem cover0_15 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_17, p0⟩, ⟨r0_16, p1⟩, ⟨r0_15, p2⟩, ⟨r0_14, p3⟩, ⟨r0_13, p4⟩, ⟨r0_12, p5⟩, ⟨r0_11, p6⟩, ⟨r0_10, p7⟩] : List (View.Piece (Elt F) S512x1024 .bf16)), y ∈ pc.1.set :=
  View.cover_of_tiled [⟨r0_17, p0⟩, ⟨r0_16, p1⟩, ⟨r0_15, p2⟩, ⟨r0_14, p3⟩, ⟨r0_13, p4⟩, ⟨r0_12, p5⟩, ⟨r0_11, p6⟩, ⟨r0_10, p7⟩] S512x128.size (by rfl) y

/-- The block of window 16 after the body. -/
def out0_16 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : Vec F S512x1024 .bf16 :=
  View.canon [⟨r0_17, k0_pay34 (k0_pay54 x0 x1 x2 x3 x4 x5 x6 x7 x8 x9 x10 x11 x12 x13 x14) (k0_pay55 x0 x1 x2 x3 x4 x5 x6 x7 x8 x9 x10 x11 x12 x13 x14)⟩,
    ⟨r0_16, k0_pay32 (k0_pay54 x0 x1 x2 x3 x4 x5 x6 x7 x8 x9 x10 x11 x12 x13 x14) (k0_pay55 x0 x1 x2 x3 x4 x5 x6 x7 x8 x9 x10 x11 x12 x13 x14)⟩,
    ⟨r0_15, k0_pay29 (k0_pay54 x0 x1 x2 x3 x4 x5 x6 x7 x8 x9 x10 x11 x12 x13 x14) (k0_pay55 x0 x1 x2 x3 x4 x5 x6 x7 x8 x9 x10 x11 x12 x13 x14)⟩,
    ⟨r0_14, k0_pay27 (k0_pay54 x0 x1 x2 x3 x4 x5 x6 x7 x8 x9 x10 x11 x12 x13 x14) (k0_pay55 x0 x1 x2 x3 x4 x5 x6 x7 x8 x9 x10 x11 x12 x13 x14)⟩,
    ⟨r0_13, k0_pay25 (k0_pay54 x0 x1 x2 x3 x4 x5 x6 x7 x8 x9 x10 x11 x12 x13 x14) (k0_pay55 x0 x1 x2 x3 x4 x5 x6 x7 x8 x9 x10 x11 x12 x13 x14)⟩,
    ⟨r0_12, k0_pay22 (k0_pay54 x0 x1 x2 x3 x4 x5 x6 x7 x8 x9 x10 x11 x12 x13 x14) (k0_pay55 x0 x1 x2 x3 x4 x5 x6 x7 x8 x9 x10 x11 x12 x13 x14)⟩,
    ⟨r0_11, k0_pay20 (k0_pay54 x0 x1 x2 x3 x4 x5 x6 x7 x8 x9 x10 x11 x12 x13 x14) (k0_pay55 x0 x1 x2 x3 x4 x5 x6 x7 x8 x9 x10 x11 x12 x13 x14)⟩,
    ⟨r0_10, k0_pay18 (k0_pay54 x0 x1 x2 x3 x4 x5 x6 x7 x8 x9 x10 x11 x12 x13 x14) (k0_pay55 x0 x1 x2 x3 x4 x5 x6 x7 x8 x9 x10 x11 x12 x13 x14)⟩]

/-- The stores into window 16 cover its block. -/
theorem cover0_16 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_17, p0⟩, ⟨r0_16, p1⟩, ⟨r0_15, p2⟩, ⟨r0_14, p3⟩, ⟨r0_13, p4⟩, ⟨r0_12, p5⟩, ⟨r0_11, p6⟩, ⟨r0_10, p7⟩] : List (View.Piece (Elt F) S512x1024 .bf16)), y ∈ pc.1.set :=
  View.cover_of_tiled [⟨r0_17, p0⟩, ⟨r0_16, p1⟩, ⟨r0_15, p2⟩, ⟨r0_14, p3⟩, ⟨r0_13, p4⟩, ⟨r0_12, p5⟩, ⟨r0_11, p6⟩, ⟨r0_10, p7⟩] S512x128.size (by rfl) y

/-- The block of window 17 after the body. -/
def out0_17 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : Vec F S512x1024 .bf16 :=
  View.canon [⟨r0_0, k0_pay37 (k0_pay11 (k0_pay48 x0 x1 x2 x3 x4 x5 x6 x7 x8 x9 x10 x11 x12 x13 x14) (View.ld x12 r0_6)) k0_pay35 k0_pay36 (View.ld x14 r0_9)⟩]

/-- The stores into window 17 cover its block. -/
theorem cover0_17 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- The block of window 18 after the body. -/
def out0_18 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : Vec F S512x256 .bf16 :=
  View.canon [⟨r0_19, k0_pay39 (k0_pay45 x0 x1 x2 x3 x4 x5 x6 x7 x8 x9 x10 x11 x12 x13 x14) (View.ld x6 r0_18)⟩]

/-- The stores into window 18 cover its block. -/
theorem cover0_18 (p0 : Vec F S512x256 .bf16) (y : S512x256.Idx) :
    ∃ pc ∈ ([⟨r0_19, p0⟩] : List (View.Piece (Elt F) S512x256 .bf16)), y ∈ pc.1.set :=
  View.cover_of_tiled [⟨r0_19, p0⟩] S512x256.size (by rfl) y

/-- The block of window 19 after the body. -/
def out0_19 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : Vec F S256x512 .f32 :=
  View.canon [⟨r0_22, k0_pay43 (k0_pay45 x0 x1 x2 x3 x4 x5 x6 x7 x8 x9 x10 x11 x12 x13 x14) (View.ld x7 r0_21)⟩]

/-- The stores into window 19 cover its block. -/
theorem cover0_19 (p0 : Vec F S256x512 .f32) (y : S256x512.Idx) :
    ∃ pc ∈ ([⟨r0_22, p0⟩] : List (View.Piece (Elt F) S256x512 .f32)), y ∈ pc.1.set :=
  View.cover_of_tiled [⟨r0_22, p0⟩] S256x512.size (by rfl) y

/-- The block of window 20 after the body. -/
def out0_20 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : Vec F S512x512 .bf16 :=
  View.canon [⟨r0_20, k0_pay40 (k0_pay45 x0 x1 x2 x3 x4 x5 x6 x7 x8 x9 x10 x11 x12 x13 x14) (View.ld x6 r0_18)⟩]

/-- The stores into window 20 cover its block. -/
theorem cover0_20 (p0 : Vec F S512x512 .bf16) (y : S512x512.Idx) :
    ∃ pc ∈ ([⟨r0_20, p0⟩] : List (View.Piece (Elt F) S512x512 .bf16)), y ∈ pc.1.set :=
  View.cover_of_tiled [⟨r0_20, p0⟩] S512x512.size (by rfl) y

/-- The block of window 21 after the body. -/
def out0_21 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : Vec F S16x512 .bf16 :=
  View.canon [⟨r0_23, k0_pay44 (k0_pay45 x0 x1 x2 x3 x4 x5 x6 x7 x8 x9 x10 x11 x12 x13 x14) (View.ld x7 r0_21)⟩]

/-- The stores into window 21 cover its block. -/
theorem cover0_21 (p0 : Vec F S16x512 .bf16) (y : S16x512.Idx) :
    ∃ pc ∈ ([⟨r0_23, p0⟩] : List (View.Piece (Elt F) S16x512 .bf16)), y ∈ pc.1.set :=
  View.cover_of_tiled [⟨r0_23, p0⟩] S16x512.size (by rfl) y

/-- The block of window 22 after the body. -/
def out0_22 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : Vec F S512x512 .f32 :=
  View.canon [⟨r0_20, k0_pay41 (k0_pay45 x0 x1 x2 x3 x4 x5 x6 x7 x8 x9 x10 x11 x12 x13 x14) (View.ld x6 r0_18)⟩]

/-- The stores into window 22 cover its block. -/
theorem cover0_22 (p0 : Vec F S512x512 .f32) (y : S512x512.Idx) :
    ∃ pc ∈ ([⟨r0_20, p0⟩] : List (View.Piece (Elt F) S512x512 .f32)), y ∈ pc.1.set :=
  View.cover_of_tiled [⟨r0_20, p0⟩] S512x512.size (by rfl) y

/-- The block of window 23 after the body. -/
def out0_23 (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) : Vec F S512x2048 .f32 :=
  View.canon [⟨r0_25, k0_pay1 (k0_pay45 x0 x1 x2 x3 x4 x5 x6 x7 x8 x9 x10 x11 x12 x13 x14) (View.ld x8 r0_24)⟩]

/-- The stores into window 23 cover its block. -/
theorem cover0_23 (p0 : Vec F S512x2048 .f32) (y : S512x2048.Idx) :
    ∃ pc ∈ ([⟨r0_25, p0⟩] : List (View.Piece (Elt F) S512x2048 .f32)), y ∈ pc.1.set :=
  View.cover_of_tiled [⟨r0_25, p0⟩] S512x2048.size (by rfl) y

set_option maxHeartbeats 1000000 in
/-- The body at any point: from the input blocks to the output blocks. -/
theorem sound_kernel (c : Dev nD) (E : Set ℕ) (i : grid0.Coords) (arg1 : Memref sig .tc .vmem S512x1024 .f32) (harg1 : arg1.IsWhole) (arg2 : Memref sig .tc .vmem S512x1 .f32) (harg2 : arg2.IsWhole) (arg3 : Memref sig .tc .vmem S1x128 .f32) (harg3 : arg3.IsWhole) (arg4 : Memref sig .tc .vmem S1x1024 .f32) (harg4 : arg4.IsWhole) (arg5 : Memref sig .tc .vmem S1024x640 .bf16) (harg5 : arg5.IsWhole) (arg6 : Memref sig .tc .vmem S1024x256 .bf16) (harg6 : arg6.IsWhole) (arg7 : Memref sig .tc .vmem S1024x1280 .bf16) (harg7 : arg7.IsWhole) (arg8 : Memref sig .tc .vmem S272x1024 .bf16) (harg8 : arg8.IsWhole) (arg9 : Memref sig .tc .vmem S1024x2048 .bf16) (harg9 : arg9.IsWhole) (arg10 : Memref sig .tc .vmem S1x384 .f32) (harg10 : arg10.IsWhole) (arg11 : Memref sig .tc .vmem S384x1024 .bf16) (harg11 : arg11.IsWhole) (arg12 : Memref sig .tc .vmem S384x1024 .bf16) (harg12 : arg12.IsWhole) (arg13 : Memref sig .tc .vmem S1x256 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S512x256 .bf16) (harg19 : arg19.IsWhole) (arg20 : Memref sig .tc .vmem S256x512 .f32) (harg20 : arg20.IsWhole) (arg21 : Memref sig .tc .vmem S512x512 .bf16) (harg21 : arg21.IsWhole) (arg22 : Memref sig .tc .vmem S16x512 .bf16) (harg22 : arg22.IsWhole) (arg23 : Memref sig .tc .vmem S512x512 .f32) (harg23 : arg23.IsWhole) (arg24 : Memref sig .tc .vmem S512x2048 .f32) (harg24 : arg24.IsWhole)
    (x0 : Vec F S512x1024 .f32) (x1 : Vec F S512x1 .f32) (x2 : Vec F S1x128 .f32) (x3 : Vec F S1x1024 .f32) (x4 : Vec F S1024x640 .bf16) (x5 : Vec F S1024x256 .bf16) (x6 : Vec F S1024x1280 .bf16) (x7 : Vec F S272x1024 .bf16) (x8 : Vec F S1024x2048 .bf16) (x9 : Vec F S1x384 .f32) (x10 : Vec F S384x1024 .bf16) (x11 : Vec F S384x1024 .bf16) (x12 : Vec F S1x256 .f32) (x13 : Vec F S256x1024 .bf16) (x14 : Vec F S256x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x3 x4 x5 x6 x7 x8 x9 x10 x11 x12 x13 x14) ∗ owns (c : Thread nD τ) arg17 fullShare (out0_16 x0 x1 x2 x3 x4 x5 x6 x7 x8 x9 x10 x11 x12 x13 x14) ∗ owns (c : Thread nD τ) arg18 fullShare (out0_17 x0 x1 x2 x3 x4 x5 x6 x7 x8 x9 x10 x11 x12 x13 x14) ∗ owns (c : Thread nD τ) arg19 fullShare (out0_18 x0 x1 x2 x3 x4 x5 x6 x7 x8 x9 x10 x11 x12 x13 x14) ∗ owns (c : Thread nD τ) arg20 fullShare (out0_19 x0 x1 x2 x3 x4 x5 x6 x7 x8 x9 x10 x11 x12 x13 x14) ∗ owns (c : Thread nD τ) arg21 fullShare (out0_20 x0 x1 x2 x3 x4 x5 x6 x7 x8 x9 x10 x11 x12 x13 x14) ∗ owns (c : Thread nD τ) arg22 fullShare (out0_21 x0 x1 x2 x3 x4 x5 x6 x7 x8 x9 x10 x11 x12 x13 x14) ∗ owns (c : Thread nD τ) arg23 fullShare (out0_22 x0 x1 x2 x3 x4 x5 x6 x7 x8 x9 x10 x11 x12 x13 x14) ∗ owns (c : Thread nD τ) arg24 fullShare (out0_23 x0 x1 x2 x3 x4 x5 x6 x7 x8 x9 x10 x11 x12 x13 x14)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover0_15 _ _ _ _ _ _ _ _)).trans ?_
    rfl
  isplitl [H16]
  · iexists _; isplitr
    swap; · iexact H16
    ipureintro
    refine (View.read_writes_eq_canon _ _ _ (cover0_16 _ _ _ _ _ _ _ _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  iexists _; isplitr
  swap; · iexact H23
  ipureintro
  refine (View.read_writes_eq_canon _ _ _ (cover0_23 _)).trans ?_
  rfl

/-- What each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 24, h⟩ => absurd h (Nat.not_lt.2 (Nat.le_add_left _ _))
  Φ _ := Pipeline.ΦA spec0 c
  q _ := fullShare
  owed _ := 0

/-- The arrays at the call's entry are the ones the host left. -/
theorem A_eq (c : Dev nD) (w : Fin cfg0.W) : (dats m 0 c).A w = V m c (Pipeline.arrRef spec0 w) := by
  dsimp only [dats]

/-- What window 0's buffer holds after the body. -/
theorem after0_0 (c : Dev nD) (t : Fin cfg0.N) : (dats m 0 c).after 0 t = iblk m c 0 t := by dsimp only [dats]
/-- What window 1's buffer holds after the body. -/
theorem after0_1 (c : Dev nD) (t : Fin cfg0.N) : (dats m 0 c).after 1 t = iblk m c 1 t := by dsimp only [dats]
/-- What window 2's buffer holds after the body. -/
theorem after0_2 (c : Dev nD) (t : Fin cfg0.N) : (dats m 0 c).after 2 t = iblk m c 2 t := by dsimp only [dats]
/-- What window 3's buffer holds after the body. -/
theorem after0_3 (c : Dev nD) (t : Fin cfg0.N) : (dats m 0 c).after 3 t = iblk m c 3 t := by dsimp only [dats]
/-- What window 4's buffer holds after the body. -/
theorem after0_4 (c : Dev nD) (t : Fin cfg0.N) : (dats m 0 c).after 4 t = iblk m c 4 t := by dsimp only [dats]
/-- What window 5's buffer holds after the body. -/
theorem after0_5 (c : Dev nD) (t : Fin cfg0.N) : (dats m 0 c).after 5 t = iblk m c 5 t := by dsimp only [dats]
/-- What window 6's buffer holds after the body. -/
theorem after0_6 (c : Dev nD) (t : Fin cfg0.N) : (dats m 0 c).after 6 t = iblk m c 6 t := by dsimp only [dats]
/-- What window 7's buffer holds after the body. -/
theorem after0_7 (c : Dev nD) (t : Fin cfg0.N) : (dats m 0 c).after 7 t = iblk m c 7 t := by dsimp only [dats]
/-- What window 8's buffer holds after the body. -/
theorem after0_8 (c : Dev nD) (t : Fin cfg0.N) : (dats m 0 c).after 8 t = iblk m c 8 t := by dsimp only [dats]
/-- What window 9's buffer holds after the body. -/
theorem after0_9 (c : Dev nD) (t : Fin cfg0.N) : (dats m 0 c).after 9 t = iblk m c 9 t := by dsimp only [dats]
/-- What window 10's buffer holds after the body. -/
theorem after0_10 (c : Dev nD) (t : Fin cfg0.N) : (dats m 0 c).after 10 t = iblk m c 10 t := by dsimp only [dats]
/-- What window 11's buffer holds after the body. -/
theorem after0_11 (c : Dev nD) (t : Fin cfg0.N) : (dats m 0 c).after 11 t = iblk m c 11 t := by dsimp only [dats]
/-- What window 12's buffer holds after the body. -/
theorem after0_12 (c : Dev nD) (t : Fin cfg0.N) : (dats m 0 c).after 12 t = iblk m c 12 t := by dsimp only [dats]
/-- What window 13's buffer holds after the body. -/
theorem after0_13 (c : Dev nD) (t : Fin cfg0.N) : (dats m 0 c).after 13 t = iblk m c 13 t := by dsimp only [dats]
/-- What window 14's buffer holds after the body. -/
theorem after0_14 (c : Dev nD) (t : Fin cfg0.N) : (dats m 0 c).after 14 t = iblk m c 14 t := by dsimp only [dats]
/-- What window 15's buffer holds after the body. -/
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
/-- What window 16's buffer holds after the body. -/
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
/-- What window 17's buffer holds after the body. -/
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
/-- What window 18's buffer holds after the body. -/
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
/-- What window 19's buffer holds after the body. -/
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
/-- What window 20's buffer holds after the body. -/
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
/-- What window 21's buffer holds after the body. -/
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
/-- What window 22's buffer holds after the body. -/
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
/-- What window 23's buffer holds after the body. -/
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

/-- What window 0's buffer holds before the body. -/
theorem before0_0 (c : Dev nD) (t : Fin cfg0.N) (d) : (dats m 0 c).before 0 t d = iblk m c 0 t :=
  before0_0_of m (dats m 0 c) (A_eq m c 0) (after0_0 m c) t d
/-- What window 1's buffer holds before the body. -/
theorem before0_1 (c : Dev nD) (t : Fin cfg0.N) (d) : (dats m 0 c).before 1 t d = iblk m c 1 t :=
  before0_1_of m (dats m 0 c) (A_eq m c 1) (after0_1 m c) t d
/-- What window 2's buffer holds before the body. -/
theorem before0_2 (c : Dev nD) (t : Fin cfg0.N) (d) : (dats m 0 c).before 2 t d = iblk m c 2 t :=
  before0_2_of m (dats m 0 c) (A_eq m c 2) (after0_2 m c) t d
/-- What window 3's buffer holds before the body. -/
theorem before0_3 (c : Dev nD) (t : Fin cfg0.N) (d) : (dats m 0 c).before 3 t d = iblk m c 3 t :=
  before0_3_of m (dats m 0 c) (A_eq m c 3) (after0_3 m c) t d
/-- What window 4's buffer holds before the body. -/
theorem before0_4 (c : Dev nD) (t : Fin cfg0.N) (d) : (dats m 0 c).before 4 t d = iblk m c 4 t :=
  before0_4_of m (dats m 0 c) (A_eq m c 4) (after0_4 m c) t d
/-- What window 5's buffer holds before the body. -/
theorem before0_5 (c : Dev nD) (t : Fin cfg0.N) (d) : (dats m 0 c).before 5 t d = iblk m c 5 t :=
  before0_5_of m (dats m 0 c) (A_eq m c 5) (after0_5 m c) t d
/-- What window 6's buffer holds before the body. -/
theorem before0_6 (c : Dev nD) (t : Fin cfg0.N) (d) : (dats m 0 c).before 6 t d = iblk m c 6 t :=
  before0_6_of m (dats m 0 c) (A_eq m c 6) (after0_6 m c) t d
/-- What window 7's buffer holds before the body. -/
theorem before0_7 (c : Dev nD) (t : Fin cfg0.N) (d) : (dats m 0 c).before 7 t d = iblk m c 7 t :=
  before0_7_of m (dats m 0 c) (A_eq m c 7) (after0_7 m c) t d
/-- What window 8's buffer holds before the body. -/
theorem before0_8 (c : Dev nD) (t : Fin cfg0.N) (d) : (dats m 0 c).before 8 t d = iblk m c 8 t :=
  before0_8_of m (dats m 0 c) (A_eq m c 8) (after0_8 m c) t d
/-- What window 9's buffer holds before the body. -/
theorem before0_9 (c : Dev nD) (t : Fin cfg0.N) (d) : (dats m 0 c).before 9 t d = iblk m c 9 t :=
  before0_9_of m (dats m 0 c) (A_eq m c 9) (after0_9 m c) t d
/-- What window 10's buffer holds before the body. -/
theorem before0_10 (c : Dev nD) (t : Fin cfg0.N) (d) : (dats m 0 c).before 10 t d = iblk m c 10 t :=
  before0_10_of m (dats m 0 c) (A_eq m c 10) (after0_10 m c) t d
/-- What window 11's buffer holds before the body. -/
theorem before0_11 (c : Dev nD) (t : Fin cfg0.N) (d) : (dats m 0 c).before 11 t d = iblk m c 11 t :=
  before0_11_of m (dats m 0 c) (A_eq m c 11) (after0_11 m c) t d
/-- What window 12's buffer holds before the body. -/
theorem before0_12 (c : Dev nD) (t : Fin cfg0.N) (d) : (dats m 0 c).before 12 t d = iblk m c 12 t :=
  before0_12_of m (dats m 0 c) (A_eq m c 12) (after0_12 m c) t d
/-- What window 13's buffer holds before the body. -/
theorem before0_13 (c : Dev nD) (t : Fin cfg0.N) (d) : (dats m 0 c).before 13 t d = iblk m c 13 t :=
  before0_13_of m (dats m 0 c) (A_eq m c 13) (after0_13 m c) t d
/-- What window 14's buffer holds before the body. -/
theorem before0_14 (c : Dev nD) (t : Fin cfg0.N) (d) : (dats m 0 c).before 14 t d = iblk m c 14 t :=
  before0_14_of m (dats m 0 c) (A_eq m c 14) (after0_14 m c) t d

/-- What the body finds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- What the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

/-- The body at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body's row of the table. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array ends at what the blocks make it, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the program ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.ProjIdeal.Run

end
-- ==== Proof.ProjTile.lean ====
/- The projection body's arithmetic at the ideal values, read at one element of each output block. -/
module

public import proofs.«01_k».proof.Proof.ProjRow
public import proofs.«01_k».proof.Proof.ProjRun
public import Idealize.ShloMosaic.Lib.Pipeline.Value
public import Idealize.ShloMosaic.Lib.ValueIdx
public import Idealize.ShloMosaic.Lib.MatmulPlain
public import Idealize.ShloMosaic.Lib.ValueLayout
public import Idealize.ShloMosaic.Lib.ValueLayoutCasts

@[expose] public section

set_option maxRecDepth 16384

noncomputable section

namespace Cert.ProjIdeal.Proj

open Cert.ProjIdeal Cert.ProjIdeal.Gen Cert.ProjIdeal.Run Cert.ProjRow
open Idealize.ShloMosaic Idealize.ShloMosaic.ValueIdx
open scoped BigOperators

/-! ## Products, sums and broadcasts -/

/-- A product over 1024 terms into 640 columns. -/
theorem mm_1024_640 (a : FVec Ideal S512x1024 .bf16) (b : FVec Ideal S1024x640 .bf16) (r : Fin 512) (d : Fin 640) :
    matmul dot_S512x1024_S1024x640_S512x640_1_0_0_1_n_n none a b (constant S512x640 .f32 0x00000000#32) (ix2 r d) = dot (fun c => a (ix2 r c)) (fun c => b (ix2 c d)) := by
  refine (Ideal.matmul_plain_apply (M := 512) (K := 1024) (N := 640) none a b (constant S512x640 .f32 0x00000000#32) r d).trans ?_
  show Ideal.ofBits .f32 0x00000000#32 + _ = _
  rw [Ideal.ofBits_zero_f32, zero_add]
  rfl

/-- A product over 384 terms into 1024 columns. -/
theorem mm_384_1024 (a : FVec Ideal S512x384 .bf16) (b : FVec Ideal S384x1024 .bf16) (r : Fin 512) (d : Fin 1024) :
    matmul dot_S512x384_S384x1024_S512x1024_1_0_0_1_n_n none a b (constant S512x1024 .f32 0x00000000#32) (ix2 r d) = dot (fun c => a (ix2 r c)) (fun c => b (ix2 c d)) := by
  refine (Ideal.matmul_plain_apply (M := 512) (K := 384) (N := 1024) none a b (constant S512x1024 .f32 0x00000000#32) r d).trans ?_
  show Ideal.ofBits .f32 0x00000000#32 + _ = _
  rw [Ideal.ofBits_zero_f32, zero_add]
  rfl

/-- A product over 1024 terms into 256 columns. -/
theorem mm_1024_256 (a : FVec Ideal S512x1024 .bf16) (b : FVec Ideal S1024x256 .bf16) (r : Fin 512) (d : Fin 256) :
    matmul dot_S512x1024_S1024x256_S512x256_1_0_0_1_n_n none a b (constant S512x256 .f32 0x00000000#32) (ix2 r d) = dot (fun c => a (ix2 r c)) (fun c => b (ix2 c d)) := by
  refine (Ideal.matmul_plain_apply (M := 512) (K := 1024) (N := 256) none a b (constant S512x256 .f32 0x00000000#32) r d).trans ?_
  show Ideal.ofBits .f32 0x00000000#32 + _ = _
  rw [Ideal.ofBits_zero_f32, zero_add]
  rfl

/-- A product over 256 terms into 1024 columns. -/
theorem mm_256_1024 (a : FVec Ideal S512x256 .bf16) (b : FVec Ideal S256x1024 .bf16) (r : Fin 512) (d : Fin 1024) :
    matmul dot_S512x256_S256x1024_S512x1024_1_0_0_1_n_n none a b (constant S512x1024 .f32 0x00000000#32) (ix2 r d) = dot (fun c => a (ix2 r c)) (fun c => b (ix2 c d)) := by
  refine (Ideal.matmul_plain_apply (M := 512) (K := 256) (N := 1024) none a b (constant S512x1024 .f32 0x00000000#32) r d).trans ?_
  show Ideal.ofBits .f32 0x00000000#32 + _ = _
  rw [Ideal.ofBits_zero_f32, zero_add]
  rfl

/-- A product over 1024 terms into 1280 columns. -/
theorem mm_1024_1280 (a : FVec Ideal S512x1024 .bf16) (b : FVec Ideal S1024x1280 .bf16) (r : Fin 512) (d : Fin 1280) :
    matmul dot_S512x1024_S1024x1280_S512x1280_1_0_0_1_n_n none a b (constant S512x1280 .f32 0x00000000#32) (ix2 r d) = dot (fun c => a (ix2 r c)) (fun c => b (ix2 c d)) := by
  refine (Ideal.matmul_plain_apply (M := 512) (K := 1024) (N := 1280) none a b (constant S512x1280 .f32 0x00000000#32) r d).trans ?_
  show Ideal.ofBits .f32 0x00000000#32 + _ = _
  rw [Ideal.ofBits_zero_f32, zero_add]
  rfl

/-- A product over 1024 terms into 2048 columns. -/
theorem mm_1024_2048 (a : FVec Ideal S512x1024 .bf16) (b : FVec Ideal S1024x2048 .bf16) (r : Fin 512) (d : Fin 2048) :
    matmul dot_S512x1024_S1024x2048_S512x2048_1_0_0_1_n_n none a b (constant S512x2048 .f32 0x00000000#32) (ix2 r d) = dot (fun c => a (ix2 r c)) (fun c => b (ix2 c d)) := by
  refine (Ideal.matmul_plain_apply (M := 512) (K := 1024) (N := 2048) none a b (constant S512x2048 .f32 0x00000000#32) r d).trans ?_
  show Ideal.ofBits .f32 0x00000000#32 + _ = _
  rw [Ideal.ofBits_zero_f32, zero_add]
  rfl

/-- A product with the transposed right operand. -/
theorem mt (a : FVec Ideal S272x1024 .bf16) (b : FVec Ideal S512x1024 .bf16) (d : Fin 272) (r : Fin 512) :
    matmul dot_S272x1024_S512x1024_S272x512_1_1_0_0_n_n none a b (constant S272x512 .f32 0x00000000#32) (ix2 d r) = dot (fun c => b (ix2 r c)) (fun c => a (ix2 d c)) := by
  refine (Ideal.matmul_transposedRhs_apply (M := 272) (K := 1024) (N := 512) none a b (constant S272x512 .f32 0x00000000#32) d r).trans ?_
  show Ideal.ofBits .f32 0x00000000#32 + _ = _
  rw [Ideal.ofBits_zero_f32, zero_add]
  exact Finset.sum_congr rfl fun c _ => mul_comm _ _

/-- A row's sum over 1024 elements. -/
theorem rowsum_1024 (s : FVec Ideal S512x1024 .f32) (r : Fin 512) (h : Shape.Reduces S512x1024 [1] S512) (h1) (h2) :
    multiReduction .add [1] S512 s 0x00000000#32 h h1 h2 (ix1 r) = ∑ k : Fin 1024, s (ix2 r k) := by
  refine (Ideal.multiReduction_add_single s _ h h1 h2 (ix1 r)).trans ?_
  refine Finset.sum_congr rfl fun k _ => congrArg s ?_
  funext a
  match a with
  | ⟨0, _⟩ => rfl
  | ⟨1, _⟩ => rfl

/-- A row's sum over 384 elements. -/
theorem rowsum_384 (s : FVec Ideal S512x384 .f32) (r : Fin 512) (h : Shape.Reduces S512x384 [1] S512) (h1) (h2) :
    multiReduction .add [1] S512 s 0x00000000#32 h h1 h2 (ix1 r) = ∑ k : Fin 384, s (ix2 r k) := by
  refine (Ideal.multiReduction_add_single s _ h h1 h2 (ix1 r)).trans ?_
  refine Finset.sum_congr rfl fun k _ => congrArg s ?_
  funext a
  match a with
  | ⟨0, _⟩ => rfl
  | ⟨1, _⟩ => rfl

/-- A row's sum over 256 elements. -/
theorem rowsum_256 (s : FVec Ideal S512x256 .f32) (r : Fin 512) (h : Shape.Reduces S512x256 [1] S512) (h1) (h2) :
    multiReduction .add [1] S512 s 0x00000000#32 h h1 h2 (ix1 r) = ∑ k : Fin 256, s (ix2 r k) := by
  refine (Ideal.multiReduction_add_single s _ h h1 h2 (ix1 r)).trans ?_
  refine Finset.sum_congr rfl fun k _ => congrArg s ?_
  funext a
  match a with
  | ⟨0, _⟩ => rfl
  | ⟨1, _⟩ => rfl

/-- A column broadcast along the rows reads the row's element. -/
theorem bcol {N : ℕ} (x : S512x1.Idx → EReal) (h : S512x1.Broadcasts ⟨2, ![512, N]⟩) (r : Fin 512) (c : Fin N) :
    broadcastTo ⟨2, ![512, N]⟩ x h (ix2 r c) = x (ix2 r 0) := by
  refine broadcastTo_apply x h (ix2 r c) (ix2 r 0) fun a => ?_
  match a with
  | ⟨0, _⟩ => rfl
  | ⟨1, _⟩ => rfl

/-- A slice of columns. -/
theorem cols {M N K : ℕ} (o : ℕ) (x : (⟨2, ![M, N]⟩ : Shape).Idx → EReal) (h : (⟨2, ![M, N]⟩ : Shape).Slices ![0, o] ⟨2, ![M, K]⟩) (r : Fin M) (c : Fin K) (hk : o + c.val < N) :
    extractStridedSlice ⟨2, ![M, K]⟩ ![0, o] x h (ix2 r c) = x (ix2 r (⟨o + c.val, hk⟩ : Fin N)) := by
  refine extractStridedSlice_apply _ x h _ _ fun a => ?_
  match a with
  | ⟨0, _⟩ => exact (Nat.zero_add _).symm
  | ⟨1, _⟩ => rfl

/-- A slice of rows. -/
theorem rows {M N K : ℕ} (o : ℕ) (x : (⟨2, ![M, N]⟩ : Shape).Idx → EReal) (h : (⟨2, ![M, N]⟩ : Shape).Slices ![o, 0] ⟨2, ![K, N]⟩) (r : Fin K) (c : Fin N) (hk : o + r.val < M) :
    extractStridedSlice ⟨2, ![K, N]⟩ ![o, 0] x h (ix2 r c) = x (ix2 (⟨o + r.val, hk⟩ : Fin M) c) := by
  refine extractStridedSlice_apply _ x h _ _ fun a => ?_
  match a with
  | ⟨0, _⟩ => rfl
  | ⟨1, _⟩ => exact (Nat.zero_add _).symm

/-- A row of 1024 broadcast down the columns reads the column's element. -/
theorem brow_1024 (x : S1x1024.Idx → EReal) (h : S1x1024.Broadcasts S512x1024) (r : Fin 512) (c : Fin 1024) :
    broadcastTo S512x1024 x h (ix2 r c) = x (ix2 0 c) := by
  refine broadcastTo_apply x h (ix2 r c) (ix2 0 c) fun a => ?_
  match a with
  | ⟨0, _⟩ => rfl
  | ⟨1, _⟩ => rfl

/-- A row of 384 broadcast down the columns reads the column's element. -/
theorem brow_384 (x : S1x384.Idx → EReal) (h : S1x384.Broadcasts S512x384) (r : Fin 512) (c : Fin 384) :
    broadcastTo S512x384 x h (ix2 r c) = x (ix2 0 c) := by
  refine broadcastTo_apply x h (ix2 r c) (ix2 0 c) fun a => ?_
  match a with
  | ⟨0, _⟩ => rfl
  | ⟨1, _⟩ => rfl

/-- A row of 256 broadcast down the columns reads the column's element. -/
theorem brow_256 (x : S1x256.Idx → EReal) (h : S1x256.Broadcasts S512x256) (r : Fin 512) (c : Fin 256) :
    broadcastTo S512x256 x h (ix2 r c) = x (ix2 0 c) := by
  refine broadcastTo_apply x h (ix2 r c) (ix2 0 c) fun a => ?_
  match a with
  | ⟨0, _⟩ => rfl
  | ⟨1, _⟩ => rfl

/-- A row of 128 broadcast down the columns reads the column's element. -/
theorem brow_128 (x : S1x128.Idx → EReal) (h : S1x128.Broadcasts S512x128) (r : Fin 512) (c : Fin 128) :
    broadcastTo S512x128 x h (ix2 r c) = x (ix2 0 c) := by
  refine broadcastTo_apply x h (ix2 r c) (ix2 0 c) fun a => ?_
  match a with
  | ⟨0, _⟩ => rfl
  | ⟨1, _⟩ => rfl

/-! ## The block's values, element by element -/

section

variable (x0 : Vec Ideal S512x1024 .f32) (x1 : Vec Ideal S512x1 .f32) (x2 : Vec Ideal S1x128 .f32) (x3 : Vec Ideal S1x1024 .f32) (x4 : Vec Ideal S1024x640 .bf16) (x5 : Vec Ideal S1024x256 .bf16) (x6 : Vec Ideal S1024x1280 .bf16) (x7 : Vec Ideal S272x1024 .bf16) (x8 : Vec Ideal S1024x2048 .bf16) (x9 : Vec Ideal S1x384 .f32) (x10 : Vec Ideal S384x1024 .bf16) (x11 : Vec Ideal S384x1024 .bf16) (x12 : Vec Ideal S1x256 .f32) (x13 : Vec Ideal S256x1024 .bf16) (x14 : Vec Ideal S256x1024 .bf16)

/-- The normed row of a token. -/
def hb (x0 : Vec Ideal S512x1024 .f32) (x3 : Vec Ideal S1x1024 .f32) (r : Fin 512) : Fin 1024 → EReal :=
  nrm 0x44800000#32 (fun d => x0 (ix2 r d)) (fun d => x3 (ix2 0 d))

/-- The latent row of a token. -/
def latb (x0 : Vec Ideal S512x1024 .f32) (x3 : Vec Ideal S1x1024 .f32) (x4 : Vec Ideal S1024x640 .bf16) (r : Fin 512) (j : Fin 640) : EReal :=
  dot (hb x0 x3 r) (fun d => x4 (ix2 d j))

/-- The normed query latent of a token. -/
def qnb (x0 : Vec Ideal S512x1024 .f32) (x3 : Vec Ideal S1x1024 .f32) (x4 : Vec Ideal S1024x640 .bf16) (x9 : Vec Ideal S1x384 .f32) (r : Fin 512) : Fin 384 → EReal :=
  nrm 0x43C00000#32 (fun j => latb x0 x3 x4 r (⟨0 + j.val, by have := j.isLt; omega⟩ : Fin 640)) (fun j => x9 (ix2 0 j))

/-- The normed key-value latent of a token. -/
def kvnb (x0 : Vec Ideal S512x1024 .f32) (x3 : Vec Ideal S1x1024 .f32) (x4 : Vec Ideal S1024x640 .bf16) (x12 : Vec Ideal S1x256 .f32) (r : Fin 512) : Fin 256 → EReal :=
  nrm 0x43800000#32 (fun j => latb x0 x3 x4 r (⟨384 + j.val, by have := j.isLt; omega⟩ : Fin 640)) (fun j => x12 (ix2 0 j))

/-- The angle of a lane. -/
def angb (x1 : Vec Ideal S512x1 .f32) (x2 : Vec Ideal S1x128 .f32) (r : Fin 512) (l : Fin 128) : EReal := x1 (ix2 r 0) * x2 (ix2 0 l)

/-- The rotary part of the keys. -/
def kpeb (x0 : Vec Ideal S512x1024 .f32) (x1 : Vec Ideal S512x1 .f32) (x2 : Vec Ideal S1x128 .f32) (x3 : Vec Ideal S1x1024 .f32) (x5 : Vec Ideal S1024x256 .bf16) (r : Fin 512) (l : Fin 128) : EReal :=
  dot (hb x0 x3 r) (fun d => x5 (ix2 d (⟨0 + l.val, by have := l.isLt; omega⟩ : Fin 256))) * Ideal.cos (angb x1 x2 r l)
    + dot (hb x0 x3 r) (fun d => x5 (ix2 d (⟨128 + l.val, by have := l.isLt; omega⟩ : Fin 256))) * Ideal.sin (angb x1 x2 r l)

/-- The normed block. -/
theorem p45 (r : Fin 512) (d : Fin 1024) : k0_pay45 (F := Ideal) x0 x1 x2 x3 x4 x5 x6 x7 x8 x9 x10 x11 x12 x13 x14 (ix2 r d) = hb x0 x3 r d := by
  unfold k0_pay45 k0_pay2
  rw [View.ld_unit_zero (by decide), View.ld_unit_zero (by decide)]
  simp only [shapeCast_self]
  show x0 (ix2 r d) * broadcastTo S512x1024 _ _ (ix2 r d) * broadcastTo S512x1024 x3 _ (ix2 r d) = _
  rw [brow_1024, bcol (N := 1024)]
  unfold hb nrm
  congr 2
  show Ideal.rsqrt (Ideal.div (shapeCast S512x1 _ _ (ix2 r 0)) _ + _) = _
  rw [shapeCast_a_a1_apply]
  exact congrArg (fun z => Ideal.rsqrt (Ideal.div z _ + _)) (rowsum_1024 _ r _ _ rfl)

/-- The latent block. -/
theorem p48 (r : Fin 512) (j : Fin 640) : k0_pay48 (F := Ideal) x0 x1 x2 x3 x4 x5 x6 x7 x8 x9 x10 x11 x12 x13 x14 (ix2 r j) = latb x0 x3 x4 r j := by
  unfold k0_pay48 k0_pay6
  rw [View.ld_unit_zero (S := S1024x640) (by decide)]
  simp only [shapeCast_self]
  refine (mm_1024_640 _ x4 r j).trans ?_
  exact congrArg (fun f => dot f _) (funext fun d => p45 x0 x1 x2 x3 x4 x5 x6 x7 x8 x9 x10 x11 x12 x13 x14 r d)

/-- The query latent. -/
theorem p49 (r : Fin 512) (j : Fin 384) : k0_pay49 (F := Ideal) x0 x1 x2 x3 x4 x5 x6 x7 x8 x9 x10 x11 x12 x13 x14 (ix2 r j) = latb x0 x3 x4 r (⟨0 + j.val, by have := j.isLt; omega⟩ : Fin 640) :=
  (cols (M := 512) (N := 640) (K := 384) 0 (k0_pay48 (F := Ideal) x0 x1 x2 x3 x4 x5 x6 x7 x8 x9 x10 x11 x12 x13 x14) slices_S512x640_o0_0_S512x384 r j (by have := j.isLt; omega)).trans (p48 x0 x1 x2 x3 x4 x5 x6 x7 x8 x9 x10 x11 x12 x13 x14 r _)

/-- The query norm's weights. -/
theorem p50 : k0_pay50 (F := Ideal) x0 x1 x2 x3 x4 x5 x6 x7 x8 x9 x10 x11 x12 x13 x14 = x9 := by
  unfold k0_pay50 k0_pay8
  rw [View.ld_unit_zero (by decide)]
  exact shapeCast_self _ _

/-- The query norm's factor. -/
theorem p51 (r : Fin 512) : k0_pay51 (F := Ideal) x0 x1 x2 x3 x4 x5 x6 x7 x8 x9 x10 x11 x12 x13 x14 (ix2 r 0)
    = Ideal.rsqrt (Ideal.div (∑ k : Fin 384, k0_pay49 (F := Ideal) x0 x1 x2 x3 x4 x5 x6 x7 x8 x9 x10 x11 x12 x13 x14 (ix2 r k) * k0_pay49 (F := Ideal) x0 x1 x2 x3 x4 x5 x6 x7 x8 x9 x10 x11 x12 x13 x14 (ix2 r k)) (Ideal.ofBits .f32 0x43C00000#32) + Ideal.ofBits .f32 0x358637BD#32) := by
  unfold k0_pay51 k0_pay9
  show Ideal.rsqrt (Ideal.div (shapeCast S512x1 _ _ (ix2 r 0)) _ + _) = _
  rw [shapeCast_a_a1_apply]
  exact congrArg (fun z => Ideal.rsqrt (Ideal.div z _ + _)) (rowsum_384 _ r _ _ rfl)

/-- The normed query latent. -/
theorem p10 (r : Fin 512) (j : Fin 384) : k0_pay10 (F := Ideal) (k0_pay49 x0 x1 x2 x3 x4 x5 x6 x7 x8 x9 x10 x11 x12 x13 x14) (k0_pay50 x0 x1 x2 x3 x4 x5 x6 x7 x8 x9 x10 x11 x12 x13 x14) (k0_pay51 x0 x1 x2 x3 x4 x5 x6 x7 x8 x9 x10 x11 x12 x13 x14) (ix2 r j) = qnb x0 x3 x4 x9 r j := by
  rw [p50]
  unfold k0_pay10
  show k0_pay49 (F := Ideal) x0 x1 x2 x3 x4 x5 x6 x7 x8 x9 x10 x11 x12 x13 x14 (ix2 r j) * broadcastTo S512x384 _ _ (ix2 r j) * broadcastTo S512x384 x9 _ (ix2 r j) = _
  rw [brow_384, bcol (N := 384), p51]
  simp only [p49]
  rfl

/-- The normed key-value latent. -/
theorem p11 (r : Fin 512) (j : Fin 256) : k0_pay11 (F := Ideal) (k0_pay48 x0 x1 x2 x3 x4 x5 x6 x7 x8 x9 x10 x11 x12 x13 x14) (View.ld x12 r0_6) (ix2 r j) = kvnb x0 x3 x4 x12 r j := by
  rw [View.ld_unit_zero (by decide)]
  unfold k0_pay11
  simp only [shapeCast_self]
  have hc : ∀ j : Fin 256, extractStridedSlice S512x256 ![0, 384] (k0_pay48 (F := Ideal) x0 x1 x2 x3 x4 x5 x6 x7 x8 x9 x10 x11 x12 x13 x14) slices_S512x640_o0_384_S512x256 (ix2 r j) = latb x0 x3 x4 r (⟨384 + j.val, by have := j.isLt; omega⟩ : Fin 640) := fun j =>
    (cols (M := 512) (N := 640) (K := 256) 384 (k0_pay48 (F := Ideal) x0 x1 x2 x3 x4 x5 x6 x7 x8 x9 x10 x11 x12 x13 x14) slices_S512x640_o0_384_S512x256 r j (by have := j.isLt; omega)).trans (p48 x0 x1 x2 x3 x4 x5 x6 x7 x8 x9 x10 x11 x12 x13 x14 r _)
  show extractStridedSlice S512x256 ![0, 384] (k0_pay48 (F := Ideal) x0 x1 x2 x3 x4 x5 x6 x7 x8 x9 x10 x11 x12 x13 x14) slices_S512x640_o0_384_S512x256 (ix2 r j) * broadcastTo S512x256 _ _ (ix2 r j) * broadcastTo S512x256 x12 _ (ix2 r j) = _
  rw [brow_256, bcol (N := 256), hc]
  unfold kvnb nrm
  congr 2
  show Ideal.rsqrt (Ideal.div (shapeCast S512x1 _ _ (ix2 r 0)) _ + _) = _
  rw [shapeCast_a_a1_apply]
  refine congrArg (fun z => Ideal.rsqrt (Ideal.div z _ + _)) ((rowsum_256 _ r _ _ rfl).trans ?_)
  exact Finset.sum_congr rfl fun k _ => congrArg₂ (· * ·) (hc k) (hc k)

/-- The angles. -/
theorem p3 (r : Fin 512) (l : Fin 128) : k0_pay3 (F := Ideal) x1 x2 (ix2 r l) = angb x1 x2 r l := by
  unfold k0_pay3
  simp only [shapeCast_self]
  show broadcastTo S512x128 x1 _ (ix2 r l) * broadcastTo S512x128 x2 _ (ix2 r l) = _
  rw [brow_128, bcol (N := 128)]
  rfl

/-- Their cosines. -/
theorem p46 (r : Fin 512) (l : Fin 128) : k0_pay46 (F := Ideal) x0 x1 x2 x3 x4 x5 x6 x7 x8 x9 x10 x11 x12 x13 x14 (ix2 r l) = Ideal.cos (angb x1 x2 r l) := by
  unfold k0_pay46 k0_pay4
  rw [View.ld_unit_zero (by decide), View.ld_unit_zero (by decide)]
  exact congrArg Ideal.cos (p3 x1 x2 r l)

/-- Their sines. -/
theorem p47 (r : Fin 512) (l : Fin 128) : k0_pay47 (F := Ideal) x0 x1 x2 x3 x4 x5 x6 x7 x8 x9 x10 x11 x12 x13 x14 (ix2 r l) = Ideal.sin (angb x1 x2 r l) := by
  unfold k0_pay47 k0_pay5
  rw [View.ld_unit_zero (by decide), View.ld_unit_zero (by decide)]
  exact congrArg Ideal.sin (p3 x1 x2 r l)

/-- The queries' product. -/
theorem p52 (r : Fin 512) (j : Fin 1024) : k0_pay52 (F := Ideal) x0 x1 x2 x3 x4 x5 x6 x7 x8 x9 x10 x11 x12 x13 x14 (ix2 r j) = dot (qnb x0 x3 x4 x9 r) (fun c => x10 (ix2 c j)) := by
  unfold k0_pay52 k0_pay12
  rw [View.ld_unit_zero (by decide)]
  simp only [shapeCast_self]
  refine (mm_384_1024 _ x10 r j).trans ?_
  exact congrArg (fun f => dot f _) (funext fun d => p10 x0 x1 x2 x3 x4 x5 x6 x7 x8 x9 x10 x11 x12 x13 x14 r d)

/-- The rotated queries' product. -/
theorem p53 (r : Fin 512) (j : Fin 1024) : k0_pay53 (F := Ideal) x0 x1 x2 x3 x4 x5 x6 x7 x8 x9 x10 x11 x12 x13 x14 (ix2 r j) = dot (qnb x0 x3 x4 x9 r) (fun c => x11 (ix2 c j)) := by
  unfold k0_pay53 k0_pay13
  rw [View.ld_unit_zero (by decide)]
  simp only [shapeCast_self]
  refine (mm_384_1024 _ x11 r j).trans ?_
  exact congrArg (fun f => dot f _) (funext fun d => p10 x0 x1 x2 x3 x4 x5 x6 x7 x8 x9 x10 x11 x12 x13 x14 r d)

/-- The rotary part of the keys. -/
theorem p54 (r : Fin 512) (l : Fin 128) : k0_pay54 (F := Ideal) x0 x1 x2 x3 x4 x5 x6 x7 x8 x9 x10 x11 x12 x13 x14 (ix2 r l) = kpeb x0 x1 x2 x3 x5 r l := by
  unfold k0_pay54 k0_pay14
  rw [View.ld_unit_zero (by decide)]
  simp only [shapeCast_self]
  show (extractStridedSlice S512x128 ![0, 0] (matmul dot_S512x1024_S1024x256_S512x256_1_0_0_1_n_n none (k0_pay45 (F := Ideal) x0 x1 x2 x3 x4 x5 x6 x7 x8 x9 x10 x11 x12 x13 x14) x5 (constant S512x256 .f32 0x00000000#32)) slices_S512x256_o0_0_S512x128 : S512x128.Idx → EReal) (ix2 r l) * k0_pay46 (F := Ideal) x0 x1 x2 x3 x4 x5 x6 x7 x8 x9 x10 x11 x12 x13 x14 (ix2 r l) + (extractStridedSlice S512x128 ![0, 128] (matmul dot_S512x1024_S1024x256_S512x256_1_0_0_1_n_n none (k0_pay45 (F := Ideal) x0 x1 x2 x3 x4 x5 x6 x7 x8 x9 x10 x11 x12 x13 x14) x5 (constant S512x256 .f32 0x00000000#32)) slices_S512x256_o0_128_S512x128 : S512x128.Idx → EReal) (ix2 r l) * k0_pay47 (F := Ideal) x0 x1 x2 x3 x4 x5 x6 x7 x8 x9 x10 x11 x12 x13 x14 (ix2 r l) = _
  rw [cols (M := 512) (N := 256) (K := 128) 0 _ _ r l (by have := l.isLt; omega), cols (M := 512) (N := 256) (K := 128) 128 _ _ r l (by have := l.isLt; omega), mm_1024_256, mm_1024_256, p46, p47]
  have e : (fun c => k0_pay45 (F := Ideal) x0 x1 x2 x3 x4 x5 x6 x7 x8 x9 x10 x11 x12 x13 x14 (ix2 r c)) = hb x0 x3 r := funext fun d => p45 x0 x1 x2 x3 x4 x5 x6 x7 x8 x9 x10 x11 x12 x13 x14 r d
  rw [e]
  rfl

/-- The keys' product. -/
theorem p55 (r : Fin 512) (j : Fin 1024) : k0_pay55 (F := Ideal) x0 x1 x2 x3 x4 x5 x6 x7 x8 x9 x10 x11 x12 x13 x14 (ix2 r j) = dot (kvnb x0 x3 x4 x12 r) (fun c => x13 (ix2 c j)) := by
  unfold k0_pay55 k0_pay15
  rw [View.ld_unit_zero (S := S256x1024) (by decide)]
  simp only [shapeCast_self]
  refine (mm_256_1024 _ x13 r j).trans ?_
  exact congrArg (fun f => dot f _) (funext fun d => p11 x0 x1 x2 x3 x4 x5 x6 x7 x8 x9 x10 x11 x12 x13 x14 r d)

/-! ## The output blocks -/

/-- The lane of a packed column. -/
def lane (j : Fin 1024) : Fin 128 := ⟨j.val % 128, Nat.mod_lt _ (by decide)⟩

/-- A query element. -/
def qv (x0 : Vec Ideal S512x1024 .f32) (x1 : Vec Ideal S512x1 .f32) (x2 : Vec Ideal S1x128 .f32) (x3 : Vec Ideal S1x1024 .f32) (x4 : Vec Ideal S1024x640 .bf16) (x9 : Vec Ideal S1x384 .f32)
    (x10 x11 : Vec Ideal S384x1024 .bf16) (r : Fin 512) (j : Fin 1024) : EReal :=
  (dot (qnb x0 x3 x4 x9 r) (fun c => x10 (ix2 c j)) * Ideal.cos (angb x1 x2 r (lane j)) + dot (qnb x0 x3 x4 x9 r) (fun c => x11 (ix2 c j)) * Ideal.sin (angb x1 x2 r (lane j)))
    * (Named.named κ "qscale" 0x3E16C740#32 : Ideal .f32)

/-- A key element. -/
def kv (x0 : Vec Ideal S512x1024 .f32) (x1 : Vec Ideal S512x1 .f32) (x2 : Vec Ideal S1x128 .f32) (x3 : Vec Ideal S1x1024 .f32) (x4 : Vec Ideal S1024x640 .bf16) (x5 : Vec Ideal S1024x256 .bf16)
    (x12 : Vec Ideal S1x256 .f32) (x13 : Vec Ideal S256x1024 .bf16) (r : Fin 512) (j : Fin 1024) : EReal :=
  dot (kvnb x0 x3 x4 x12 r) (fun c => x13 (ix2 c j)) + kpeb x0 x1 x2 x3 x5 r (lane j)

/-- A query element of one head's block. -/
theorem qhead (o : ℕ) (ho : o + 128 ≤ 1024) (hm : o % 128 = 0) (hs : S512x1024.Slices ![0, o] S512x128) (r : Fin 512) (l : Fin 128) :
    ((extractStridedSlice S512x128 ![0, o] (k0_pay52 (F := Ideal) x0 x1 x2 x3 x4 x5 x6 x7 x8 x9 x10 x11 x12 x13 x14) hs : S512x128.Idx → EReal) (ix2 r l) * k0_pay46 (F := Ideal) x0 x1 x2 x3 x4 x5 x6 x7 x8 x9 x10 x11 x12 x13 x14 (ix2 r l)
      + (extractStridedSlice S512x128 ![0, o] (k0_pay53 (F := Ideal) x0 x1 x2 x3 x4 x5 x6 x7 x8 x9 x10 x11 x12 x13 x14) hs : S512x128.Idx → EReal) (ix2 r l) * k0_pay47 (F := Ideal) x0 x1 x2 x3 x4 x5 x6 x7 x8 x9 x10 x11 x12 x13 x14 (ix2 r l))
      * (Named.named κ "qscale" 0x3E16C740#32 : Ideal .f32) = qv x0 x1 x2 x3 x4 x9 x10 x11 r ⟨o + l.val, by have := l.isLt; omega⟩ := by
  have hl := l.isLt
  have e : lane (⟨o + l.val, by omega⟩ : Fin 1024) = l := Fin.ext (by show (o + l.val) % 128 = l.val; omega)
  rw [cols (M := 512) (N := 1024) (K := 128) o _ hs r l (by omega), cols (M := 512) (N := 1024) (K := 128) o _ hs r l (by omega), p52, p53, p46, p47]
  unfold qv
  rw [e]

/-- A key element of one head's block. -/
theorem khead (o : ℕ) (ho : o + 128 ≤ 1024) (hm : o % 128 = 0) (hs : S512x1024.Slices ![0, o] S512x128) (r : Fin 512) (l : Fin 128) :
    (extractStridedSlice S512x128 ![0, o] (k0_pay55 (F := Ideal) x0 x1 x2 x3 x4 x5 x6 x7 x8 x9 x10 x11 x12 x13 x14) hs : S512x128.Idx → EReal) (ix2 r l) + k0_pay54 (F := Ideal) x0 x1 x2 x3 x4 x5 x6 x7 x8 x9 x10 x11 x12 x13 x14 (ix2 r l)
      = kv x0 x1 x2 x3 x4 x5 x12 x13 r ⟨o + l.val, by have := l.isLt; omega⟩ := by
  have hl := l.isLt
  have e : lane (⟨o + l.val, by omega⟩ : Fin 1024) = l := Fin.ext (by show (o + l.val) % 128 = l.val; omega)
  rw [cols (M := 512) (N := 1024) (K := 128) o _ hs r l (by omega), p55, p54]
  unfold kv
  rw [e]

/-- A head's block is the part of a block it is stored in. -/
theorem piece (G : Fin 512 → Fin 1024 → EReal) (o : ℕ) (ho : o + 128 ≤ 1024) (inb) (w : S512x128.Idx → EReal)
    (hw : ∀ (r : Fin 512) (l : Fin 128), w (ix2 r l) = G r ⟨o + l.val, by have := l.isLt; omega⟩) (z : (Rect.unit (s := S512x1024) ![0, o] S512x128.size inb).shape.Idx) :
    w z = (fun y : S512x1024.Idx => G (y 0) (y 1)) ((Rect.unit (s := S512x1024) ![0, o] S512x128.size inb).emb z) := by
  obtain ⟨r, l, hz⟩ : ∃ (r : Fin 512) (l : Fin 128), (z : S512x128.Idx) = ix2 r l := ⟨z 0, z 1, eq_ix2 (n0 := 512) (n1 := 128) z⟩
  subst hz
  have hl := l.isLt
  have e0 : ((Rect.unit (s := S512x1024) ![0, o] S512x128.size inb).emb (ix2 r l)) 0 = r := Fin.ext (by show 0 + 1 * r.val = r.val; omega)
  have e1 : ((Rect.unit (s := S512x1024) ![0, o] S512x128.size inb).emb (ix2 r l)) 1 = (⟨o + l.val, by omega⟩ : Fin 1024) := Fin.ext (by show o + 1 * l.val = o + l.val; omega)
  refine (hw r l).trans ?_
  show _ = G (((Rect.unit (s := S512x1024) ![0, o] S512x128.size inb).emb (ix2 r l)) 0) (((Rect.unit (s := S512x1024) ![0, o] S512x128.size inb).emb (ix2 r l)) 1)
  rw [e0, e1]

/-- The queries' block. -/
theorem out15_apply (r : Fin 512) (j : Fin 1024) : out0_15 (F := Ideal) x0 x1 x2 x3 x4 x5 x6 x7 x8 x9 x10 x11 x12 x13 x14 (ix2 r j) = qv x0 x1 x2 x3 x4 x9 x10 x11 r j := by
  unfold out0_15
  refine (View.canon_apply_of_pieces (fun y : S512x1024.Idx => qv x0 x1 x2 x3 x4 x9 x10 x11 (y 0) (y 1)) _ (fun pc hpc z => ?_) (ix2 r j) (cover0_15 _ _ _ _ _ _ _ _ _)).trans rfl
  simp only [List.mem_cons, List.not_mem_nil, or_false] at hpc
  rcases hpc with rfl | rfl | rfl | rfl | rfl | rfl | rfl | rfl
  · exact piece (qv x0 x1 x2 x3 x4 x9 x10 x11) 896 (by decide) inb_S512x1024_S512x128_0_896 _ (qhead x0 x1 x2 x3 x4 x5 x6 x7 x8 x9 x10 x11 x12 x13 x14 896 (by decide) rfl slices_S512x1024_o0_896_S512x128) z
  · exact piece (qv x0 x1 x2 x3 x4 x9 x10 x11) 768 (by decide) inb_S512x1024_S512x128_0_768 _ (qhead x0 x1 x2 x3 x4 x5 x6 x7 x8 x9 x10 x11 x12 x13 x14 768 (by decide) rfl slices_S512x1024_o0_768_S512x128) z
  · exact piece (qv x0 x1 x2 x3 x4 x9 x10 x11) 640 (by decide) inb_S512x1024_S512x128_0_640 _ (qhead x0 x1 x2 x3 x4 x5 x6 x7 x8 x9 x10 x11 x12 x13 x14 640 (by decide) rfl slices_S512x1024_o0_640_S512x128) z
  · exact piece (qv x0 x1 x2 x3 x4 x9 x10 x11) 512 (by decide) inb_S512x1024_S512x128_0_512 _ (qhead x0 x1 x2 x3 x4 x5 x6 x7 x8 x9 x10 x11 x12 x13 x14 512 (by decide) rfl slices_S512x1024_o0_512_S512x128) z
  · exact piece (qv x0 x1 x2 x3 x4 x9 x10 x11) 384 (by decide) inb_S512x1024_S512x128_0_384 _ (qhead x0 x1 x2 x3 x4 x5 x6 x7 x8 x9 x10 x11 x12 x13 x14 384 (by decide) rfl slices_S512x1024_o0_384_S512x128) z
  · exact piece (qv x0 x1 x2 x3 x4 x9 x10 x11) 256 (by decide) inb_S512x1024_S512x128_0_256 _ (qhead x0 x1 x2 x3 x4 x5 x6 x7 x8 x9 x10 x11 x12 x13 x14 256 (by decide) rfl slices_S512x1024_o0_256_S512x128) z
  · exact piece (qv x0 x1 x2 x3 x4 x9 x10 x11) 128 (by decide) inb_S512x1024_S512x128_0_128 _ (qhead x0 x1 x2 x3 x4 x5 x6 x7 x8 x9 x10 x11 x12 x13 x14 128 (by decide) rfl slices_S512x1024_o0_128_S512x128) z
  · exact piece (qv x0 x1 x2 x3 x4 x9 x10 x11) 0 (by decide) inb_S512x1024_S512x128_0_0 _ (qhead x0 x1 x2 x3 x4 x5 x6 x7 x8 x9 x10 x11 x12 x13 x14 0 (by decide) rfl slices_S512x1024_o0_0_S512x128) z

/-- The keys' block. -/
theorem out16_apply (r : Fin 512) (j : Fin 1024) : out0_16 (F := Ideal) x0 x1 x2 x3 x4 x5 x6 x7 x8 x9 x10 x11 x12 x13 x14 (ix2 r j) = kv x0 x1 x2 x3 x4 x5 x12 x13 r j := by
  unfold out0_16
  refine (View.canon_apply_of_pieces (fun y : S512x1024.Idx => kv x0 x1 x2 x3 x4 x5 x12 x13 (y 0) (y 1)) _ (fun pc hpc z => ?_) (ix2 r j) (cover0_16 _ _ _ _ _ _ _ _ _)).trans rfl
  simp only [List.mem_cons, List.not_mem_nil, or_false] at hpc
  rcases hpc with rfl | rfl | rfl | rfl | rfl | rfl | rfl | rfl
  · exact piece (kv x0 x1 x2 x3 x4 x5 x12 x13) 896 (by decide) inb_S512x1024_S512x128_0_896 _ (khead x0 x1 x2 x3 x4 x5 x6 x7 x8 x9 x10 x11 x12 x13 x14 896 (by decide) rfl slices_S512x1024_o0_896_S512x128) z
  · exact piece (kv x0 x1 x2 x3 x4 x5 x12 x13) 768 (by decide) inb_S512x1024_S512x128_0_768 _ (khead x0 x1 x2 x3 x4 x5 x6 x7 x8 x9 x10 x11 x12 x13 x14 768 (by decide) rfl slices_S512x1024_o0_768_S512x128) z
  · exact piece (kv x0 x1 x2 x3 x4 x5 x12 x13) 640 (by decide) inb_S512x1024_S512x128_0_640 _ (khead x0 x1 x2 x3 x4 x5 x6 x7 x8 x9 x10 x11 x12 x13 x14 640 (by decide) rfl slices_S512x1024_o0_640_S512x128) z
  · exact piece (kv x0 x1 x2 x3 x4 x5 x12 x13) 512 (by decide) inb_S512x1024_S512x128_0_512 _ (khead x0 x1 x2 x3 x4 x5 x6 x7 x8 x9 x10 x11 x12 x13 x14 512 (by decide) rfl slices_S512x1024_o0_512_S512x128) z
  · exact piece (kv x0 x1 x2 x3 x4 x5 x12 x13) 384 (by decide) inb_S512x1024_S512x128_0_384 _ (khead x0 x1 x2 x3 x4 x5 x6 x7 x8 x9 x10 x11 x12 x13 x14 384 (by decide) rfl slices_S512x1024_o0_384_S512x128) z
  · exact piece (kv x0 x1 x2 x3 x4 x5 x12 x13) 256 (by decide) inb_S512x1024_S512x128_0_256 _ (khead x0 x1 x2 x3 x4 x5 x6 x7 x8 x9 x10 x11 x12 x13 x14 256 (by decide) rfl slices_S512x1024_o0_256_S512x128) z
  · exact piece (kv x0 x1 x2 x3 x4 x5 x12 x13) 128 (by decide) inb_S512x1024_S512x128_0_128 _ (khead x0 x1 x2 x3 x4 x5 x6 x7 x8 x9 x10 x11 x12 x13 x14 128 (by decide) rfl slices_S512x1024_o0_128_S512x128) z
  · exact piece (kv x0 x1 x2 x3 x4 x5 x12 x13) 0 (by decide) inb_S512x1024_S512x128_0_0 _ (khead x0 x1 x2 x3 x4 x5 x6 x7 x8 x9 x10 x11 x12 x13 x14 0 (by decide) rfl slices_S512x1024_o0_0_S512x128) z

/-- The word that marks the lane of ones. -/
def mark (j : Fin 1024) : EReal := if j.val % 128 = 64 then 1 else 0

/-- The lane of ones. -/
theorem ones_apply (j : Fin 1024) : (sitofp .f32 (extui 32 (cmpi .eq k0_pay35 k0_pay36) natLt_1_32) : FVec Ideal S1x1024 .f32) (ix2 0 j) = mark j := by
  have h : ∀ n : Fin 1024, (extui 32 (cmpi .eq k0_pay35 k0_pay36) natLt_1_32 : IVec S1x1024 32) (ix2 0 n) = if n.val % 128 = 64 then 1#32 else 0#32 := by decide +kernel
  show ((((extui 32 (cmpi .eq k0_pay35 k0_pay36) natLt_1_32 : IVec S1x1024 32) (ix2 0 j)).toInt : ℝ) : EReal) = _
  rw [h]
  unfold mark
  by_cases hj : j.val % 128 = 64 <;> simp [hj]

/-- The values' block. -/
theorem out17_apply (r : Fin 512) (j : Fin 1024) : out0_17 (F := Ideal) x0 x1 x2 x3 x4 x5 x6 x7 x8 x9 x10 x11 x12 x13 x14 (ix2 r j) = dot (kvnb x0 x3 x4 x12 r) (fun c => x14 (ix2 c j)) + mark j := by
  unfold out0_17
  rw [View.canon_unit_zero (by decide)]
  unfold k0_pay37
  rw [View.ld_unit_zero (S := S256x1024) (by decide)]
  simp only [shapeCast_self]
  refine congrArg₂ (· + ·) ((mm_256_1024 _ x14 r j).trans (congrArg (fun f => dot f _) (funext fun d => p11 x0 x1 x2 x3 x4 x5 x6 x7 x8 x9 x10 x11 x12 x13 x14 r d))) ((brow_1024 _ _ r j).trans (ones_apply j))

/-- The product the gated block's results are cut from. -/
theorem p38 (r : Fin 512) (j : Fin 1280) : k0_pay38 (F := Ideal) (k0_pay45 x0 x1 x2 x3 x4 x5 x6 x7 x8 x9 x10 x11 x12 x13 x14) (View.ld x6 r0_18) (ix2 r j) = dot (hb x0 x3 r) (fun c => x6 (ix2 c j)) := by
  unfold k0_pay38
  rw [View.ld_unit_zero (by decide)]
  simp only [shapeCast_self]
  exact (mm_1024_1280 _ x6 r j).trans (congrArg (fun f => dot f _) (funext fun d => p45 x0 x1 x2 x3 x4 x5 x6 x7 x8 x9 x10 x11 x12 x13 x14 r d))

/-- The transposed product. -/
theorem p42 (d : Fin 272) (r : Fin 512) : k0_pay42 (F := Ideal) (k0_pay45 x0 x1 x2 x3 x4 x5 x6 x7 x8 x9 x10 x11 x12 x13 x14) (View.ld x7 r0_21) (ix2 d r) = dot (hb x0 x3 r) (fun c => x7 (ix2 d c)) := by
  unfold k0_pay42
  rw [View.ld_unit_zero (by decide)]
  simp only [shapeCast_self]
  exact (mt x7 _ d r).trans (congrArg (fun f => dot f _) (funext fun d => p45 x0 x1 x2 x3 x4 x5 x6 x7 x8 x9 x10 x11 x12 x13 x14 r d))

/-- The gated block's queries. -/
theorem out18_apply (r : Fin 512) (j : Fin 256) : out0_18 (F := Ideal) x0 x1 x2 x3 x4 x5 x6 x7 x8 x9 x10 x11 x12 x13 x14 (ix2 r j)
    = dot (hb x0 x3 r) (fun c => x6 (ix2 c (⟨0 + j.val, by have := j.isLt; omega⟩ : Fin 1280))) * Ideal.ofBits .f32 0x3E000000#32 := by
  unfold out0_18
  rw [View.canon_unit_zero (by decide)]
  have hj := j.isLt
  exact congrArg (· * Ideal.ofBits .f32 0x3E000000#32) ((cols (M := 512) (N := 1280) (K := 256) 0 _ slices_S512x1280_o0_0_S512x256 r j (by omega)).trans (p38 x0 x1 x2 x3 x4 x5 x6 x7 x8 x9 x10 x11 x12 x13 x14 r _))

/-- The gated block's keys, transposed. -/
theorem out19_apply (j : Fin 256) (r : Fin 512) : out0_19 (F := Ideal) x0 x1 x2 x3 x4 x5 x6 x7 x8 x9 x10 x11 x12 x13 x14 (ix2 j r)
    = dot (hb x0 x3 r) (fun c => x7 (ix2 (⟨0 + j.val, by have := j.isLt; omega⟩ : Fin 272) c)) := by
  unfold out0_19
  rw [View.canon_unit_zero (by decide)]
  have hj := j.isLt
  exact (rows (M := 272) (N := 512) (K := 256) 0 _ slices_S272x512_o0_0_S256x512 j r (by omega)).trans (p42 x0 x1 x2 x3 x4 x5 x6 x7 x8 x9 x10 x11 x12 x13 x14 _ r)

/-- The gated block's values. -/
theorem out20_apply (r : Fin 512) (j : Fin 512) : out0_20 (F := Ideal) x0 x1 x2 x3 x4 x5 x6 x7 x8 x9 x10 x11 x12 x13 x14 (ix2 r j)
    = dot (hb x0 x3 r) (fun c => x6 (ix2 c (⟨256 + j.val, by have := j.isLt; omega⟩ : Fin 1280))) := by
  unfold out0_20
  rw [View.canon_unit_zero (by decide)]
  have hj := j.isLt
  exact (cols (M := 512) (N := 1280) (K := 512) 256 _ slices_S512x1280_o0_256_S512x512 r j (by omega)).trans (p38 x0 x1 x2 x3 x4 x5 x6 x7 x8 x9 x10 x11 x12 x13 x14 r _)

/-- The gate's low-rank rows, transposed. -/
theorem out21_apply (j : Fin 16) (r : Fin 512) : out0_21 (F := Ideal) x0 x1 x2 x3 x4 x5 x6 x7 x8 x9 x10 x11 x12 x13 x14 (ix2 j r)
    = dot (hb x0 x3 r) (fun c => x7 (ix2 (⟨256 + j.val, by have := j.isLt; omega⟩ : Fin 272) c)) := by
  unfold out0_21
  rw [View.canon_unit_zero (by decide)]
  have hj := j.isLt
  exact (rows (M := 272) (N := 512) (K := 16) 256 _ slices_S272x512_o256_0_S16x512 j r (by omega)).trans (p42 x0 x1 x2 x3 x4 x5 x6 x7 x8 x9 x10 x11 x12 x13 x14 _ r)

/-- The output gate. -/
theorem out22_apply (r : Fin 512) (j : Fin 512) : out0_22 (F := Ideal) x0 x1 x2 x3 x4 x5 x6 x7 x8 x9 x10 x11 x12 x13 x14 (ix2 r j)
    = dot (hb x0 x3 r) (fun c => x6 (ix2 c (⟨768 + j.val, by have := j.isLt; omega⟩ : Fin 1280))) := by
  unfold out0_22
  rw [View.canon_unit_zero (by decide)]
  have hj := j.isLt
  exact (cols (M := 512) (N := 1280) (K := 512) 768 _ slices_S512x1280_o0_768_S512x512 r j (by omega)).trans (p38 x0 x1 x2 x3 x4 x5 x6 x7 x8 x9 x10 x11 x12 x13 x14 r _)

/-- The branches' gates. -/
theorem out23_apply (r : Fin 512) (j : Fin 2048) : out0_23 (F := Ideal) x0 x1 x2 x3 x4 x5 x6 x7 x8 x9 x10 x11 x12 x13 x14 (ix2 r j) = dot (hb x0 x3 r) (fun c => x8 (ix2 c j)) := by
  unfold out0_23
  rw [View.canon_unit_zero (by decide)]
  unfold k0_pay1
  rw [View.ld_unit_zero (by decide)]
  simp only [shapeCast_self]
  exact (mm_1024_2048 _ x8 r j).trans (congrArg (fun f => dot f _) (funext fun d => p45 x0 x1 x2 x3 x4 x5 x6 x7 x8 x9 x10 x11 x12 x13 x14 r d))

end

end Cert.ProjIdeal.Proj

end
-- ==== Proof.ProjPack.lean ====
/- The arrays the proj call reads, as the host lays them out. -/
module

public import proofs.«01_k».proof.Proof.ProjTile

@[expose] public section

set_option maxRecDepth 16384

noncomputable section

namespace Cert.ProjIdeal.Proj

open Cert.ProjIdeal Cert.ProjIdeal.Gen Cert.ProjIdeal.Run Cert.ProjRow
open Idealize.ShloMosaic Idealize.ShloMosaic.TcCoe Idealize.ShloMosaic.ValueIdx
open scoped BigOperators

/-! ## Pieces and slices -/

/-- A piece of a row of lanes. -/
theorem cat1 {N : ℕ} (xs : List ((s : Shape) × (s.Idx → EReal))) (h : Shape.Concatenates (xs.map (·.1)) ⟨1, ![N]⟩ 0) (l : Fin N)
    (k n : ℕ) (hk : k < xs.length) (x : (⟨1, ![n]⟩ : Shape).Idx → EReal) (hx : xs[k] = ⟨⟨1, ![n]⟩, x⟩) (pre : ℕ)
    (hpre : (((xs.take k).map (·.1)).map fun s => if h : s.rank = (⟨1, ![N]⟩ : Shape).rank then s.size ((0 : Fin 1).cast h.symm) else 0).sum = pre)
    (j : Fin n) (hl : l.val = pre + j.val) : concatenate ⟨1, ![N]⟩ 0 xs h (ix1 l) = x (ix1 j) :=
  concatenate_apply_piece (t := ⟨1, ![N]⟩) 0 xs h (ix1 l) k hk ⟨1, ![n]⟩ x hx rfl pre hpre (ix1 j) (fun e he => by
    match e with
    | ⟨0, _⟩ => exact absurd rfl he) hl.symm

/-- A piece of a matrix's columns. -/
theorem cat2 {A N : ℕ} (xs : List ((s : Shape) × (s.Idx → EReal))) (h : Shape.Concatenates (xs.map (·.1)) ⟨2, ![A, N]⟩ 1) (c : Fin A) (l : Fin N)
    (k n : ℕ) (hk : k < xs.length) (x : (⟨2, ![A, n]⟩ : Shape).Idx → EReal) (hx : xs[k] = ⟨⟨2, ![A, n]⟩, x⟩) (pre : ℕ)
    (hpre : (((xs.take k).map (·.1)).map fun s => if h : s.rank = (⟨2, ![A, N]⟩ : Shape).rank then s.size ((1 : Fin 2).cast h.symm) else 0).sum = pre)
    (j : Fin n) (hl : l.val = pre + j.val) : concatenate ⟨2, ![A, N]⟩ 1 xs h (ix2 c l) = x (ix2 c j) :=
  concatenate_apply_piece (t := ⟨2, ![A, N]⟩) 1 xs h (ix2 c l) k hk ⟨2, ![A, n]⟩ x hx rfl pre hpre (ix2 c j) (fun e he => by
    match e with
    | ⟨0, _⟩ => rfl
    | ⟨1, _⟩ => exact absurd rfl he) hl.symm

/-- A piece of the lanes of every head. -/
theorem cat3 {A B N : ℕ} (xs : List ((s : Shape) × (s.Idx → EReal))) (h : Shape.Concatenates (xs.map (·.1)) ⟨3, ![A, B, N]⟩ 2) (c : Fin A) (b : Fin B) (l : Fin N)
    (k n : ℕ) (hk : k < xs.length) (x : (⟨3, ![A, B, n]⟩ : Shape).Idx → EReal) (hx : xs[k] = ⟨⟨3, ![A, B, n]⟩, x⟩) (pre : ℕ)
    (hpre : (((xs.take k).map (·.1)).map fun s => if h : s.rank = (⟨3, ![A, B, N]⟩ : Shape).rank then s.size ((2 : Fin 3).cast h.symm) else 0).sum = pre)
    (j : Fin n) (hl : l.val = pre + j.val) : concatenate ⟨3, ![A, B, N]⟩ 2 xs h (ix3 c b l) = x (ix3 c b j) :=
  concatenate_apply_piece (t := ⟨3, ![A, B, N]⟩) 2 xs h (ix3 c b l) k hk ⟨3, ![A, B, n]⟩ x hx rfl pre hpre (ix3 c b j) (fun e he => by
    match e with
    | ⟨0, _⟩ => rfl
    | ⟨1, _⟩ => rfl
    | ⟨2, _⟩ => exact absurd rfl he) hl.symm

/-- A slice of the lanes of every head. -/
theorem lanes {A B N K : ℕ} (o : ℕ) (x : (⟨3, ![A, B, N]⟩ : Shape).Idx → EReal) (h : (⟨3, ![A, B, N]⟩ : Shape).Slices ![0, 0, o] ⟨3, ![A, B, K]⟩)
    (r : Fin A) (b : Fin B) (c : Fin K) (hk : o + c.val < N) :
    extractStridedSlice ⟨3, ![A, B, K]⟩ ![0, 0, o] x h (ix3 r b c) = x (ix3 r b (⟨o + c.val, hk⟩ : Fin N)) := by
  refine extractStridedSlice_apply _ x h _ _ fun a => ?_
  match a with
  | ⟨0, _⟩ => exact (Nat.zero_add _).symm
  | ⟨1, _⟩ => exact (Nat.zero_add _).symm
  | ⟨2, _⟩ => rfl

/-- The pad's value. -/
theorem pad0 {s : Shape} (h : S_.BroadcastsInDim s ![]) (i : s.Idx) :
    (broadcastInDim s ![] h (constant (F := Ideal) S_ .f32 0x00000000#32) : s.Idx → EReal) i = 0 :=
  Ideal.ofBits_zero_f32

/-- The tokens in one axis. -/
theorem flat_apply {N : ℕ} {α : Type} (x : (⟨3, ![2, 8192, N]⟩ : Shape).Idx → α) (h : (⟨3, ![2, 8192, N]⟩ : Shape).ShapeCasts ⟨2, ![16384, N]⟩)
    (i : (⟨2, ![16384, N]⟩ : Shape).Idx) (b : Fin 2) (R : Fin 8192) (d : Fin N) (h0 : (i 0).val = b.val * 8192 + R.val) (h1 : (i 1).val = d.val) :
    shapeCast ⟨2, ![16384, N]⟩ x h i = x (ix3 b R d) := by
  refine shapeCast_apply x h i (ix3 b R d) ?_
  rw [Shape.rowMajor_val_three, Shape.rowMajor_val_two]
  show (b.val * 8192 + R.val) * N + d.val = (i 0).val * N + (i 1).val
  rw [h0, h1]

/-- The positions in one axis. -/
theorem pos_apply (x : IVec S2x8192 32) (h : S2x8192.ShapeCasts S16384x1)
    (i : S16384x1.Idx) (b : Fin 2) (R : Fin 8192) (h0 : (i 0).val = b.val * 8192 + R.val) :
    shapeCast S16384x1 x h i = x (ix2 b R) := by
  refine shapeCast_apply x h i (ix2 b R) ?_
  rw [Shape.rowMajor_val_two, Shape.rowMajor_val_two]
  have h1 : (i 1).val < 1 := (i 1).isLt
  show b.val * 8192 + R.val = (i 0).val * 1 + (i 1).val
  omega

/-- A vector as a row. -/
theorem row_apply {N : ℕ} (x : (⟨1, ![N]⟩ : Shape).Idx → EReal) (h : (⟨1, ![N]⟩ : Shape).ShapeCasts ⟨2, ![1, N]⟩) (k : Fin N) :
    shapeCast ⟨2, ![1, N]⟩ x h (ix2 (0 : Fin 1) k) = x (ix1 k) := by
  refine shapeCast_apply x h _ (ix1 k) ?_
  rw [Shape.rowMajor_val_one, Shape.rowMajor_val_two]
  show k.val = 0 * N + k.val
  omega

/-- A matrix's columns by head. -/
theorem heads_apply {A K N : ℕ} (x : (⟨2, ![A, N]⟩ : Shape).Idx → EReal) (h : (⟨2, ![A, N]⟩ : Shape).ShapeCasts ⟨3, ![A, 8, K]⟩) (hN : N = 8 * K)
    (c : Fin A) (b : Fin 8) (l : Fin K) (hk : b.val * K + l.val < N) :
    shapeCast ⟨3, ![A, 8, K]⟩ x h (ix3 c b l) = x (ix2 c (⟨b.val * K + l.val, hk⟩ : Fin N)) := by
  refine shapeCast_apply x h _ _ ?_
  rw [Shape.rowMajor_val_two, Shape.rowMajor_val_three]
  show c.val * N + (b.val * K + l.val) = (c.val * 8 + b.val) * K + l.val
  rw [hN]
  ring

/-- The heads in one axis. -/
theorem unheads_apply {A K N : ℕ} (x : (⟨3, ![A, 8, K]⟩ : Shape).Idx → EReal) (h : (⟨3, ![A, 8, K]⟩ : Shape).ShapeCasts ⟨2, ![A, N]⟩) (hN : N = 8 * K)
    (c : Fin A) (b : Fin 8) (l : Fin K) (j : Fin N) (hj : j.val = b.val * K + l.val) :
    shapeCast ⟨2, ![A, N]⟩ x h (ix2 c j) = x (ix3 c b l) := by
  refine shapeCast_apply x h _ _ ?_
  rw [Shape.rowMajor_val_two, Shape.rowMajor_val_three]
  show (c.val * 8 + b.val) * K + l.val = c.val * N + j.val
  rw [hj, hN]
  ring

/-! ## The layouts -/

/-- The frequencies. -/
def freqs : FVec Ideal S16 .f32 :=
  Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))

/-- The frequency of each lane of a head. -/
def packF : FVec Ideal S1x128 .f32 :=
  shapeCast S1x128 (concatenate S128 0 [⟨S64, broadcastInDim S64 ![] bcast_S_S64 (constant S_ .f32 0x00000000#32)⟩, ⟨S16, freqs⟩, ⟨S16, freqs⟩,
    ⟨S32, broadcastInDim S32 ![] bcast_S_S32 (constant S_ .f32 0x00000000#32)⟩] concatenates_S64_S16_S16_S32_S128_d0) shapeCasts_S128_S1x128

/-- The latents' columns. -/
def packL (x : FVec Ideal S1024x4272 .f32) : FVec Ideal S1024x640 .f32 :=
  concatenate S1024x640 1 [⟨S1024x384, extractStridedSlice S1024x384 ![0, 0] x slices_S1024x4272_S1024x384_0_0⟩,
    ⟨S1024x256, extractStridedSlice S1024x256 ![0, 384] x slices_S1024x4272_S1024x256_0_384⟩] concatenates_S1024x384_S1024x256_S1024x640_d1

/-- Thirty-two columns between pads. -/
def padR (x : FVec Ideal S1024x32 .f32) : FVec Ideal S1024x128 .f32 :=
  concatenate S1024x128 1 [⟨S1024x64, broadcastInDim S1024x64 ![] bcast_S_S1024x64 (constant S_ .f32 0x00000000#32)⟩, ⟨S1024x32, x⟩,
    ⟨S1024x32, broadcastInDim S1024x32 ![] bcast_S_S1024x32 (constant S_ .f32 0x00000000#32)⟩] concatenates_S1024x64_S1024x32_S1024x32_S1024x128_d1

/-- The halves of thirty-two columns exchanged, the second one negated. -/
def swapR (x : FVec Ideal S1024x32 .f32) : FVec Ideal S1024x32 .f32 :=
  concatenate S1024x32 1 [⟨S1024x16, Host.negf (extractStridedSlice S1024x16 ![0, 16] x slices_S1024x32_S1024x16_0_16)⟩,
    ⟨S1024x16, extractStridedSlice S1024x16 ![0, 0] x slices_S1024x32_S1024x16_0_0⟩] concatenates_S1024x16_S1024x16_S1024x32_d1

/-- The shared key's columns. -/
def keyR (x : FVec Ideal S1024x4272 .f32) : FVec Ideal S1024x32 .f32 := extractStridedSlice S1024x32 ![0, 640] x slices_S1024x4272_S1024x32_0_640

/-- The shared key's columns for the cosines, then for the sines. -/
def packR (x : FVec Ideal S1024x4272 .f32) : FVec Ideal S1024x256 .f32 :=
  concatenate S1024x256 1 [⟨S1024x128, padR (keyR x)⟩, ⟨S1024x128, padR (swapR (keyR x))⟩] concatenates_S1024x128_S1024x128_S1024x256_d1

/-- The gated branch's columns. -/
def packG (x : FVec Ideal S1024x4272 .f32) : FVec Ideal S1024x1280 .f32 :=
  concatenate S1024x1280 1 [⟨S1024x256, extractStridedSlice S1024x256 ![0, 672] x slices_S1024x4272_S1024x256_0_672⟩,
    ⟨S1024x512, extractStridedSlice S1024x512 ![0, 1184] x slices_S1024x4272_S1024x512_0_1184⟩,
    ⟨S1024x512, extractStridedSlice S1024x512 ![0, 1712] x slices_S1024x4272_S1024x512_0_1712⟩] concatenates_S1024x256_S1024x512_S1024x512_S1024x1280_d1

/-- The gated branch's transposed columns. -/
def packT (x : FVec Ideal S1024x4272 .f32) : FVec Ideal S272x1024 .f32 :=
  transpose S272x1024 [1, 0] (concatenate S1024x272 1 [⟨S1024x256, extractStridedSlice S1024x256 ![0, 928] x slices_S1024x4272_S1024x256_0_928⟩,
    ⟨S1024x16, extractStridedSlice S1024x16 ![0, 1696] x slices_S1024x4272_S1024x16_0_1696⟩] concatenates_S1024x256_S1024x16_S1024x272_d1) transposes_S1024x272_S272x1024_1_0

/-- The branch gates' columns. -/
def packB (x : FVec Ideal S1024x4272 .f32) : FVec Ideal S1024x2048 .f32 := extractStridedSlice S1024x2048 ![0, 2224] x slices_S1024x4272_S1024x2048_0_2224

/-- The query weights by head. -/
def headQ (x : FVec Ideal S384x768 .f32) : FVec Ideal S384x8x96 .f32 := shapeCast S384x8x96 x shapeCasts_S384x768_S384x8x96

/-- Each head's rotated query columns. -/
def ropeQ (x : FVec Ideal S384x768 .f32) : FVec Ideal S384x8x32 .f32 := extractStridedSlice S384x8x32 ![0, 0, 64] (headQ x) slices_S384x8x96_S384x8x32_0_0_64

/-- Each head's rotated query columns, the halves exchanged, the second one negated. -/
def swapQ (x : FVec Ideal S384x768 .f32) : FVec Ideal S384x8x32 .f32 :=
  concatenate S384x8x32 2 [⟨S384x8x16, Host.negf (extractStridedSlice S384x8x16 ![0, 0, 16] (ropeQ x) slices_S384x8x32_S384x8x16_0_0_16)⟩,
    ⟨S384x8x16, extractStridedSlice S384x8x16 ![0, 0, 0] (ropeQ x) slices_S384x8x32_S384x8x16_0_0_0⟩] concatenates_S384x8x16_S384x8x16_S384x8x32_d2

/-- The query columns for the cosines. -/
def packQ (x : FVec Ideal S384x768 .f32) : FVec Ideal S384x1024 .f32 :=
  shapeCast S384x1024 (concatenate S384x8x128 2 [⟨S384x8x64, extractStridedSlice S384x8x64 ![0, 0, 0] (headQ x) slices_S384x8x96_S384x8x64_0_0_0⟩, ⟨S384x8x32, ropeQ x⟩,
    ⟨S384x8x32, broadcastInDim S384x8x32 ![] bcast_S_S384x8x32 (constant S_ .f32 0x00000000#32)⟩] concatenates_S384x8x64_S384x8x32_S384x8x32_S384x8x128_d2) shapeCasts_S384x8x128_S384x1024

/-- The query columns for the sines. -/
def packQr (x : FVec Ideal S384x768 .f32) : FVec Ideal S384x1024 .f32 :=
  shapeCast S384x1024 (concatenate S384x8x128 2 [⟨S384x8x64, broadcastInDim S384x8x64 ![] bcast_S_S384x8x64 (constant S_ .f32 0x00000000#32)⟩, ⟨S384x8x32, swapQ x⟩,
    ⟨S384x8x32, broadcastInDim S384x8x32 ![] bcast_S_S384x8x32 (constant S_ .f32 0x00000000#32)⟩] concatenates_S384x8x64_S384x8x32_S384x8x32_S384x8x128_d2) shapeCasts_S384x8x128_S384x1024

/-- The key and value weights by head. -/
def headK (x : FVec Ideal S256x1024 .f32) : FVec Ideal S256x8x128 .f32 := shapeCast S256x8x128 x shapeCasts_S256x1024_S256x8x128

/-- The key columns. -/
def packK (x : FVec Ideal S256x1024 .f32) : FVec Ideal S256x1024 .f32 :=
  shapeCast S256x1024 (concatenate S256x8x128 2 [⟨S256x8x64, extractStridedSlice S256x8x64 ![0, 0, 0] (headK x) slices_S256x8x128_S256x8x64_0_0_0⟩,
    ⟨S256x8x64, broadcastInDim S256x8x64 ![] bcast_S_S256x8x64 (constant S_ .f32 0x00000000#32)⟩] concatenates_S256x8x64_S256x8x64_S256x8x128_d2) shapeCasts_S256x8x128_S256x1024

/-- The value columns. -/
def packV (x : FVec Ideal S256x1024 .f32) : FVec Ideal S256x1024 .f32 :=
  shapeCast S256x1024 (concatenate S256x8x128 2 [⟨S256x8x64, extractStridedSlice S256x8x64 ![0, 0, 64] (headK x) slices_S256x8x128_S256x8x64_0_0_64⟩,
    ⟨S256x8x64, broadcastInDim S256x8x64 ![] bcast_S_S256x8x64 (constant S_ .f32 0x00000000#32)⟩] concatenates_S256x8x64_S256x8x64_S256x8x128_d2) shapeCasts_S256x8x128_S256x1024

/-! ## The layouts, lane by lane -/

/-- A frequency. -/
theorem freqs_apply (k : Fin 16) : freqs (ix1 k) = inv k := rfl

/-- The lanes' frequencies as a row. -/
theorem packF_row (l : Fin 128) : packF (ix2 (0 : Fin 1) l) = concatenate S128 0 [⟨S64, broadcastInDim S64 ![] bcast_S_S64 (constant (F := Ideal) S_ .f32 0x00000000#32)⟩, ⟨S16, freqs⟩, ⟨S16, freqs⟩,
    ⟨S32, broadcastInDim S32 ![] bcast_S_S32 (constant (F := Ideal) S_ .f32 0x00000000#32)⟩] concatenates_S64_S16_S16_S32_S128_d0 (ix1 l) := by
  unfold packF
  exact row_apply _ _ l

/-- The frequencies of lanes 0 to 63. -/
theorem packF_a (k : Fin 64) : packF (ix2 (0 : Fin 1) (⟨0 + k.val, by have := k.isLt; omega⟩ : Fin 128)) = 0 := by
  rw [packF_row]
  exact (cat1 _ _ _ 0 64 (by show 0 < 4; omega) _ rfl 0 rfl k rfl).trans (pad0 _ _)

/-- The frequencies of lanes 64 to 79. -/
theorem packF_b (k : Fin 16) : packF (ix2 (0 : Fin 1) (⟨64 + k.val, by have := k.isLt; omega⟩ : Fin 128)) = inv k := by
  rw [packF_row]
  exact (cat1 _ _ _ 1 16 (by show 1 < 4; omega) _ rfl 64 rfl k rfl).trans (freqs_apply k)

/-- The frequencies of lanes 80 to 95. -/
theorem packF_c (k : Fin 16) : packF (ix2 (0 : Fin 1) (⟨80 + k.val, by have := k.isLt; omega⟩ : Fin 128)) = inv k := by
  rw [packF_row]
  exact (cat1 _ _ _ 2 16 (by show 2 < 4; omega) _ rfl 80 rfl k rfl).trans (freqs_apply k)

/-- The frequencies of lanes 96 to 127. -/
theorem packF_z (k : Fin 32) : packF (ix2 (0 : Fin 1) (⟨96 + k.val, by have := k.isLt; omega⟩ : Fin 128)) = 0 := by
  rw [packF_row]
  exact (cat1 _ _ _ 3 32 (by show 3 < 4; omega) _ rfl 96 rfl k rfl).trans (pad0 _ _)

/-- The query latent's columns. -/
theorem packL_q (x : FVec Ideal S1024x4272 .f32) (d : Fin 1024) (k : Fin 384) : packL x (ix2 d (⟨0 + k.val, by have := k.isLt; omega⟩ : Fin 640)) = x (ix2 d (⟨0 + k.val, by have := k.isLt; omega⟩ : Fin 4272)) := by
  have hk := k.isLt
  unfold packL
  exact (cat2 _ _ d _ 0 384 (by show 0 < 2; omega) _ rfl 0 rfl k rfl).trans (cols (M := 1024) (N := 4272) (K := 384) 0 x slices_S1024x4272_S1024x384_0_0 d k (by omega))

/-- The key and value latent's columns. -/
theorem packL_k (x : FVec Ideal S1024x4272 .f32) (d : Fin 1024) (k : Fin 256) : packL x (ix2 d (⟨384 + k.val, by have := k.isLt; omega⟩ : Fin 640)) = x (ix2 d (⟨384 + k.val, by have := k.isLt; omega⟩ : Fin 4272)) := by
  have hk := k.isLt
  unfold packL
  exact (cat2 _ _ d _ 1 256 (by show 1 < 2; omega) _ rfl 384 rfl k rfl).trans (cols (M := 1024) (N := 4272) (K := 256) 384 x slices_S1024x4272_S1024x256_0_384 d k (by omega))

/-- The gated queries' columns. -/
theorem packG_q (x : FVec Ideal S1024x4272 .f32) (d : Fin 1024) (k : Fin 256) : packG x (ix2 d (⟨0 + k.val, by have := k.isLt; omega⟩ : Fin 1280)) = x (ix2 d (⟨672 + k.val, by have := k.isLt; omega⟩ : Fin 4272)) := by
  have hk := k.isLt
  unfold packG
  exact (cat2 _ _ d _ 0 256 (by show 0 < 3; omega) _ rfl 0 rfl k rfl).trans (cols (M := 1024) (N := 4272) (K := 256) 672 x slices_S1024x4272_S1024x256_0_672 d k (by omega))

/-- The gated values' columns. -/
theorem packG_v (x : FVec Ideal S1024x4272 .f32) (d : Fin 1024) (k : Fin 512) : packG x (ix2 d (⟨256 + k.val, by have := k.isLt; omega⟩ : Fin 1280)) = x (ix2 d (⟨1184 + k.val, by have := k.isLt; omega⟩ : Fin 4272)) := by
  have hk := k.isLt
  unfold packG
  exact (cat2 _ _ d _ 1 512 (by show 1 < 3; omega) _ rfl 256 rfl k rfl).trans (cols (M := 1024) (N := 4272) (K := 512) 1184 x slices_S1024x4272_S1024x512_0_1184 d k (by omega))

/-- The output gates' columns. -/
theorem packG_o (x : FVec Ideal S1024x4272 .f32) (d : Fin 1024) (k : Fin 512) : packG x (ix2 d (⟨768 + k.val, by have := k.isLt; omega⟩ : Fin 1280)) = x (ix2 d (⟨1712 + k.val, by have := k.isLt; omega⟩ : Fin 4272)) := by
  have hk := k.isLt
  unfold packG
  exact (cat2 _ _ d _ 2 512 (by show 2 < 3; omega) _ rfl 768 rfl k rfl).trans (cols (M := 1024) (N := 4272) (K := 512) 1712 x slices_S1024x4272_S1024x512_0_1712 d k (by omega))

/-- The gated keys' rows. -/
theorem packT_k (x : FVec Ideal S1024x4272 .f32) (d : Fin 1024) (k : Fin 256) : packT x (ix2 (⟨0 + k.val, by have := k.isLt; omega⟩ : Fin 272) d) = x (ix2 d (⟨928 + k.val, by have := k.isLt; omega⟩ : Fin 4272)) := by
  have hk := k.isLt
  unfold packT
  refine (transpose_apply [1, 0] _ transposes_S1024x272_S272x1024_1_0 _ (ix2 d (⟨0 + k.val, by have := k.isLt; omega⟩ : Fin 272)) (fun a => by
    match a with
    | ⟨0, _⟩ => rfl
    | ⟨1, _⟩ => rfl)).trans ?_
  exact (cat2 _ _ d _ 0 256 (by show 0 < 2; omega) _ rfl 0 rfl k rfl).trans (cols (M := 1024) (N := 4272) (K := 256) 928 x slices_S1024x4272_S1024x256_0_928 d k (by omega))

/-- The gate's low-rank rows. -/
theorem packT_g (x : FVec Ideal S1024x4272 .f32) (d : Fin 1024) (k : Fin 16) : packT x (ix2 (⟨256 + k.val, by have := k.isLt; omega⟩ : Fin 272) d) = x (ix2 d (⟨1696 + k.val, by have := k.isLt; omega⟩ : Fin 4272)) := by
  have hk := k.isLt
  unfold packT
  refine (transpose_apply [1, 0] _ transposes_S1024x272_S272x1024_1_0 _ (ix2 d (⟨256 + k.val, by have := k.isLt; omega⟩ : Fin 272)) (fun a => by
    match a with
    | ⟨0, _⟩ => rfl
    | ⟨1, _⟩ => rfl)).trans ?_
  exact (cat2 _ _ d _ 1 16 (by show 1 < 2; omega) _ rfl 256 rfl k rfl).trans (cols (M := 1024) (N := 4272) (K := 16) 1696 x slices_S1024x4272_S1024x16_0_1696 d k (by omega))

/-- The branch gates' columns. -/
theorem packB_apply (x : FVec Ideal S1024x4272 .f32) (d : Fin 1024) (k : Fin 2048) : packB x (ix2 d k) = x (ix2 d (⟨2224 + k.val, by have := k.isLt; omega⟩ : Fin 4272)) := by
  have hk := k.isLt
  exact cols (M := 1024) (N := 4272) (K := 2048) 2224 x slices_S1024x4272_S1024x2048_0_2224 d k (by omega)

/-- The padded columns 0 to 63. -/
theorem padR_a (y : FVec Ideal S1024x32 .f32) (d : Fin 1024) (k : Fin 64) : padR y (ix2 d (⟨0 + k.val, by have := k.isLt; omega⟩ : Fin 128)) = 0 := by
  unfold padR
  exact (cat2 _ _ d _ 0 64 (by show 0 < 3; omega) _ rfl 0 rfl k rfl).trans (pad0 _ _)

/-- The padded columns 64 to 95. -/
theorem padR_m (y : FVec Ideal S1024x32 .f32) (d : Fin 1024) (k : Fin 32) : padR y (ix2 d (⟨64 + k.val, by have := k.isLt; omega⟩ : Fin 128)) = y (ix2 d k) := by
  unfold padR
  exact (cat2 _ _ d _ 1 32 (by show 1 < 3; omega) _ rfl 64 rfl k rfl)

/-- The padded columns 96 to 127. -/
theorem padR_z (y : FVec Ideal S1024x32 .f32) (d : Fin 1024) (k : Fin 32) : padR y (ix2 d (⟨96 + k.val, by have := k.isLt; omega⟩ : Fin 128)) = 0 := by
  unfold padR
  exact (cat2 _ _ d _ 2 32 (by show 2 < 3; omega) _ rfl 96 rfl k rfl).trans (pad0 _ _)

/-- The first exchanged half. -/
theorem swapR_b (y : FVec Ideal S1024x32 .f32) (d : Fin 1024) (k : Fin 16) : swapR y (ix2 d (⟨0 + k.val, by have := k.isLt; omega⟩ : Fin 32)) = -y (ix2 d (⟨16 + k.val, by have := k.isLt; omega⟩ : Fin 32)) := by
  have hk := k.isLt
  unfold swapR
  exact (cat2 _ _ d _ 0 16 (by show 0 < 2; omega) _ rfl 0 rfl k rfl).trans (congrArg (fun z : EReal => -z) (cols (M := 1024) (N := 32) (K := 16) 16 y slices_S1024x32_S1024x16_0_16 d k (by omega)))

/-- The second exchanged half. -/
theorem swapR_c (y : FVec Ideal S1024x32 .f32) (d : Fin 1024) (k : Fin 16) : swapR y (ix2 d (⟨16 + k.val, by have := k.isLt; omega⟩ : Fin 32)) = y (ix2 d (⟨0 + k.val, by have := k.isLt; omega⟩ : Fin 32)) := by
  have hk := k.isLt
  unfold swapR
  exact (cat2 _ _ d _ 1 16 (by show 1 < 2; omega) _ rfl 16 rfl k rfl).trans (cols (M := 1024) (N := 32) (K := 16) 0 y slices_S1024x32_S1024x16_0_0 d k (by omega))

/-- The shared key's columns. -/
theorem keyR_apply (x : FVec Ideal S1024x4272 .f32) (d : Fin 1024) (k : Fin 32) : keyR x (ix2 d k) = x (ix2 d (⟨640 + k.val, by have := k.isLt; omega⟩ : Fin 4272)) := by
  have hk := k.isLt
  exact cols (M := 1024) (N := 4272) (K := 32) 640 x slices_S1024x4272_S1024x32_0_640 d k (by omega)

/-- The columns for the cosines. -/
theorem packR_l (x : FVec Ideal S1024x4272 .f32) (d : Fin 1024) (l : Fin 128) : packR x (ix2 d (⟨0 + l.val, by have := l.isLt; omega⟩ : Fin 256)) = padR (keyR x) (ix2 d l) := by
  unfold packR
  exact cat2 _ _ d _ 0 128 (by show 0 < 2; omega) _ rfl 0 rfl l rfl

/-- The columns for the sines. -/
theorem packR_r (x : FVec Ideal S1024x4272 .f32) (d : Fin 1024) (l : Fin 128) : packR x (ix2 d (⟨128 + l.val, by have := l.isLt; omega⟩ : Fin 256)) = padR (swapR (keyR x)) (ix2 d l) := by
  unfold packR
  exact cat2 _ _ d _ 1 128 (by show 1 < 2; omega) _ rfl 128 rfl l rfl

/-- A head's query column. -/
theorem headQ_apply (x : FVec Ideal S384x768 .f32) (c : Fin 384) (h : Fin 8) (l : Fin 96) : headQ x (ix3 c h l) = x (ix2 c (⟨h.val * 96 + l.val, by have := h.isLt; have := l.isLt; omega⟩ : Fin 768)) := by
  exact heads_apply (A := 384) (K := 96) (N := 768) x _ rfl c h l (by have := h.isLt; have := l.isLt; omega)

/-- A head's rotated query column. -/
theorem ropeQ_apply (x : FVec Ideal S384x768 .f32) (c : Fin 384) (h : Fin 8) (k : Fin 32) : ropeQ x (ix3 c h k) = x (ix2 c (⟨h.val * 96 + (64 + k.val), by have := h.isLt; have := k.isLt; omega⟩ : Fin 768)) := by
  have hk := k.isLt
  exact (lanes (A := 384) (B := 8) (N := 96) (K := 32) 64 (headQ x) slices_S384x8x96_S384x8x32_0_0_64 c h k (by omega)).trans (headQ_apply x c h _)

/-- The first exchanged half. -/
theorem swapQ_b (x : FVec Ideal S384x768 .f32) (c : Fin 384) (h : Fin 8) (k : Fin 16) : swapQ x (ix3 c h (⟨0 + k.val, by have := k.isLt; omega⟩ : Fin 32)) = -x (ix2 c (⟨h.val * 96 + (80 + k.val), by have := h.isLt; have := k.isLt; omega⟩ : Fin 768)) := by
  have hk := k.isLt
  unfold swapQ
  refine (cat3 _ _ c h _ 0 16 (by show 0 < 2; omega) _ rfl 0 rfl k rfl).trans (congrArg (fun z : EReal => -z) ?_)
  refine (lanes (A := 384) (B := 8) (N := 32) (K := 16) 16 (ropeQ x) slices_S384x8x32_S384x8x16_0_0_16 c h k (by omega)).trans ((ropeQ_apply x c h _).trans ?_)
  exact congrArg (fun j => x (ix2 c j)) (Fin.ext (by show h.val * 96 + (64 + (16 + k.val)) = h.val * 96 + (80 + k.val); omega))

/-- The second exchanged half. -/
theorem swapQ_c (x : FVec Ideal S384x768 .f32) (c : Fin 384) (h : Fin 8) (k : Fin 16) : swapQ x (ix3 c h (⟨16 + k.val, by have := k.isLt; omega⟩ : Fin 32)) = x (ix2 c (⟨h.val * 96 + (64 + k.val), by have := h.isLt; have := k.isLt; omega⟩ : Fin 768)) := by
  have hk := k.isLt
  unfold swapQ
  refine (cat3 _ _ c h _ 1 16 (by show 1 < 2; omega) _ rfl 16 rfl k rfl).trans ?_
  refine (lanes (A := 384) (B := 8) (N := 32) (K := 16) 0 (ropeQ x) slices_S384x8x32_S384x8x16_0_0_0 c h k (by omega)).trans ((ropeQ_apply x c h _).trans ?_)
  exact congrArg (fun j => x (ix2 c j)) (Fin.ext (by show h.val * 96 + (64 + (0 + k.val)) = h.val * 96 + (64 + k.val); omega))

/-- A head's unrotated query columns. -/
theorem packQ_a (x : FVec Ideal S384x768 .f32) (c : Fin 384) (h : Fin 8) (k : Fin 64) : packQ x (ix2 c (⟨h.val * 128 + (0 + k.val), by have := h.isLt; have := k.isLt; omega⟩ : Fin 1024)) = x (ix2 c (⟨h.val * 96 + (0 + k.val), by have := h.isLt; have := k.isLt; omega⟩ : Fin 768)) := by
  have hk := k.isLt
  unfold packQ
  refine (unheads_apply (A := 384) (K := 128) (N := 1024) _ _ rfl c h (⟨0 + k.val, by omega⟩ : Fin 128) _ rfl).trans ?_
  refine (cat3 _ _ c h _ 0 64 (by show 0 < 3; omega) _ rfl 0 rfl k rfl).trans ?_
  exact (lanes (A := 384) (B := 8) (N := 96) (K := 64) 0 (headQ x) slices_S384x8x96_S384x8x64_0_0_0 c h k (by omega)).trans (headQ_apply x c h _)

/-- A head's rotated query columns. -/
theorem packQ_m (x : FVec Ideal S384x768 .f32) (c : Fin 384) (h : Fin 8) (k : Fin 32) : packQ x (ix2 c (⟨h.val * 128 + (64 + k.val), by have := h.isLt; have := k.isLt; omega⟩ : Fin 1024)) = x (ix2 c (⟨h.val * 96 + (64 + k.val), by have := h.isLt; have := k.isLt; omega⟩ : Fin 768)) := by
  have hk := k.isLt
  unfold packQ
  refine (unheads_apply (A := 384) (K := 128) (N := 1024) _ _ rfl c h (⟨64 + k.val, by omega⟩ : Fin 128) _ rfl).trans ?_
  refine (cat3 _ _ c h _ 1 32 (by show 1 < 3; omega) _ rfl 64 rfl k rfl).trans ?_
  exact ropeQ_apply x c h k

/-- A head's pad. -/
theorem packQ_z (x : FVec Ideal S384x768 .f32) (c : Fin 384) (h : Fin 8) (k : Fin 32) : packQ x (ix2 c (⟨h.val * 128 + (96 + k.val), by have := h.isLt; have := k.isLt; omega⟩ : Fin 1024)) = 0 := by
  have hk := k.isLt
  unfold packQ
  refine (unheads_apply (A := 384) (K := 128) (N := 1024) _ _ rfl c h (⟨96 + k.val, by omega⟩ : Fin 128) _ rfl).trans ?_
  refine (cat3 _ _ c h _ 2 32 (by show 2 < 3; omega) _ rfl 96 rfl k rfl).trans ?_
  exact pad0 _ _

/-- A head's pad before the exchanged columns. -/
theorem packQr_a (x : FVec Ideal S384x768 .f32) (c : Fin 384) (h : Fin 8) (k : Fin 64) : packQr x (ix2 c (⟨h.val * 128 + (0 + k.val), by have := h.isLt; have := k.isLt; omega⟩ : Fin 1024)) = 0 := by
  have hk := k.isLt
  unfold packQr
  refine (unheads_apply (A := 384) (K := 128) (N := 1024) _ _ rfl c h (⟨0 + k.val, by omega⟩ : Fin 128) _ rfl).trans ?_
  refine (cat3 _ _ c h _ 0 64 (by show 0 < 3; omega) _ rfl 0 rfl k rfl).trans ?_
  exact pad0 _ _

/-- A head's first exchanged columns. -/
theorem packQr_b (x : FVec Ideal S384x768 .f32) (c : Fin 384) (h : Fin 8) (k : Fin 16) : packQr x (ix2 c (⟨h.val * 128 + (64 + k.val), by have := h.isLt; have := k.isLt; omega⟩ : Fin 1024)) = -x (ix2 c (⟨h.val * 96 + (80 + k.val), by have := h.isLt; have := k.isLt; omega⟩ : Fin 768)) := by
  have hk := k.isLt
  unfold packQr
  refine (unheads_apply (A := 384) (K := 128) (N := 1024) _ _ rfl c h (⟨64 + k.val, by omega⟩ : Fin 128) _ rfl).trans ?_
  refine (cat3 _ _ c h _ 1 32 (by show 1 < 3; omega) _ rfl 64 rfl (⟨0 + k.val, by omega⟩ : Fin 32) (by show 64 + k.val = 64 + (0 + k.val); omega)).trans ?_
  exact swapQ_b x c h k

/-- A head's second exchanged columns. -/
theorem packQr_c (x : FVec Ideal S384x768 .f32) (c : Fin 384) (h : Fin 8) (k : Fin 16) : packQr x (ix2 c (⟨h.val * 128 + (80 + k.val), by have := h.isLt; have := k.isLt; omega⟩ : Fin 1024)) = x (ix2 c (⟨h.val * 96 + (64 + k.val), by have := h.isLt; have := k.isLt; omega⟩ : Fin 768)) := by
  have hk := k.isLt
  unfold packQr
  refine (unheads_apply (A := 384) (K := 128) (N := 1024) _ _ rfl c h (⟨80 + k.val, by omega⟩ : Fin 128) _ rfl).trans ?_
  refine (cat3 _ _ c h _ 1 32 (by show 1 < 3; omega) _ rfl 64 rfl (⟨16 + k.val, by omega⟩ : Fin 32) (by show 80 + k.val = 64 + (16 + k.val); omega)).trans ?_
  exact swapQ_c x c h k

/-- A head's pad after the exchanged columns. -/
theorem packQr_z (x : FVec Ideal S384x768 .f32) (c : Fin 384) (h : Fin 8) (k : Fin 32) : packQr x (ix2 c (⟨h.val * 128 + (96 + k.val), by have := h.isLt; have := k.isLt; omega⟩ : Fin 1024)) = 0 := by
  have hk := k.isLt
  unfold packQr
  refine (unheads_apply (A := 384) (K := 128) (N := 1024) _ _ rfl c h (⟨96 + k.val, by omega⟩ : Fin 128) _ rfl).trans ?_
  refine (cat3 _ _ c h _ 2 32 (by show 2 < 3; omega) _ rfl 96 rfl k rfl).trans ?_
  exact pad0 _ _

/-- A head's key or value column. -/
theorem headK_apply (x : FVec Ideal S256x1024 .f32) (c : Fin 256) (h : Fin 8) (l : Fin 128) : headK x (ix3 c h l) = x (ix2 c (⟨h.val * 128 + l.val, by have := h.isLt; have := l.isLt; omega⟩ : Fin 1024)) := by
  exact heads_apply (A := 256) (K := 128) (N := 1024) x _ rfl c h l (by have := h.isLt; have := l.isLt; omega)

/-- A head's columns. -/
theorem packK_a (x : FVec Ideal S256x1024 .f32) (c : Fin 256) (h : Fin 8) (k : Fin 64) : packK x (ix2 c (⟨h.val * 128 + (0 + k.val), by have := h.isLt; have := k.isLt; omega⟩ : Fin 1024)) = x (ix2 c (⟨h.val * 128 + (0 + k.val), by have := h.isLt; have := k.isLt; omega⟩ : Fin 1024)) := by
  have hk := k.isLt
  unfold packK
  refine (unheads_apply (A := 256) (K := 128) (N := 1024) _ _ rfl c h (⟨0 + k.val, by omega⟩ : Fin 128) _ rfl).trans ?_
  refine (cat3 _ _ c h _ 0 64 (by show 0 < 2; omega) _ rfl 0 rfl k rfl).trans ?_
  exact (lanes (A := 256) (B := 8) (N := 128) (K := 64) 0 (headK x) slices_S256x8x128_S256x8x64_0_0_0 c h k (by omega)).trans (headK_apply x c h _)

/-- A head's pad. -/
theorem packK_z (x : FVec Ideal S256x1024 .f32) (c : Fin 256) (h : Fin 8) (k : Fin 64) : packK x (ix2 c (⟨h.val * 128 + (64 + k.val), by have := h.isLt; have := k.isLt; omega⟩ : Fin 1024)) = 0 := by
  have hk := k.isLt
  unfold packK
  refine (unheads_apply (A := 256) (K := 128) (N := 1024) _ _ rfl c h (⟨64 + k.val, by omega⟩ : Fin 128) _ rfl).trans ?_
  refine (cat3 _ _ c h _ 1 64 (by show 1 < 2; omega) _ rfl 64 rfl k rfl).trans ?_
  exact pad0 _ _

/-- A head's columns. -/
theorem packV_a (x : FVec Ideal S256x1024 .f32) (c : Fin 256) (h : Fin 8) (k : Fin 64) : packV x (ix2 c (⟨h.val * 128 + (0 + k.val), by have := h.isLt; have := k.isLt; omega⟩ : Fin 1024)) = x (ix2 c (⟨h.val * 128 + (64 + k.val), by have := h.isLt; have := k.isLt; omega⟩ : Fin 1024)) := by
  have hk := k.isLt
  unfold packV
  refine (unheads_apply (A := 256) (K := 128) (N := 1024) _ _ rfl c h (⟨0 + k.val, by omega⟩ : Fin 128) _ rfl).trans ?_
  refine (cat3 _ _ c h _ 0 64 (by show 0 < 2; omega) _ rfl 0 rfl k rfl).trans ?_
  exact (lanes (A := 256) (B := 8) (N := 128) (K := 64) 64 (headK x) slices_S256x8x128_S256x8x64_0_0_64 c h k (by omega)).trans (headK_apply x c h _)

/-- A head's pad. -/
theorem packV_z (x : FVec Ideal S256x1024 .f32) (c : Fin 256) (h : Fin 8) (k : Fin 64) : packV x (ix2 c (⟨h.val * 128 + (64 + k.val), by have := h.isLt; have := k.isLt; omega⟩ : Fin 1024)) = 0 := by
  have hk := k.isLt
  unfold packV
  refine (unheads_apply (A := 256) (K := 128) (N := 1024) _ _ rfl c h (⟨64 + k.val, by omega⟩ : Fin 128) _ rfl).trans ?_
  refine (cat3 _ _ c h _ 1 64 (by show 1 < 2; omega) _ rfl 64 rfl k rfl).trans ?_
  exact pad0 _ _

/-! ## The arrays the windows read -/

variable (m : (ℓ : Loc nD τ sig) → Buf (Elt Ideal) ℓ)

/-- The positions a device is given. -/
abbrev arg1 (c : Dev nD) : IVec S2x8192 32 := m ((c : Thread nD τ).loc main_arg1)

/-- The inputs a device is given. -/
abbrev arg0 (c : Dev nD) : FVec Ideal S2x8192x1024 .f32 := m ((c : Thread nD τ).loc main_arg0)

/-- The input norm's weights a device is given. -/
abbrev arg2 (c : Dev nD) : FVec Ideal S1024 .f32 := m ((c : Thread nD τ).loc main_arg2)

/-- The input weights a device is given. -/
abbrev arg3 (c : Dev nD) : FVec Ideal S1024x4272 .f32 := m ((c : Thread nD τ).loc main_arg3)

/-- The query latent norm's weights a device is given. -/
abbrev arg4 (c : Dev nD) : FVec Ideal S384 .f32 := m ((c : Thread nD τ).loc main_arg4)

/-- The query weights a device is given. -/
abbrev arg5 (c : Dev nD) : FVec Ideal S384x768 .f32 := m ((c : Thread nD τ).loc main_arg5)

/-- The key and value latent norm's weights a device is given. -/
abbrev arg6 (c : Dev nD) : FVec Ideal S256 .f32 := m ((c : Thread nD τ).loc main_arg6)

/-- The key and value weights a device is given. -/
abbrev arg7 (c : Dev nD) : FVec Ideal S256x1024 .f32 := m ((c : Thread nD τ).loc main_arg7)

set_option maxHeartbeats 4000000 in
/-- The array window 0 reads. -/
theorem V_v61 (c : Dev nD) : V m c main_v61 = shapeCast S16384x1024 (arg0 m c) shapeCasts_S2x8192x1024_S16384x1024 := by
  unfold V hostOps0
  after_results_simp
  rfl

set_option maxHeartbeats 4000000 in
/-- The array window 1 reads. -/
theorem V_v60 (c : Dev nD) : V m c main_v60 = (sitofp .f32 (shapeCast S16384x1 (arg1 m c) shapeCasts_S2x8192_S16384x1) : FVec Ideal S16384x1 .f32) := by
  unfold V hostOps0
  after_results_simp
  rfl

set_option maxHeartbeats 4000000 in
/-- The array window 2 reads. -/
theorem V_v71 (c : Dev nD) : V m c main_v71 = packF := by
  unfold V hostOps0
  after_results_simp
  rfl

set_option maxHeartbeats 4000000 in
/-- The array window 3 reads. -/
theorem V_v28 (c : Dev nD) : V m c main_v28 = shapeCast S1x1024 (arg2 m c) shapeCasts_S1024_S1x1024 := by
  unfold V hostOps0
  after_results_simp
  rfl

set_option maxHeartbeats 4000000 in
/-- The array window 4 reads. -/
theorem V_v30 (c : Dev nD) : V m c main_v30 = (truncf .bf16 (packL (arg3 m c)) bitsLt_bf16_f32 : FVec Ideal S1024x640 .bf16) := by
  unfold V hostOps0
  after_results_simp
  rfl

set_option maxHeartbeats 4000000 in
/-- The array window 5 reads. -/
theorem V_v42 (c : Dev nD) : V m c main_v42 = (truncf .bf16 (packR (arg3 m c)) bitsLt_bf16_f32 : FVec Ideal S1024x256 .bf16) := by
  unfold V hostOps0
  after_results_simp
  rfl

set_option maxHeartbeats 4000000 in
/-- The array window 6 reads. -/
theorem V_v44 (c : Dev nD) : V m c main_v44 = (truncf .bf16 (packG (arg3 m c)) bitsLt_bf16_f32 : FVec Ideal S1024x1280 .bf16) := by
  unfold V hostOps0
  after_results_simp
  rfl

set_option maxHeartbeats 4000000 in
/-- The array window 7 reads. -/
theorem V_v47 (c : Dev nD) : V m c main_v47 = (truncf .bf16 (packT (arg3 m c)) bitsLt_bf16_f32 : FVec Ideal S272x1024 .bf16) := by
  unfold V hostOps0
  after_results_simp
  rfl

set_option maxHeartbeats 4000000 in
/-- The array window 8 reads. -/
theorem V_v48 (c : Dev nD) : V m c main_v48 = (truncf .bf16 (packB (arg3 m c)) bitsLt_bf16_f32 : FVec Ideal S1024x2048 .bf16) := by
  unfold V hostOps0
  after_results_simp
  rfl

set_option maxHeartbeats 4000000 in
/-- The array window 9 reads. -/
theorem V_v49 (c : Dev nD) : V m c main_v49 = shapeCast S1x384 (arg4 m c) shapeCasts_S384_S1x384 := by
  unfold V hostOps0
  after_results_simp
  rfl

set_option maxHeartbeats 4000000 in
/-- The array window 10 reads. -/
theorem V_v52 (c : Dev nD) : V m c main_v52 = (truncf .bf16 (packQ (arg5 m c)) bitsLt_bf16_f32 : FVec Ideal S384x1024 .bf16) := by
  unfold V hostOps0
  after_results_simp
  rfl

set_option maxHeartbeats 4000000 in
/-- The array window 11 reads. -/
theorem V_v54 (c : Dev nD) : V m c main_v54 = (truncf .bf16 (packQr (arg5 m c)) bitsLt_bf16_f32 : FVec Ideal S384x1024 .bf16) := by
  unfold V hostOps0
  after_results_simp
  rfl

set_option maxHeartbeats 4000000 in
/-- The array window 12 reads. -/
theorem V_v50 (c : Dev nD) : V m c main_v50 = shapeCast S1x256 (arg6 m c) shapeCasts_S256_S1x256 := by
  unfold V hostOps0
  after_results_simp
  rfl

set_option maxHeartbeats 4000000 in
/-- The array window 13 reads. -/
theorem V_v56 (c : Dev nD) : V m c main_v56 = (truncf .bf16 (packK (arg7 m c)) bitsLt_bf16_f32 : FVec Ideal S256x1024 .bf16) := by
  unfold V hostOps0
  after_results_simp
  rfl

set_option maxHeartbeats 4000000 in
/-- The array window 14 reads. -/
theorem V_v58 (c : Dev nD) : V m c main_v58 = (truncf .bf16 (packV (arg7 m c)) bitsLt_bf16_f32 : FVec Ideal S256x1024 .bf16) := by
  unfold V hostOps0
  after_results_simp
  rfl

end Cert.ProjIdeal.Proj

end
-- ==== Proof.ProjRef.lean ====
/- The proj reference's results at one element. -/
module

public import proofs.«01_k».proof.Proof.ProjRow
public import proofs.«01_k».proof.Proof.Gen.ProjReferenceIdeal.Read
public import Idealize.ShloMosaic.Lib.ValueIdx
public import Idealize.ShloMosaic.Lib.Pipeline.Value
public import Idealize.ShloMosaic.PureOps.Ideal.Laws

@[expose] public section

set_option maxRecDepth 16384

noncomputable section

namespace Cert.ProjRef

open Cert.ProjReferenceIdeal Cert.ProjReferenceIdeal.Gen Cert.ProjReferenceIdeal.Read Cert.ProjRow
open Idealize.ShloMosaic Idealize.ShloMosaic.ValueIdx
open scoped BigOperators

variable (x0 : FVec Ideal S2x8192x1024 .f32) (x1 : IVec S2x8192 32) (x2 : FVec Ideal S1024 .f32) (x3 : FVec Ideal S1024x4272 .f32)
  (x4 : FVec Ideal S384 .f32) (x5 : FVec Ideal S384x768 .f32) (x6 : FVec Ideal S256 .f32) (x7 : FVec Ideal S256x1024 .f32)

/-- The normed row of a token. -/
def ht (b : Fin 2) (R : Fin 8192) : Fin 1024 → EReal := nrm 0x44800000#32 (fun d => x0 (ix3 b R d)) (fun k => x2 (ix1 k))

/-- A token's row times the input weights. -/
def ct (b : Fin 2) (R : Fin 8192) (j : Fin 4272) : EReal := dot (ht x0 x2 b R) (fun k => x3 (ix2 k j))

/-- The normed query latent of a token. -/
def qt (b : Fin 2) (R : Fin 8192) : Fin 384 → EReal :=
  nrm 0x43C00000#32 (fun d => ct x0 x2 x3 b R (⟨0 + d.val, by have := d.isLt; omega⟩ : Fin 4272)) (fun k => x4 (ix1 k))

/-- The normed key and value latent of a token. -/
def kt (b : Fin 2) (R : Fin 8192) : Fin 256 → EReal :=
  nrm 0x43800000#32 (fun d => ct x0 x2 x3 b R (⟨384 + d.val, by have := d.isLt; omega⟩ : Fin 4272)) (fun k => x6 (ix1 k))

/-- A token's query before the rotation. -/
def qp (b : Fin 2) (R : Fin 8192) (h : Fin 8) (j : Fin 96) : EReal :=
  dot (qt x0 x2 x3 x4 b R) (fun k => x5 (ix2 k (⟨h.val * 96 + j.val, by have := h.isLt; have := j.isLt; omega⟩ : Fin 768)))

/-- A token's key and value from the latent. -/
def kvp (b : Fin 2) (R : Fin 8192) (h : Fin 8) (j : Fin 128) : EReal :=
  dot (kt x0 x2 x3 x6 b R) (fun k => x7 (ix2 k (⟨h.val * 128 + j.val, by have := h.isLt; have := j.isLt; omega⟩ : Fin 1024)))

/-- A token's rotation angle. -/
def ang (b : Fin 2) (R : Fin 8192) (k : Fin 16) : EReal := (((x1 (ix2 b R)).toInt : ℝ) : EReal) * inv k

/-- The query's scale. -/
def sc : EReal := Ideal.div (Ideal.rsqrt (Ideal.ofBits .f32 0x42C00000#32)) (Ideal.log (Ideal.ofBits .f32 0x40000000#32))

/-! ## Concatenations along the last axis -/

/-- The first of two pieces. -/
theorem cat_lo {A n m N : ℕ} (x : (⟨4, ![2, 8192, A, n]⟩ : Shape).Idx → EReal) (y : (⟨4, ![2, 8192, A, m]⟩ : Shape).Idx → EReal)
    (h : Shape.Concatenates [⟨4, ![2, 8192, A, n]⟩, ⟨4, ![2, 8192, A, m]⟩] ⟨4, ![2, 8192, A, N]⟩ 3)
    (b : Fin 2) (R : Fin 8192) (a : Fin A) (l : Fin N) (k : Fin n) (hl : l.val = k.val) :
    concatenate ⟨4, ![2, 8192, A, N]⟩ 3 [⟨⟨4, ![2, 8192, A, n]⟩, x⟩, ⟨⟨4, ![2, 8192, A, m]⟩, y⟩] h (ix4 b R a l) = x (ix4 b R a k) :=
  concatenate_pair_apply_left (t := ⟨4, ![2, 8192, A, N]⟩) (s₁ := ⟨4, ![2, 8192, A, n]⟩) (s₂ := ⟨4, ![2, 8192, A, m]⟩) 3 x y h (ix4 b R a l) rfl (ix4 b R a k) (fun e => by
    match e with
    | ⟨0, _⟩ => rfl
    | ⟨1, _⟩ => rfl
    | ⟨2, _⟩ => rfl
    | ⟨3, _⟩ => exact hl.symm)

/-- The second of two pieces. -/
theorem cat_hi {A n m N : ℕ} (x : (⟨4, ![2, 8192, A, n]⟩ : Shape).Idx → EReal) (y : (⟨4, ![2, 8192, A, m]⟩ : Shape).Idx → EReal)
    (h : Shape.Concatenates [⟨4, ![2, 8192, A, n]⟩, ⟨4, ![2, 8192, A, m]⟩] ⟨4, ![2, 8192, A, N]⟩ 3)
    (b : Fin 2) (R : Fin 8192) (a : Fin A) (l : Fin N) (k : Fin m) (hl : l.val = n + k.val) :
    concatenate ⟨4, ![2, 8192, A, N]⟩ 3 [⟨⟨4, ![2, 8192, A, n]⟩, x⟩, ⟨⟨4, ![2, 8192, A, m]⟩, y⟩] h (ix4 b R a l) = y (ix4 b R a k) :=
  concatenate_pair_apply_right (t := ⟨4, ![2, 8192, A, N]⟩) (s₁ := ⟨4, ![2, 8192, A, n]⟩) (s₂ := ⟨4, ![2, 8192, A, m]⟩) 3 x y h (ix4 b R a l) rfl rfl (ix4 b R a k) (fun e he => by
    match e with
    | ⟨0, _⟩ => rfl
    | ⟨1, _⟩ => rfl
    | ⟨2, _⟩ => rfl
    | ⟨3, _⟩ => exact absurd rfl he) (by show k.val + n = l.val; omega)

/-- The pad's value. -/
theorem zero_apply {s : Shape} (h : S_.BroadcastsInDim s ![]) (i : s.Idx) :
    (broadcastInDim s ![] h (constant (F := Ideal) S_ .f32 0x00000000#32) : s.Idx → EReal) i = 0 :=
  Ideal.ofBits_zero_f32

/-- The word of one. -/
theorem one_word : Ideal.ofBits .f32 0x3F800000#32 = 1 := by
  simp [Ideal.ofBits, Ideal.ieee]
  rw [← EReal.coe_mul, ← EReal.coe_one]
  norm_num

/-- The inverted root of the mean square, of the input. -/
theorem v7_at (b : Fin 2) (R : Fin 8192) (u : Fin 1) :
    val_main_v7 (F := Ideal) x0 (ix3 b R u) = Ideal.rsqrt (Ideal.div (∑ k : Fin 1024, (x0 (ix3 b R k) : EReal) * (x0 (ix3 b R k) : EReal)) (Ideal.ofBits .f32 0x44800000#32) + Ideal.ofBits .f32 0x358637BD#32) := by
  rw [val_main_v7_apply, val_main_v6_apply, val_main_v4_apply, val_main_v2_apply, val_main_v1_apply, val_main_v3_apply, val_main_v5_apply]
  have e : ((val_main_cst (F := Ideal)) (Shape.Idx.first h_S_) : EReal) + ∑ k : Fin 1024, val_main_v0 (F := Ideal) x0 (idx_main_v1 (idx_main_v2 (ix3 b R u)) k)
      = ∑ k : Fin 1024, (x0 (ix3 b R k) : EReal) * (x0 (ix3 b R k) : EReal) := by
    have hz : ((val_main_cst (F := Ideal)) (Shape.Idx.first h_S_) : EReal) = 0 := Ideal.ofBits_zero_f32
    rw [hz, zero_add]
    refine Finset.sum_congr rfl fun k _ => ?_
    have hi : idx_main_v1 (idx_main_v2 (ix3 b R u)) k = ix3 b R k := by
      funext a
      match a with
      | ⟨0, _⟩ => rfl
      | ⟨1, _⟩ => rfl
      | ⟨2, _⟩ => rfl
    rw [hi, val_main_v0_apply]
    rfl
  exact congrArg (fun z : EReal => Ideal.rsqrt (Ideal.div z (Ideal.ofBits .f32 0x44800000#32) + Ideal.ofBits .f32 0x358637BD#32)) e

/-- The normed row, of the input. -/
theorem v12_at (b : Fin 2) (R : Fin 8192) (d : Fin 1024) :
    val_main_v12 (F := Ideal) x0 x2 (ix3 b R d) = ht x0 x2 b R d := by
  rw [val_main_v12_apply, val_main_v9_apply, val_main_v8_apply, val_main_v11_apply, val_main_v10_apply]
  have hi : idx_main_v8 (ix3 b R d) = ix3 b R (0 : Fin 1) := by
    funext a
    match a with
    | ⟨0, _⟩ => rfl
    | ⟨1, _⟩ => rfl
    | ⟨2, _⟩ => rfl
  have hg : idx_main_v10 (idx_main_v11 (ix3 b R d)) = ix1 d := by
    funext a
    match a with
    | ⟨0, _⟩ => rfl
  rw [hi, hg, v7_at]
  rfl

/-- The row times the input weights. -/
theorem v13_at (b : Fin 2) (R : Fin 8192) (j : Fin 4272) :
    val_main_v13 (F := Ideal) x0 x2 x3 (ix3 b R j) = ct x0 x2 x3 b R j := by
  rw [val_main_v13_apply]
  unfold ct dot
  refine Finset.sum_congr rfl fun k _ => congrArg₂ (fun u v : EReal => u * v) ?_ (congrArg x3 ?_)
  · have hi : lidx_main_v13 (ix3 b R j) k = ix3 b R k := by
      funext a
      match a with
      | ⟨0, _⟩ => rfl
      | ⟨1, _⟩ => rfl
      | ⟨2, _⟩ => rfl
    exact (congrArg _ hi).trans (v12_at x0 x2 b R k)
  · funext a
    match a with
    | ⟨0, _⟩ => rfl
    | ⟨1, _⟩ => rfl

/-- The query latent's columns. -/
theorem v14_at (b : Fin 2) (R : Fin 8192) (j : Fin 384) :
    val_main_v14 (F := Ideal) x0 x2 x3 (ix3 b R j) = ct x0 x2 x3 b R (⟨0 + j.val, by have := j.isLt; omega⟩ : Fin 4272) := by
  rw [val_main_v14_apply]
  have hi : idx_main_v14 (ix3 b R j) = ix3 b R (⟨0 + j.val, by have := j.isLt; omega⟩ : Fin 4272) := by
    have := b.isLt; have := R.isLt; have := j.isLt
    funext a
    apply Fin.ext
    match a with
    | ⟨0, _⟩ => simp [idx_main_v14, ix3]
    | ⟨1, _⟩ => simp [idx_main_v14, ix3]
    | ⟨2, _⟩ => simp [idx_main_v14, ix3]
  rw [hi, v13_at]

/-- The key and value latent's columns. -/
theorem v15_at (b : Fin 2) (R : Fin 8192) (j : Fin 256) :
    val_main_v15 (F := Ideal) x0 x2 x3 (ix3 b R j) = ct x0 x2 x3 b R (⟨384 + j.val, by have := j.isLt; omega⟩ : Fin 4272) := by
  rw [val_main_v15_apply]
  have hi : idx_main_v15 (ix3 b R j) = ix3 b R (⟨384 + j.val, by have := j.isLt; omega⟩ : Fin 4272) := by
    have := b.isLt; have := R.isLt; have := j.isLt
    funext a
    apply Fin.ext
    match a with
    | ⟨0, _⟩ => simp [idx_main_v15, ix3]
    | ⟨1, _⟩ => simp [idx_main_v15, ix3]
    | ⟨2, _⟩ => simp [idx_main_v15, ix3]
  rw [hi, v13_at]

/-- The shared rotated key's columns. -/
theorem v16_at (b : Fin 2) (R : Fin 8192) (j : Fin 32) :
    val_main_v16 (F := Ideal) x0 x2 x3 (ix3 b R j) = ct x0 x2 x3 b R (⟨640 + j.val, by have := j.isLt; omega⟩ : Fin 4272) := by
  rw [val_main_v16_apply]
  have hi : idx_main_v16 (ix3 b R j) = ix3 b R (⟨640 + j.val, by have := j.isLt; omega⟩ : Fin 4272) := by
    have := b.isLt; have := R.isLt; have := j.isLt
    funext a
    apply Fin.ext
    match a with
    | ⟨0, _⟩ => simp [idx_main_v16, ix3]
    | ⟨1, _⟩ => simp [idx_main_v16, ix3]
    | ⟨2, _⟩ => simp [idx_main_v16, ix3]
  rw [hi, v13_at]

/-- The gated query's columns. -/
theorem v17_at (b : Fin 2) (R : Fin 8192) (j : Fin 256) :
    val_main_v17 (F := Ideal) x0 x2 x3 (ix3 b R j) = ct x0 x2 x3 b R (⟨672 + j.val, by have := j.isLt; omega⟩ : Fin 4272) := by
  rw [val_main_v17_apply]
  have hi : idx_main_v17 (ix3 b R j) = ix3 b R (⟨672 + j.val, by have := j.isLt; omega⟩ : Fin 4272) := by
    have := b.isLt; have := R.isLt; have := j.isLt
    funext a
    apply Fin.ext
    match a with
    | ⟨0, _⟩ => simp [idx_main_v17, ix3]
    | ⟨1, _⟩ => simp [idx_main_v17, ix3]
    | ⟨2, _⟩ => simp [idx_main_v17, ix3]
  rw [hi, v13_at]

/-- The gated key's columns. -/
theorem v18_at (b : Fin 2) (R : Fin 8192) (j : Fin 256) :
    val_main_v18 (F := Ideal) x0 x2 x3 (ix3 b R j) = ct x0 x2 x3 b R (⟨928 + j.val, by have := j.isLt; omega⟩ : Fin 4272) := by
  rw [val_main_v18_apply]
  have hi : idx_main_v18 (ix3 b R j) = ix3 b R (⟨928 + j.val, by have := j.isLt; omega⟩ : Fin 4272) := by
    have := b.isLt; have := R.isLt; have := j.isLt
    funext a
    apply Fin.ext
    match a with
    | ⟨0, _⟩ => simp [idx_main_v18, ix3]
    | ⟨1, _⟩ => simp [idx_main_v18, ix3]
    | ⟨2, _⟩ => simp [idx_main_v18, ix3]
  rw [hi, v13_at]

/-- The gated value's columns. -/
theorem v19_at (b : Fin 2) (R : Fin 8192) (j : Fin 512) :
    val_main_v19 (F := Ideal) x0 x2 x3 (ix3 b R j) = ct x0 x2 x3 b R (⟨1184 + j.val, by have := j.isLt; omega⟩ : Fin 4272) := by
  rw [val_main_v19_apply]
  have hi : idx_main_v19 (ix3 b R j) = ix3 b R (⟨1184 + j.val, by have := j.isLt; omega⟩ : Fin 4272) := by
    have := b.isLt; have := R.isLt; have := j.isLt
    funext a
    apply Fin.ext
    match a with
    | ⟨0, _⟩ => simp [idx_main_v19, ix3]
    | ⟨1, _⟩ => simp [idx_main_v19, ix3]
    | ⟨2, _⟩ => simp [idx_main_v19, ix3]
  rw [hi, v13_at]

/-- The gate's low-rank input's columns. -/
theorem v20_at (b : Fin 2) (R : Fin 8192) (j : Fin 16) :
    val_main_v20 (F := Ideal) x0 x2 x3 (ix3 b R j) = ct x0 x2 x3 b R (⟨1696 + j.val, by have := j.isLt; omega⟩ : Fin 4272) := by
  rw [val_main_v20_apply]
  have hi : idx_main_v20 (ix3 b R j) = ix3 b R (⟨1696 + j.val, by have := j.isLt; omega⟩ : Fin 4272) := by
    have := b.isLt; have := R.isLt; have := j.isLt
    funext a
    apply Fin.ext
    match a with
    | ⟨0, _⟩ => simp [idx_main_v20, ix3]
    | ⟨1, _⟩ => simp [idx_main_v20, ix3]
    | ⟨2, _⟩ => simp [idx_main_v20, ix3]
  rw [hi, v13_at]

/-- The output gate's columns. -/
theorem v21_at (b : Fin 2) (R : Fin 8192) (j : Fin 512) :
    val_main_v21 (F := Ideal) x0 x2 x3 (ix3 b R j) = ct x0 x2 x3 b R (⟨1712 + j.val, by have := j.isLt; omega⟩ : Fin 4272) := by
  rw [val_main_v21_apply]
  have hi : idx_main_v21 (ix3 b R j) = ix3 b R (⟨1712 + j.val, by have := j.isLt; omega⟩ : Fin 4272) := by
    have := b.isLt; have := R.isLt; have := j.isLt
    funext a
    apply Fin.ext
    match a with
    | ⟨0, _⟩ => simp [idx_main_v21, ix3]
    | ⟨1, _⟩ => simp [idx_main_v21, ix3]
    | ⟨2, _⟩ => simp [idx_main_v21, ix3]
  rw [hi, v13_at]

/-- The branch gates's columns. -/
theorem v22_at (b : Fin 2) (R : Fin 8192) (j : Fin 2048) :
    val_main_v22 (F := Ideal) x0 x2 x3 (ix3 b R j) = ct x0 x2 x3 b R (⟨2224 + j.val, by have := j.isLt; omega⟩ : Fin 4272) := by
  rw [val_main_v22_apply]
  have hi : idx_main_v22 (ix3 b R j) = ix3 b R (⟨2224 + j.val, by have := j.isLt; omega⟩ : Fin 4272) := by
    have := b.isLt; have := R.isLt; have := j.isLt
    funext a
    apply Fin.ext
    match a with
    | ⟨0, _⟩ => simp [idx_main_v22, ix3]
    | ⟨1, _⟩ => simp [idx_main_v22, ix3]
    | ⟨2, _⟩ => simp [idx_main_v22, ix3]
  rw [hi, v13_at]

/-- The inverted root of the mean square, of the query latent. -/
theorem v30_at (b : Fin 2) (R : Fin 8192) (u : Fin 1) :
    val_main_v30 (F := Ideal) x0 x2 x3 (ix3 b R u) = Ideal.rsqrt (Ideal.div (∑ k : Fin 384, ct x0 x2 x3 b R (⟨0 + k.val, by have := k.isLt; omega⟩ : Fin 4272) * ct x0 x2 x3 b R (⟨0 + k.val, by have := k.isLt; omega⟩ : Fin 4272)) (Ideal.ofBits .f32 0x43C00000#32) + Ideal.ofBits .f32 0x358637BD#32) := by
  rw [val_main_v30_apply, val_main_v29_apply, val_main_v27_apply, val_main_v25_apply, val_main_v24_apply, val_main_v26_apply, val_main_v28_apply]
  have e : ((val_main_cst_2 (F := Ideal)) (Shape.Idx.first h_S_) : EReal) + ∑ k : Fin 384, val_main_v23 (F := Ideal) x0 x2 x3 (idx_main_v24 (idx_main_v25 (ix3 b R u)) k)
      = ∑ k : Fin 384, ct x0 x2 x3 b R (⟨0 + k.val, by have := k.isLt; omega⟩ : Fin 4272) * ct x0 x2 x3 b R (⟨0 + k.val, by have := k.isLt; omega⟩ : Fin 4272) := by
    have hz : ((val_main_cst_2 (F := Ideal)) (Shape.Idx.first h_S_) : EReal) = 0 := Ideal.ofBits_zero_f32
    rw [hz, zero_add]
    refine Finset.sum_congr rfl fun k _ => ?_
    have hi : idx_main_v24 (idx_main_v25 (ix3 b R u)) k = ix3 b R k := by
      funext a
      match a with
      | ⟨0, _⟩ => rfl
      | ⟨1, _⟩ => rfl
      | ⟨2, _⟩ => rfl
    rw [hi, val_main_v23_apply, v14_at]
    rfl
  exact congrArg (fun z : EReal => Ideal.rsqrt (Ideal.div z (Ideal.ofBits .f32 0x43C00000#32) + Ideal.ofBits .f32 0x358637BD#32)) e

/-- The normed row, of the query latent. -/
theorem v35_at (b : Fin 2) (R : Fin 8192) (d : Fin 384) :
    val_main_v35 (F := Ideal) x0 x2 x3 x4 (ix3 b R d) = qt x0 x2 x3 x4 b R d := by
  rw [val_main_v35_apply, val_main_v32_apply, val_main_v31_apply, val_main_v34_apply, val_main_v33_apply, v14_at]
  have hi : idx_main_v31 (ix3 b R d) = ix3 b R (0 : Fin 1) := by
    funext a
    match a with
    | ⟨0, _⟩ => rfl
    | ⟨1, _⟩ => rfl
    | ⟨2, _⟩ => rfl
  have hg : idx_main_v33 (idx_main_v34 (ix3 b R d)) = ix1 d := by
    funext a
    match a with
    | ⟨0, _⟩ => rfl
  rw [hi, hg, v30_at]
  rfl

/-- The queries before the rotation, in one axis. -/
theorem v36_at (b : Fin 2) (R : Fin 8192) (j : Fin 768) :
    val_main_v36 (F := Ideal) x0 x2 x3 x4 x5 (ix3 b R j) = dot (qt x0 x2 x3 x4 b R) (fun k => x5 (ix2 k j)) := by
  rw [val_main_v36_apply]
  refine Finset.sum_congr rfl fun k _ => congrArg₂ (fun u v : EReal => u * v) ?_ (congrArg x5 ?_)
  · have hi : lidx_main_v36 (ix3 b R j) k = ix3 b R k := by
      funext a
      match a with
      | ⟨0, _⟩ => rfl
      | ⟨1, _⟩ => rfl
      | ⟨2, _⟩ => rfl
    exact (congrArg _ hi).trans (v35_at x0 x2 x3 x4 b R k)
  · funext a
    match a with
    | ⟨0, _⟩ => rfl
    | ⟨1, _⟩ => rfl

/-- The inverted root of the mean square, of the key and value latent. -/
theorem v75_at (b : Fin 2) (R : Fin 8192) (u : Fin 1) :
    val_main_v75 (F := Ideal) x0 x2 x3 (ix3 b R u) = Ideal.rsqrt (Ideal.div (∑ k : Fin 256, ct x0 x2 x3 b R (⟨384 + k.val, by have := k.isLt; omega⟩ : Fin 4272) * ct x0 x2 x3 b R (⟨384 + k.val, by have := k.isLt; omega⟩ : Fin 4272)) (Ideal.ofBits .f32 0x43800000#32) + Ideal.ofBits .f32 0x358637BD#32) := by
  rw [val_main_v75_apply, val_main_v74_apply, val_main_v72_apply, val_main_v70_apply, val_main_v69_apply, val_main_v71_apply, val_main_v73_apply]
  have e : ((val_main_cst_7 (F := Ideal)) (Shape.Idx.first h_S_) : EReal) + ∑ k : Fin 256, val_main_v68 (F := Ideal) x0 x2 x3 (idx_main_v69 (idx_main_v70 (ix3 b R u)) k)
      = ∑ k : Fin 256, ct x0 x2 x3 b R (⟨384 + k.val, by have := k.isLt; omega⟩ : Fin 4272) * ct x0 x2 x3 b R (⟨384 + k.val, by have := k.isLt; omega⟩ : Fin 4272) := by
    have hz : ((val_main_cst_7 (F := Ideal)) (Shape.Idx.first h_S_) : EReal) = 0 := Ideal.ofBits_zero_f32
    rw [hz, zero_add]
    refine Finset.sum_congr rfl fun k _ => ?_
    have hi : idx_main_v69 (idx_main_v70 (ix3 b R u)) k = ix3 b R k := by
      funext a
      match a with
      | ⟨0, _⟩ => rfl
      | ⟨1, _⟩ => rfl
      | ⟨2, _⟩ => rfl
    rw [hi, val_main_v68_apply, v15_at]
    rfl
  exact congrArg (fun z : EReal => Ideal.rsqrt (Ideal.div z (Ideal.ofBits .f32 0x43800000#32) + Ideal.ofBits .f32 0x358637BD#32)) e

/-- The normed row, of the key and value latent. -/
theorem v80_at (b : Fin 2) (R : Fin 8192) (d : Fin 256) :
    val_main_v80 (F := Ideal) x0 x2 x3 x6 (ix3 b R d) = kt x0 x2 x3 x6 b R d := by
  rw [val_main_v80_apply, val_main_v77_apply, val_main_v76_apply, val_main_v79_apply, val_main_v78_apply, v15_at]
  have hi : idx_main_v76 (ix3 b R d) = ix3 b R (0 : Fin 1) := by
    funext a
    match a with
    | ⟨0, _⟩ => rfl
    | ⟨1, _⟩ => rfl
    | ⟨2, _⟩ => rfl
  have hg : idx_main_v78 (idx_main_v79 (ix3 b R d)) = ix1 d := by
    funext a
    match a with
    | ⟨0, _⟩ => rfl
  rw [hi, hg, v75_at]
  rfl

/-- The keys and values from the latent, in one axis. -/
theorem v81_at (b : Fin 2) (R : Fin 8192) (j : Fin 1024) :
    val_main_v81 (F := Ideal) x0 x2 x3 x6 x7 (ix3 b R j) = dot (kt x0 x2 x3 x6 b R) (fun k => x7 (ix2 k j)) := by
  rw [val_main_v81_apply]
  refine Finset.sum_congr rfl fun k _ => congrArg₂ (fun u v : EReal => u * v) ?_ (congrArg x7 ?_)
  · have hi : lidx_main_v81 (ix3 b R j) k = ix3 b R k := by
      funext a
      match a with
      | ⟨0, _⟩ => rfl
      | ⟨1, _⟩ => rfl
      | ⟨2, _⟩ => rfl
    exact (congrArg _ hi).trans (v80_at x0 x2 x3 x6 b R k)
  · funext a
    match a with
    | ⟨0, _⟩ => rfl
    | ⟨1, _⟩ => rfl

/-- The queries before the rotation, by head. -/
theorem v37_at (b : Fin 2) (R : Fin 8192) (h : Fin 8) (j : Fin 96) :
    val_main_v37 (F := Ideal) x0 x2 x3 x4 x5 (ix4 b R h j) = qp x0 x2 x3 x4 x5 b R h j := by
  refine Eq.trans ?_ (v36_at x0 x2 x3 x4 x5 b R (⟨h.val * 96 + j.val, by have := h.isLt; have := j.isLt; omega⟩ : Fin 768))
  unfold val_main_v37
  generalize val_main_v36 (F := Ideal) x0 x2 x3 x4 x5 = y
  refine shapeCast_apply y _ _ _ ?_
  rw [Shape.rowMajor_val_three, Shape.rowMajor_val_four]
  show (b.val * 8192 + R.val) * 768 + (h.val * 96 + j.val) = ((b.val * 8192 + R.val) * 8 + h.val) * 96 + j.val
  ring

/-- The keys and values, by head. -/
theorem v82_at (b : Fin 2) (R : Fin 8192) (h : Fin 8) (j : Fin 128) :
    val_main_v82 (F := Ideal) x0 x2 x3 x6 x7 (ix4 b R h j) = kvp x0 x2 x3 x6 x7 b R h j := by
  refine Eq.trans ?_ (v81_at x0 x2 x3 x6 x7 b R (⟨h.val * 128 + j.val, by have := h.isLt; have := j.isLt; omega⟩ : Fin 1024))
  unfold val_main_v82
  generalize val_main_v81 (F := Ideal) x0 x2 x3 x6 x7 = y
  refine shapeCast_apply y _ _ _ ?_
  rw [Shape.rowMajor_val_three, Shape.rowMajor_val_four]
  show (b.val * 8192 + R.val) * 1024 + (h.val * 128 + j.val) = ((b.val * 8192 + R.val) * 8 + h.val) * 128 + j.val
  ring

/-- The unrotated lanes of a query. -/
theorem v38_at (b : Fin 2) (R : Fin 8192) (h : Fin 8) (j : Fin 64) :
    val_main_v38 (F := Ideal) x0 x2 x3 x4 x5 (ix4 b R h j) = qp x0 x2 x3 x4 x5 b R h (⟨0 + j.val, by have := j.isLt; omega⟩ : Fin 96) := by
  rw [val_main_v38_apply]
  have hi : idx_main_v38 (ix4 b R h j) = ix4 b R h (⟨0 + j.val, by have := j.isLt; omega⟩ : Fin 96) := by
    have := b.isLt; have := R.isLt; have := j.isLt
    funext a
    apply Fin.ext
    match a with
    | ⟨0, _⟩ => simp [idx_main_v38, ix4]
    | ⟨1, _⟩ => simp [idx_main_v38, ix4]
    | ⟨2, _⟩ => simp [idx_main_v38, ix4]
    | ⟨3, _⟩ => simp [idx_main_v38, ix4]
  rw [hi, v37_at]

/-- The lanes of a query to be rotated. -/
theorem v39_at (b : Fin 2) (R : Fin 8192) (h : Fin 8) (j : Fin 32) :
    val_main_v39 (F := Ideal) x0 x2 x3 x4 x5 (ix4 b R h j) = qp x0 x2 x3 x4 x5 b R h (⟨64 + j.val, by have := j.isLt; omega⟩ : Fin 96) := by
  rw [val_main_v39_apply]
  have hi : idx_main_v39 (ix4 b R h j) = ix4 b R h (⟨64 + j.val, by have := j.isLt; omega⟩ : Fin 96) := by
    have := b.isLt; have := R.isLt; have := j.isLt
    funext a
    apply Fin.ext
    match a with
    | ⟨0, _⟩ => simp [idx_main_v39, ix4]
    | ⟨1, _⟩ => simp [idx_main_v39, ix4]
    | ⟨2, _⟩ => simp [idx_main_v39, ix4]
    | ⟨3, _⟩ => simp [idx_main_v39, ix4]
  rw [hi, v37_at]

/-- The first half of the lanes to be rotated. -/
theorem v54_at (b : Fin 2) (R : Fin 8192) (h : Fin 8) (j : Fin 16) :
    val_main_v54 (F := Ideal) x0 x2 x3 x4 x5 (ix4 b R h j) = qp x0 x2 x3 x4 x5 b R h (⟨64 + j.val, by have := j.isLt; omega⟩ : Fin 96) := by
  rw [val_main_v54_apply]
  have hi : idx_main_v54 (ix4 b R h j) = ix4 b R h (⟨0 + j.val, by have := j.isLt; omega⟩ : Fin 32) := by
    have := b.isLt; have := R.isLt; have := j.isLt
    funext a
    apply Fin.ext
    match a with
    | ⟨0, _⟩ => simp [idx_main_v54, ix4]
    | ⟨1, _⟩ => simp [idx_main_v54, ix4]
    | ⟨2, _⟩ => simp [idx_main_v54, ix4]
    | ⟨3, _⟩ => simp [idx_main_v54, ix4]
  rw [hi, v39_at]
  exact congrArg (qp x0 x2 x3 x4 x5 b R h) (Fin.ext (by show 64 + (0 + j.val) = 64 + j.val; omega))

/-- The second half of the lanes to be rotated. -/
theorem v55_at (b : Fin 2) (R : Fin 8192) (h : Fin 8) (j : Fin 16) :
    val_main_v55 (F := Ideal) x0 x2 x3 x4 x5 (ix4 b R h j) = qp x0 x2 x3 x4 x5 b R h (⟨80 + j.val, by have := j.isLt; omega⟩ : Fin 96) := by
  rw [val_main_v55_apply]
  have hi : idx_main_v55 (ix4 b R h j) = ix4 b R h (⟨16 + j.val, by have := j.isLt; omega⟩ : Fin 32) := by
    have := b.isLt; have := R.isLt; have := j.isLt
    funext a
    apply Fin.ext
    match a with
    | ⟨0, _⟩ => simp [idx_main_v55, ix4]
    | ⟨1, _⟩ => simp [idx_main_v55, ix4]
    | ⟨2, _⟩ => simp [idx_main_v55, ix4]
    | ⟨3, _⟩ => simp [idx_main_v55, ix4]
  rw [hi, v39_at]
  exact congrArg (qp x0 x2 x3 x4 x5 b R h) (Fin.ext (by show 64 + (16 + j.val) = 80 + j.val; omega))

/-- The key lanes from the latent. -/
theorem v107_at (b : Fin 2) (R : Fin 8192) (h : Fin 8) (j : Fin 64) :
    val_main_v107 (F := Ideal) x0 x2 x3 x6 x7 (ix4 b R h j) = kvp x0 x2 x3 x6 x7 b R h (⟨0 + j.val, by have := j.isLt; omega⟩ : Fin 128) := by
  rw [val_main_v107_apply]
  have hi : idx_main_v107 (ix4 b R h j) = ix4 b R h (⟨0 + j.val, by have := j.isLt; omega⟩ : Fin 128) := by
    have := b.isLt; have := R.isLt; have := j.isLt
    funext a
    apply Fin.ext
    match a with
    | ⟨0, _⟩ => simp [idx_main_v107, ix4]
    | ⟨1, _⟩ => simp [idx_main_v107, ix4]
    | ⟨2, _⟩ => simp [idx_main_v107, ix4]
    | ⟨3, _⟩ => simp [idx_main_v107, ix4]
  rw [hi, v82_at]

/-- The value lanes from the latent. -/
theorem v110_at (b : Fin 2) (R : Fin 8192) (h : Fin 8) (j : Fin 64) :
    val_main_v110 (F := Ideal) x0 x2 x3 x6 x7 (ix4 b R h j) = kvp x0 x2 x3 x6 x7 b R h (⟨64 + j.val, by have := j.isLt; omega⟩ : Fin 128) := by
  rw [val_main_v110_apply]
  have hi : idx_main_v110 (ix4 b R h j) = ix4 b R h (⟨64 + j.val, by have := j.isLt; omega⟩ : Fin 128) := by
    have := b.isLt; have := R.isLt; have := j.isLt
    funext a
    apply Fin.ext
    match a with
    | ⟨0, _⟩ => simp [idx_main_v110, ix4]
    | ⟨1, _⟩ => simp [idx_main_v110, ix4]
    | ⟨2, _⟩ => simp [idx_main_v110, ix4]
    | ⟨3, _⟩ => simp [idx_main_v110, ix4]
  rw [hi, v82_at]

/-- The rotation angle. -/
theorem v51_at (b : Fin 2) (R : Fin 8192) (u : Fin 1) (k : Fin 16) : val_main_v51 (F := Ideal) x1 (ix4 b R u k) = ang x1 b R k := by
  rw [val_main_v51_apply, val_main_v49_apply, val_main_v47_apply, val_main_v46_apply, val_main_v50_apply, val_main_v48_apply]
  have hp : idx_main_v47 (idx_main_v49 (ix4 b R u k)) = ix2 b R := by
    funext a
    match a with
    | ⟨0, _⟩ => rfl
    | ⟨1, _⟩ => rfl
  have hk : idx_main_v48 (idx_main_v50 (ix4 b R u k)) = ix1 k := by
    funext a
    match a with
    | ⟨0, _⟩ => rfl
  rw [hp, hk]
  rfl

/-- The rotation angle. -/
theorem v95_at (b : Fin 2) (R : Fin 8192) (u : Fin 1) (k : Fin 16) : val_main_v95 (F := Ideal) x1 (ix4 b R u k) = ang x1 b R k := by
  rw [val_main_v95_apply, val_main_v93_apply, val_main_v91_apply, val_main_v90_apply, val_main_v94_apply, val_main_v92_apply]
  have hp : idx_main_v91 (idx_main_v93 (ix4 b R u k)) = ix2 b R := by
    funext a
    match a with
    | ⟨0, _⟩ => rfl
    | ⟨1, _⟩ => rfl
  have hk : idx_main_v92 (idx_main_v94 (ix4 b R u k)) = ix1 k := by
    funext a
    match a with
    | ⟨0, _⟩ => rfl
  rw [hp, hk]
  rfl

/-- The cosine of the angle, for every head. -/
theorem v56_at (b : Fin 2) (R : Fin 8192) (h : Fin 8) (k : Fin 16) : val_main_v56 (F := Ideal) x1 (ix4 b R h k) = Ideal.cos (ang x1 b R k) := by
  rw [val_main_v56_apply, val_main_v52_apply]
  have hi : idx_main_v56 (ix4 b R h k) = ix4 b R (0 : Fin 1) k := by
    funext a
    match a with
    | ⟨0, _⟩ => rfl
    | ⟨1, _⟩ => rfl
    | ⟨2, _⟩ => rfl
    | ⟨3, _⟩ => rfl
  rw [hi, v51_at]
  rfl

/-- The sine of the angle, for every head. -/
theorem v58_at (b : Fin 2) (R : Fin 8192) (h : Fin 8) (k : Fin 16) : val_main_v58 (F := Ideal) x1 (ix4 b R h k) = Ideal.sin (ang x1 b R k) := by
  rw [val_main_v58_apply, val_main_v53_apply]
  have hi : idx_main_v58 (ix4 b R h k) = ix4 b R (0 : Fin 1) k := by
    funext a
    match a with
    | ⟨0, _⟩ => rfl
    | ⟨1, _⟩ => rfl
    | ⟨2, _⟩ => rfl
    | ⟨3, _⟩ => rfl
  rw [hi, v51_at]
  rfl

/-- The cosine of the angle, for every head. -/
theorem v61_at (b : Fin 2) (R : Fin 8192) (h : Fin 8) (k : Fin 16) : val_main_v61 (F := Ideal) x1 (ix4 b R h k) = Ideal.cos (ang x1 b R k) := by
  rw [val_main_v61_apply, val_main_v52_apply]
  have hi : idx_main_v61 (ix4 b R h k) = ix4 b R (0 : Fin 1) k := by
    funext a
    match a with
    | ⟨0, _⟩ => rfl
    | ⟨1, _⟩ => rfl
    | ⟨2, _⟩ => rfl
    | ⟨3, _⟩ => rfl
  rw [hi, v51_at]
  rfl

/-- The sine of the angle, for every head. -/
theorem v63_at (b : Fin 2) (R : Fin 8192) (h : Fin 8) (k : Fin 16) : val_main_v63 (F := Ideal) x1 (ix4 b R h k) = Ideal.sin (ang x1 b R k) := by
  rw [val_main_v63_apply, val_main_v53_apply]
  have hi : idx_main_v63 (ix4 b R h k) = ix4 b R (0 : Fin 1) k := by
    funext a
    match a with
    | ⟨0, _⟩ => rfl
    | ⟨1, _⟩ => rfl
    | ⟨2, _⟩ => rfl
    | ⟨3, _⟩ => rfl
  rw [hi, v51_at]
  rfl

/-- The rotated query's first half. -/
theorem v60_at (b : Fin 2) (R : Fin 8192) (h : Fin 8) (k : Fin 16) : val_main_v60 (F := Ideal) x0 x1 x2 x3 x4 x5 (ix4 b R h k) = rot1 (qp x0 x2 x3 x4 x5 b R h (⟨64 + k.val, by have := k.isLt; omega⟩ : Fin 96)) (qp x0 x2 x3 x4 x5 b R h (⟨80 + k.val, by have := k.isLt; omega⟩ : Fin 96)) (ang x1 b R k) := by
  rw [val_main_v60_apply, val_main_v57_apply, val_main_v59_apply, v54_at, v55_at, v56_at, v58_at]
  rfl

/-- The rotated query's second half. -/
theorem v65_at (b : Fin 2) (R : Fin 8192) (h : Fin 8) (k : Fin 16) : val_main_v65 (F := Ideal) x0 x1 x2 x3 x4 x5 (ix4 b R h k) = rot2 (qp x0 x2 x3 x4 x5 b R h (⟨64 + k.val, by have := k.isLt; omega⟩ : Fin 96)) (qp x0 x2 x3 x4 x5 b R h (⟨80 + k.val, by have := k.isLt; omega⟩ : Fin 96)) (ang x1 b R k) := by
  rw [val_main_v65_apply, val_main_v62_apply, val_main_v64_apply, v54_at, v55_at, v61_at, v63_at]
  rfl

/-- A query's unrotated lane. -/
theorem v67_a (b : Fin 2) (R : Fin 8192) (h : Fin 8) (l : Fin 96) (k : Fin 64) (hl : l.val = k.val) :
    val_main_v67 (F := Ideal) x0 x1 x2 x3 x4 x5 (ix4 b R h l) = qp x0 x2 x3 x4 x5 b R h (⟨0 + k.val, by have := k.isLt; omega⟩ : Fin 96) := by
  refine Eq.trans ?_ (v38_at x0 x2 x3 x4 x5 b R h k)
  unfold val_main_v67
  exact cat_lo _ _ _ b R h l k hl

/-- A query's rotated lanes. -/
theorem v67_hi (b : Fin 2) (R : Fin 8192) (h : Fin 8) (l : Fin 96) (k : Fin 32) (hl : l.val = 64 + k.val) :
    val_main_v67 (F := Ideal) x0 x1 x2 x3 x4 x5 (ix4 b R h l) = val_main_v66 (F := Ideal) x0 x1 x2 x3 x4 x5 (ix4 b R h k) := by
  unfold val_main_v67
  exact cat_hi _ _ _ b R h l k hl

/-- A query's rotated lane of the first half. -/
theorem v67_b (b : Fin 2) (R : Fin 8192) (h : Fin 8) (l : Fin 96) (k : Fin 16) (hl : l.val = 64 + k.val) :
    val_main_v67 (F := Ideal) x0 x1 x2 x3 x4 x5 (ix4 b R h l) = rot1 (qp x0 x2 x3 x4 x5 b R h (⟨64 + k.val, by have := k.isLt; omega⟩ : Fin 96)) (qp x0 x2 x3 x4 x5 b R h (⟨80 + k.val, by have := k.isLt; omega⟩ : Fin 96)) (ang x1 b R k) := by
  refine (v67_hi x0 x1 x2 x3 x4 x5 b R h l ⟨k.val, by have := k.isLt; omega⟩ hl).trans (Eq.trans ?_ (v60_at x0 x1 x2 x3 x4 x5 b R h k))
  unfold val_main_v66
  exact cat_lo _ _ _ b R h _ k rfl

/-- A query's rotated lane of the second half. -/
theorem v67_c (b : Fin 2) (R : Fin 8192) (h : Fin 8) (l : Fin 96) (k : Fin 16) (hl : l.val = 80 + k.val) :
    val_main_v67 (F := Ideal) x0 x1 x2 x3 x4 x5 (ix4 b R h l) = rot2 (qp x0 x2 x3 x4 x5 b R h (⟨64 + k.val, by have := k.isLt; omega⟩ : Fin 96)) (qp x0 x2 x3 x4 x5 b R h (⟨80 + k.val, by have := k.isLt; omega⟩ : Fin 96)) (ang x1 b R k) := by
  refine (v67_hi x0 x1 x2 x3 x4 x5 b R h l ⟨16 + k.val, by have := k.isLt; omega⟩ (by show l.val = 64 + (16 + k.val); omega)).trans (Eq.trans ?_ (v65_at x0 x1 x2 x3 x4 x5 b R h k))
  unfold val_main_v66
  exact cat_hi _ _ _ b R h _ k rfl

/-- The shared key before the rotation. -/
theorem v83_at (b : Fin 2) (R : Fin 8192) (u : Fin 1) (j : Fin 32) :
    val_main_v83 (F := Ideal) x0 x2 x3 (ix4 b R u j) = ct x0 x2 x3 b R (⟨640 + j.val, by have := j.isLt; omega⟩ : Fin 4272) := by
  rw [val_main_v83_apply]
  have hi : idx_main_v83 (ix4 b R u j) = ix3 b R j := by
    funext a
    match a with
    | ⟨0, _⟩ => rfl
    | ⟨1, _⟩ => rfl
    | ⟨2, _⟩ => rfl
  rw [hi, v16_at]

/-- The shared key's first half. -/
theorem v98_at (b : Fin 2) (R : Fin 8192) (u : Fin 1) (j : Fin 16) :
    val_main_v98 (F := Ideal) x0 x2 x3 (ix4 b R u j) = ct x0 x2 x3 b R (⟨640 + j.val, by have := j.isLt; omega⟩ : Fin 4272) := by
  rw [val_main_v98_apply]
  have hi : idx_main_v98 (ix4 b R u j) = ix4 b R u (⟨0 + j.val, by have := j.isLt; omega⟩ : Fin 32) := by
    have := b.isLt; have := R.isLt; have := j.isLt
    funext a
    apply Fin.ext
    match a with
    | ⟨0, _⟩ => simp [idx_main_v98, ix4]
    | ⟨1, _⟩ => simp [idx_main_v98, ix4]
    | ⟨2, _⟩ => simp [idx_main_v98, ix4]
    | ⟨3, _⟩ => simp [idx_main_v98, ix4]
  rw [hi, v83_at]
  exact congrArg (ct x0 x2 x3 b R) (Fin.ext (by show 640 + (0 + j.val) = 640 + j.val; omega))

/-- The shared key's second half. -/
theorem v99_at (b : Fin 2) (R : Fin 8192) (u : Fin 1) (j : Fin 16) :
    val_main_v99 (F := Ideal) x0 x2 x3 (ix4 b R u j) = ct x0 x2 x3 b R (⟨656 + j.val, by have := j.isLt; omega⟩ : Fin 4272) := by
  rw [val_main_v99_apply]
  have hi : idx_main_v99 (ix4 b R u j) = ix4 b R u (⟨16 + j.val, by have := j.isLt; omega⟩ : Fin 32) := by
    have := b.isLt; have := R.isLt; have := j.isLt
    funext a
    apply Fin.ext
    match a with
    | ⟨0, _⟩ => simp [idx_main_v99, ix4]
    | ⟨1, _⟩ => simp [idx_main_v99, ix4]
    | ⟨2, _⟩ => simp [idx_main_v99, ix4]
    | ⟨3, _⟩ => simp [idx_main_v99, ix4]
  rw [hi, v83_at]
  exact congrArg (ct x0 x2 x3 b R) (Fin.ext (by show 640 + (16 + j.val) = 656 + j.val; omega))

/-- The shared rotated key's first half. -/
theorem v102_at (b : Fin 2) (R : Fin 8192) (u : Fin 1) (k : Fin 16) : val_main_v102 (F := Ideal) x0 x1 x2 x3 (ix4 b R u k) = rot1 (ct x0 x2 x3 b R (⟨640 + k.val, by have := k.isLt; omega⟩ : Fin 4272)) (ct x0 x2 x3 b R (⟨656 + k.val, by have := k.isLt; omega⟩ : Fin 4272)) (ang x1 b R k) := by
  rw [val_main_v102_apply, val_main_v100_apply, val_main_v101_apply, val_main_v96_apply, val_main_v97_apply, v98_at, v99_at, v95_at]
  rfl

/-- The shared rotated key's second half. -/
theorem v105_at (b : Fin 2) (R : Fin 8192) (u : Fin 1) (k : Fin 16) : val_main_v105 (F := Ideal) x0 x1 x2 x3 (ix4 b R u k) = rot2 (ct x0 x2 x3 b R (⟨640 + k.val, by have := k.isLt; omega⟩ : Fin 4272)) (ct x0 x2 x3 b R (⟨656 + k.val, by have := k.isLt; omega⟩ : Fin 4272)) (ang x1 b R k) := by
  rw [val_main_v105_apply, val_main_v103_apply, val_main_v104_apply, val_main_v96_apply, val_main_v97_apply, v98_at, v99_at, v95_at]
  rfl

/-- A key's lane from the latent. -/
theorem v109_a (b : Fin 2) (R : Fin 8192) (h : Fin 8) (l : Fin 96) (k : Fin 64) (hl : l.val = k.val) :
    val_main_v109 (F := Ideal) x0 x1 x2 x3 x6 x7 (ix4 b R h l) = kvp x0 x2 x3 x6 x7 b R h (⟨0 + k.val, by have := k.isLt; omega⟩ : Fin 128) := by
  refine Eq.trans ?_ (v107_at x0 x2 x3 x6 x7 b R h k)
  unfold val_main_v109
  exact cat_lo _ _ _ b R h l k hl

/-- A key's rotated lanes. -/
theorem v109_hi (b : Fin 2) (R : Fin 8192) (h : Fin 8) (l : Fin 96) (k : Fin 32) (hl : l.val = 64 + k.val) :
    val_main_v109 (F := Ideal) x0 x1 x2 x3 x6 x7 (ix4 b R h l) = val_main_v106 (F := Ideal) x0 x1 x2 x3 (ix4 b R (0 : Fin 1) k) := by
  have hi : idx_main_v108 (ix4 b R h k) = ix4 b R (0 : Fin 1) k := by
    funext a
    match a with
    | ⟨0, _⟩ => rfl
    | ⟨1, _⟩ => rfl
    | ⟨2, _⟩ => rfl
    | ⟨3, _⟩ => rfl
  refine Eq.trans ?_ ((val_main_v108_apply (F := Ideal) x0 x1 x2 x3 (ix4 b R h k)).trans (congrArg _ hi))
  unfold val_main_v109
  exact cat_hi _ _ _ b R h l k hl

/-- A key's rotated lane of the first half. -/
theorem v109_b (b : Fin 2) (R : Fin 8192) (h : Fin 8) (l : Fin 96) (k : Fin 16) (hl : l.val = 64 + k.val) :
    val_main_v109 (F := Ideal) x0 x1 x2 x3 x6 x7 (ix4 b R h l) = rot1 (ct x0 x2 x3 b R (⟨640 + k.val, by have := k.isLt; omega⟩ : Fin 4272)) (ct x0 x2 x3 b R (⟨656 + k.val, by have := k.isLt; omega⟩ : Fin 4272)) (ang x1 b R k) := by
  refine (v109_hi x0 x1 x2 x3 x6 x7 b R h l ⟨k.val, by have := k.isLt; omega⟩ hl).trans (Eq.trans ?_ (v102_at x0 x1 x2 x3 b R 0 k))
  unfold val_main_v106
  exact cat_lo _ _ _ b R _ _ k rfl

/-- A key's rotated lane of the second half. -/
theorem v109_c (b : Fin 2) (R : Fin 8192) (h : Fin 8) (l : Fin 96) (k : Fin 16) (hl : l.val = 80 + k.val) :
    val_main_v109 (F := Ideal) x0 x1 x2 x3 x6 x7 (ix4 b R h l) = rot2 (ct x0 x2 x3 b R (⟨640 + k.val, by have := k.isLt; omega⟩ : Fin 4272)) (ct x0 x2 x3 b R (⟨656 + k.val, by have := k.isLt; omega⟩ : Fin 4272)) (ang x1 b R k) := by
  refine (v109_hi x0 x1 x2 x3 x6 x7 b R h l ⟨16 + k.val, by have := k.isLt; omega⟩ (by show l.val = 64 + (16 + k.val); omega)).trans (Eq.trans ?_ (v105_at x0 x1 x2 x3 b R 0 k))
  unfold val_main_v106
  exact cat_hi _ _ _ b R _ _ k rfl

/-- The first result, by head. -/
theorem v119_flat (i : S16384x1024.Idx) (b : Fin 2) (R : Fin 8192) (h : Fin 8) (l : Fin 128)
    (h0 : (i 0).val = b.val * 8192 + R.val) (h1 : (i 1).val = h.val * 128 + l.val) :
    val_main_v119 (F := Ideal) x0 x1 x2 x3 x4 x5 i = val_main_v117 (F := Ideal) x0 x1 x2 x3 x4 x5 (ix4 b R h l) := by
  show val_main_v118 (F := Ideal) x0 x1 x2 x3 x4 x5 i = _
  unfold val_main_v118
  generalize val_main_v117 (F := Ideal) x0 x1 x2 x3 x4 x5 = y
  refine shapeCast_apply y _ _ _ ?_
  rw [Shape.rowMajor_val_four, Shape.rowMajor_val_two]
  show ((b.val * 8192 + R.val) * 8 + h.val) * 128 + l.val = (i 0).val * 1024 + (i 1).val
  omega

/-- The second result, by head. -/
theorem v123_flat (i : S16384x1024.Idx) (b : Fin 2) (R : Fin 8192) (h : Fin 8) (l : Fin 128)
    (h0 : (i 0).val = b.val * 8192 + R.val) (h1 : (i 1).val = h.val * 128 + l.val) :
    val_main_v123 (F := Ideal) x0 x1 x2 x3 x6 x7 i = val_main_v121 (F := Ideal) x0 x1 x2 x3 x6 x7 (ix4 b R h l) := by
  show val_main_v122 (F := Ideal) x0 x1 x2 x3 x6 x7 i = _
  unfold val_main_v122
  generalize val_main_v121 (F := Ideal) x0 x1 x2 x3 x6 x7 = y
  refine shapeCast_apply y _ _ _ ?_
  rw [Shape.rowMajor_val_four, Shape.rowMajor_val_two]
  show ((b.val * 8192 + R.val) * 8 + h.val) * 128 + l.val = (i 0).val * 1024 + (i 1).val
  omega

/-- The third result, by head. -/
theorem v128_flat (i : S16384x1024.Idx) (b : Fin 2) (R : Fin 8192) (h : Fin 8) (l : Fin 128)
    (h0 : (i 0).val = b.val * 8192 + R.val) (h1 : (i 1).val = h.val * 128 + l.val) :
    val_main_v128 (F := Ideal) x0 x2 x3 x6 x7 i = val_main_v126 (F := Ideal) x0 x2 x3 x6 x7 (ix4 b R h l) := by
  show val_main_v127 (F := Ideal) x0 x2 x3 x6 x7 i = _
  unfold val_main_v127
  generalize val_main_v126 (F := Ideal) x0 x2 x3 x6 x7 = y
  refine shapeCast_apply y _ _ _ ?_
  rw [Shape.rowMajor_val_four, Shape.rowMajor_val_two]
  show ((b.val * 8192 + R.val) * 8 + h.val) * 128 + l.val = (i 0).val * 1024 + (i 1).val
  omega

/-- The scaled query. -/
theorem v115_at (b : Fin 2) (R : Fin 8192) (h : Fin 8) (l : Fin 96) :
    val_main_v115 (F := Ideal) x0 x1 x2 x3 x4 x5 (ix4 b R h l) = val_main_v67 (F := Ideal) x0 x1 x2 x3 x4 x5 (ix4 b R h l) * sc := by
  rw [val_main_v115_apply, val_main_v114_apply]
  rfl

/-- The first result, lanes 0 to 63. -/
theorem v119_a (i : S16384x1024.Idx) (b : Fin 2) (R : Fin 8192) (h : Fin 8) (k : Fin 64) (h0 : (i 0).val = b.val * 8192 + R.val) (h1 : (i 1).val = h.val * 128 + (0 + k.val)) :
    val_main_v119 (F := Ideal) x0 x1 x2 x3 x4 x5 i = qp x0 x2 x3 x4 x5 b R h (⟨0 + k.val, by have := k.isLt; omega⟩ : Fin 96) * sc := by
  have hk := k.isLt
  refine (v119_flat x0 x1 x2 x3 x4 x5 i b R h ⟨0 + k.val, by omega⟩ h0 h1).trans (Eq.trans ?_ ((v115_at x0 x1 x2 x3 x4 x5 b R h ⟨0 + k.val, by omega⟩).trans
    (congrArg (fun z : EReal => z * sc) (v67_a x0 x1 x2 x3 x4 x5 b R h ⟨0 + k.val, by omega⟩ k (by show 0 + k.val = k.val; omega)))))
  unfold val_main_v117
  exact cat_lo _ _ _ b R h _ ⟨0 + k.val, by omega⟩ rfl

/-- The first result, lanes 64 to 79. -/
theorem v119_b (i : S16384x1024.Idx) (b : Fin 2) (R : Fin 8192) (h : Fin 8) (k : Fin 16) (h0 : (i 0).val = b.val * 8192 + R.val) (h1 : (i 1).val = h.val * 128 + (64 + k.val)) :
    val_main_v119 (F := Ideal) x0 x1 x2 x3 x4 x5 i = rot1 (qp x0 x2 x3 x4 x5 b R h (⟨64 + k.val, by have := k.isLt; omega⟩ : Fin 96)) (qp x0 x2 x3 x4 x5 b R h (⟨80 + k.val, by have := k.isLt; omega⟩ : Fin 96)) (ang x1 b R k) * sc := by
  have hk := k.isLt
  refine (v119_flat x0 x1 x2 x3 x4 x5 i b R h ⟨64 + k.val, by omega⟩ h0 h1).trans (Eq.trans ?_ ((v115_at x0 x1 x2 x3 x4 x5 b R h ⟨64 + k.val, by omega⟩).trans
    (congrArg (fun z : EReal => z * sc) (v67_b x0 x1 x2 x3 x4 x5 b R h ⟨64 + k.val, by omega⟩ k rfl))))
  unfold val_main_v117
  exact cat_lo _ _ _ b R h _ ⟨64 + k.val, by omega⟩ rfl

/-- The first result, lanes 80 to 95. -/
theorem v119_c (i : S16384x1024.Idx) (b : Fin 2) (R : Fin 8192) (h : Fin 8) (k : Fin 16) (h0 : (i 0).val = b.val * 8192 + R.val) (h1 : (i 1).val = h.val * 128 + (80 + k.val)) :
    val_main_v119 (F := Ideal) x0 x1 x2 x3 x4 x5 i = rot2 (qp x0 x2 x3 x4 x5 b R h (⟨64 + k.val, by have := k.isLt; omega⟩ : Fin 96)) (qp x0 x2 x3 x4 x5 b R h (⟨80 + k.val, by have := k.isLt; omega⟩ : Fin 96)) (ang x1 b R k) * sc := by
  have hk := k.isLt
  refine (v119_flat x0 x1 x2 x3 x4 x5 i b R h ⟨80 + k.val, by omega⟩ h0 h1).trans (Eq.trans ?_ ((v115_at x0 x1 x2 x3 x4 x5 b R h ⟨80 + k.val, by omega⟩).trans
    (congrArg (fun z : EReal => z * sc) (v67_c x0 x1 x2 x3 x4 x5 b R h ⟨80 + k.val, by omega⟩ k rfl))))
  unfold val_main_v117
  exact cat_lo _ _ _ b R h _ ⟨80 + k.val, by omega⟩ rfl

/-- The first result, lanes 96 to 127. -/
theorem v119_z (i : S16384x1024.Idx) (b : Fin 2) (R : Fin 8192) (h : Fin 8) (k : Fin 32) (h0 : (i 0).val = b.val * 8192 + R.val) (h1 : (i 1).val = h.val * 128 + (96 + k.val)) : val_main_v119 (F := Ideal) x0 x1 x2 x3 x4 x5 i = 0 := by
  have hk := k.isLt
  refine (v119_flat x0 x1 x2 x3 x4 x5 i b R h ⟨96 + k.val, by omega⟩ h0 h1).trans ?_
  unfold val_main_v117
  exact (cat_hi _ _ _ b R h _ k rfl).trans Ideal.ofBits_zero_f32

/-- The second result, lanes 0 to 63. -/
theorem v123_a (i : S16384x1024.Idx) (b : Fin 2) (R : Fin 8192) (h : Fin 8) (k : Fin 64) (h0 : (i 0).val = b.val * 8192 + R.val) (h1 : (i 1).val = h.val * 128 + (0 + k.val)) :
    val_main_v123 (F := Ideal) x0 x1 x2 x3 x6 x7 i = kvp x0 x2 x3 x6 x7 b R h (⟨0 + k.val, by have := k.isLt; omega⟩ : Fin 128) := by
  have hk := k.isLt
  refine (v123_flat x0 x1 x2 x3 x6 x7 i b R h ⟨0 + k.val, by omega⟩ h0 h1).trans (Eq.trans ?_ (v109_a x0 x1 x2 x3 x6 x7 b R h ⟨0 + k.val, by omega⟩ k (by show 0 + k.val = k.val; omega)))
  unfold val_main_v121
  exact cat_lo _ _ _ b R h _ ⟨0 + k.val, by omega⟩ rfl

/-- The second result, lanes 64 to 79. -/
theorem v123_b (i : S16384x1024.Idx) (b : Fin 2) (R : Fin 8192) (h : Fin 8) (k : Fin 16) (h0 : (i 0).val = b.val * 8192 + R.val) (h1 : (i 1).val = h.val * 128 + (64 + k.val)) :
    val_main_v123 (F := Ideal) x0 x1 x2 x3 x6 x7 i = rot1 (ct x0 x2 x3 b R (⟨640 + k.val, by have := k.isLt; omega⟩ : Fin 4272)) (ct x0 x2 x3 b R (⟨656 + k.val, by have := k.isLt; omega⟩ : Fin 4272)) (ang x1 b R k) := by
  have hk := k.isLt
  refine (v123_flat x0 x1 x2 x3 x6 x7 i b R h ⟨64 + k.val, by omega⟩ h0 h1).trans (Eq.trans ?_ (v109_b x0 x1 x2 x3 x6 x7 b R h ⟨64 + k.val, by omega⟩ k rfl))
  unfold val_main_v121
  exact cat_lo _ _ _ b R h _ ⟨64 + k.val, by omega⟩ rfl

/-- The second result, lanes 80 to 95. -/
theorem v123_c (i : S16384x1024.Idx) (b : Fin 2) (R : Fin 8192) (h : Fin 8) (k : Fin 16) (h0 : (i 0).val = b.val * 8192 + R.val) (h1 : (i 1).val = h.val * 128 + (80 + k.val)) :
    val_main_v123 (F := Ideal) x0 x1 x2 x3 x6 x7 i = rot2 (ct x0 x2 x3 b R (⟨640 + k.val, by have := k.isLt; omega⟩ : Fin 4272)) (ct x0 x2 x3 b R (⟨656 + k.val, by have := k.isLt; omega⟩ : Fin 4272)) (ang x1 b R k) := by
  have hk := k.isLt
  refine (v123_flat x0 x1 x2 x3 x6 x7 i b R h ⟨80 + k.val, by omega⟩ h0 h1).trans (Eq.trans ?_ (v109_c x0 x1 x2 x3 x6 x7 b R h ⟨80 + k.val, by omega⟩ k rfl))
  unfold val_main_v121
  exact cat_lo _ _ _ b R h _ ⟨80 + k.val, by omega⟩ rfl

/-- The second result, lanes 96 to 127. -/
theorem v123_z (i : S16384x1024.Idx) (b : Fin 2) (R : Fin 8192) (h : Fin 8) (k : Fin 32) (h0 : (i 0).val = b.val * 8192 + R.val) (h1 : (i 1).val = h.val * 128 + (96 + k.val)) : val_main_v123 (F := Ideal) x0 x1 x2 x3 x6 x7 i = 0 := by
  have hk := k.isLt
  refine (v123_flat x0 x1 x2 x3 x6 x7 i b R h ⟨96 + k.val, by omega⟩ h0 h1).trans ?_
  unfold val_main_v121
  exact (cat_hi _ _ _ b R h _ k rfl).trans Ideal.ofBits_zero_f32

/-- The third result's value lanes. -/
theorem v128_a (i : S16384x1024.Idx) (b : Fin 2) (R : Fin 8192) (h : Fin 8) (k : Fin 64) (h0 : (i 0).val = b.val * 8192 + R.val) (h1 : (i 1).val = h.val * 128 + (0 + k.val)) :
    val_main_v128 (F := Ideal) x0 x2 x3 x6 x7 i = kvp x0 x2 x3 x6 x7 b R h (⟨64 + k.val, by have := k.isLt; omega⟩ : Fin 128) := by
  have hk := k.isLt
  refine (v128_flat x0 x2 x3 x6 x7 i b R h ⟨0 + k.val, by omega⟩ h0 h1).trans ?_
  unfold val_main_v126
  refine (concatenate_apply_piece (t := S2x8192x8x128) 3 _ _ (ix4 b R h (⟨0 + k.val, by omega⟩ : Fin 128)) 0 (by show 0 < 3; omega) S2x8192x8x64 _ rfl rfl 0 rfl (ix4 b R h k) (fun e he => by
    match e with
    | ⟨0, _⟩ => rfl
    | ⟨1, _⟩ => rfl
    | ⟨2, _⟩ => rfl
    | ⟨3, _⟩ => exact absurd rfl he) rfl).trans ?_
  exact v110_at x0 x2 x3 x6 x7 b R h k

/-- The third result's lane of ones. -/
theorem v128_b (i : S16384x1024.Idx) (b : Fin 2) (R : Fin 8192) (h : Fin 8) (k : Fin 1) (h0 : (i 0).val = b.val * 8192 + R.val) (h1 : (i 1).val = h.val * 128 + (64 + k.val)) : val_main_v128 (F := Ideal) x0 x2 x3 x6 x7 i = 1 := by
  have hk := k.isLt
  refine (v128_flat x0 x2 x3 x6 x7 i b R h ⟨64 + k.val, by omega⟩ h0 h1).trans ?_
  unfold val_main_v126
  refine (concatenate_apply_piece (t := S2x8192x8x128) 3 _ _ (ix4 b R h (⟨64 + k.val, by omega⟩ : Fin 128)) 1 (by show 1 < 3; omega) S2x8192x8x1 _ rfl rfl 64 rfl (ix4 b R h k) (fun e he => by
    match e with
    | ⟨0, _⟩ => rfl
    | ⟨1, _⟩ => rfl
    | ⟨2, _⟩ => rfl
    | ⟨3, _⟩ => exact absurd rfl he) rfl).trans ?_
  exact one_word

/-- The third result's zero lanes. -/
theorem v128_z (i : S16384x1024.Idx) (b : Fin 2) (R : Fin 8192) (h : Fin 8) (k : Fin 63) (h0 : (i 0).val = b.val * 8192 + R.val) (h1 : (i 1).val = h.val * 128 + (65 + k.val)) : val_main_v128 (F := Ideal) x0 x2 x3 x6 x7 i = 0 := by
  have hk := k.isLt
  refine (v128_flat x0 x2 x3 x6 x7 i b R h ⟨65 + k.val, by omega⟩ h0 h1).trans ?_
  unfold val_main_v126
  refine (concatenate_apply_piece (t := S2x8192x8x128) 3 _ _ (ix4 b R h (⟨65 + k.val, by omega⟩ : Fin 128)) 2 (by show 2 < 3; omega) S2x8192x8x63 _ rfl rfl 65 rfl (ix4 b R h k) (fun e he => by
    match e with
    | ⟨0, _⟩ => rfl
    | ⟨1, _⟩ => rfl
    | ⟨2, _⟩ => rfl
    | ⟨3, _⟩ => exact absurd rfl he) rfl).trans ?_
  exact Ideal.ofBits_zero_f32

/-- The scaled gated queries, tokens in one axis. -/
theorem v131_at (i : S16384x256.Idx) (b : Fin 2) (R : Fin 8192) (d : Fin 256) (h0 : (i 0).val = b.val * 8192 + R.val) (h1 : (i 1).val = d.val) :
    val_main_v131 (F := Ideal) x0 x2 x3 i = val_main_v130 (F := Ideal) x0 x2 x3 (ix3 b R d) := by
  unfold val_main_v131
  generalize val_main_v130 (F := Ideal) x0 x2 x3 = y
  refine shapeCast_apply y _ _ _ ?_
  rw [Shape.rowMajor_val_three, Shape.rowMajor_val_two]
  show (b.val * 8192 + R.val) * 256 + d.val = (i 0).val * 256 + (i 1).val
  rw [h0, h1]

/-- The gated keys, tokens in one axis. -/
theorem v133_at (i : S16384x256.Idx) (b : Fin 2) (R : Fin 8192) (d : Fin 256) (h0 : (i 0).val = b.val * 8192 + R.val) (h1 : (i 1).val = d.val) :
    val_main_v133 (F := Ideal) x0 x2 x3 i = val_main_v18 (F := Ideal) x0 x2 x3 (ix3 b R d) := by
  unfold val_main_v133
  generalize val_main_v18 (F := Ideal) x0 x2 x3 = y
  refine shapeCast_apply y _ _ _ ?_
  rw [Shape.rowMajor_val_three, Shape.rowMajor_val_two]
  show (b.val * 8192 + R.val) * 256 + d.val = (i 0).val * 256 + (i 1).val
  rw [h0, h1]

/-- The gated values, tokens in one axis. -/
theorem v135_at (i : S16384x512.Idx) (b : Fin 2) (R : Fin 8192) (d : Fin 512) (h0 : (i 0).val = b.val * 8192 + R.val) (h1 : (i 1).val = d.val) :
    val_main_v135 (F := Ideal) x0 x2 x3 i = val_main_v19 (F := Ideal) x0 x2 x3 (ix3 b R d) := by
  unfold val_main_v135
  generalize val_main_v19 (F := Ideal) x0 x2 x3 = y
  refine shapeCast_apply y _ _ _ ?_
  rw [Shape.rowMajor_val_three, Shape.rowMajor_val_two]
  show (b.val * 8192 + R.val) * 512 + d.val = (i 0).val * 512 + (i 1).val
  rw [h0, h1]

/-- The gate's low-rank inputs, tokens in one axis. -/
theorem v137_at (i : S16384x16.Idx) (b : Fin 2) (R : Fin 8192) (d : Fin 16) (h0 : (i 0).val = b.val * 8192 + R.val) (h1 : (i 1).val = d.val) :
    val_main_v137 (F := Ideal) x0 x2 x3 i = val_main_v20 (F := Ideal) x0 x2 x3 (ix3 b R d) := by
  unfold val_main_v137
  generalize val_main_v20 (F := Ideal) x0 x2 x3 = y
  refine shapeCast_apply y _ _ _ ?_
  rw [Shape.rowMajor_val_three, Shape.rowMajor_val_two]
  show (b.val * 8192 + R.val) * 16 + d.val = (i 0).val * 16 + (i 1).val
  rw [h0, h1]

/-- The output gates, tokens in one axis. -/
theorem v140_at (i : S16384x512.Idx) (b : Fin 2) (R : Fin 8192) (d : Fin 512) (h0 : (i 0).val = b.val * 8192 + R.val) (h1 : (i 1).val = d.val) :
    val_main_v140 (F := Ideal) x0 x2 x3 i = val_main_v21 (F := Ideal) x0 x2 x3 (ix3 b R d) := by
  unfold val_main_v140
  generalize val_main_v21 (F := Ideal) x0 x2 x3 = y
  refine shapeCast_apply y _ _ _ ?_
  rw [Shape.rowMajor_val_three, Shape.rowMajor_val_two]
  show (b.val * 8192 + R.val) * 512 + d.val = (i 0).val * 512 + (i 1).val
  rw [h0, h1]

/-- The branch gates, tokens in one axis. -/
theorem v141_at (i : S16384x2048.Idx) (b : Fin 2) (R : Fin 8192) (d : Fin 2048) (h0 : (i 0).val = b.val * 8192 + R.val) (h1 : (i 1).val = d.val) :
    val_main_v141 (F := Ideal) x0 x2 x3 i = val_main_v22 (F := Ideal) x0 x2 x3 (ix3 b R d) := by
  unfold val_main_v141
  generalize val_main_v22 (F := Ideal) x0 x2 x3 = y
  refine shapeCast_apply y _ _ _ ?_
  rw [Shape.rowMajor_val_three, Shape.rowMajor_val_two]
  show (b.val * 8192 + R.val) * 2048 + d.val = (i 0).val * 2048 + (i 1).val
  rw [h0, h1]

/-- The fourth result: the scaled gated queries. -/
theorem r132 (i : S16384x256.Idx) (b : Fin 2) (R : Fin 8192) (d : Fin 256) (h0 : (i 0).val = b.val * 8192 + R.val) (h1 : (i 1).val = d.val) :
    val_main_v132 (F := Ideal) x0 x2 x3 i = ct x0 x2 x3 b R (⟨672 + d.val, by have := d.isLt; omega⟩ : Fin 4272) * Ideal.ofBits .f32 0x3E000000#32 := by
  show val_main_v131 (F := Ideal) x0 x2 x3 i = _
  rw [v131_at x0 x2 x3 i b R d h0 h1, val_main_v130_apply, val_main_v129_apply, v17_at]
  rfl

/-- The fifth result: the gated keys, tokens in the second axis. -/
theorem r134 (i : S256x16384.Idx) (b : Fin 2) (R : Fin 8192) (d : Fin 256) (h0 : (i 0).val = d.val) (h1 : (i 1).val = b.val * 8192 + R.val) :
    val_main_v134 (F := Ideal) x0 x2 x3 i = ct x0 x2 x3 b R (⟨928 + d.val, by have := d.isLt; omega⟩ : Fin 4272) := by
  rw [val_main_v134_apply]
  exact (v133_at x0 x2 x3 _ b R d h1 h0).trans (v18_at x0 x2 x3 b R d)

/-- The sixth result: the gated values. -/
theorem r136 (i : S16384x512.Idx) (b : Fin 2) (R : Fin 8192) (d : Fin 512) (h0 : (i 0).val = b.val * 8192 + R.val) (h1 : (i 1).val = d.val) :
    val_main_v136 (F := Ideal) x0 x2 x3 i = ct x0 x2 x3 b R (⟨1184 + d.val, by have := d.isLt; omega⟩ : Fin 4272) :=
  (v135_at x0 x2 x3 i b R d h0 h1).trans (v19_at x0 x2 x3 b R d)

/-- The seventh result: the gate's low-rank inputs, tokens in the second axis. -/
theorem r139 (i : S16x16384.Idx) (b : Fin 2) (R : Fin 8192) (d : Fin 16) (h0 : (i 0).val = d.val) (h1 : (i 1).val = b.val * 8192 + R.val) :
    val_main_v139 (F := Ideal) x0 x2 x3 i = ct x0 x2 x3 b R (⟨1696 + d.val, by have := d.isLt; omega⟩ : Fin 4272) := by
  show val_main_v138 (F := Ideal) x0 x2 x3 i = _
  rw [val_main_v138_apply]
  exact (v137_at x0 x2 x3 _ b R d h1 h0).trans (v20_at x0 x2 x3 b R d)

/-- The eighth result: the output gates. -/
theorem r140 (i : S16384x512.Idx) (b : Fin 2) (R : Fin 8192) (d : Fin 512) (h0 : (i 0).val = b.val * 8192 + R.val) (h1 : (i 1).val = d.val) :
    val_main_v140 (F := Ideal) x0 x2 x3 i = ct x0 x2 x3 b R (⟨1712 + d.val, by have := d.isLt; omega⟩ : Fin 4272) :=
  (v140_at x0 x2 x3 i b R d h0 h1).trans (v21_at x0 x2 x3 b R d)

/-- The ninth result: the branch gates. -/
theorem r141 (i : S16384x2048.Idx) (b : Fin 2) (R : Fin 8192) (d : Fin 2048) (h0 : (i 0).val = b.val * 8192 + R.val) (h1 : (i 1).val = d.val) :
    val_main_v141 (F := Ideal) x0 x2 x3 i = ct x0 x2 x3 b R (⟨2224 + d.val, by have := d.isLt; omega⟩ : Fin 4272) :=
  (v141_at x0 x2 x3 i b R d h0 h1).trans (v22_at x0 x2 x3 b R d)

end Cert.ProjRef

end
-- ==== Proof.ProjReal.lean ====
/- Rows of real numbers: the norm of a real row and its product with a real column are real. -/
module

public import proofs.«01_k».proof.Proof.ProjRow
public import Idealize.ShloMosaic.PureOps.Ideal.Laws

@[expose] public section

noncomputable section

namespace Cert.ProjRow

open Idealize.ShloMosaic
open scoped BigOperators

/-- Every entry of a row is a real number. -/
def IsR {n : ℕ} (x : Fin n → EReal) : Prop := ∀ k, ∃ r : ℝ, x k = (r : EReal)

/-- A real row is a function to the real numbers. -/
theorem IsR.lift {n : ℕ} {x : Fin n → EReal} (h : IsR x) : ∃ f : Fin n → ℝ, x = fun k => (f k : EReal) :=
  ⟨fun k => (h k).choose, funext fun k => (h k).choose_spec⟩

/-- A sum of real numbers is real. -/
theorem sum_coe {n : ℕ} (f : Fin n → ℝ) (s : Finset (Fin n)) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The product of a real row and a real column is real. -/
theorem dot_coe {n : ℕ} (f g : Fin n → ℝ) : dot (fun k => (f k : EReal)) (fun k => (g k : EReal)) = ((∑ k, f k * g k : ℝ) : EReal) := by
  unfold dot
  rw [← sum_coe]
  exact Finset.sum_congr rfl fun k _ => (EReal.coe_mul _ _).symm

/-- The product of a real row and a real column is real. -/
theorem dot_real {n : ℕ} {x w : Fin n → EReal} (hx : IsR x) (hw : IsR w) : ∃ r : ℝ, dot x w = (r : EReal) := by
  obtain ⟨f, rfl⟩ := hx.lift
  obtain ⟨g, rfl⟩ := hw.lift
  exact ⟨_, dot_coe f g⟩

/-- A negated column negates the product. -/
theorem dot_neg {n : ℕ} {x w : Fin n → EReal} (hx : IsR x) (hw : IsR w) : dot x (fun k => -w k) = -dot x w := by
  obtain ⟨f, rfl⟩ := hx.lift
  obtain ⟨g, rfl⟩ := hw.lift
  have e : (fun k => -((g k : ℝ) : EReal)) = fun k => (((-g k : ℝ)) : EReal) := funext fun k => (EReal.coe_neg _).symm
  rw [e, dot_coe, dot_coe, ← EReal.coe_neg]
  refine congrArg _ ?_
  rw [← Finset.sum_neg_distrib]
  exact Finset.sum_congr rfl fun k _ => mul_neg _ _

/-- The product with a zero column is zero. -/
theorem dot_zero {n : ℕ} (x w : Fin n → EReal) (hw : ∀ k, w k = 0) : dot x w = 0 := by
  unfold dot
  exact Finset.sum_eq_zero fun k _ => by rw [hw k, mul_zero]

/-- The word of the norm's guard is a positive real number. -/
theorem eps_word : ∃ e : ℝ, 0 < e ∧ Ideal.ofBits .f32 0x358637BD#32 = (e : EReal) := by
  refine ⟨(8796093 / 8796093022208 : ℝ), by positivity, ?_⟩
  simp [Ideal.ofBits, Ideal.ieee]
  rw [← EReal.coe_mul]
  norm_num

/-- The norm of a real row is real. -/
theorem nrm_real {n : ℕ} {w : BitVec 32} {W : ℝ} (hW : 0 < W) (hw : Ideal.ofBits .f32 w = (W : EReal)) {x g : Fin n → EReal} (hx : IsR x) (hg : IsR g) :
    IsR (nrm w x g) := by
  obtain ⟨f, rfl⟩ := hx.lift
  obtain ⟨u, rfl⟩ := hg.lift
  obtain ⟨e, he, hE⟩ := eps_word
  intro d
  have hs : (0 : ℝ) ≤ ∑ k, f k * f k := Finset.sum_nonneg fun k _ => mul_self_nonneg _
  have hp : 0 < (∑ k, f k * f k) * W⁻¹ + e := by positivity
  refine ⟨f d * (Real.sqrt ((∑ k, f k * f k) * W⁻¹ + e))⁻¹ * u d, ?_⟩
  have hsum : (∑ k, ((f k : ℝ) : EReal) * ((f k : ℝ) : EReal)) = ((∑ k, f k * f k : ℝ) : EReal) := by
    rw [← sum_coe]
    exact Finset.sum_congr rfl fun k _ => (EReal.coe_mul _ _).symm
  have hd : Ideal.div ((∑ k, f k * f k : ℝ) : EReal) (W : EReal) = (((∑ k, f k * f k) * W⁻¹ : ℝ) : EReal) := by
    unfold Ideal.div
    rw [if_neg (by exact_mod_cast hW.ne'), ← EReal.coe_inv, ← EReal.coe_mul]
  have hr : Ideal.rsqrt ((((∑ k, f k * f k) * W⁻¹ + e : ℝ)) : EReal) = (((Real.sqrt ((∑ k, f k * f k) * W⁻¹ + e))⁻¹ : ℝ) : EReal) := by
    show (if _ < (0 : ℝ) then (⊥ : EReal) else if _ = (0 : ℝ) then ⊤ else _) = _
    rw [if_neg (not_lt.2 hp.le), if_neg hp.ne']
  unfold nrm
  rw [hsum, hw, hE, hd, ← EReal.coe_add, hr, ← EReal.coe_mul, ← EReal.coe_mul]

/-- The norm of any row is real where its weights are: an infinite entry makes the scale zero. -/
theorem nrm_any {n : ℕ} {w : BitVec 32} {W : ℝ} (hW : 0 < W) (hw : Ideal.ofBits .f32 w = (W : EReal)) {x g : Fin n → EReal} (hg : IsR g) :
    IsR (nrm w x g) := by
  by_cases hx : IsR x
  · exact nrm_real hW hw hx hg
  obtain ⟨k, hk⟩ := not_forall.1 hx
  obtain ⟨e, he, hE⟩ := eps_word
  have hpos : ∀ z : EReal, 0 ≤ z * z := by
    intro z
    induction z with
    | bot => rw [EReal.bot_mul_bot]; exact le_top
    | top => rw [EReal.top_mul_top]; exact le_top
    | coe r => rw [← EReal.coe_mul]; exact_mod_cast mul_self_nonneg r
  have htop : ∀ z : EReal, (¬ ∃ r : ℝ, z = (r : EReal)) → z * z = ⊤ := by
    intro z hz
    induction z with
    | bot => exact EReal.bot_mul_bot
    | top => exact EReal.top_mul_top
    | coe r => exact absurd ⟨r, rfl⟩ hz
  have hsum : (∑ j : Fin n, x j * x j) = ⊤ :=
    top_le_iff.1 ((htop _ hk).symm.le.trans (Finset.single_le_sum (f := fun j => x j * x j) (fun j _ => hpos _) (Finset.mem_univ k)))
  have hd : Ideal.div ⊤ (W : EReal) = ⊤ := by
    unfold Ideal.div
    rw [if_neg (by exact_mod_cast hW.ne'), ← EReal.coe_inv]
    exact EReal.top_mul_coe_of_pos (inv_pos.2 hW)
  intro d
  refine ⟨0, ?_⟩
  unfold nrm
  rw [hsum, hw, hE, hd, EReal.top_add_coe, show Ideal.rsqrt (⊤ : EReal) = 0 from rfl, mul_zero, zero_mul]
  rfl

/-- A rotated pair's first half, the sines' column negated. -/
theorem rot1_of {A B C D t : EReal} (h1 : A = C) (h2 : B = -D) : A * Ideal.cos t + B * Ideal.sin t = rot1 C D t := by
  subst h1 h2
  unfold rot1
  rw [sub_eq_add_neg, EReal.neg_mul]

/-- A rotated pair's second half. -/
theorem rot2_of {A B C D t : EReal} (h1 : A = D) (h2 : B = C) : A * Ideal.cos t + B * Ideal.sin t = rot2 C D t := by
  subst h1 h2
  rfl

/-- A rotated zero. -/
theorem rot0_of {A B t : EReal} (h1 : A = 0) (h2 : B = 0) : A * Ideal.cos t + B * Ideal.sin t = 0 := by
  rw [h1, h2, zero_mul, zero_mul, add_zero]

/-- The cosine and the sine of a lane of frequency zero. -/
theorem flat_of {A B C t : EReal} (h1 : A = C) (h2 : B = 0) (ht : t = 0) : A * Ideal.cos t + B * Ideal.sin t = C := by
  have hc : Ideal.cos (0 : EReal) = 1 := by
    show ((Real.cos 0 : ℝ) : EReal) = 1
    rw [Real.cos_zero]
    rfl
  rw [h1, h2, ht, hc, zero_mul, mul_one, add_zero]

/-- The word of 1024. -/
theorem word_1024 : Ideal.ofBits .f32 0x44800000#32 = ((1024 : ℝ) : EReal) := by
  simp [Ideal.ofBits, Ideal.ieee]
  rw [← EReal.coe_mul]
  norm_num

/-- The word of 384. -/
theorem word_384 : Ideal.ofBits .f32 0x43C00000#32 = ((384 : ℝ) : EReal) := by
  simp [Ideal.ofBits, Ideal.ieee]
  rw [← EReal.coe_mul]
  norm_num

end Cert.ProjRow

end
-- ==== Proof.ProjBlocks.lean ====
/- The blocks of the proj call at a grid point: the tokens its rows hold, and the reference's elements it writes. -/
module

public import proofs.«01_k».proof.Proof.ProjPack
public import proofs.«01_k».proof.Proof.ProjRef
public import proofs.«01_k».proof.Proof.ProjReal
public import proofs.«01_k».proof.Proof.AttnPack

@[expose] public section

set_option maxRecDepth 16384

noncomputable section

namespace Cert.ProjIdeal.Proj

open Cert.ProjIdeal Cert.ProjIdeal.Gen Cert.ProjIdeal.Run Cert.ProjRow
open Idealize.ShloMosaic Idealize.ShloMosaic.TcCoe Idealize.ShloMosaic.ValueIdx
open scoped BigOperators

/-! ## The padded columns at any index -/

/-- A head's rotated query column. -/
theorem packQ_at (x : FVec Ideal S384x768 .f32) (c : Fin 384) (h : Fin 8) (k : Fin 32) (j : Fin 1024) (i : Fin 768)
    (hj : j.val = h.val * 128 + (64 + k.val)) (hi : i.val = h.val * 96 + (64 + k.val)) : packQ x (ix2 c j) = x (ix2 c i) := by
  rw [show j = ⟨h.val * 128 + (64 + k.val), by omega⟩ from Fin.ext hj, packQ_m]
  exact congrArg (fun i => x (ix2 c i)) (Fin.ext hi.symm)

/-- A padded column. -/
theorem padR_at (y : FVec Ideal S1024x32 .f32) (d : Fin 1024) (k : Fin 32) (l : Fin 128) (hl : l.val = 64 + k.val) : padR y (ix2 d l) = y (ix2 d k) := by
  rw [show l = ⟨64 + k.val, by omega⟩ from Fin.ext hl, padR_m]

/-- A shared key's column. -/
theorem keyR_at (x : FVec Ideal S1024x4272 .f32) (d : Fin 1024) (k : Fin 32) (i : Fin 4272) (hi : i.val = 640 + k.val) : keyR x (ix2 d k) = x (ix2 d i) := by
  rw [keyR_apply]
  exact congrArg (fun i => x (ix2 d i)) (Fin.ext hi.symm)

/-- A lane of a head. -/
theorem lane_eq (h : Fin 8) (l : Fin 128) (j : Fin 1024) (hj : j.val = h.val * 128 + l.val) : lane j = l :=
  Fin.ext (by show j.val % 128 = l.val; have := l.isLt; omega)

/-- The four parts of a head's lanes. -/
theorem parts (j : Fin 1024) : ∃ h : Fin 8, (∃ k : Fin 64, j = ⟨h.val * 128 + (0 + k.val), by omega⟩) ∨ (∃ k : Fin 16, j = ⟨h.val * 128 + (64 + k.val), by omega⟩)
    ∨ (∃ k : Fin 16, j = ⟨h.val * 128 + (80 + k.val), by omega⟩) ∨ (∃ k : Fin 32, j = ⟨h.val * 128 + (96 + k.val), by omega⟩) := by
  have hj := j.isLt
  have hl := Nat.mod_lt j.val (show 0 < 128 by decide)
  have hd := Nat.div_add_mod j.val 128
  refine ⟨⟨j.val / 128, by omega⟩, ?_⟩
  by_cases h1 : j.val % 128 < 64
  · exact Or.inl ⟨⟨j.val % 128, h1⟩, Fin.ext (by show j.val = j.val / 128 * 128 + (0 + j.val % 128); omega)⟩
  by_cases h2 : j.val % 128 < 80
  · exact Or.inr (Or.inl ⟨⟨j.val % 128 - 64, by omega⟩, Fin.ext (by show j.val = j.val / 128 * 128 + (64 + (j.val % 128 - 64)); omega)⟩)
  by_cases h3 : j.val % 128 < 96
  · exact Or.inr (Or.inr (Or.inl ⟨⟨j.val % 128 - 80, by omega⟩, Fin.ext (by show j.val = j.val / 128 * 128 + (80 + (j.val % 128 - 80)); omega)⟩))
  · exact Or.inr (Or.inr (Or.inr ⟨⟨j.val % 128 - 96, by omega⟩, Fin.ext (by show j.val = j.val / 128 * 128 + (96 + (j.val % 128 - 96)); omega)⟩))

/-- The three parts of a head's value lanes. -/
theorem vparts (j : Fin 1024) : ∃ h : Fin 8, (∃ k : Fin 64, j = ⟨h.val * 128 + (0 + k.val), by omega⟩) ∨ (∃ k : Fin 1, j = ⟨h.val * 128 + (64 + k.val), by omega⟩)
    ∨ (∃ k : Fin 63, j = ⟨h.val * 128 + (65 + k.val), by omega⟩) := by
  have hj := j.isLt
  have hl := Nat.mod_lt j.val (show 0 < 128 by decide)
  have hd := Nat.div_add_mod j.val 128
  refine ⟨⟨j.val / 128, by omega⟩, ?_⟩
  by_cases h1 : j.val % 128 < 64
  · exact Or.inl ⟨⟨j.val % 128, h1⟩, Fin.ext (by show j.val = j.val / 128 * 128 + (0 + j.val % 128); omega)⟩
  by_cases h2 : j.val % 128 < 65
  · exact Or.inr (Or.inl ⟨⟨j.val % 128 - 64, by omega⟩, Fin.ext (by show j.val = j.val / 128 * 128 + (64 + (j.val % 128 - 64)); omega)⟩)
  · exact Or.inr (Or.inr ⟨⟨j.val % 128 - 65, by omega⟩, Fin.ext (by show j.val = j.val / 128 * 128 + (65 + (j.val % 128 - 65)); omega)⟩)

/-- The named constant is the reference's scale. -/
theorem sc_eq : (Named.named κ "qscale" 0x3E16C740#32 : Ideal .f32) = Cert.ProjRef.sc := by
  refine Eq.trans ?_ (show Cert.KernelIdeal.Attn.qscale = _ from rfl)
  exact Cert.KernelIdeal.Attn.qscale_eq.symm

/-! ## A block's rows and the reference's -/

section Bridge

variable (x0 : Vec Ideal S512x1024 .f32) (x1 : Vec Ideal S512x1 .f32) (x2 : Vec Ideal S1x128 .f32) (x3 : Vec Ideal S1x1024 .f32)
    (x4 : Vec Ideal S1024x640 .bf16) (x5 : Vec Ideal S1024x256 .bf16) (x6 : Vec Ideal S1024x1280 .bf16) (x7 : Vec Ideal S272x1024 .bf16)
    (x8 : Vec Ideal S1024x2048 .bf16) (x9 : Vec Ideal S1x384 .f32) (x10 x11 : Vec Ideal S384x1024 .bf16) (x12 : Vec Ideal S1x256 .f32)
    (x13 x14 : Vec Ideal S256x1024 .bf16)
    (a0 : FVec Ideal S2x8192x1024 .f32) (a1 : IVec S2x8192 32) (a2 : FVec Ideal S1024 .f32) (a3 : FVec Ideal S1024x4272 .f32)
    (a4 : FVec Ideal S384 .f32) (a5 : FVec Ideal S384x768 .f32) (a6 : FVec Ideal S256 .f32) (a7 : FVec Ideal S256x1024 .f32)

/-- The row `r` of a grid point's blocks holds token `R` of batch `b`, and the whole-array blocks hold the weights. -/
structure Holds (b : Fin 2) (R : Fin 8192) (r : Fin 512) : Prop where
  h0 : ∀ d : Fin 1024, x0 (ix2 r d) = a0 (ix3 b R d)
  h1 : x1 (ix2 r (0 : Fin 1)) = (((a1 (ix2 b R)).toInt : ℝ) : EReal)
  h2 : ∀ l : Fin 128, x2 (ix2 (0 : Fin 1) l) = packF (ix2 (0 : Fin 1) l)
  h3 : ∀ k : Fin 1024, x3 (ix2 (0 : Fin 1) k) = a2 (ix1 k)
  h4 : ∀ (d : Fin 1024) (j : Fin 640), x4 (ix2 d j) = packL a3 (ix2 d j)
  h5 : ∀ (d : Fin 1024) (j : Fin 256), x5 (ix2 d j) = packR a3 (ix2 d j)
  h6 : ∀ (d : Fin 1024) (j : Fin 1280), x6 (ix2 d j) = packG a3 (ix2 d j)
  h7 : ∀ (j : Fin 272) (d : Fin 1024), x7 (ix2 j d) = packT a3 (ix2 j d)
  h8 : ∀ (d : Fin 1024) (j : Fin 2048), x8 (ix2 d j) = packB a3 (ix2 d j)
  h9 : ∀ k : Fin 384, x9 (ix2 (0 : Fin 1) k) = a4 (ix1 k)
  h10 : ∀ (c : Fin 384) (j : Fin 1024), x10 (ix2 c j) = packQ a5 (ix2 c j)
  h11 : ∀ (c : Fin 384) (j : Fin 1024), x11 (ix2 c j) = packQr a5 (ix2 c j)
  h12 : ∀ k : Fin 256, x12 (ix2 (0 : Fin 1) k) = a6 (ix1 k)
  h13 : ∀ (c : Fin 256) (j : Fin 1024), x13 (ix2 c j) = packK a7 (ix2 c j)
  h14 : ∀ (c : Fin 256) (j : Fin 1024), x14 (ix2 c j) = packV a7 (ix2 c j)

/-- The entries the negated columns meet are real numbers. -/
structure Fine : Prop where
  f2 : ∀ i, ∃ r : ℝ, a2 i = (r : EReal)
  f3 : ∀ i, ∃ r : ℝ, a3 i = (r : EReal)
  f4 : ∀ i, ∃ r : ℝ, a4 i = (r : EReal)
  f5 : ∀ i, ∃ r : ℝ, a5 i = (r : EReal)

variable {x0 x1 x2 x3 x4 x5 x6 x7 x8 x9 x10 x11 x12 x13 x14 a0 a1 a2 a3 a4 a5 a6 a7} {b : Fin 2} {R : Fin 8192} {r : Fin 512}

/-- A token's normed row is real. -/
theorem Fine.ht (F : Fine a2 a3 a4 a5) : IsR (Cert.ProjRef.ht a0 a2 b R) :=
  nrm_any (by norm_num) word_1024 fun k => F.f2 _

/-- A token's normed query latent is real. -/
theorem Fine.qt (F : Fine a2 a3 a4 a5) : IsR (Cert.ProjRef.qt a0 a2 a3 a4 b R) :=
  nrm_any (by norm_num) word_384 fun k => F.f4 _

variable (H : Holds x0 x1 x2 x3 x4 x5 x6 x7 x8 x9 x10 x11 x12 x13 x14 a0 a1 a2 a3 a4 a5 a6 a7 b R r)

include H

/-- The normed rows are equal. -/
theorem Holds.hbe : hb x0 x3 r = Cert.ProjRef.ht a0 a2 b R := by
  have e0 : (fun d : Fin 1024 => (x0 (ix2 r d) : EReal)) = fun d => a0 (ix3 b R d) := funext H.h0
  have e3 : (fun k : Fin 1024 => (x3 (ix2 (0 : Fin 1) k) : EReal)) = fun k => a2 (ix1 k) := funext H.h3
  unfold hb Cert.ProjRef.ht
  exact congrArg₂ (nrm 0x44800000#32) e0 e3

/-- The query latent's products. -/
theorem Holds.latq (k : Fin 384) : dot (hb x0 x3 r) (fun d => x4 (ix2 d (⟨0 + k.val, by omega⟩ : Fin 640))) = Cert.ProjRef.ct a0 a2 a3 b R (⟨0 + k.val, by omega⟩ : Fin 4272) := by
  unfold Cert.ProjRef.ct
  exact congrArg₂ dot H.hbe (funext fun d => (H.h4 d _).trans (packL_q a3 d k))

/-- The key and value latent's products. -/
theorem Holds.latk (k : Fin 256) : dot (hb x0 x3 r) (fun d => x4 (ix2 d (⟨384 + k.val, by omega⟩ : Fin 640))) = Cert.ProjRef.ct a0 a2 a3 b R (⟨384 + k.val, by omega⟩ : Fin 4272) := by
  unfold Cert.ProjRef.ct
  exact congrArg₂ dot H.hbe (funext fun d => (H.h4 d _).trans (packL_k a3 d k))

/-- The gated queries. -/
theorem Holds.gq (k : Fin 256) : dot (hb x0 x3 r) (fun d => x6 (ix2 d (⟨0 + k.val, by omega⟩ : Fin 1280))) = Cert.ProjRef.ct a0 a2 a3 b R (⟨672 + k.val, by omega⟩ : Fin 4272) := by
  unfold Cert.ProjRef.ct
  exact congrArg₂ dot H.hbe (funext fun d => (H.h6 d _).trans (packG_q a3 d k))

/-- The gated values. -/
theorem Holds.gv (k : Fin 512) : dot (hb x0 x3 r) (fun d => x6 (ix2 d (⟨256 + k.val, by omega⟩ : Fin 1280))) = Cert.ProjRef.ct a0 a2 a3 b R (⟨1184 + k.val, by omega⟩ : Fin 4272) := by
  unfold Cert.ProjRef.ct
  exact congrArg₂ dot H.hbe (funext fun d => (H.h6 d _).trans (packG_v a3 d k))

/-- The output gates. -/
theorem Holds.go (k : Fin 512) : dot (hb x0 x3 r) (fun d => x6 (ix2 d (⟨768 + k.val, by omega⟩ : Fin 1280))) = Cert.ProjRef.ct a0 a2 a3 b R (⟨1712 + k.val, by omega⟩ : Fin 4272) := by
  unfold Cert.ProjRef.ct
  exact congrArg₂ dot H.hbe (funext fun d => (H.h6 d _).trans (packG_o a3 d k))

/-- The gated keys. -/
theorem Holds.gk (k : Fin 256) : dot (hb x0 x3 r) (fun d => x7 (ix2 (⟨0 + k.val, by omega⟩ : Fin 272) d)) = Cert.ProjRef.ct a0 a2 a3 b R (⟨928 + k.val, by omega⟩ : Fin 4272) := by
  unfold Cert.ProjRef.ct
  exact congrArg₂ dot H.hbe (funext fun d => (H.h7 _ d).trans (packT_k a3 d k))

/-- The gate's low-rank inputs. -/
theorem Holds.gl (k : Fin 16) : dot (hb x0 x3 r) (fun d => x7 (ix2 (⟨256 + k.val, by omega⟩ : Fin 272) d)) = Cert.ProjRef.ct a0 a2 a3 b R (⟨1696 + k.val, by omega⟩ : Fin 4272) := by
  unfold Cert.ProjRef.ct
  exact congrArg₂ dot H.hbe (funext fun d => (H.h7 _ d).trans (packT_g a3 d k))

/-- The branch gates. -/
theorem Holds.br (k : Fin 2048) : dot (hb x0 x3 r) (fun d => x8 (ix2 d k)) = Cert.ProjRef.ct a0 a2 a3 b R (⟨2224 + k.val, by omega⟩ : Fin 4272) := by
  unfold Cert.ProjRef.ct
  exact congrArg₂ dot H.hbe (funext fun d => (H.h8 d _).trans (packB_apply a3 d k))

/-- The normed query latents are equal. -/
theorem Holds.qn : qnb x0 x3 x4 x9 r = Cert.ProjRef.qt a0 a2 a3 a4 b R := by
  unfold qnb Cert.ProjRef.qt
  exact congrArg₂ (nrm 0x43C00000#32) (funext fun k => H.latq k) (funext H.h9)

/-- The normed key and value latents are equal. -/
theorem Holds.kvn : kvnb x0 x3 x4 x12 r = Cert.ProjRef.kt a0 a2 a3 a6 b R := by
  unfold kvnb Cert.ProjRef.kt
  exact congrArg₂ (nrm 0x43800000#32) (funext fun k => H.latk k) (funext H.h12)

/-- The angle of lanes 64 to 79. -/
theorem Holds.ang_b (k : Fin 16) : angb x1 x2 r (⟨64 + k.val, by omega⟩ : Fin 128) = Cert.ProjRef.ang a1 b R k := by
  unfold angb Cert.ProjRef.ang
  exact congrArg₂ (fun u v : EReal => u * v) H.h1 ((H.h2 _).trans (packF_b k))

/-- The angle of lanes 80 to 95. -/
theorem Holds.ang_c (k : Fin 16) : angb x1 x2 r (⟨80 + k.val, by omega⟩ : Fin 128) = Cert.ProjRef.ang a1 b R k := by
  unfold angb Cert.ProjRef.ang
  exact congrArg₂ (fun u v : EReal => u * v) H.h1 ((H.h2 _).trans (packF_c k))

/-- The angle of the unrotated lanes. -/
theorem Holds.ang_a (k : Fin 64) : angb x1 x2 r (⟨0 + k.val, by omega⟩ : Fin 128) = 0 := by
  unfold angb
  exact (congrArg (fun v : EReal => (x1 (ix2 r 0) : EReal) * v) ((H.h2 _).trans (packF_a k))).trans (mul_zero _)

/-- A query's unrotated lane. -/
theorem Holds.qa (h : Fin 8) (k : Fin 64) : dot (qnb x0 x3 x4 x9 r) (fun c => x10 (ix2 c (⟨h.val * 128 + (0 + k.val), by omega⟩ : Fin 1024))) = Cert.ProjRef.qp a0 a2 a3 a4 a5 b R h (⟨0 + k.val, by omega⟩ : Fin 96) := by
  unfold Cert.ProjRef.qp
  exact congrArg₂ dot H.qn (funext fun c => (H.h10 c _).trans (packQ_a a5 c h k))

/-- A query's lane for the cosines. -/
theorem Holds.qb (h : Fin 8) (k : Fin 16) : dot (qnb x0 x3 x4 x9 r) (fun c => x10 (ix2 c (⟨h.val * 128 + (64 + k.val), by omega⟩ : Fin 1024))) = Cert.ProjRef.qp a0 a2 a3 a4 a5 b R h (⟨64 + k.val, by omega⟩ : Fin 96) := by
  unfold Cert.ProjRef.qp
  exact congrArg₂ dot H.qn (funext fun c => (H.h10 c _).trans (packQ_at a5 c h ⟨k.val, by omega⟩ _ _ rfl rfl))

/-- A query's lane for the cosines. -/
theorem Holds.qc (h : Fin 8) (k : Fin 16) : dot (qnb x0 x3 x4 x9 r) (fun c => x10 (ix2 c (⟨h.val * 128 + (80 + k.val), by omega⟩ : Fin 1024))) = Cert.ProjRef.qp a0 a2 a3 a4 a5 b R h (⟨80 + k.val, by omega⟩ : Fin 96) := by
  unfold Cert.ProjRef.qp
  exact congrArg₂ dot H.qn (funext fun c => (H.h10 c _).trans (packQ_at a5 c h ⟨16 + k.val, by omega⟩ _ _ (by show h.val * 128 + (80 + k.val) = h.val * 128 + (64 + (16 + k.val)); omega) (by show h.val * 96 + (80 + k.val) = h.val * 96 + (64 + (16 + k.val)); omega)))

/-- A query's pad. -/
theorem Holds.qz (h : Fin 8) (k : Fin 32) : dot (qnb x0 x3 x4 x9 r) (fun c => x10 (ix2 c (⟨h.val * 128 + (96 + k.val), by omega⟩ : Fin 1024))) = 0 := by
  exact dot_zero _ _ fun c => (H.h10 c _).trans (packQ_z a5 c h k)

/-- A query's pad for the sines. -/
theorem Holds.ra (h : Fin 8) (k : Fin 64) : dot (qnb x0 x3 x4 x9 r) (fun c => x11 (ix2 c (⟨h.val * 128 + (0 + k.val), by omega⟩ : Fin 1024))) = 0 := by
  exact dot_zero _ _ fun c => (H.h11 c _).trans (packQr_a a5 c h k)

/-- A query's lane for the sines, negated. -/
theorem Holds.rb (F : Fine a2 a3 a4 a5) (h : Fin 8) (k : Fin 16) : dot (qnb x0 x3 x4 x9 r) (fun c => x11 (ix2 c (⟨h.val * 128 + (64 + k.val), by omega⟩ : Fin 1024))) = -Cert.ProjRef.qp a0 a2 a3 a4 a5 b R h (⟨80 + k.val, by omega⟩ : Fin 96) := by
  unfold Cert.ProjRef.qp
  rw [← dot_neg F.qt (fun c => F.f5 _)]
  exact congrArg₂ dot H.qn (funext fun c => (H.h11 c _).trans (packQr_b a5 c h k))

/-- A query's lane for the sines. -/
theorem Holds.rc (h : Fin 8) (k : Fin 16) : dot (qnb x0 x3 x4 x9 r) (fun c => x11 (ix2 c (⟨h.val * 128 + (80 + k.val), by omega⟩ : Fin 1024))) = Cert.ProjRef.qp a0 a2 a3 a4 a5 b R h (⟨64 + k.val, by omega⟩ : Fin 96) := by
  unfold Cert.ProjRef.qp
  exact congrArg₂ dot H.qn (funext fun c => (H.h11 c _).trans (packQr_c a5 c h k))

/-- A query's pad for the sines. -/
theorem Holds.rz (h : Fin 8) (k : Fin 32) : dot (qnb x0 x3 x4 x9 r) (fun c => x11 (ix2 c (⟨h.val * 128 + (96 + k.val), by omega⟩ : Fin 1024))) = 0 := by
  exact dot_zero _ _ fun c => (H.h11 c _).trans (packQr_z a5 c h k)

/-- A query block's lanes 0 to 63. -/
theorem Holds.qv_a (h : Fin 8) (k : Fin 64) : qv x0 x1 x2 x3 x4 x9 x10 x11 r (⟨h.val * 128 + (0 + k.val), by omega⟩ : Fin 1024) = Cert.ProjRef.qp a0 a2 a3 a4 a5 b R h (⟨0 + k.val, by omega⟩ : Fin 96) * Cert.ProjRef.sc := by
  unfold qv
  rw [sc_eq, lane_eq h (⟨0 + k.val, by omega⟩ : Fin 128) _ rfl]
  exact congrArg (fun z : EReal => z * Cert.ProjRef.sc) (flat_of (H.qa h k) (H.ra h k) (H.ang_a k))

/-- A query block's lanes 64 to 79. -/
theorem Holds.qv_b (F : Fine a2 a3 a4 a5) (h : Fin 8) (k : Fin 16) : qv x0 x1 x2 x3 x4 x9 x10 x11 r (⟨h.val * 128 + (64 + k.val), by omega⟩ : Fin 1024) = rot1 (Cert.ProjRef.qp a0 a2 a3 a4 a5 b R h (⟨64 + k.val, by omega⟩ : Fin 96)) (Cert.ProjRef.qp a0 a2 a3 a4 a5 b R h (⟨80 + k.val, by omega⟩ : Fin 96)) (Cert.ProjRef.ang a1 b R k) * Cert.ProjRef.sc := by
  unfold qv
  rw [sc_eq, lane_eq h (⟨64 + k.val, by omega⟩ : Fin 128) _ rfl]
  rw [H.ang_b k]
  exact congrArg (fun z : EReal => z * Cert.ProjRef.sc) (rot1_of (H.qb h k) (H.rb F h k))

/-- A query block's lanes 80 to 95. -/
theorem Holds.qv_c (h : Fin 8) (k : Fin 16) : qv x0 x1 x2 x3 x4 x9 x10 x11 r (⟨h.val * 128 + (80 + k.val), by omega⟩ : Fin 1024) = rot2 (Cert.ProjRef.qp a0 a2 a3 a4 a5 b R h (⟨64 + k.val, by omega⟩ : Fin 96)) (Cert.ProjRef.qp a0 a2 a3 a4 a5 b R h (⟨80 + k.val, by omega⟩ : Fin 96)) (Cert.ProjRef.ang a1 b R k) * Cert.ProjRef.sc := by
  unfold qv
  rw [sc_eq, lane_eq h (⟨80 + k.val, by omega⟩ : Fin 128) _ rfl]
  rw [H.ang_c k]
  exact congrArg (fun z : EReal => z * Cert.ProjRef.sc) (rot2_of (H.qc h k) (H.rc h k))

/-- A query block's lanes 96 to 127. -/
theorem Holds.qv_z (h : Fin 8) (k : Fin 32) : qv x0 x1 x2 x3 x4 x9 x10 x11 r (⟨h.val * 128 + (96 + k.val), by omega⟩ : Fin 1024) = 0 := by
  unfold qv
  rw [sc_eq, lane_eq h (⟨96 + k.val, by omega⟩ : Fin 128) _ rfl]
  exact (congrArg (fun z : EReal => z * Cert.ProjRef.sc) (rot0_of (H.qz h k) (H.rz h k))).trans (zero_mul _)

/-- A head's lane from the latent. -/
theorem Holds.ka (h : Fin 8) (k : Fin 64) : dot (kvnb x0 x3 x4 x12 r) (fun c => x13 (ix2 c (⟨h.val * 128 + (0 + k.val), by omega⟩ : Fin 1024))) = Cert.ProjRef.kvp a0 a2 a3 a6 a7 b R h (⟨0 + k.val, by omega⟩ : Fin 128) := by
  unfold Cert.ProjRef.kvp
  exact congrArg₂ dot H.kvn (funext fun c => (H.h13 c _).trans (packK_a a7 c h k))

/-- A head's pad. -/
theorem Holds.kz (h : Fin 8) (k : Fin 64) : dot (kvnb x0 x3 x4 x12 r) (fun c => x13 (ix2 c (⟨h.val * 128 + (64 + k.val), by omega⟩ : Fin 1024))) = 0 := by
  exact dot_zero _ _ fun c => (H.h13 c _).trans (packK_z a7 c h k)

/-- A head's lane from the latent. -/
theorem Holds.va (h : Fin 8) (k : Fin 64) : dot (kvnb x0 x3 x4 x12 r) (fun c => x14 (ix2 c (⟨h.val * 128 + (0 + k.val), by omega⟩ : Fin 1024))) = Cert.ProjRef.kvp a0 a2 a3 a6 a7 b R h (⟨64 + k.val, by omega⟩ : Fin 128) := by
  unfold Cert.ProjRef.kvp
  exact congrArg₂ dot H.kvn (funext fun c => (H.h14 c _).trans (packV_a a7 c h k))

/-- A head's pad. -/
theorem Holds.vz (h : Fin 8) (k : Fin 64) : dot (kvnb x0 x3 x4 x12 r) (fun c => x14 (ix2 c (⟨h.val * 128 + (64 + k.val), by omega⟩ : Fin 1024))) = 0 := by
  exact dot_zero _ _ fun c => (H.h14 c _).trans (packV_z a7 c h k)

/-- The shared key's pad. -/
theorem Holds.pca (k : Fin 64) : dot (hb x0 x3 r) (fun d => x5 (ix2 d (⟨0 + (⟨0 + k.val, by omega⟩ : Fin 128).val, by have := k.isLt; show 0 + (0 + k.val) < 256; omega⟩ : Fin 256))) = 0 := by
  exact dot_zero _ _ fun d => (H.h5 d _).trans ((packR_l a3 d _).trans (padR_a _ d k))

/-- The shared key's pad. -/
theorem Holds.pcz (k : Fin 32) : dot (hb x0 x3 r) (fun d => x5 (ix2 d (⟨0 + (⟨96 + k.val, by omega⟩ : Fin 128).val, by have := k.isLt; show 0 + (96 + k.val) < 256; omega⟩ : Fin 256))) = 0 := by
  exact dot_zero _ _ fun d => (H.h5 d _).trans ((packR_l a3 d _).trans (padR_z _ d k))

/-- The shared key's pad. -/
theorem Holds.psa (k : Fin 64) : dot (hb x0 x3 r) (fun d => x5 (ix2 d (⟨128 + (⟨0 + k.val, by omega⟩ : Fin 128).val, by have := k.isLt; show 128 + (0 + k.val) < 256; omega⟩ : Fin 256))) = 0 := by
  exact dot_zero _ _ fun d => (H.h5 d _).trans ((packR_r a3 d _).trans (padR_a _ d k))

/-- The shared key's pad. -/
theorem Holds.psz (k : Fin 32) : dot (hb x0 x3 r) (fun d => x5 (ix2 d (⟨128 + (⟨96 + k.val, by omega⟩ : Fin 128).val, by have := k.isLt; show 128 + (96 + k.val) < 256; omega⟩ : Fin 256))) = 0 := by
  exact dot_zero _ _ fun d => (H.h5 d _).trans ((packR_r a3 d _).trans (padR_z _ d k))

/-- The shared key's first half for the cosines. -/
theorem Holds.pcb (k : Fin 16) : dot (hb x0 x3 r) (fun d => x5 (ix2 d (⟨0 + (⟨64 + k.val, by omega⟩ : Fin 128).val, by have := k.isLt; show 0 + (64 + k.val) < 256; omega⟩ : Fin 256))) = Cert.ProjRef.ct a0 a2 a3 b R (⟨640 + k.val, by omega⟩ : Fin 4272) := by
  unfold Cert.ProjRef.ct
  exact congrArg₂ dot H.hbe (funext fun d => (H.h5 d _).trans ((packR_l a3 d _).trans ((padR_at _ d (⟨0 + k.val, by omega⟩ : Fin 32) _ (by show 64 + k.val = 64 + (0 + k.val); omega)).trans (keyR_at a3 d _ _ (by show 640 + k.val = 640 + (0 + k.val); omega)))))

/-- The shared key's second half for the cosines. -/
theorem Holds.pcc (k : Fin 16) : dot (hb x0 x3 r) (fun d => x5 (ix2 d (⟨0 + (⟨80 + k.val, by omega⟩ : Fin 128).val, by have := k.isLt; show 0 + (80 + k.val) < 256; omega⟩ : Fin 256))) = Cert.ProjRef.ct a0 a2 a3 b R (⟨656 + k.val, by omega⟩ : Fin 4272) := by
  unfold Cert.ProjRef.ct
  exact congrArg₂ dot H.hbe (funext fun d => (H.h5 d _).trans ((packR_l a3 d _).trans ((padR_at _ d (⟨16 + k.val, by omega⟩ : Fin 32) _ (by show 80 + k.val = 64 + (16 + k.val); omega)).trans (keyR_at a3 d _ _ (by show 656 + k.val = 640 + (16 + k.val); omega)))))

/-- The shared key's second half for the sines, negated. -/
theorem Holds.psb (F : Fine a2 a3 a4 a5) (k : Fin 16) : dot (hb x0 x3 r) (fun d => x5 (ix2 d (⟨128 + (⟨64 + k.val, by omega⟩ : Fin 128).val, by have := k.isLt; show 128 + (64 + k.val) < 256; omega⟩ : Fin 256))) = -Cert.ProjRef.ct a0 a2 a3 b R (⟨656 + k.val, by omega⟩ : Fin 4272) := by
  unfold Cert.ProjRef.ct
  rw [← dot_neg F.ht (fun d => F.f3 _)]
  exact congrArg₂ dot H.hbe (funext fun d => (H.h5 d _).trans ((packR_r a3 d _).trans ((padR_at _ d (⟨0 + k.val, by omega⟩ : Fin 32) _ (by show 64 + k.val = 64 + (0 + k.val); omega)).trans ((swapR_b _ d k).trans (congrArg (fun z : EReal => -z) (keyR_at a3 d _ _ (by show 656 + k.val = 640 + (16 + k.val); omega)))))))

/-- The shared key's first half for the sines. -/
theorem Holds.psc (k : Fin 16) : dot (hb x0 x3 r) (fun d => x5 (ix2 d (⟨128 + (⟨80 + k.val, by omega⟩ : Fin 128).val, by have := k.isLt; show 128 + (80 + k.val) < 256; omega⟩ : Fin 256))) = Cert.ProjRef.ct a0 a2 a3 b R (⟨640 + k.val, by omega⟩ : Fin 4272) := by
  unfold Cert.ProjRef.ct
  exact congrArg₂ dot H.hbe (funext fun d => (H.h5 d _).trans ((packR_r a3 d _).trans ((padR_at _ d (⟨16 + k.val, by omega⟩ : Fin 32) _ (by show 80 + k.val = 64 + (16 + k.val); omega)).trans ((swapR_c _ d k).trans (keyR_at a3 d _ _ (by show 640 + k.val = 640 + (0 + k.val); omega))))))

/-- A key block's lanes 0 to 63. -/
theorem Holds.kv_a (h : Fin 8) (k : Fin 64) : kv x0 x1 x2 x3 x4 x5 x12 x13 r (⟨h.val * 128 + (0 + k.val), by omega⟩ : Fin 1024) = Cert.ProjRef.kvp a0 a2 a3 a6 a7 b R h (⟨0 + k.val, by omega⟩ : Fin 128) := by
  unfold kv kpeb
  rw [lane_eq h (⟨0 + k.val, by omega⟩ : Fin 128) _ rfl]
  exact (congrArg₂ (fun u v : EReal => u + v) (H.ka h k) (rot0_of (H.pca k) (H.psa k))).trans (add_zero _)

/-- A key block's lanes 64 to 79. -/
theorem Holds.kv_b (F : Fine a2 a3 a4 a5) (h : Fin 8) (k : Fin 16) : kv x0 x1 x2 x3 x4 x5 x12 x13 r (⟨h.val * 128 + (64 + k.val), by omega⟩ : Fin 1024) = rot1 (Cert.ProjRef.ct a0 a2 a3 b R (⟨640 + k.val, by omega⟩ : Fin 4272)) (Cert.ProjRef.ct a0 a2 a3 b R (⟨656 + k.val, by omega⟩ : Fin 4272)) (Cert.ProjRef.ang a1 b R k) := by
  unfold kv kpeb
  rw [lane_eq h (⟨64 + k.val, by omega⟩ : Fin 128) _ rfl]
  rw [H.ang_b k]
  exact (congrArg₂ (fun u v : EReal => u + v) ((congrArg (fun j : Fin 1024 => dot (kvnb x0 x3 x4 x12 r) (fun c => x13 (ix2 c j))) (show (⟨h.val * 128 + (64 + k.val), by omega⟩ : Fin 1024) = (⟨h.val * 128 + (64 + (0 + k.val)), by omega⟩ : Fin 1024) from Fin.ext (by show h.val * 128 + (64 + k.val) = h.val * 128 + (64 + (0 + k.val)); omega))).trans (H.kz h (⟨0 + k.val, by omega⟩ : Fin 64))) (rot1_of (H.pcb k) (H.psb F k))).trans (zero_add _)

/-- A key block's lanes 80 to 95. -/
theorem Holds.kv_c (h : Fin 8) (k : Fin 16) : kv x0 x1 x2 x3 x4 x5 x12 x13 r (⟨h.val * 128 + (80 + k.val), by omega⟩ : Fin 1024) = rot2 (Cert.ProjRef.ct a0 a2 a3 b R (⟨640 + k.val, by omega⟩ : Fin 4272)) (Cert.ProjRef.ct a0 a2 a3 b R (⟨656 + k.val, by omega⟩ : Fin 4272)) (Cert.ProjRef.ang a1 b R k) := by
  unfold kv kpeb
  rw [lane_eq h (⟨80 + k.val, by omega⟩ : Fin 128) _ rfl]
  rw [H.ang_c k]
  exact (congrArg₂ (fun u v : EReal => u + v) ((congrArg (fun j : Fin 1024 => dot (kvnb x0 x3 x4 x12 r) (fun c => x13 (ix2 c j))) (show (⟨h.val * 128 + (80 + k.val), by omega⟩ : Fin 1024) = (⟨h.val * 128 + (64 + (16 + k.val)), by omega⟩ : Fin 1024) from Fin.ext (by show h.val * 128 + (80 + k.val) = h.val * 128 + (64 + (16 + k.val)); omega))).trans (H.kz h (⟨16 + k.val, by omega⟩ : Fin 64))) (rot2_of (H.pcc k) (H.psc k))).trans (zero_add _)

/-- A key block's lanes 96 to 127. -/
theorem Holds.kv_z (h : Fin 8) (k : Fin 32) : kv x0 x1 x2 x3 x4 x5 x12 x13 r (⟨h.val * 128 + (96 + k.val), by omega⟩ : Fin 1024) = 0 := by
  unfold kv kpeb
  rw [lane_eq h (⟨96 + k.val, by omega⟩ : Fin 128) _ rfl]
  exact (congrArg₂ (fun u v : EReal => u + v) ((congrArg (fun j : Fin 1024 => dot (kvnb x0 x3 x4 x12 r) (fun c => x13 (ix2 c j))) (show (⟨h.val * 128 + (96 + k.val), by omega⟩ : Fin 1024) = (⟨h.val * 128 + (64 + (32 + k.val)), by omega⟩ : Fin 1024) from Fin.ext (by show h.val * 128 + (96 + k.val) = h.val * 128 + (64 + (32 + k.val)); omega))).trans (H.kz h (⟨32 + k.val, by omega⟩ : Fin 64))) (rot0_of (H.pcz k) (H.psz k))).trans (zero_add _)

/-- A query block's element is the reference's. -/
theorem Holds.e15 (F : Fine a2 a3 a4 a5) (i : S16384x1024.Idx) (j : Fin 1024) (h0 : (i 0).val = b.val * 8192 + R.val) (h1 : (i 1).val = j.val) :
    qv x0 x1 x2 x3 x4 x9 x10 x11 r j = Cert.ProjReferenceIdeal.Read.val_main_v119 (F := Ideal) a0 a1 a2 a3 a4 a5 i := by
  obtain ⟨h, hk⟩ := parts j
  rcases hk with ⟨k, rfl⟩ | ⟨k, rfl⟩ | ⟨k, rfl⟩ | ⟨k, rfl⟩
  · exact (H.qv_a h k).trans (Cert.ProjRef.v119_a a0 a1 a2 a3 a4 a5 i b R h k h0 h1).symm
  · exact (H.qv_b F h k).trans (Cert.ProjRef.v119_b a0 a1 a2 a3 a4 a5 i b R h k h0 h1).symm
  · exact (H.qv_c h k).trans (Cert.ProjRef.v119_c a0 a1 a2 a3 a4 a5 i b R h k h0 h1).symm
  · exact (H.qv_z h k).trans (Cert.ProjRef.v119_z a0 a1 a2 a3 a4 a5 i b R h k h0 h1).symm

/-- A key block's element is the reference's. -/
theorem Holds.e16 (F : Fine a2 a3 a4 a5) (i : S16384x1024.Idx) (j : Fin 1024) (h0 : (i 0).val = b.val * 8192 + R.val) (h1 : (i 1).val = j.val) :
    kv x0 x1 x2 x3 x4 x5 x12 x13 r j = Cert.ProjReferenceIdeal.Read.val_main_v123 (F := Ideal) a0 a1 a2 a3 a6 a7 i := by
  obtain ⟨h, hk⟩ := parts j
  rcases hk with ⟨k, rfl⟩ | ⟨k, rfl⟩ | ⟨k, rfl⟩ | ⟨k, rfl⟩
  · exact (H.kv_a h k).trans (Cert.ProjRef.v123_a a0 a1 a2 a3 a6 a7 i b R h k h0 h1).symm
  · exact (H.kv_b F h k).trans (Cert.ProjRef.v123_b a0 a1 a2 a3 a6 a7 i b R h k h0 h1).symm
  · exact (H.kv_c h k).trans (Cert.ProjRef.v123_c a0 a1 a2 a3 a6 a7 i b R h k h0 h1).symm
  · exact (H.kv_z h k).trans (Cert.ProjRef.v123_z a0 a1 a2 a3 a6 a7 i b R h k h0 h1).symm

/-- A value block's lanes 0 to 63. -/
theorem Holds.vv_a (h : Fin 8) (k : Fin 64) : dot (kvnb x0 x3 x4 x12 r) (fun c => x14 (ix2 c (⟨h.val * 128 + (0 + k.val), by omega⟩ : Fin 1024))) + mark (⟨h.val * 128 + (0 + k.val), by omega⟩ : Fin 1024) = Cert.ProjRef.kvp a0 a2 a3 a6 a7 b R h (⟨64 + k.val, by omega⟩ : Fin 128) := by
  have hk := k.isLt
  have hm : mark (⟨h.val * 128 + (0 + k.val), by omega⟩ : Fin 1024) = 0 := by
    unfold mark
    rw [if_neg (by show ¬((h.val * 128 + (0 + k.val)) % 128 = 64); omega)]
  exact (congrArg₂ (fun u v : EReal => u + v) (H.va h k) hm).trans (add_zero _)

/-- A value block's lanes 64 to 64. -/
theorem Holds.vv_b (h : Fin 8) (k : Fin 1) : dot (kvnb x0 x3 x4 x12 r) (fun c => x14 (ix2 c (⟨h.val * 128 + (64 + k.val), by omega⟩ : Fin 1024))) + mark (⟨h.val * 128 + (64 + k.val), by omega⟩ : Fin 1024) = 1 := by
  have hk := k.isLt
  have hm : mark (⟨h.val * 128 + (64 + k.val), by omega⟩ : Fin 1024) = 1 := by
    unfold mark
    rw [if_pos (by show ((h.val * 128 + (64 + k.val)) % 128 = 64); omega)]
  exact (congrArg₂ (fun u v : EReal => u + v) ((congrArg (fun j : Fin 1024 => dot (kvnb x0 x3 x4 x12 r) (fun c => x14 (ix2 c j))) (show (⟨h.val * 128 + (64 + k.val), by omega⟩ : Fin 1024) = (⟨h.val * 128 + (64 + (0 + k.val)), by omega⟩ : Fin 1024) from Fin.ext (by show h.val * 128 + (64 + k.val) = h.val * 128 + (64 + (0 + k.val)); omega))).trans (H.vz h (⟨0 + k.val, by omega⟩ : Fin 64))) hm).trans (zero_add _)

/-- A value block's lanes 65 to 127. -/
theorem Holds.vv_z (h : Fin 8) (k : Fin 63) : dot (kvnb x0 x3 x4 x12 r) (fun c => x14 (ix2 c (⟨h.val * 128 + (65 + k.val), by omega⟩ : Fin 1024))) + mark (⟨h.val * 128 + (65 + k.val), by omega⟩ : Fin 1024) = 0 := by
  have hk := k.isLt
  have hm : mark (⟨h.val * 128 + (65 + k.val), by omega⟩ : Fin 1024) = 0 := by
    unfold mark
    rw [if_neg (by show ¬((h.val * 128 + (65 + k.val)) % 128 = 64); omega)]
  exact (congrArg₂ (fun u v : EReal => u + v) ((congrArg (fun j : Fin 1024 => dot (kvnb x0 x3 x4 x12 r) (fun c => x14 (ix2 c j))) (show (⟨h.val * 128 + (65 + k.val), by omega⟩ : Fin 1024) = (⟨h.val * 128 + (64 + (1 + k.val)), by omega⟩ : Fin 1024) from Fin.ext (by show h.val * 128 + (65 + k.val) = h.val * 128 + (64 + (1 + k.val)); omega))).trans (H.vz h (⟨1 + k.val, by omega⟩ : Fin 64))) hm).trans (zero_add _)

/-- A value block's element is the reference's. -/
theorem Holds.e17  (i : S16384x1024.Idx) (j : Fin 1024) (h0 : (i 0).val = b.val * 8192 + R.val) (h1 : (i 1).val = j.val) :
    dot (kvnb x0 x3 x4 x12 r) (fun c => x14 (ix2 c j)) + mark j = Cert.ProjReferenceIdeal.Read.val_main_v128 (F := Ideal) a0 a2 a3 a6 a7 i := by
  obtain ⟨h, hk⟩ := vparts j
  rcases hk with ⟨k, rfl⟩ | ⟨k, rfl⟩ | ⟨k, rfl⟩
  · exact (H.vv_a h k).trans (Cert.ProjRef.v128_a a0 a2 a3 a6 a7 i b R h k h0 h1).symm
  · exact (H.vv_b h k).trans (Cert.ProjRef.v128_b a0 a2 a3 a6 a7 i b R h k h0 h1).symm
  · exact (H.vv_z h k).trans (Cert.ProjRef.v128_z a0 a2 a3 a6 a7 i b R h k h0 h1).symm

/-- A gated query block's element is the reference's. -/
theorem Holds.e18 (i : S16384x256.Idx) (d : Fin 256) (h0 : (i 0).val = b.val * 8192 + R.val) (h1 : (i 1).val = d.val) :
    dot (hb x0 x3 r) (fun dd => x6 (ix2 dd (⟨0 + d.val, by omega⟩ : Fin 1280))) * Ideal.ofBits .f32 0x3E000000#32 = Cert.ProjReferenceIdeal.Read.val_main_v132 (F := Ideal) a0 a2 a3 i :=
  (congrArg (fun z : EReal => z * Ideal.ofBits .f32 0x3E000000#32) (H.gq d)).trans (Cert.ProjRef.r132 a0 a2 a3 i b R d h0 h1).symm

/-- A gated key block's element is the reference's. -/
theorem Holds.e19 (i : S256x16384.Idx) (d : Fin 256) (h0 : (i 0).val = d.val) (h1 : (i 1).val = b.val * 8192 + R.val) :
    dot (hb x0 x3 r) (fun dd => x7 (ix2 (⟨0 + d.val, by omega⟩ : Fin 272) dd)) = Cert.ProjReferenceIdeal.Read.val_main_v134 (F := Ideal) a0 a2 a3 i :=
  (H.gk d).trans (Cert.ProjRef.r134 a0 a2 a3 i b R d h0 h1).symm

/-- A gated value block's element is the reference's. -/
theorem Holds.e20 (i : S16384x512.Idx) (d : Fin 512) (h0 : (i 0).val = b.val * 8192 + R.val) (h1 : (i 1).val = d.val) :
    dot (hb x0 x3 r) (fun dd => x6 (ix2 dd (⟨256 + d.val, by omega⟩ : Fin 1280))) = Cert.ProjReferenceIdeal.Read.val_main_v136 (F := Ideal) a0 a2 a3 i :=
  (H.gv d).trans (Cert.ProjRef.r136 a0 a2 a3 i b R d h0 h1).symm

/-- A low-rank gate block's element is the reference's. -/
theorem Holds.e21 (i : S16x16384.Idx) (d : Fin 16) (h0 : (i 0).val = d.val) (h1 : (i 1).val = b.val * 8192 + R.val) :
    dot (hb x0 x3 r) (fun dd => x7 (ix2 (⟨256 + d.val, by omega⟩ : Fin 272) dd)) = Cert.ProjReferenceIdeal.Read.val_main_v139 (F := Ideal) a0 a2 a3 i :=
  (H.gl d).trans (Cert.ProjRef.r139 a0 a2 a3 i b R d h0 h1).symm

/-- A output gate block's element is the reference's. -/
theorem Holds.e22 (i : S16384x512.Idx) (d : Fin 512) (h0 : (i 0).val = b.val * 8192 + R.val) (h1 : (i 1).val = d.val) :
    dot (hb x0 x3 r) (fun dd => x6 (ix2 dd (⟨768 + d.val, by omega⟩ : Fin 1280))) = Cert.ProjReferenceIdeal.Read.val_main_v140 (F := Ideal) a0 a2 a3 i :=
  (H.go d).trans (Cert.ProjRef.r140 a0 a2 a3 i b R d h0 h1).symm

/-- A branch gate block's element is the reference's. -/
theorem Holds.e23 (i : S16384x2048.Idx) (d : Fin 2048) (h0 : (i 0).val = b.val * 8192 + R.val) (h1 : (i 1).val = d.val) :
    dot (hb x0 x3 r) (fun dd => x8 (ix2 dd d)) = Cert.ProjReferenceIdeal.Read.val_main_v141 (F := Ideal) a0 a2 a3 i :=
  (H.br d).trans (Cert.ProjRef.r141 a0 a2 a3 i b R d h0 h1).symm

end Bridge

/-! ## The blocks a grid point reads -/

variable (m : (ℓ : Loc nD τ sig) → Buf (Elt Ideal) ℓ)

/-- Window 0's block index. -/
theorem index0 : ∀ t : Fin cfg0.N, win0_0.index t = ![(grid0.coords t 0).val, 0] :=
  (by decide +kernel : ∀ t : Fin grid0.N, win0_0.index t = ![(grid0.coords t 0).val, 0])

/-- Window 1's block index. -/
theorem index1 : ∀ t : Fin cfg0.N, win0_1.index t = ![(grid0.coords t 0).val, 0] :=
  (by decide +kernel : ∀ t : Fin grid0.N, win0_1.index t = ![(grid0.coords t 0).val, 0])

/-- Window 2's block index. -/
theorem index2 : ∀ t : Fin cfg0.N, win0_2.index t = ![0, 0] :=
  (by decide +kernel : ∀ t : Fin grid0.N, win0_2.index t = ![0, 0])

/-- Window 3's block index. -/
theorem index3 : ∀ t : Fin cfg0.N, win0_3.index t = ![0, 0] :=
  (by decide +kernel : ∀ t : Fin grid0.N, win0_3.index t = ![0, 0])

/-- Window 4's block index. -/
theorem index4 : ∀ t : Fin cfg0.N, win0_4.index t = ![0, 0] :=
  (by decide +kernel : ∀ t : Fin grid0.N, win0_4.index t = ![0, 0])

/-- Window 5's block index. -/
theorem index5 : ∀ t : Fin cfg0.N, win0_5.index t = ![0, 0] :=
  (by decide +kernel : ∀ t : Fin grid0.N, win0_5.index t = ![0, 0])

/-- Window 6's block index. -/
theorem index6 : ∀ t : Fin cfg0.N, win0_6.index t = ![0, 0] :=
  (by decide +kernel : ∀ t : Fin grid0.N, win0_6.index t = ![0, 0])

/-- Window 7's block index. -/
theorem index7 : ∀ t : Fin cfg0.N, win0_7.index t = ![0, 0] :=
  (by decide +kernel : ∀ t : Fin grid0.N, win0_7.index t = ![0, 0])

/-- Window 8's block index. -/
theorem index8 : ∀ t : Fin cfg0.N, win0_8.index t = ![0, 0] :=
  (by decide +kernel : ∀ t : Fin grid0.N, win0_8.index t = ![0, 0])

/-- Window 9's block index. -/
theorem index9 : ∀ t : Fin cfg0.N, win0_9.index t = ![0, 0] :=
  (by decide +kernel : ∀ t : Fin grid0.N, win0_9.index t = ![0, 0])

/-- Window 10's block index. -/
theorem index10 : ∀ t : Fin cfg0.N, win0_10.index t = ![0, 0] :=
  (by decide +kernel : ∀ t : Fin grid0.N, win0_10.index t = ![0, 0])

/-- Window 11's block index. -/
theorem index11 : ∀ t : Fin cfg0.N, win0_11.index t = ![0, 0] :=
  (by decide +kernel : ∀ t : Fin grid0.N, win0_11.index t = ![0, 0])

/-- Window 12's block index. -/
theorem index12 : ∀ t : Fin cfg0.N, win0_12.index t = ![0, 0] :=
  (by decide +kernel : ∀ t : Fin grid0.N, win0_12.index t = ![0, 0])

/-- Window 13's block index. -/
theorem index13 : ∀ t : Fin cfg0.N, win0_13.index t = ![0, 0] :=
  (by decide +kernel : ∀ t : Fin grid0.N, win0_13.index t = ![0, 0])

/-- Window 14's block index. -/
theorem index14 : ∀ t : Fin cfg0.N, win0_14.index t = ![0, 0] :=
  (by decide +kernel : ∀ t : Fin grid0.N, win0_14.index t = ![0, 0])

/-- Window 15's block index. -/
theorem index15 : ∀ t : Fin cfg0.N, win0_15.index t = ![(grid0.coords t 0).val, 0] :=
  (by decide +kernel : ∀ t : Fin grid0.N, win0_15.index t = ![(grid0.coords t 0).val, 0])

/-- Window 16's block index. -/
theorem index16 : ∀ t : Fin cfg0.N, win0_16.index t = ![(grid0.coords t 0).val, 0] :=
  (by decide +kernel : ∀ t : Fin grid0.N, win0_16.index t = ![(grid0.coords t 0).val, 0])

/-- Window 17's block index. -/
theorem index17 : ∀ t : Fin cfg0.N, win0_17.index t = ![(grid0.coords t 0).val, 0] :=
  (by decide +kernel : ∀ t : Fin grid0.N, win0_17.index t = ![(grid0.coords t 0).val, 0])

/-- Window 18's block index. -/
theorem index18 : ∀ t : Fin cfg0.N, win0_18.index t = ![(grid0.coords t 0).val, 0] :=
  (by decide +kernel : ∀ t : Fin grid0.N, win0_18.index t = ![(grid0.coords t 0).val, 0])

/-- Window 19's block index. -/
theorem index19 : ∀ t : Fin cfg0.N, win0_19.index t = ![0, (grid0.coords t 0).val] :=
  (by decide +kernel : ∀ t : Fin grid0.N, win0_19.index t = ![0, (grid0.coords t 0).val])

/-- Window 20's block index. -/
theorem index20 : ∀ t : Fin cfg0.N, win0_20.index t = ![(grid0.coords t 0).val, 0] :=
  (by decide +kernel : ∀ t : Fin grid0.N, win0_20.index t = ![(grid0.coords t 0).val, 0])

/-- Window 21's block index. -/
theorem index21 : ∀ t : Fin cfg0.N, win0_21.index t = ![0, (grid0.coords t 0).val] :=
  (by decide +kernel : ∀ t : Fin grid0.N, win0_21.index t = ![0, (grid0.coords t 0).val])

/-- Window 22's block index. -/
theorem index22 : ∀ t : Fin cfg0.N, win0_22.index t = ![(grid0.coords t 0).val, 0] :=
  (by decide +kernel : ∀ t : Fin grid0.N, win0_22.index t = ![(grid0.coords t 0).val, 0])

/-- Window 23's block index. -/
theorem index23 : ∀ t : Fin cfg0.N, win0_23.index t = ![(grid0.coords t 0).val, 0] :=
  (by decide +kernel : ∀ t : Fin grid0.N, win0_23.index t = ![(grid0.coords t 0).val, 0])

/-- The inputs' block. -/
theorem iblk0_apply (c : Dev nD) (t : Fin cfg0.N) (b : Fin 2) (R : Fin 8192) (r : Fin 512) (hT : (grid0.coords t 0).val * 512 + r.val = b.val * 8192 + R.val) (d : Fin 1024) :
    (iblk m c 0 t : Vec Ideal S512x1024 .f32) (ix2 r d) = arg0 m c (ix3 b R d) := by
  unfold iblk
  rw [View.read_apply]
  show V m c main_v61 _ = _
  rw [V_v61]
  have hi := index0 t
  refine flat_apply _ _ _ b R d ?_ ?_
  · show win0_0.index t 0 * 512 + 1 * r.val = _
    rw [hi]
    show (grid0.coords t 0).val * 512 + 1 * r.val = b.val * 8192 + R.val
    omega
  · show win0_0.index t 1 * 1024 + 1 * d.val = _
    rw [hi]
    show 0 * 1024 + 1 * d.val = d.val
    rw [Nat.zero_mul, Nat.zero_add, Nat.one_mul]

/-- The positions' block. -/
theorem iblk1_apply (c : Dev nD) (t : Fin cfg0.N) (b : Fin 2) (R : Fin 8192) (r : Fin 512) (hT : (grid0.coords t 0).val * 512 + r.val = b.val * 8192 + R.val) :
    (iblk m c 1 t : Vec Ideal S512x1 .f32) (ix2 r (0 : Fin 1)) = (((arg1 m c (ix2 b R)).toInt : ℝ) : EReal) := by
  unfold iblk
  rw [View.read_apply]
  show V m c main_v60 _ = _
  rw [V_v60]
  have hi := index1 t
  refine congrArg (fun z : BitVec 32 => ((z.toInt : ℝ) : EReal)) (pos_apply (arg1 m c) _ _ b R ?_)
  show win0_1.index t 0 * 512 + 1 * r.val = _
  rw [hi]
  show (grid0.coords t 0).val * 512 + 1 * r.val = b.val * 8192 + R.val
  omega

/-- The block of window 2. -/
theorem iblk2_apply (c : Dev nD) (t : Fin cfg0.N) (d : Fin 1) (e : Fin 128) :
    (iblk m c 2 t : Vec Ideal S1x128 .f32) (ix2 d e) = (packF : S1x128.Idx → EReal) (ix2 d e) := by
  unfold iblk
  rw [View.read_apply]
  show V m c main_v71 _ = _
  rw [V_v71]
  have hi := index2 t
  refine congrArg (packF : S1x128.Idx → EReal) (funext fun a => Fin.ext ?_)
  match a with
  | ⟨0, _⟩ =>
    show win0_2.index t 0 * 1 + 1 * d.val = d.val
    rw [hi]
    show 0 * 1 + 1 * d.val = d.val
    rw [Nat.zero_mul, Nat.zero_add, Nat.one_mul]
  | ⟨1, _⟩ =>
    show win0_2.index t 1 * 128 + 1 * e.val = e.val
    rw [hi]
    show 0 * 128 + 1 * e.val = e.val
    rw [Nat.zero_mul, Nat.zero_add, Nat.one_mul]

/-- The block of window 3. -/
theorem iblk3_apply (c : Dev nD) (t : Fin cfg0.N) (d : Fin 1) (e : Fin 1024) :
    (iblk m c 3 t : Vec Ideal S1x1024 .f32) (ix2 d e) = (shapeCast S1x1024 (arg2 m c) shapeCasts_S1024_S1x1024 : S1x1024.Idx → EReal) (ix2 d e) := by
  unfold iblk
  rw [View.read_apply]
  show V m c main_v28 _ = _
  rw [V_v28]
  have hi := index3 t
  refine congrArg (shapeCast S1x1024 (arg2 m c) shapeCasts_S1024_S1x1024 : S1x1024.Idx → EReal) (funext fun a => Fin.ext ?_)
  match a with
  | ⟨0, _⟩ =>
    show win0_3.index t 0 * 1 + 1 * d.val = d.val
    rw [hi]
    show 0 * 1 + 1 * d.val = d.val
    rw [Nat.zero_mul, Nat.zero_add, Nat.one_mul]
  | ⟨1, _⟩ =>
    show win0_3.index t 1 * 1024 + 1 * e.val = e.val
    rw [hi]
    show 0 * 1024 + 1 * e.val = e.val
    rw [Nat.zero_mul, Nat.zero_add, Nat.one_mul]

/-- The block of window 4. -/
theorem iblk4_apply (c : Dev nD) (t : Fin cfg0.N) (d : Fin 1024) (e : Fin 640) :
    (iblk m c 4 t : Vec Ideal S1024x640 .bf16) (ix2 d e) = (packL (arg3 m c) : S1024x640.Idx → EReal) (ix2 d e) := by
  unfold iblk
  rw [View.read_apply]
  show V m c main_v30 _ = _
  rw [V_v30]
  have hi := index4 t
  refine congrArg (packL (arg3 m c) : S1024x640.Idx → EReal) (funext fun a => Fin.ext ?_)
  match a with
  | ⟨0, _⟩ =>
    show win0_4.index t 0 * 1024 + 1 * d.val = d.val
    rw [hi]
    show 0 * 1024 + 1 * d.val = d.val
    rw [Nat.zero_mul, Nat.zero_add, Nat.one_mul]
  | ⟨1, _⟩ =>
    show win0_4.index t 1 * 640 + 1 * e.val = e.val
    rw [hi]
    show 0 * 640 + 1 * e.val = e.val
    rw [Nat.zero_mul, Nat.zero_add, Nat.one_mul]

/-- The block of window 5. -/
theorem iblk5_apply (c : Dev nD) (t : Fin cfg0.N) (d : Fin 1024) (e : Fin 256) :
    (iblk m c 5 t : Vec Ideal S1024x256 .bf16) (ix2 d e) = (packR (arg3 m c) : S1024x256.Idx → EReal) (ix2 d e) := by
  unfold iblk
  rw [View.read_apply]
  show V m c main_v42 _ = _
  rw [V_v42]
  have hi := index5 t
  refine congrArg (packR (arg3 m c) : S1024x256.Idx → EReal) (funext fun a => Fin.ext ?_)
  match a with
  | ⟨0, _⟩ =>
    show win0_5.index t 0 * 1024 + 1 * d.val = d.val
    rw [hi]
    show 0 * 1024 + 1 * d.val = d.val
    rw [Nat.zero_mul, Nat.zero_add, Nat.one_mul]
  | ⟨1, _⟩ =>
    show win0_5.index t 1 * 256 + 1 * e.val = e.val
    rw [hi]
    show 0 * 256 + 1 * e.val = e.val
    rw [Nat.zero_mul, Nat.zero_add, Nat.one_mul]

/-- The block of window 6. -/
theorem iblk6_apply (c : Dev nD) (t : Fin cfg0.N) (d : Fin 1024) (e : Fin 1280) :
    (iblk m c 6 t : Vec Ideal S1024x1280 .bf16) (ix2 d e) = (packG (arg3 m c) : S1024x1280.Idx → EReal) (ix2 d e) := by
  unfold iblk
  rw [View.read_apply]
  show V m c main_v44 _ = _
  rw [V_v44]
  have hi := index6 t
  refine congrArg (packG (arg3 m c) : S1024x1280.Idx → EReal) (funext fun a => Fin.ext ?_)
  match a with
  | ⟨0, _⟩ =>
    show win0_6.index t 0 * 1024 + 1 * d.val = d.val
    rw [hi]
    show 0 * 1024 + 1 * d.val = d.val
    rw [Nat.zero_mul, Nat.zero_add, Nat.one_mul]
  | ⟨1, _⟩ =>
    show win0_6.index t 1 * 1280 + 1 * e.val = e.val
    rw [hi]
    show 0 * 1280 + 1 * e.val = e.val
    rw [Nat.zero_mul, Nat.zero_add, Nat.one_mul]

/-- The block of window 7. -/
theorem iblk7_apply (c : Dev nD) (t : Fin cfg0.N) (d : Fin 272) (e : Fin 1024) :
    (iblk m c 7 t : Vec Ideal S272x1024 .bf16) (ix2 d e) = (packT (arg3 m c) : S272x1024.Idx → EReal) (ix2 d e) := by
  unfold iblk
  rw [View.read_apply]
  show V m c main_v47 _ = _
  rw [V_v47]
  have hi := index7 t
  refine congrArg (packT (arg3 m c) : S272x1024.Idx → EReal) (funext fun a => Fin.ext ?_)
  match a with
  | ⟨0, _⟩ =>
    show win0_7.index t 0 * 272 + 1 * d.val = d.val
    rw [hi]
    show 0 * 272 + 1 * d.val = d.val
    rw [Nat.zero_mul, Nat.zero_add, Nat.one_mul]
  | ⟨1, _⟩ =>
    show win0_7.index t 1 * 1024 + 1 * e.val = e.val
    rw [hi]
    show 0 * 1024 + 1 * e.val = e.val
    rw [Nat.zero_mul, Nat.zero_add, Nat.one_mul]

/-- The block of window 8. -/
theorem iblk8_apply (c : Dev nD) (t : Fin cfg0.N) (d : Fin 1024) (e : Fin 2048) :
    (iblk m c 8 t : Vec Ideal S1024x2048 .bf16) (ix2 d e) = (packB (arg3 m c) : S1024x2048.Idx → EReal) (ix2 d e) := by
  unfold iblk
  rw [View.read_apply]
  show V m c main_v48 _ = _
  rw [V_v48]
  have hi := index8 t
  refine congrArg (packB (arg3 m c) : S1024x2048.Idx → EReal) (funext fun a => Fin.ext ?_)
  match a with
  | ⟨0, _⟩ =>
    show win0_8.index t 0 * 1024 + 1 * d.val = d.val
    rw [hi]
    show 0 * 1024 + 1 * d.val = d.val
    rw [Nat.zero_mul, Nat.zero_add, Nat.one_mul]
  | ⟨1, _⟩ =>
    show win0_8.index t 1 * 2048 + 1 * e.val = e.val
    rw [hi]
    show 0 * 2048 + 1 * e.val = e.val
    rw [Nat.zero_mul, Nat.zero_add, Nat.one_mul]

/-- The block of window 9. -/
theorem iblk9_apply (c : Dev nD) (t : Fin cfg0.N) (d : Fin 1) (e : Fin 384) :
    (iblk m c 9 t : Vec Ideal S1x384 .f32) (ix2 d e) = (shapeCast S1x384 (arg4 m c) shapeCasts_S384_S1x384 : S1x384.Idx → EReal) (ix2 d e) := by
  unfold iblk
  rw [View.read_apply]
  show V m c main_v49 _ = _
  rw [V_v49]
  have hi := index9 t
  refine congrArg (shapeCast S1x384 (arg4 m c) shapeCasts_S384_S1x384 : S1x384.Idx → EReal) (funext fun a => Fin.ext ?_)
  match a with
  | ⟨0, _⟩ =>
    show win0_9.index t 0 * 1 + 1 * d.val = d.val
    rw [hi]
    show 0 * 1 + 1 * d.val = d.val
    rw [Nat.zero_mul, Nat.zero_add, Nat.one_mul]
  | ⟨1, _⟩ =>
    show win0_9.index t 1 * 384 + 1 * e.val = e.val
    rw [hi]
    show 0 * 384 + 1 * e.val = e.val
    rw [Nat.zero_mul, Nat.zero_add, Nat.one_mul]

/-- The block of window 10. -/
theorem iblk10_apply (c : Dev nD) (t : Fin cfg0.N) (d : Fin 384) (e : Fin 1024) :
    (iblk m c 10 t : Vec Ideal S384x1024 .bf16) (ix2 d e) = (packQ (arg5 m c) : S384x1024.Idx → EReal) (ix2 d e) := by
  unfold iblk
  rw [View.read_apply]
  show V m c main_v52 _ = _
  rw [V_v52]
  have hi := index10 t
  refine congrArg (packQ (arg5 m c) : S384x1024.Idx → EReal) (funext fun a => Fin.ext ?_)
  match a with
  | ⟨0, _⟩ =>
    show win0_10.index t 0 * 384 + 1 * d.val = d.val
    rw [hi]
    show 0 * 384 + 1 * d.val = d.val
    rw [Nat.zero_mul, Nat.zero_add, Nat.one_mul]
  | ⟨1, _⟩ =>
    show win0_10.index t 1 * 1024 + 1 * e.val = e.val
    rw [hi]
    show 0 * 1024 + 1 * e.val = e.val
    rw [Nat.zero_mul, Nat.zero_add, Nat.one_mul]

/-- The block of window 11. -/
theorem iblk11_apply (c : Dev nD) (t : Fin cfg0.N) (d : Fin 384) (e : Fin 1024) :
    (iblk m c 11 t : Vec Ideal S384x1024 .bf16) (ix2 d e) = (packQr (arg5 m c) : S384x1024.Idx → EReal) (ix2 d e) := by
  unfold iblk
  rw [View.read_apply]
  show V m c main_v54 _ = _
  rw [V_v54]
  have hi := index11 t
  refine congrArg (packQr (arg5 m c) : S384x1024.Idx → EReal) (funext fun a => Fin.ext ?_)
  match a with
  | ⟨0, _⟩ =>
    show win0_11.index t 0 * 384 + 1 * d.val = d.val
    rw [hi]
    show 0 * 384 + 1 * d.val = d.val
    rw [Nat.zero_mul, Nat.zero_add, Nat.one_mul]
  | ⟨1, _⟩ =>
    show win0_11.index t 1 * 1024 + 1 * e.val = e.val
    rw [hi]
    show 0 * 1024 + 1 * e.val = e.val
    rw [Nat.zero_mul, Nat.zero_add, Nat.one_mul]

/-- The block of window 12. -/
theorem iblk12_apply (c : Dev nD) (t : Fin cfg0.N) (d : Fin 1) (e : Fin 256) :
    (iblk m c 12 t : Vec Ideal S1x256 .f32) (ix2 d e) = (shapeCast S1x256 (arg6 m c) shapeCasts_S256_S1x256 : S1x256.Idx → EReal) (ix2 d e) := by
  unfold iblk
  rw [View.read_apply]
  show V m c main_v50 _ = _
  rw [V_v50]
  have hi := index12 t
  refine congrArg (shapeCast S1x256 (arg6 m c) shapeCasts_S256_S1x256 : S1x256.Idx → EReal) (funext fun a => Fin.ext ?_)
  match a with
  | ⟨0, _⟩ =>
    show win0_12.index t 0 * 1 + 1 * d.val = d.val
    rw [hi]
    show 0 * 1 + 1 * d.val = d.val
    rw [Nat.zero_mul, Nat.zero_add, Nat.one_mul]
  | ⟨1, _⟩ =>
    show win0_12.index t 1 * 256 + 1 * e.val = e.val
    rw [hi]
    show 0 * 256 + 1 * e.val = e.val
    rw [Nat.zero_mul, Nat.zero_add, Nat.one_mul]

/-- The block of window 13. -/
theorem iblk13_apply (c : Dev nD) (t : Fin cfg0.N) (d : Fin 256) (e : Fin 1024) :
    (iblk m c 13 t : Vec Ideal S256x1024 .bf16) (ix2 d e) = (packK (arg7 m c) : S256x1024.Idx → EReal) (ix2 d e) := by
  unfold iblk
  rw [View.read_apply]
  show V m c main_v56 _ = _
  rw [V_v56]
  have hi := index13 t
  refine congrArg (packK (arg7 m c) : S256x1024.Idx → EReal) (funext fun a => Fin.ext ?_)
  match a with
  | ⟨0, _⟩ =>
    show win0_13.index t 0 * 256 + 1 * d.val = d.val
    rw [hi]
    show 0 * 256 + 1 * d.val = d.val
    rw [Nat.zero_mul, Nat.zero_add, Nat.one_mul]
  | ⟨1, _⟩ =>
    show win0_13.index t 1 * 1024 + 1 * e.val = e.val
    rw [hi]
    show 0 * 1024 + 1 * e.val = e.val
    rw [Nat.zero_mul, Nat.zero_add, Nat.one_mul]

/-- The block of window 14. -/
theorem iblk14_apply (c : Dev nD) (t : Fin cfg0.N) (d : Fin 256) (e : Fin 1024) :
    (iblk m c 14 t : Vec Ideal S256x1024 .bf16) (ix2 d e) = (packV (arg7 m c) : S256x1024.Idx → EReal) (ix2 d e) := by
  unfold iblk
  rw [View.read_apply]
  show V m c main_v58 _ = _
  rw [V_v58]
  have hi := index14 t
  refine congrArg (packV (arg7 m c) : S256x1024.Idx → EReal) (funext fun a => Fin.ext ?_)
  match a with
  | ⟨0, _⟩ =>
    show win0_14.index t 0 * 256 + 1 * d.val = d.val
    rw [hi]
    show 0 * 256 + 1 * d.val = d.val
    rw [Nat.zero_mul, Nat.zero_add, Nat.one_mul]
  | ⟨1, _⟩ =>
    show win0_14.index t 1 * 1024 + 1 * e.val = e.val
    rw [hi]
    show 0 * 1024 + 1 * e.val = e.val
    rw [Nat.zero_mul, Nat.zero_add, Nat.one_mul]

/-- A grid point's row holds its token. -/
theorem holds (c : Dev nD) (t : Fin cfg0.N) (b : Fin 2) (R : Fin 8192) (r : Fin 512) (hT : (grid0.coords t 0).val * 512 + r.val = b.val * 8192 + R.val) :
    Holds (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (arg0 m c) (arg1 m c) (arg2 m c) (arg3 m c) (arg4 m c) (arg5 m c) (arg6 m c) (arg7 m c) b R r where
  h0 := iblk0_apply m c t b R r hT
  h1 := iblk1_apply m c t b R r hT
  h2 := iblk2_apply m c t 0
  h3 := fun k => (iblk3_apply m c t 0 k).trans (row_apply _ _ k)
  h4 := iblk4_apply m c t
  h5 := iblk5_apply m c t
  h6 := iblk6_apply m c t
  h7 := iblk7_apply m c t
  h8 := iblk8_apply m c t
  h9 := fun k => (iblk9_apply m c t 0 k).trans (row_apply _ _ k)
  h10 := iblk10_apply m c t
  h11 := iblk11_apply m c t
  h12 := fun k => (iblk12_apply m c t 0 k).trans (row_apply _ _ k)
  h13 := iblk13_apply m c t
  h14 := iblk14_apply m c t

/-- The token a grid point's row is. -/
theorem token (t : Fin cfg0.N) (r : Fin 512) : ∃ (b : Fin 2) (R : Fin 8192), (grid0.coords t 0).val * 512 + r.val = b.val * 8192 + R.val := by
  have h : (grid0.coords t 0).val < 32 := (grid0.coords t 0).isLt
  have hr := r.isLt
  exact ⟨⟨((grid0.coords t 0).val * 512 + r.val) / 8192, by omega⟩, ⟨((grid0.coords t 0).val * 512 + r.val) % 8192, by omega⟩, by
    show _ = ((grid0.coords t 0).val * 512 + r.val) / 8192 * 8192 + ((grid0.coords t 0).val * 512 + r.val) % 8192
    omega⟩

/-! ## The blocks a grid point writes -/

/-- An element of the block of window 15. -/
theorem elem15 (c : Dev nD) (F : Fine (arg2 m c) (arg3 m c) (arg4 m c) (arg5 m c)) (t : Fin cfg0.N) (r : Fin 512) (d : Fin 1024) (i : S16384x1024.Idx) (h0 : (i 0).val = (grid0.coords t 0).val * 512 + r.val) (h1 : (i 1).val = d.val) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r d) = Cert.ProjReferenceIdeal.Read.val_main_v119 (F := Ideal) (arg0 m c) (arg1 m c) (arg2 m c) (arg3 m c) (arg4 m c) (arg5 m c) i := by
  obtain ⟨b, R, hT⟩ := token t r
  have H := holds m c t b R r hT
  refine (out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d).trans ?_
  exact H.e15 F i d (h0.trans hT) h1

/-- An element of the block of window 16. -/
theorem elem16 (c : Dev nD) (F : Fine (arg2 m c) (arg3 m c) (arg4 m c) (arg5 m c)) (t : Fin cfg0.N) (r : Fin 512) (d : Fin 1024) (i : S16384x1024.Idx) (h0 : (i 0).val = (grid0.coords t 0).val * 512 + r.val) (h1 : (i 1).val = d.val) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r d) = Cert.ProjReferenceIdeal.Read.val_main_v123 (F := Ideal) (arg0 m c) (arg1 m c) (arg2 m c) (arg3 m c) (arg6 m c) (arg7 m c) i := by
  obtain ⟨b, R, hT⟩ := token t r
  have H := holds m c t b R r hT
  refine (out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d).trans ?_
  exact H.e16 F i d (h0.trans hT) h1

/-- An element of the block of window 17. -/
theorem elem17 (c : Dev nD) (t : Fin cfg0.N) (r : Fin 512) (d : Fin 1024) (i : S16384x1024.Idx) (h0 : (i 0).val = (grid0.coords t 0).val * 512 + r.val) (h1 : (i 1).val = d.val) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r d) = Cert.ProjReferenceIdeal.Read.val_main_v128 (F := Ideal) (arg0 m c) (arg2 m c) (arg3 m c) (arg6 m c) (arg7 m c) i := by
  obtain ⟨b, R, hT⟩ := token t r
  have H := holds m c t b R r hT
  refine (out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d).trans ?_
  exact H.e17 i d (h0.trans hT) h1

/-- An element of the block of window 18. -/
theorem elem18 (c : Dev nD) (t : Fin cfg0.N) (r : Fin 512) (d : Fin 256) (i : S16384x256.Idx) (h0 : (i 0).val = (grid0.coords t 0).val * 512 + r.val) (h1 : (i 1).val = d.val) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r d) = Cert.ProjReferenceIdeal.Read.val_main_v132 (F := Ideal) (arg0 m c) (arg2 m c) (arg3 m c) i := by
  obtain ⟨b, R, hT⟩ := token t r
  have H := holds m c t b R r hT
  refine (out18_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d).trans ?_
  exact H.e18 i d (h0.trans hT) h1

/-- An element of the block of window 19. -/
theorem elem19 (c : Dev nD) (t : Fin cfg0.N) (r : Fin 512) (d : Fin 256) (i : S256x16384.Idx) (h0 : (i 0).val = d.val) (h1 : (i 1).val = (grid0.coords t 0).val * 512 + r.val) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 d r) = Cert.ProjReferenceIdeal.Read.val_main_v134 (F := Ideal) (arg0 m c) (arg2 m c) (arg3 m c) i := by
  obtain ⟨b, R, hT⟩ := token t r
  have H := holds m c t b R r hT
  refine (out19_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) d r).trans ?_
  exact H.e19 i d h0 (h1.trans hT)

/-- An element of the block of window 20. -/
theorem elem20 (c : Dev nD) (t : Fin cfg0.N) (r : Fin 512) (d : Fin 512) (i : S16384x512.Idx) (h0 : (i 0).val = (grid0.coords t 0).val * 512 + r.val) (h1 : (i 1).val = d.val) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r d) = Cert.ProjReferenceIdeal.Read.val_main_v136 (F := Ideal) (arg0 m c) (arg2 m c) (arg3 m c) i := by
  obtain ⟨b, R, hT⟩ := token t r
  have H := holds m c t b R r hT
  refine (out20_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d).trans ?_
  exact H.e20 i d (h0.trans hT) h1

/-- An element of the block of window 21. -/
theorem elem21 (c : Dev nD) (t : Fin cfg0.N) (r : Fin 512) (d : Fin 16) (i : S16x16384.Idx) (h0 : (i 0).val = d.val) (h1 : (i 1).val = (grid0.coords t 0).val * 512 + r.val) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 d r) = Cert.ProjReferenceIdeal.Read.val_main_v139 (F := Ideal) (arg0 m c) (arg2 m c) (arg3 m c) i := by
  obtain ⟨b, R, hT⟩ := token t r
  have H := holds m c t b R r hT
  refine (out21_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) d r).trans ?_
  exact H.e21 i d h0 (h1.trans hT)

/-- An element of the block of window 22. -/
theorem elem22 (c : Dev nD) (t : Fin cfg0.N) (r : Fin 512) (d : Fin 512) (i : S16384x512.Idx) (h0 : (i 0).val = (grid0.coords t 0).val * 512 + r.val) (h1 : (i 1).val = d.val) :
    out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r d) = Cert.ProjReferenceIdeal.Read.val_main_v140 (F := Ideal) (arg0 m c) (arg2 m c) (arg3 m c) i := by
  obtain ⟨b, R, hT⟩ := token t r
  have H := holds m c t b R r hT
  refine (out22_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d).trans ?_
  exact H.e22 i d (h0.trans hT) h1

/-- An element of the block of window 23. -/
theorem elem23 (c : Dev nD) (t : Fin cfg0.N) (r : Fin 512) (d : Fin 2048) (i : S16384x2048.Idx) (h0 : (i 0).val = (grid0.coords t 0).val * 512 + r.val) (h1 : (i 1).val = d.val) :
    out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r d) = Cert.ProjReferenceIdeal.Read.val_main_v141 (F := Ideal) (arg0 m c) (arg2 m c) (arg3 m c) i := by
  obtain ⟨b, R, hT⟩ := token t r
  have H := holds m c t b R r hT
  refine (out23_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d).trans ?_
  exact H.e23 i d (h0.trans hT) h1

end Cert.ProjIdeal.Proj

end
-- ==== Proof.ProjValue.lean ====
/- The proj call's nine results: the reference's, element by element. -/
module

public import proofs.«01_k».proof.Proof.ProjBlocks
public import Idealize.ShloMosaic.Lib.Pipeline.ValueKit.Geometry

@[expose] public section

set_option maxRecDepth 16384

noncomputable section

namespace Cert.ProjIdeal.Proj

open Cert.ProjIdeal Cert.ProjIdeal.Gen Cert.ProjIdeal.Run Cert.ProjRow
open Idealize.ShloMosaic Idealize.ShloMosaic.TcCoe Idealize.ShloMosaic.ValueIdx Idealize.SL.Sem
open scoped BigOperators

variable (m : (ℓ : Loc nD τ sig) → Buf (Elt Ideal) ℓ)

/-- The blocks of window 15 cover its array. -/
theorem covers15 : (cfg0.win 15).Covers := by decide +kernel

/-- The array of window 15 is any array whose blocks the body leaves. -/
theorem final15_of (c : Dev nD) (G : S16384x1024.Idx → EReal) (B : Fin cfg0.N → S512x1024.Idx → EReal) (hB : ∀ t, (dats m 0 c).after 15 t = B t)
    (hv : ∀ (t : Fin cfg0.N) (r : Fin 512) (d : Fin 1024) (i : S16384x1024.Idx), (i 0).val = (grid0.coords t 0).val * 512 + r.val → (i 1).val = d.val → B t (ix2 r d) = G i) :
    (dats m 0 c).arrAt 15 cfg0.N = G := by
  refine (dats m 0 c).arrAt_eq_of_covers 15 G covers15 fun t hf y => ?_
  have hi := index15 t
  rw [hB t]
  obtain ⟨r, d, hy⟩ : ∃ (r : Fin 512) (d : Fin 1024), (y : S512x1024.Idx) = ix2 r d := ⟨y 0, y 1, eq_ix2 (n0 := 512) (n1 := 1024) y⟩
  subst hy
  refine hv t r d _ ?_ ?_
  · show win0_15.index t 0 * 512 + 1 * r.val = _
    rw [hi]
    show (grid0.coords t 0).val * 512 + 1 * r.val = (grid0.coords t 0).val * 512 + r.val
    rw [Nat.one_mul]
  · show win0_15.index t 1 * 1024 + 1 * d.val = _
    rw [hi]
    show 0 * 1024 + 1 * d.val = d.val
    rw [Nat.zero_mul, Nat.zero_add, Nat.one_mul]

/-- The array of window 15 is the reference's result. -/
theorem final15 (c : Dev nD) (F : Fine (arg2 m c) (arg3 m c) (arg4 m c) (arg5 m c)) :
    (dats m 0 c).arrAt 15 cfg0.N = Cert.ProjReferenceIdeal.Read.val_main_v119 (F := Ideal) (arg0 m c) (arg1 m c) (arg2 m c) (arg3 m c) (arg4 m c) (arg5 m c) :=
  final15_of m c _ _ (after0_15 m c) fun t r d i h0 h1 => elem15 m c F t r d i h0 h1

/-- The blocks of window 16 cover its array. -/
theorem covers16 : (cfg0.win 16).Covers := by decide +kernel

/-- The array of window 16 is any array whose blocks the body leaves. -/
theorem final16_of (c : Dev nD) (G : S16384x1024.Idx → EReal) (B : Fin cfg0.N → S512x1024.Idx → EReal) (hB : ∀ t, (dats m 0 c).after 16 t = B t)
    (hv : ∀ (t : Fin cfg0.N) (r : Fin 512) (d : Fin 1024) (i : S16384x1024.Idx), (i 0).val = (grid0.coords t 0).val * 512 + r.val → (i 1).val = d.val → B t (ix2 r d) = G i) :
    (dats m 0 c).arrAt 16 cfg0.N = G := by
  refine (dats m 0 c).arrAt_eq_of_covers 16 G covers16 fun t hf y => ?_
  have hi := index16 t
  rw [hB t]
  obtain ⟨r, d, hy⟩ : ∃ (r : Fin 512) (d : Fin 1024), (y : S512x1024.Idx) = ix2 r d := ⟨y 0, y 1, eq_ix2 (n0 := 512) (n1 := 1024) y⟩
  subst hy
  refine hv t r d _ ?_ ?_
  · show win0_16.index t 0 * 512 + 1 * r.val = _
    rw [hi]
    show (grid0.coords t 0).val * 512 + 1 * r.val = (grid0.coords t 0).val * 512 + r.val
    rw [Nat.one_mul]
  · show win0_16.index t 1 * 1024 + 1 * d.val = _
    rw [hi]
    show 0 * 1024 + 1 * d.val = d.val
    rw [Nat.zero_mul, Nat.zero_add, Nat.one_mul]

/-- The array of window 16 is the reference's result. -/
theorem final16 (c : Dev nD) (F : Fine (arg2 m c) (arg3 m c) (arg4 m c) (arg5 m c)) :
    (dats m 0 c).arrAt 16 cfg0.N = Cert.ProjReferenceIdeal.Read.val_main_v123 (F := Ideal) (arg0 m c) (arg1 m c) (arg2 m c) (arg3 m c) (arg6 m c) (arg7 m c) :=
  final16_of m c _ _ (after0_16 m c) fun t r d i h0 h1 => elem16 m c F t r d i h0 h1

/-- The blocks of window 17 cover its array. -/
theorem covers17 : (cfg0.win 17).Covers := by decide +kernel

/-- The array of window 17 is any array whose blocks the body leaves. -/
theorem final17_of (c : Dev nD) (G : S16384x1024.Idx → EReal) (B : Fin cfg0.N → S512x1024.Idx → EReal) (hB : ∀ t, (dats m 0 c).after 17 t = B t)
    (hv : ∀ (t : Fin cfg0.N) (r : Fin 512) (d : Fin 1024) (i : S16384x1024.Idx), (i 0).val = (grid0.coords t 0).val * 512 + r.val → (i 1).val = d.val → B t (ix2 r d) = G i) :
    (dats m 0 c).arrAt 17 cfg0.N = G := by
  refine (dats m 0 c).arrAt_eq_of_covers 17 G covers17 fun t hf y => ?_
  have hi := index17 t
  rw [hB t]
  obtain ⟨r, d, hy⟩ : ∃ (r : Fin 512) (d : Fin 1024), (y : S512x1024.Idx) = ix2 r d := ⟨y 0, y 1, eq_ix2 (n0 := 512) (n1 := 1024) y⟩
  subst hy
  refine hv t r d _ ?_ ?_
  · show win0_17.index t 0 * 512 + 1 * r.val = _
    rw [hi]
    show (grid0.coords t 0).val * 512 + 1 * r.val = (grid0.coords t 0).val * 512 + r.val
    rw [Nat.one_mul]
  · show win0_17.index t 1 * 1024 + 1 * d.val = _
    rw [hi]
    show 0 * 1024 + 1 * d.val = d.val
    rw [Nat.zero_mul, Nat.zero_add, Nat.one_mul]

/-- The array of window 17 is the reference's result. -/
theorem final17 (c : Dev nD) :
    (dats m 0 c).arrAt 17 cfg0.N = Cert.ProjReferenceIdeal.Read.val_main_v128 (F := Ideal) (arg0 m c) (arg2 m c) (arg3 m c) (arg6 m c) (arg7 m c) :=
  final17_of m c _ _ (after0_17 m c) fun t r d i h0 h1 => elem17 m c t r d i h0 h1

/-- The blocks of window 18 cover its array. -/
theorem covers18 : (cfg0.win 18).Covers := by decide +kernel

/-- The array of window 18 is any array whose blocks the body leaves. -/
theorem final18_of (c : Dev nD) (G : S16384x256.Idx → EReal) (B : Fin cfg0.N → S512x256.Idx → EReal) (hB : ∀ t, (dats m 0 c).after 18 t = B t)
    (hv : ∀ (t : Fin cfg0.N) (r : Fin 512) (d : Fin 256) (i : S16384x256.Idx), (i 0).val = (grid0.coords t 0).val * 512 + r.val → (i 1).val = d.val → B t (ix2 r d) = G i) :
    (dats m 0 c).arrAt 18 cfg0.N = G := by
  refine (dats m 0 c).arrAt_eq_of_covers 18 G covers18 fun t hf y => ?_
  have hi := index18 t
  rw [hB t]
  obtain ⟨r, d, hy⟩ : ∃ (r : Fin 512) (d : Fin 256), (y : S512x256.Idx) = ix2 r d := ⟨y 0, y 1, eq_ix2 (n0 := 512) (n1 := 256) y⟩
  subst hy
  refine hv t r d _ ?_ ?_
  · show win0_18.index t 0 * 512 + 1 * r.val = _
    rw [hi]
    show (grid0.coords t 0).val * 512 + 1 * r.val = (grid0.coords t 0).val * 512 + r.val
    rw [Nat.one_mul]
  · show win0_18.index t 1 * 256 + 1 * d.val = _
    rw [hi]
    show 0 * 256 + 1 * d.val = d.val
    rw [Nat.zero_mul, Nat.zero_add, Nat.one_mul]

/-- The array of window 18 is the reference's result. -/
theorem final18 (c : Dev nD) :
    (dats m 0 c).arrAt 18 cfg0.N = Cert.ProjReferenceIdeal.Read.val_main_v132 (F := Ideal) (arg0 m c) (arg2 m c) (arg3 m c) :=
  final18_of m c _ _ (after0_18 m c) fun t r d i h0 h1 => elem18 m c t r d i h0 h1

/-- The blocks of window 19 cover its array. -/
theorem covers19 : (cfg0.win 19).Covers := by decide +kernel

/-- The array of window 19 is any array whose blocks the body leaves. -/
theorem final19_of (c : Dev nD) (G : S256x16384.Idx → EReal) (B : Fin cfg0.N → S256x512.Idx → EReal) (hB : ∀ t, (dats m 0 c).after 19 t = B t)
    (hv : ∀ (t : Fin cfg0.N) (d : Fin 256) (r : Fin 512) (i : S256x16384.Idx), (i 0).val = d.val → (i 1).val = (grid0.coords t 0).val * 512 + r.val → B t (ix2 d r) = G i) :
    (dats m 0 c).arrAt 19 cfg0.N = G := by
  refine (dats m 0 c).arrAt_eq_of_covers 19 G covers19 fun t hf y => ?_
  have hi := index19 t
  rw [hB t]
  obtain ⟨d, r, hy⟩ : ∃ (d : Fin 256) (r : Fin 512), (y : S256x512.Idx) = ix2 d r := ⟨y 0, y 1, eq_ix2 (n0 := 256) (n1 := 512) y⟩
  subst hy
  refine hv t d r _ ?_ ?_
  · show win0_19.index t 0 * 256 + 1 * d.val = _
    rw [hi]
    show 0 * 256 + 1 * d.val = d.val
    rw [Nat.zero_mul, Nat.zero_add, Nat.one_mul]
  · show win0_19.index t 1 * 512 + 1 * r.val = _
    rw [hi]
    show (grid0.coords t 0).val * 512 + 1 * r.val = (grid0.coords t 0).val * 512 + r.val
    rw [Nat.one_mul]

/-- The array of window 19 is the reference's result. -/
theorem final19 (c : Dev nD) :
    (dats m 0 c).arrAt 19 cfg0.N = Cert.ProjReferenceIdeal.Read.val_main_v134 (F := Ideal) (arg0 m c) (arg2 m c) (arg3 m c) :=
  final19_of m c _ _ (after0_19 m c) fun t d r i h0 h1 => elem19 m c t r d i h0 h1

/-- The blocks of window 20 cover its array. -/
theorem covers20 : (cfg0.win 20).Covers := by decide +kernel

/-- The array of window 20 is any array whose blocks the body leaves. -/
theorem final20_of (c : Dev nD) (G : S16384x512.Idx → EReal) (B : Fin cfg0.N → S512x512.Idx → EReal) (hB : ∀ t, (dats m 0 c).after 20 t = B t)
    (hv : ∀ (t : Fin cfg0.N) (r : Fin 512) (d : Fin 512) (i : S16384x512.Idx), (i 0).val = (grid0.coords t 0).val * 512 + r.val → (i 1).val = d.val → B t (ix2 r d) = G i) :
    (dats m 0 c).arrAt 20 cfg0.N = G := by
  refine (dats m 0 c).arrAt_eq_of_covers 20 G covers20 fun t hf y => ?_
  have hi := index20 t
  rw [hB t]
  obtain ⟨r, d, hy⟩ : ∃ (r : Fin 512) (d : Fin 512), (y : S512x512.Idx) = ix2 r d := ⟨y 0, y 1, eq_ix2 (n0 := 512) (n1 := 512) y⟩
  subst hy
  refine hv t r d _ ?_ ?_
  · show win0_20.index t 0 * 512 + 1 * r.val = _
    rw [hi]
    show (grid0.coords t 0).val * 512 + 1 * r.val = (grid0.coords t 0).val * 512 + r.val
    rw [Nat.one_mul]
  · show win0_20.index t 1 * 512 + 1 * d.val = _
    rw [hi]
    show 0 * 512 + 1 * d.val = d.val
    rw [Nat.zero_mul, Nat.zero_add, Nat.one_mul]

/-- The array of window 20 is the reference's result. -/
theorem final20 (c : Dev nD) :
    (dats m 0 c).arrAt 20 cfg0.N = Cert.ProjReferenceIdeal.Read.val_main_v136 (F := Ideal) (arg0 m c) (arg2 m c) (arg3 m c) :=
  final20_of m c _ _ (after0_20 m c) fun t r d i h0 h1 => elem20 m c t r d i h0 h1

/-- The blocks of window 21 cover its array. -/
theorem covers21 : (cfg0.win 21).Covers := by decide +kernel

/-- The array of window 21 is any array whose blocks the body leaves. -/
theorem final21_of (c : Dev nD) (G : S16x16384.Idx → EReal) (B : Fin cfg0.N → S16x512.Idx → EReal) (hB : ∀ t, (dats m 0 c).after 21 t = B t)
    (hv : ∀ (t : Fin cfg0.N) (d : Fin 16) (r : Fin 512) (i : S16x16384.Idx), (i 0).val = d.val → (i 1).val = (grid0.coords t 0).val * 512 + r.val → B t (ix2 d r) = G i) :
    (dats m 0 c).arrAt 21 cfg0.N = G := by
  refine (dats m 0 c).arrAt_eq_of_covers 21 G covers21 fun t hf y => ?_
  have hi := index21 t
  rw [hB t]
  obtain ⟨d, r, hy⟩ : ∃ (d : Fin 16) (r : Fin 512), (y : S16x512.Idx) = ix2 d r := ⟨y 0, y 1, eq_ix2 (n0 := 16) (n1 := 512) y⟩
  subst hy
  refine hv t d r _ ?_ ?_
  · show win0_21.index t 0 * 16 + 1 * d.val = _
    rw [hi]
    show 0 * 16 + 1 * d.val = d.val
    rw [Nat.zero_mul, Nat.zero_add, Nat.one_mul]
  · show win0_21.index t 1 * 512 + 1 * r.val = _
    rw [hi]
    show (grid0.coords t 0).val * 512 + 1 * r.val = (grid0.coords t 0).val * 512 + r.val
    rw [Nat.one_mul]

/-- The array of window 21 is the reference's result. -/
theorem final21 (c : Dev nD) :
    (dats m 0 c).arrAt 21 cfg0.N = Cert.ProjReferenceIdeal.Read.val_main_v139 (F := Ideal) (arg0 m c) (arg2 m c) (arg3 m c) :=
  final21_of m c _ _ (after0_21 m c) fun t d r i h0 h1 => elem21 m c t r d i h0 h1

/-- The blocks of window 22 cover its array. -/
theorem covers22 : (cfg0.win 22).Covers := by decide +kernel

/-- The array of window 22 is any array whose blocks the body leaves. -/
theorem final22_of (c : Dev nD) (G : S16384x512.Idx → EReal) (B : Fin cfg0.N → S512x512.Idx → EReal) (hB : ∀ t, (dats m 0 c).after 22 t = B t)
    (hv : ∀ (t : Fin cfg0.N) (r : Fin 512) (d : Fin 512) (i : S16384x512.Idx), (i 0).val = (grid0.coords t 0).val * 512 + r.val → (i 1).val = d.val → B t (ix2 r d) = G i) :
    (dats m 0 c).arrAt 22 cfg0.N = G := by
  refine (dats m 0 c).arrAt_eq_of_covers 22 G covers22 fun t hf y => ?_
  have hi := index22 t
  rw [hB t]
  obtain ⟨r, d, hy⟩ : ∃ (r : Fin 512) (d : Fin 512), (y : S512x512.Idx) = ix2 r d := ⟨y 0, y 1, eq_ix2 (n0 := 512) (n1 := 512) y⟩
  subst hy
  refine hv t r d _ ?_ ?_
  · show win0_22.index t 0 * 512 + 1 * r.val = _
    rw [hi]
    show (grid0.coords t 0).val * 512 + 1 * r.val = (grid0.coords t 0).val * 512 + r.val
    rw [Nat.one_mul]
  · show win0_22.index t 1 * 512 + 1 * d.val = _
    rw [hi]
    show 0 * 512 + 1 * d.val = d.val
    rw [Nat.zero_mul, Nat.zero_add, Nat.one_mul]

/-- The array of window 22 is the reference's result. -/
theorem final22 (c : Dev nD) :
    (dats m 0 c).arrAt 22 cfg0.N = Cert.ProjReferenceIdeal.Read.val_main_v140 (F := Ideal) (arg0 m c) (arg2 m c) (arg3 m c) :=
  final22_of m c _ _ (after0_22 m c) fun t r d i h0 h1 => elem22 m c t r d i h0 h1

/-- The blocks of window 23 cover its array. -/
theorem covers23 : (cfg0.win 23).Covers := by decide +kernel

/-- The array of window 23 is any array whose blocks the body leaves. -/
theorem final23_of (c : Dev nD) (G : S16384x2048.Idx → EReal) (B : Fin cfg0.N → S512x2048.Idx → EReal) (hB : ∀ t, (dats m 0 c).after 23 t = B t)
    (hv : ∀ (t : Fin cfg0.N) (r : Fin 512) (d : Fin 2048) (i : S16384x2048.Idx), (i 0).val = (grid0.coords t 0).val * 512 + r.val → (i 1).val = d.val → B t (ix2 r d) = G i) :
    (dats m 0 c).arrAt 23 cfg0.N = G := by
  refine (dats m 0 c).arrAt_eq_of_covers 23 G covers23 fun t hf y => ?_
  have hi := index23 t
  rw [hB t]
  obtain ⟨r, d, hy⟩ : ∃ (r : Fin 512) (d : Fin 2048), (y : S512x2048.Idx) = ix2 r d := ⟨y 0, y 1, eq_ix2 (n0 := 512) (n1 := 2048) y⟩
  subst hy
  refine hv t r d _ ?_ ?_
  · show win0_23.index t 0 * 512 + 1 * r.val = _
    rw [hi]
    show (grid0.coords t 0).val * 512 + 1 * r.val = (grid0.coords t 0).val * 512 + r.val
    rw [Nat.one_mul]
  · show win0_23.index t 1 * 2048 + 1 * d.val = _
    rw [hi]
    show 0 * 2048 + 1 * d.val = d.val
    rw [Nat.zero_mul, Nat.zero_add, Nat.one_mul]

/-- The array of window 23 is the reference's result. -/
theorem final23 (c : Dev nD) :
    (dats m 0 c).arrAt 23 cfg0.N = Cert.ProjReferenceIdeal.Read.val_main_v141 (F := Ideal) (arg0 m c) (arg2 m c) (arg3 m c) :=
  final23_of m c _ _ (after0_23 m c) fun t r d i h0 h1 => elem23 m c t r d i h0 h1

set_option maxHeartbeats 2000000 in
/-- The run with each result array named, the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v72_0) = (dats m 0 c).arrAt 15 cfg0.N
      ∧ r.2.mem ((c.tc : Thread nD τ).loc main_v72_1) = (dats m 0 c).arrAt 16 cfg0.N
      ∧ r.2.mem ((c.tc : Thread nD τ).loc main_v72_2) = (dats m 0 c).arrAt 17 cfg0.N
      ∧ r.2.mem ((c.tc : Thread nD τ).loc main_v72_3) = (dats m 0 c).arrAt 18 cfg0.N
      ∧ r.2.mem ((c.tc : Thread nD τ).loc main_v72_4) = (dats m 0 c).arrAt 19 cfg0.N
      ∧ r.2.mem ((c.tc : Thread nD τ).loc main_v72_5) = (dats m 0 c).arrAt 20 cfg0.N
      ∧ r.2.mem ((c.tc : Thread nD τ).loc main_v72_6) = (dats m 0 c).arrAt 21 cfg0.N
      ∧ r.2.mem ((c.tc : Thread nD τ).loc main_v72_7) = (dats m 0 c).arrAt 22 cfg0.N
      ∧ r.2.mem ((c.tc : Thread nD τ).loc main_v72_8) = (dats m 0 c).arrAt 23 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h.1 c).1 15, (h.1 c).1 16, (h.1 c).1 17, (h.1 c).1 18, (h.1 c).1 19, (h.1 c).1 20, (h.1 c).1 21, (h.1 c).1 22, (h.1 c).1 23, h.2 c⟩)
    (θ_run_and (run_main m ρ) (unchanged m ρ))

end Cert.ProjIdeal.Proj

end
-- ==== Proof.ProjPre.lean ====
/- What the proj call's precondition says: the entries the kernel's negated columns meet are real numbers. -/
module

public import proofs.«01_k».proof.Defs
public import proofs.«01_k».proof.Proof.AttnPre
public import proofs.«01_k».proof.Proof.ProjBlocks
public import Idealize.ShloMosaic.Lib.ReduceAll

@[expose] public section

set_option maxRecDepth 16384

noncomputable section

namespace Cert.ProjPre

open Idealize.ShloMosaic Cert.Pre_finite_proj

/-- The shape facts the precondition states. -/
instance facts : Cert.Pre_finite_proj.Facts where
  h_S_ := by decide
  bcast_S_S1024 := by decide
  reducesTo_S1024_S_d0 := by decide
  bcast_S_S1024x4272 := by decide
  reducesTo_S1024x4272_S_d0_1 := by decide
  bcast_S_S384 := by decide
  reducesTo_S384_S_d0 := by decide
  bcast_S_S384x768 := by decide
  reducesTo_S384x768_S_d0_1 := by decide

/-- The scalar shape has one index. -/
instance : Subsingleton S_.Idx := ⟨fun i j => funext fun a => a.elim0⟩

/-- From the precondition, the entries are real. -/
theorem fine_of_pre (x0 : FVec Ideal S2x8192x1024 .f32) (x1 : IVec S2x8192 32) (x2 : FVec Ideal S1024 .f32) (x3 : FVec Ideal S1024x4272 .f32)
    (x4 : FVec Ideal S384 .f32) (x5 : FVec Ideal S384x768 .f32) (x6 : FVec Ideal S256 .f32) (x7 : FVec Ideal S256x1024 .f32)
    (h : Cert.Pre_finite_proj.fn (F := Ideal) x0 x1 x2 x3 x4 x5 x6 x7 = fun _ => 1#1) : Cert.ProjIdeal.Proj.Fine x2 x3 x4 x5 := by
  have h0 := congrFun h (fun a => a.elim0)
  dsimp only [Cert.Pre_finite_proj.fn, Cert.Pre_finite_proj.fn_part1] at h0
  obtain ⟨h1, e5⟩ := IntOp.andi_eq_one.1 h0
  obtain ⟨h2, e4⟩ := IntOp.andi_eq_one.1 h1
  obtain ⟨e2, e3⟩ := IntOp.andi_eq_one.1 h2
  exact {
    f2 := fun i => Cert.AttnPre.real_of_lt _ (Cert.AttnPre.inf_word ▸ (Host.reduce_andi_all _ _ _ _ _ e2 i)),
    f3 := fun i => Cert.AttnPre.real_of_lt _ (Cert.AttnPre.inf_word ▸ (Host.reduce_andi_all _ _ _ _ _ e3 i)),
    f4 := fun i => Cert.AttnPre.real_of_lt _ (Cert.AttnPre.inf_word ▸ (Host.reduce_andi_all _ _ _ _ _ e4 i)),
    f5 := fun i => Cert.AttnPre.real_of_lt _ (Cert.AttnPre.inf_word ▸ (Host.reduce_andi_all _ _ _ _ _ e5 i)) }

end Cert.ProjPre

end
-- ==== Proof.lean ====
/- The proof of the certificate's claim: the frames, the rule steps, and the values of the three calls. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.WordLaunch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.AttnLaunch
public import proofs.«01_k».proof.Proof.AttnTile
public import proofs.«01_k».proof.Proof.AttnRef
public import proofs.«01_k».proof.Proof.AttnPack
public import proofs.«01_k».proof.Proof.AttnValue
public import proofs.«01_k».proof.Proof.AttnPre
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.MergeValue
public import proofs.«01_k».proof.Proof.Gen.Proj
public import proofs.«01_k».proof.Proof.Gen.ProjIdeal
public import proofs.«01_k».proof.Proof.Gen.ProjReferenceIdeal.Run
public import proofs.«01_k».proof.Proof.Gen.ProjReferenceIdeal.Read
public import proofs.«01_k».proof.Proof.WordProjRun
public import proofs.«01_k».proof.Proof.ProjValue
public import proofs.«01_k».proof.Proof.ProjPre
public import Idealize.ShloMosaic.Adequacy
public import Idealize.ShloMosaic.Init

@[expose] public section

noncomputable section

namespace Cert.Proof

open Idealize.ShloMosaic Idealize.SL.Sem

/-- The reference runs, leaves its arguments as they were, and leaves every counter at zero: it declares none. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Value.run m g)

/-- The kernel's result array is the reference's, from memories that agree on the arguments. -/
theorem algebraic : Cert.algebraic_KernelIdeal_ReferenceIdeal_pre_finite_qk
    (hKernelIdeal := Cert.KernelIdeal.Gen.facts) (hReferenceIdeal := Cert.ReferenceIdeal.Gen.facts) (hPre_finite_qk := Cert.AttnPre.facts) := by
  intro m g m' g' hpre hargs
  refine ⟨fun c => (Cert.KernelIdeal.Attn.dats m 0 c).arrAt 3 Cert.KernelIdeal.cfg0.N, Cert.KernelIdeal.Attn.run_blocks m g,
    (θ_run _ _ _).mono (fun r h c => ⟨(h c).1.trans ?_, (h c).2⟩) (Cert.ReferenceIdeal.Value.run m' g')⟩
  obtain ⟨f0, f1⟩ := Cert.AttnPre.real_of_pre _ _ _ (hpre c)
  refine (Cert.ReferenceIdeal.Read.val_main_v29_eq m' c).trans (Eq.trans ?_ (Cert.KernelIdeal.Attn.final3 m c f0 f1).symm)
  obtain ⟨e0, e1, e2⟩ := hargs c
  show Cert.ReferenceIdeal.Read.val_main_v29 (F := Ideal) _ _ _ = _
  rw [e0, e1, e2]

/-- The merge call as printed runs, leaves its arguments and leaves every counter at zero. -/
theorem frame_merge : Cert.quiescent_Merge (hMerge := Cert.Merge.Gen.facts) := fun m g _ => Cert.Merge.Gen.frame m g

/-- The ideal merge call runs, leaves its arguments and leaves every counter at zero. -/
theorem frame_merge_ideal : Cert.quiescent_MergeIdeal (hMergeIdeal := Cert.MergeIdeal.Gen.facts) := fun m g _ => Cert.MergeIdeal.Gen.frame m g

/-- The merge's reference runs, leaves its arguments and leaves every counter at zero: it declares none. -/
theorem frame_merge_reference : Cert.quiescent_MergeReferenceIdeal (hMergeReferenceIdeal := Cert.MergeReferenceIdeal.Gen.facts) := fun m g _ =>
  (θ_run _ _ _).mono (fun r h => ⟨fun c => (h c).2.2.2.2.2, sem_eq_zero_of_no_sems (by decide) r.2⟩) (Cert.MergeReferenceIdeal.Value.run m g)

set_option maxHeartbeats 1000000 in
/-- The merge call's five result arrays are the reference's, from memories that agree on the arguments. -/
theorem algebraic_merge : Cert.algebraic_MergeIdeal_MergeReferenceIdeal
    (hMergeIdeal := Cert.MergeIdeal.Gen.facts) (hMergeReferenceIdeal := Cert.MergeReferenceIdeal.Gen.facts) := by
  intro m g m' g' _ hargs
  refine ⟨fun c => (Cert.MergeIdeal.Gen.dats m 0 c).arrAt 11 Cert.MergeIdeal.cfg0.N, fun c => (Cert.MergeIdeal.Gen.dats m 0 c).arrAt 12 Cert.MergeIdeal.cfg0.N,
    fun c => (Cert.MergeIdeal.Gen.dats m 0 c).arrAt 13 Cert.MergeIdeal.cfg0.N, fun c => (Cert.MergeIdeal.Gen.dats m 0 c).arrAt 14 Cert.MergeIdeal.cfg0.N,
    fun c => (Cert.MergeIdeal.Gen.dats m 0 c).arrAt 15 Cert.MergeIdeal.cfg0.N, Cert.MergeIdeal.Value.run_blocks m g,
    (θ_run _ _ _).mono (fun r h c => ⟨(h c).1.trans ?_, (h c).2.1.trans ?_, (h c).2.2.1.trans ?_, (h c).2.2.2.1.trans ?_, (h c).2.2.2.2.1.trans ?_, (h c).2.2.2.2.2⟩)
      (Cert.MergeReferenceIdeal.Value.run m' g')⟩
  · obtain ⟨e0, e1, e2, e3, e4, e5, e6, e7, e8, e9⟩ := hargs c
    refine (Cert.MergeReferenceIdeal.Read.val_main_v40_eq _ _ _ _ _ _ _).trans (Eq.trans ?_ (Cert.MergeIdeal.Merge.final11 m c).symm)
    show Cert.MergeReferenceIdeal.Read.val_main_v40 (F := Ideal) _ _ _ _ _ _ _ = _
    rw [e0, e1, e2, e3, e4, e5, e6]
  · obtain ⟨e0, e1, e2, e3, e4, e5, e6, e7, e8, e9⟩ := hargs c
    refine (Cert.MergeReferenceIdeal.Read.val_main_v42_eq m' c).trans (Eq.trans ?_ (Cert.MergeIdeal.Merge.final12 m c).symm)
    show Cert.MergeReferenceIdeal.Read.val_main_v42 (F := Ideal) _ _ _ _ _ _ _ _ = _
    rw [e0, e1, e2, e3, e4, e5, e6, e7]
  · obtain ⟨e0, e1, e2, e3, e4, e5, e6, e7, e8, e9⟩ := hargs c
    refine (Cert.MergeReferenceIdeal.Read.val_main_v44_eq m' c).trans (Eq.trans ?_ (Cert.MergeIdeal.Merge.final13 m c).symm)
    show Cert.MergeReferenceIdeal.Read.val_main_v44 (F := Ideal) _ _ _ _ _ _ _ _ _ _ = _
    rw [e0, e1, e2, e3, e4, e5, e6, e7, e8, e9]
  · obtain ⟨e0, e1, e2, e3, e4, e5, e6, e7, e8, e9⟩ := hargs c
    refine (Cert.MergeReferenceIdeal.Read.val_main_v46_eq m' c).trans (Eq.trans ?_ (Cert.MergeIdeal.Merge.final14 m c).symm)
    show Cert.MergeReferenceIdeal.Read.val_main_v46 (F := Ideal) _ _ _ _ _ _ _ _ _ _ = _
    rw [e0, e1, e2, e3, e4, e5, e6, e7, e8, e9]
  · obtain ⟨e0, e1, e2, e3, e4, e5, e6, e7, e8, e9⟩ := hargs c
    refine (Cert.MergeReferenceIdeal.Read.val_main_v47_eq m' c).trans (Eq.trans ?_ (Cert.MergeIdeal.Merge.final15 m c).symm)
    show Cert.MergeReferenceIdeal.Read.val_main_v47 (F := Ideal) _ _ _ _ _ _ _ _ _ _ = _
    rw [e0, e1, e2, e3, e4, e5, e6, e7, e8, e9]

/-- The proj call as printed runs, leaves its arguments and leaves every counter at zero. -/
theorem frame_proj : Cert.quiescent_Proj (hProj := Cert.Proj.Gen.facts) := fun m g _ => Cert.Proj.Run.frame m g

/-- The ideal proj call runs, leaves its arguments and leaves every counter at zero. -/
theorem frame_proj_ideal : Cert.quiescent_ProjIdeal (hProjIdeal := Cert.ProjIdeal.Gen.facts) := fun m g _ => Cert.ProjIdeal.Run.frame m g

/-- So it does under the precondition. -/
theorem frame_proj_ideal_pre : Cert.quiescent_ProjIdeal_pre_finite_proj (hProjIdeal := Cert.ProjIdeal.Gen.facts) (hPre_finite_proj := Cert.ProjPre.facts) :=
  fun m g _ => Cert.ProjIdeal.Run.frame m g

/-- The proj call's reference runs, leaves its arguments and leaves every counter at zero: it declares none. -/
theorem frame_proj_reference : Cert.quiescent_ProjReferenceIdeal (hProjReferenceIdeal := Cert.ProjReferenceIdeal.Gen.facts) := fun m g _ =>
  (θ_run _ _ _).mono (fun r h => ⟨fun c => (h c).2.2.2.2.2.2.2.2.2, sem_eq_zero_of_no_sems (by decide) r.2⟩) (Cert.ProjReferenceIdeal.Value.run m g)

/-- So it does under the precondition. -/
theorem frame_proj_reference_pre : Cert.quiescent_ProjReferenceIdeal_pre_finite_proj
    (hProjReferenceIdeal := Cert.ProjReferenceIdeal.Gen.facts) (hPre_finite_proj := Cert.ProjPre.facts) := fun m g _ =>
  (θ_run _ _ _).mono (fun r h => ⟨fun c => (h c).2.2.2.2.2.2.2.2.2, sem_eq_zero_of_no_sems (by decide) r.2⟩) (Cert.ProjReferenceIdeal.Value.run m g)

set_option maxHeartbeats 2000000 in
/-- The proj call's nine result arrays are the reference's, from memories that agree on the arguments. -/
theorem algebraic_proj : Cert.algebraic_ProjIdeal_ProjReferenceIdeal_pre_finite_proj
    (hProjIdeal := Cert.ProjIdeal.Gen.facts) (hProjReferenceIdeal := Cert.ProjReferenceIdeal.Gen.facts) (hPre_finite_proj := Cert.ProjPre.facts) := by
  intro m g m' g' hpre hargs
  refine ⟨fun c => (Cert.ProjIdeal.Run.dats m 0 c).arrAt 15 Cert.ProjIdeal.cfg0.N,
    fun c => (Cert.ProjIdeal.Run.dats m 0 c).arrAt 16 Cert.ProjIdeal.cfg0.N,
    fun c => (Cert.ProjIdeal.Run.dats m 0 c).arrAt 17 Cert.ProjIdeal.cfg0.N,
    fun c => (Cert.ProjIdeal.Run.dats m 0 c).arrAt 18 Cert.ProjIdeal.cfg0.N,
    fun c => (Cert.ProjIdeal.Run.dats m 0 c).arrAt 19 Cert.ProjIdeal.cfg0.N,
    fun c => (Cert.ProjIdeal.Run.dats m 0 c).arrAt 20 Cert.ProjIdeal.cfg0.N,
    fun c => (Cert.ProjIdeal.Run.dats m 0 c).arrAt 21 Cert.ProjIdeal.cfg0.N,
    fun c => (Cert.ProjIdeal.Run.dats m 0 c).arrAt 22 Cert.ProjIdeal.cfg0.N,
    fun c => (Cert.ProjIdeal.Run.dats m 0 c).arrAt 23 Cert.ProjIdeal.cfg0.N,
    Cert.ProjIdeal.Proj.run_blocks m g,
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
      (Cert.ProjReferenceIdeal.Value.run m' g')⟩
  · obtain ⟨e0, e1, e2, e3, e4, e5, e6, e7⟩ := hargs c
    refine (Cert.ProjReferenceIdeal.Read.val_main_v119_eq m' c).trans (Eq.trans ?_ (Cert.ProjIdeal.Proj.final15 m c (Cert.ProjPre.fine_of_pre _ _ _ _ _ _ _ _ (hpre c))).symm)
    show Cert.ProjReferenceIdeal.Read.val_main_v119 (F := Ideal) _ _ _ _ _ _ = _
    rw [e0, e1, e2, e3, e4, e5]
  · obtain ⟨e0, e1, e2, e3, e4, e5, e6, e7⟩ := hargs c
    refine (Cert.ProjReferenceIdeal.Read.val_main_v123_eq m' c).trans (Eq.trans ?_ (Cert.ProjIdeal.Proj.final16 m c (Cert.ProjPre.fine_of_pre _ _ _ _ _ _ _ _ (hpre c))).symm)
    show Cert.ProjReferenceIdeal.Read.val_main_v123 (F := Ideal) _ _ _ _ _ _ = _
    rw [e0, e1, e2, e3, e6, e7]
  · obtain ⟨e0, e1, e2, e3, e4, e5, e6, e7⟩ := hargs c
    refine (Cert.ProjReferenceIdeal.Read.val_main_v128_eq m' c).trans (Eq.trans ?_ (Cert.ProjIdeal.Proj.final17 m c).symm)
    show Cert.ProjReferenceIdeal.Read.val_main_v128 (F := Ideal) _ _ _ _ _ = _
    rw [e0, e2, e3, e6, e7]
  · obtain ⟨e0, e1, e2, e3, e4, e5, e6, e7⟩ := hargs c
    refine (Cert.ProjReferenceIdeal.Read.val_main_v132_eq _ _ _).trans (Eq.trans ?_ (Cert.ProjIdeal.Proj.final18 m c).symm)
    show Cert.ProjReferenceIdeal.Read.val_main_v132 (F := Ideal) _ _ _ = _
    rw [e0, e2, e3]
  · obtain ⟨e0, e1, e2, e3, e4, e5, e6, e7⟩ := hargs c
    refine (Cert.ProjReferenceIdeal.Read.val_main_v134_eq _ _ _).trans (Eq.trans ?_ (Cert.ProjIdeal.Proj.final19 m c).symm)
    show Cert.ProjReferenceIdeal.Read.val_main_v134 (F := Ideal) _ _ _ = _
    rw [e0, e2, e3]
  · obtain ⟨e0, e1, e2, e3, e4, e5, e6, e7⟩ := hargs c
    refine (Cert.ProjReferenceIdeal.Read.val_main_v136_eq _ _ _).trans (Eq.trans ?_ (Cert.ProjIdeal.Proj.final20 m c).symm)
    show Cert.ProjReferenceIdeal.Read.val_main_v136 (F := Ideal) _ _ _ = _
    rw [e0, e2, e3]
  · obtain ⟨e0, e1, e2, e3, e4, e5, e6, e7⟩ := hargs c
    refine (Cert.ProjReferenceIdeal.Read.val_main_v139_eq _ _ _).trans (Eq.trans ?_ (Cert.ProjIdeal.Proj.final21 m c).symm)
    show Cert.ProjReferenceIdeal.Read.val_main_v139 (F := Ideal) _ _ _ = _
    rw [e0, e2, e3]
  · obtain ⟨e0, e1, e2, e3, e4, e5, e6, e7⟩ := hargs c
    refine (Cert.ProjReferenceIdeal.Read.val_main_v140_eq _ _ _).trans (Eq.trans ?_ (Cert.ProjIdeal.Proj.final22 m c).symm)
    show Cert.ProjReferenceIdeal.Read.val_main_v140 (F := Ideal) _ _ _ = _
    rw [e0, e2, e3]
  · obtain ⟨e0, e1, e2, e3, e4, e5, e6, e7⟩ := hargs c
    refine (Cert.ProjReferenceIdeal.Read.val_main_v141_eq _ _ _).trans (Eq.trans ?_ (Cert.ProjIdeal.Proj.final23 m c).symm)
    show Cert.ProjReferenceIdeal.Read.val_main_v141 (F := Ideal) _ _ _ = _
    rw [e0, e2, e3]

/-- Everything the certificate claims. -/
theorem claim : Cert.Claim := ⟨Cert.Kernel.Gen.facts, Cert.KernelIdeal.Gen.facts, Cert.ReferenceIdeal.Gen.facts, Cert.Merge.Gen.facts, Cert.MergeIdeal.Gen.facts, Cert.MergeReferenceIdeal.Gen.facts,
  Cert.Proj.Gen.facts, Cert.ProjIdeal.Gen.facts, Cert.ProjReferenceIdeal.Gen.facts, Cert.AttnPre.facts, Cert.ProjPre.facts,
  fun m g _ => Cert.Kernel.Attn.frame m g,
  fun m g _ => Cert.KernelIdeal.Attn.frame m g,
  fun m g _ => Cert.KernelIdeal.Attn.frame m g,
  fun m g _ => frame_reference m g,
  fun m g _ => frame_reference m g,
  frame_merge,
  frame_merge_ideal,
  frame_merge_reference,
  frame_proj,
  frame_proj_ideal,
  frame_proj_ideal_pre,
  frame_proj_reference,
  frame_proj_reference_pre,
  IdealRules.named_const.statement Cert.KernelIdeal.κ "mask" .f32 0xF149F2CA#32 ⊥ rfl,
  algebraic,
  True.intro,
  algebraic_merge,
  IdealRules.named_const.statement Cert.ProjIdeal.κ "qscale" .f32 0x3E16C740#32 (((Real.sqrt 96)⁻¹ * (Real.log 2)⁻¹ : ℝ) : EReal) rfl,
  algebraic_proj⟩

end Cert.Proof

end
